-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4x512 : Shape := ⟨3, ![8192, 4, 512]⟩
abbrev S8192x8x512 : Shape := ⟨3, ![8192, 8, 512]⟩
abbrev S2x4x4x512 : Shape := ⟨4, ![2, 4, 4, 512]⟩
abbrev S2x4x8x512 : Shape := ⟨4, ![2, 4, 8, 512]⟩
abbrev S_ : Shape := ⟨0, ![]⟩
abbrev S1x4x4x512 : Shape := ⟨4, ![1, 4, 4, 512]⟩
abbrev S4x4x512 : Shape := ⟨3, ![4, 4, 512]⟩
abbrev S1x4x8x512 : Shape := ⟨4, ![1, 4, 8, 512]⟩
abbrev S4x8x512 : Shape := ⟨3, ![4, 8, 512]⟩
abbrev S1x1x1x16 : Shape := ⟨4, ![1, 1, 1, 16]⟩
abbrev S16 : Shape := ⟨1, ![16]⟩

abbrev nBuf : Table → Nat
  | .hbm => 3
  | .local .scVector .vmem => 3
  | _ => 0

abbrev bufTy : (tb : Table) → Fin (nBuf tb) → BufTy
  | .hbm, ⟨0, _⟩ => ⟨S8192x4x512, .f32⟩
  | .hbm, ⟨1, _⟩ => ⟨S8192x4x512, .f32⟩
  | .hbm, ⟨2, _⟩ => ⟨S8192x8x512, .f32⟩
  | .local .scVector .vmem, ⟨0, _⟩ => ⟨S2x4x4x512, .f32⟩
  | .local .scVector .vmem, ⟨1, _⟩ => ⟨S2x4x4x512, .f32⟩
  | .local .scVector .vmem, ⟨2, _⟩ => ⟨S2x4x8x512, .f32⟩
  | _, _ => ⟨S8192x4x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c4_i32 : BitVec 32 := 4#32
  let v3 : BitVec 32 := Scalar.muli v2 c4_i32
  let c0_i32_4 : BitVec 32 := 0#32
  let c0_i32_5 : BitVec 32 := 0#32
  ![v3.toNat, 0, 0]
@[reducible] def k0_t1_loop : Scf.Loop 32 :=
  let c0_i32_45 : BitVec 32 := 0#32
  let c32_i32_46 : BitVec 32 := 32#32
  let v30 : BitVec 32 := Scalar.addi c0_i32_45 c32_i32_46
  let c1_i32_47 : BitVec 32 := 1#32
  ⟨c0_i32_45, v30, c1_i32_47⟩
def k0_off2 (i : grid0.Coords) (k0_t1 : Fin k0_t1_loop.trips) (c0_i32_76 : BitVec 32) : Fin 3 → Nat :=
  let c0_i32_45 : BitVec 32 := 0#32
  let c1_i32_47 : BitVec 32 := 1#32
  let arg14 : BitVec 32 := Scf.iv c0_i32_45 c1_i32_47 k0_t1
  let c2_i32_75 : BitVec 32 := 2#32
  let v43 : BitVec 32 := Scalar.muli arg14 c2_i32_75
  let v44 : BitVec 32 := Scalar.addi v43 c0_i32_76
  let c32_i32_77 : BitVec 32 := 32#32
  let v45 : BitVec 32 := Scalar.muli v44 c32_i32_77
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v46 : BitVec 32 := Scalar.addi v45 v1
  let c4_i32_78 : BitVec 32 := 4#32
  let v47 : BitVec 32 := Scalar.muli v46 c4_i32_78
  let c0_i32_83 : BitVec 32 := 0#32
  let c0_i32_84 : BitVec 32 := 0#32
  ![v47.toNat, 0, 0]
@[reducible] def k0_t2_loop : Scf.Loop 32 :=
  let c0_i32_104 : BitVec 32 := 0#32
  let c4_i32_105 : BitVec 32 := 4#32
  let v63 : BitVec 32 := Scalar.addi c0_i32_104 c4_i32_105
  let c1_i32_106 : BitVec 32 := 1#32
  ⟨c0_i32_104, v63, c1_i32_106⟩
def k0_off3 (k0_t2 : Fin k0_t2_loop.trips) : Fin 4 → Nat :=
  let c0_i32_168 : BitVec 32 := 0#32
  let v105 : Index := Scalar.indexCast c0_i32_168
  let c0_i32_104 : BitVec 32 := 0#32
  let c1_i32_106 : BitVec 32 := 1#32
  let arg15 : BitVec 32 := Scf.iv c0_i32_104 c1_i32_106 k0_t2
  let v106 : Index := Scalar.indexCast arg15
  let c0_i32_169 : BitVec 32 := 0#32
  let v107 : Index := Scalar.indexCast c0_i32_169
  let c0 : Index := 0#32
  ![0, v106.toNat, 0, 0]
def k0_off4 (k0_t2 : Fin k0_t2_loop.trips) : Fin 4 → Nat :=
  let c0_i32_170 : BitVec 32 := 0#32
  let v110 : Index := Scalar.indexCast c0_i32_170
  let c0_i32_104 : BitVec 32 := 0#32
  let c1_i32_106 : BitVec 32 := 1#32
  let arg15 : BitVec 32 := Scf.iv c0_i32_104 c1_i32_106 k0_t2
  let v111 : Index := Scalar.indexCast arg15
  let c1_i32_171 : BitVec 32 := 1#32
  let v112 : Index := Scalar.indexCast c1_i32_171
  let c0_172 : Index := 0#32
  ![0, v111.toNat, 1, 0]
def k0_off5 (k0_t2 : Fin k0_t2_loop.trips) : Fin 4 → Nat :=
  let c0_i32_173 : BitVec 32 := 0#32
  let v115 : Index := Scalar.indexCast c0_i32_173
  let c0_i32_104 : BitVec 32 := 0#32
  let c1_i32_106 : BitVec 32 := 1#32
  let arg15 : BitVec 32 := Scf.iv c0_i32_104 c1_i32_106 k0_t2
  let v116 : Index := Scalar.indexCast arg15
  let c2_i32_174 : BitVec 32 := 2#32
  let v117 : Index := Scalar.indexCast c2_i32_174
  let c0_175 : Index := 0#32
  ![0, v116.toNat, 2, 0]
def k0_off6 (k0_t2 : Fin k0_t2_loop.trips) : Fin 4 → Nat :=
  let c0_i32_176 : BitVec 32 := 0#32
  let v120 : Index := Scalar.indexCast c0_i32_176
  let c0_i32_104 : BitVec 32 := 0#32
  let c1_i32_106 : BitVec 32 := 1#32
  let arg15 : BitVec 32 := Scf.iv c0_i32_104 c1_i32_106 k0_t2
  let v121 : Index := Scalar.indexCast arg15
  let c3_i32 : BitVec 32 := 3#32
  let v122 : Index := Scalar.indexCast c3_i32
  let c0_177 : Index := 0#32
  ![0, v121.toNat, 3, 0]
def k0_off7 (k0_t2 : Fin k0_t2_loop.trips) : Fin 4 → Nat :=
  let c0_i32_190 : BitVec 32 := 0#32
  let v146 : Index := Scalar.indexCast c0_i32_190
  let c0_i32_104 : BitVec 32 := 0#32
  let c1_i32_106 : BitVec 32 := 1#32
  let arg15 : BitVec 32 := Scf.iv c0_i32_104 c1_i32_106 k0_t2
  let v147 : Index := Scalar.indexCast arg15
  let c0_i32_191 : BitVec 32 := 0#32
  let v148 : Index := Scalar.indexCast c0_i32_191
  let c0_192 : Index := 0#32
  ![0, v147.toNat, 0, 0]
def k0_off8 (k0_t2 : Fin k0_t2_loop.trips) : Fin 4 → Nat :=
  let c0_i32_193 : BitVec 32 := 0#32
  let v153 : Index := Scalar.indexCast c0_i32_193
  let c0_i32_104 : BitVec 32 := 0#32
  let c1_i32_106 : BitVec 32 := 1#32
  let arg15 : BitVec 32 := Scf.iv c0_i32_104 c1_i32_106 k0_t2
  let v154 : Index := Scalar.indexCast arg15
  let c1_i32_194 : BitVec 32 := 1#32
  let v155 : Index := Scalar.indexCast c1_i32_194
  let c0_195 : Index := 0#32
  ![0, v154.toNat, 1, 0]
def k0_off9 (k0_t2 : Fin k0_t2_loop.trips) : Fin 4 → Nat :=
  let c0_i32_196 : BitVec 32 := 0#32
  let v160 : Index := Scalar.indexCast c0_i32_196
  let c0_i32_104 : BitVec 32 := 0#32
  let c1_i32_106 : BitVec 32 := 1#32
  let arg15 : BitVec 32 := Scf.iv c0_i32_104 c1_i32_106 k0_t2
  let v161 : Index := Scalar.indexCast arg15
  let c2_i32_197 : BitVec 32 := 2#32
  let v162 : Index := Scalar.indexCast c2_i32_197
  let c0_198 : Index := 0#32
  ![0, v161.toNat, 2, 0]
def k0_off10 (k0_t2 : Fin k0_t2_loop.trips) : Fin 4 → Nat :=
  let c0_i32_199 : BitVec 32 := 0#32
  let v167 : Index := Scalar.indexCast c0_i32_199
  let c0_i32_104 : BitVec 32 := 0#32
  let c1_i32_106 : BitVec 32 := 1#32
  let arg15 : BitVec 32 := Scf.iv c0_i32_104 c1_i32_106 k0_t2
  let v168 : Index := Scalar.indexCast arg15
  let c3_i32_200 : BitVec 32 := 3#32
  let v169 : Index := Scalar.indexCast c3_i32_200
  let c0_201 : Index := 0#32
  ![0, v168.toNat, 3, 0]
def k0_off11 (k0_t2 : Fin k0_t2_loop.trips) : Fin 4 → Nat :=
  let c0_i32_202 : BitVec 32 := 0#32
  let v174 : Index := Scalar.indexCast c0_i32_202
  let c0_i32_104 : BitVec 32 := 0#32
  let c1_i32_106 : BitVec 32 := 1#32
  let arg15 : BitVec 32 := Scf.iv c0_i32_104 c1_i32_106 k0_t2
  let v175 : Index := Scalar.indexCast arg15
  let c4_i32_203 : BitVec 32 := 4#32
  let v176 : Index := Scalar.indexCast c4_i32_203
  let c0_204 : Index := 0#32
  ![0, v175.toNat, 4, 0]
def k0_off12 (k0_t2 : Fin k0_t2_loop.trips) : Fin 4 → Nat :=
  let c0_i32_205 : BitVec 32 := 0#32
  let v181 : Index := Scalar.indexCast c0_i32_205
  let c0_i32_104 : BitVec 32 := 0#32
  let c1_i32_106 : BitVec 32 := 1#32
  let arg15 : BitVec 32 := Scf.iv c0_i32_104 c1_i32_106 k0_t2
  let v182 : Index := Scalar.indexCast arg15
  let c5_i32 : BitVec 32 := 5#32
  let v183 : Index := Scalar.indexCast c5_i32
  let c0_206 : Index := 0#32
  ![0, v182.toNat, 5, 0]
def k0_off13 (k0_t2 : Fin k0_t2_loop.trips) : Fin 4 → Nat :=
  let c0_i32_207 : BitVec 32 := 0#32
  let v188 : Index := Scalar.indexCast c0_i32_207
  let c0_i32_104 : BitVec 32 := 0#32
  let c1_i32_106 : BitVec 32 := 1#32
  let arg15 : BitVec 32 := Scf.iv c0_i32_104 c1_i32_106 k0_t2
  let v189 : Index := Scalar.indexCast arg15
  let c6_i32 : BitVec 32 := 6#32
  let v190 : Index := Scalar.indexCast c6_i32
  let c0_208 : Index := 0#32
  ![0, v189.toNat, 6, 0]
def k0_off14 (k0_t2 : Fin k0_t2_loop.trips) : Fin 4 → Nat :=
  let c0_i32_209 : BitVec 32 := 0#32
  let v201 : Index := Scalar.indexCast c0_i32_209
  let c0_i32_104 : BitVec 32 := 0#32
  let c1_i32_106 : BitVec 32 := 1#32
  let arg15 : BitVec 32 := Scf.iv c0_i32_104 c1_i32_106 k0_t2
  let v202 : Index := Scalar.indexCast arg15
  let c7_i32 : BitVec 32 := 7#32
  let v203 : Index := Scalar.indexCast c7_i32
  let c0_210 : Index := 0#32
  ![0, v202.toNat, 7, 0]
def k0_off15 (k0_t2 : Fin k0_t2_loop.trips) : Fin 4 → Nat :=
  let c0_i32_211 : BitVec 32 := 0#32
  let v207 : Index := Scalar.indexCast c0_i32_211
  let c0_i32_104 : BitVec 32 := 0#32
  let c1_i32_106 : BitVec 32 := 1#32
  let arg15 : BitVec 32 := Scf.iv c0_i32_104 c1_i32_106 k0_t2
  let v208 : Index := Scalar.indexCast arg15
  let c0_i32_212 : BitVec 32 := 0#32
  let v209 : Index := Scalar.indexCast c0_i32_212
  let c16 : Index := 16#32
  ![0, v208.toNat, 0, 16]
def k0_off16 (k0_t2 : Fin k0_t2_loop.trips) : Fin 4 → Nat :=
  let c0_i32_213 : BitVec 32 := 0#32
  let v212 : Index := Scalar.indexCast c0_i32_213
  let c0_i32_104 : BitVec 32 := 0#32
  let c1_i32_106 : BitVec 32 := 1#32
  let arg15 : BitVec 32 := Scf.iv c0_i32_104 c1_i32_106 k0_t2
  let v213 : Index := Scalar.indexCast arg15
  let c1_i32_214 : BitVec 32 := 1#32
  let v214 : Index := Scalar.indexCast c1_i32_214
  let c16_215 : Index := 16#32
  ![0, v213.toNat, 1, 16]
def k0_off17 (k0_t2 : Fin k0_t2_loop.trips) : Fin 4 → Nat :=
  let c0_i32_216 : BitVec 32 := 0#32
  let v217 : Index := Scalar.indexCast c0_i32_216
  let c0_i32_104 : BitVec 32 := 0#32
  let c1_i32_106 : BitVec 32 := 1#32
  let arg15 : BitVec 32 := Scf.iv c0_i32_104 c1_i32_106 k0_t2
  let v218 : Index := Scalar.indexCast arg15
  let c2_i32_217 : BitVec 32 := 2#32
  let v219 : Index := Scalar.indexCast c2_i32_217
  let c16_218 : Index := 16#32
  ![0, v218.toNat, 2, 16]
def k0_off18 (k0_t2 : Fin k0_t2_loop.trips) : Fin 4 → Nat :=
  let c0_i32_219 : BitVec 32 := 0#32
  let v222 : Index := Scalar.indexCast c0_i32_219
  let c0_i32_104 : BitVec 32 := 0#32
  let c1_i32_106 : BitVec 32 := 1#32
  let arg15 : BitVec 32 := Scf.iv c0_i32_104 c1_i32_106 k0_t2
  let v223 : Index := Scalar.indexCast arg15
  let c3_i32_220 : BitVec 32 := 3#32
  let v224 : Index := Scalar.indexCast c3_i32_220
  let c16_221 : Index := 16#32
  ![0, v223.toNat, 3, 16]
def k0_off19 (k0_t2 : Fin k0_t2_loop.trips) : Fin 4 → Nat :=
  let c0_i32_234 : BitVec 32 := 0#32
  let v248 : Index := Scalar.indexCast c0_i32_234
  let c0_i32_104 : BitVec 32 := 0#32
  let c1_i32_106 : BitVec 32 := 1#32
  let arg15 : BitVec 32 := Scf.iv c0_i32_104 c1_i32_106 k0_t2
  let v249 : Index := Scalar.indexCast arg15
  let c0_i32_235 : BitVec 32 := 0#32
  let v250 : Index := Scalar.indexCast c0_i32_235
  let c16_236 : Index := 16#32
  ![0, v249.toNat, 0, 16]
def k0_off20 (k0_t2 : Fin k0_t2_loop.trips) : Fin 4 → Nat :=
  let c0_i32_237 : BitVec 32 := 0#32
  let v255 : Index := Scalar.indexCast c0_i32_237
  let c0_i32_104 : BitVec 32 := 0#32
  let c1_i32_106 : BitVec 32 := 1#32
  let arg15 : BitVec 32 := Scf.iv c0_i32_104 c1_i32_106 k0_t2
  let v256 : Index := Scalar.indexCast arg15
  let c1_i32_238 : BitVec 32 := 1#32
  let v257 : Index := Scalar.indexCast c1_i32_238
  let c16_239 : Index := 16#32
  ![0, v256.toNat, 1, 16]
def k0_off21 (k0_t2 : Fin k0_t2_loop.trips) : Fin 4 → Nat :=
  let c0_i32_240 : BitVec 32 := 0#32
  let v262 : Index := Scalar.indexCast c0_i32_240
  let c0_i32_104 : BitVec 32 := 0#32
  let c1_i32_106 : BitVec 32 := 1#32
  let arg15 : BitVec 32 := Scf.iv c0_i32_104 c1_i32_106 k0_t2
  let v263 : Index := Scalar.indexCast arg15
  let c2_i32_241 : BitVec 32 := 2#32
  let v264 : Index := Scalar.indexCast c2_i32_241
  let c16_242 : Index := 16#32
  ![0, v263.toNat, 2, 16]
def k0_off22 (k0_t2 : Fin k0_t2_loop.trips) : Fin 4 → Nat :=
  let c0_i32_243 : BitVec 32 := 0#32
  let v269 : Index := Scalar.indexCast c0_i32_243
  let c0_i32_104 : BitVec 32 := 0#32
  let c1_i32_106 : BitVec 32 := 1#32
  let arg15 : BitVec 32 := Scf.iv c0_i32_104 c1_i32_106 k0_t2
  let v270 : Index := Scalar.indexCast arg15
  let c3_i32_244 : BitVec 32 := 3#32
  let v271 : Index := Scalar.indexCast c3_i32_244
  let c16_245 : Index := 16#32
  ![0, v270.toNat, 3, 16]
def k0_off23 (k0_t2 : Fin k0_t2_loop.trips) : Fin 4 → Nat :=
  let c0_i32_246 : BitVec 32 := 0#32
  let v276 : Index := Scalar.indexCast c0_i32_246
  let c0_i32_104 : BitVec 32 := 0#32
  let c1_i32_106 : BitVec 32 := 1#32
  let arg15 : BitVec 32 := Scf.iv c0_i32_104 c1_i32_106 k0_t2
  let v277 : Index := Scalar.indexCast arg15
  let c4_i32_247 : BitVec 32 := 4#32
  let v278 : Index := Scalar.indexCast c4_i32_247
  let c16_248 : Index := 16#32
  ![0, v277.toNat, 4, 16]
def k0_off24 (k0_t2 : Fin k0_t2_loop.trips) : Fin 4 → Nat :=
  let c0_i32_249 : BitVec 32 := 0#32
  let v283 : Index := Scalar.indexCast c0_i32_249
  let c0_i32_104 : BitVec 32 := 0#32
  let c1_i32_106 : BitVec 32 := 1#32
  let arg15 : BitVec 32 := Scf.iv c0_i32_104 c1_i32_106 k0_t2
  let v284 : Index := Scalar.indexCast arg15
  let c5_i32_250 : BitVec 32 := 5#32
  let v285 : Index := Scalar.indexCast c5_i32_250
  let c16_251 : Index := 16#32
  ![0, v284.toNat, 5, 16]
def k0_off25 (k0_t2 : Fin k0_t2_loop.trips) : Fin 4 → Nat :=
  let c0_i32_252 : BitVec 32 := 0#32
  let v290 : Index := Scalar.indexCast c0_i32_252
  let c0_i32_104 : BitVec 32 := 0#32
  let c1_i32_106 : BitVec 32 := 1#32
  let arg15 : BitVec 32 := Scf.iv c0_i32_104 c1_i32_106 k0_t2
  let v291 : Index := Scalar.indexCast arg15
  let c6_i32_253 : BitVec 32 := 6#32
  let v292 : Index := Scalar.indexCast c6_i32_253
  let c16_254 : Index := 16#32
  ![0, v291.toNat, 6, 16]
def k0_off26 (k0_t2 : Fin k0_t2_loop.trips) : Fin 4 → Nat :=
  let c0_i32_256 : BitVec 32 := 0#32
  let v303 : Index := Scalar.indexCast c0_i32_256
  let c0_i32_104 : BitVec 32 := 0#32
  let c1_i32_106 : BitVec 32 := 1#32
  let arg15 : BitVec 32 := Scf.iv c0_i32_104 c1_i32_106 k0_t2
  let v304 : Index := Scalar.indexCast arg15
  let c7_i32_257 : BitVec 32 := 7#32
  let v305 : Index := Scalar.indexCast c7_i32_257
  let c16_258 : Index := 16#32
  ![0, v304.toNat, 7, 16]
def k0_off27 (k0_t2 : Fin k0_t2_loop.trips) : Fin 4 → Nat :=
  let c0_i32_259 : BitVec 32 := 0#32
  let v309 : Index := Scalar.indexCast c0_i32_259
  let c0_i32_104 : BitVec 32 := 0#32
  let c1_i32_106 : BitVec 32 := 1#32
  let arg15 : BitVec 32 := Scf.iv c0_i32_104 c1_i32_106 k0_t2
  let v310 : Index := Scalar.indexCast arg15
  let c0_i32_260 : BitVec 32 := 0#32
  let v311 : Index := Scalar.indexCast c0_i32_260
  let c32 : Index := 32#32
  ![0, v310.toNat, 0, 32]
def k0_off28 (k0_t2 : Fin k0_t2_loop.trips) : Fin 4 → Nat :=
  let c0_i32_261 : BitVec 32 := 0#32
  let v314 : Index := Scalar.indexCast c0_i32_261
  let c0_i32_104 : BitVec 32 := 0#32
  let c1_i32_106 : BitVec 32 := 1#32
  let arg15 : BitVec 32 := Scf.iv c0_i32_104 c1_i32_106 k0_t2
  let v315 : Index := Scalar.indexCast arg15
  let c1_i32_262 : BitVec 32 := 1#32
  let v316 : Index := Scalar.indexCast c1_i32_262
  let c32_263 : Index := 32#32
  ![0, v315.toNat, 1, 32]
def k0_off29 (k0_t2 : Fin k0_t2_loop.trips) : Fin 4 → Nat :=
  let c0_i32_264 : BitVec 32 := 0#32
  let v319 : Index := Scalar.indexCast c0_i32_264
  let c0_i32_104 : BitVec 32 := 0#32
  let c1_i32_106 : BitVec 32 := 1#32
  let arg15 : BitVec 32 := Scf.iv c0_i32_104 c1_i32_106 k0_t2
  let v320 : Index := Scalar.indexCast arg15
  let c2_i32_265 : BitVec 32 := 2#32
  let v321 : Index := Scalar.indexCast c2_i32_265
  let c32_266 : Index := 32#32
  ![0, v320.toNat, 2, 32]
def k0_off30 (k0_t2 : Fin k0_t2_loop.trips) : Fin 4 → Nat :=
  let c0_i32_267 : BitVec 32 := 0#32
  let v324 : Index := Scalar.indexCast c0_i32_267
  let c0_i32_104 : BitVec 32 := 0#32
  let c1_i32_106 : BitVec 32 := 1#32
  let arg15 : BitVec 32 := Scf.iv c0_i32_104 c1_i32_106 k0_t2
  let v325 : Index := Scalar.indexCast arg15
  let c3_i32_268 : BitVec 32 := 3#32
  let v326 : Index := Scalar.indexCast c3_i32_268
  let c32_269 : Index := 32#32
  ![0, v325.toNat, 3, 32]
def k0_off31 (k0_t2 : Fin k0_t2_loop.trips) : Fin 4 → Nat :=
  let c0_i32_282 : BitVec 32 := 0#32
  let v350 : Index := Scalar.indexCast c0_i32_282
  let c0_i32_104 : BitVec 32 := 0#32
  let c1_i32_106 : BitVec 32 := 1#32
  let arg15 : BitVec 32 := Scf.iv c0_i32_104 c1_i32_106 k0_t2
  let v351 : Index := Scalar.indexCast arg15
  let c0_i32_283 : BitVec 32 := 0#32
  let v352 : Index := Scalar.indexCast c0_i32_283
  let c32_284 : Index := 32#32
  ![0, v351.toNat, 0, 32]
def k0_off32 (k0_t2 : Fin k0_t2_loop.trips) : Fin 4 → Nat :=
  let c0_i32_285 : BitVec 32 := 0#32
  let v357 : Index := Scalar.indexCast c0_i32_285
  let c0_i32_104 : BitVec 32 := 0#32
  let c1_i32_106 : BitVec 32 := 1#32
  let arg15 : BitVec 32 := Scf.iv c0_i32_104 c1_i32_106 k0_t2
  let v358 : Index := Scalar.indexCast arg15
  let c1_i32_286 : BitVec 32 := 1#32
  let v359 : Index := Scalar.indexCast c1_i32_286
  let c32_287 : Index := 32#32
  ![0, v358.toNat, 1, 32]
def k0_off33 (k0_t2 : Fin k0_t2_loop.trips) : Fin 4 → Nat :=
  let c0_i32_288 : BitVec 32 := 0#32
  let v364 : Index := Scalar.indexCast c0_i32_288
  let c0_i32_104 : BitVec 32 := 0#32
  let c1_i32_106 : BitVec 32 := 1#32
  let arg15 : BitVec 32 := Scf.iv c0_i32_104 c1_i32_106 k0_t2
  let v365 : Index := Scalar.indexCast arg15
  let c2_i32_289 : BitVec 32 := 2#32
  let v366 : Index := Scalar.indexCast c2_i32_289
  let c32_290 : Index := 32#32
  ![0, v365.toNat, 2, 32]
def k0_off34 (k0_t2 : Fin k0_t2_loop.trips) : Fin 4 → Nat :=
  let c0_i32_291 : BitVec 32 := 0#32
  let v371 : Index := Scalar.indexCast c0_i32_291
  let c0_i32_104 : BitVec 32 := 0#32
  let c1_i32_106 : BitVec 32 := 1#32
  let arg15 : BitVec 32 := Scf.iv c0_i32_104 c1_i32_106 k0_t2
  let v372 : Index := Scalar.indexCast arg15
  let c3_i32_292 : BitVec 32 := 3#32
  let v373 : Index := Scalar.indexCast c3_i32_292
  let c32_293 : Index := 32#32
  ![0, v372.toNat, 3, 32]
def k0_off35 (k0_t2 : Fin k0_t2_loop.trips) : Fin 4 → Nat :=
  let c0_i32_294 : BitVec 32 := 0#32
  let v378 : Index := Scalar.indexCast c0_i32_294
  let c0_i32_104 : BitVec 32 := 0#32
  let c1_i32_106 : BitVec 32 := 1#32
  let arg15 : BitVec 32 := Scf.iv c0_i32_104 c1_i32_106 k0_t2
  let v379 : Index := Scalar.indexCast arg15
  let c4_i32_295 : BitVec 32 := 4#32
  let v380 : Index := Scalar.indexCast c4_i32_295
  let c32_296 : Index := 32#32
  ![0, v379.toNat, 4, 32]
def k0_off36 (k0_t2 : Fin k0_t2_loop.trips) : Fin 4 → Nat :=
  let c0_i32_297 : BitVec 32 := 0#32
  let v385 : Index := Scalar.indexCast c0_i32_297
  let c0_i32_104 : BitVec 32 := 0#32
  let c1_i32_106 : BitVec 32 := 1#32
  let arg15 : BitVec 32 := Scf.iv c0_i32_104 c1_i32_106 k0_t2
  let v386 : Index := Scalar.indexCast arg15
  let c5_i32_298 : BitVec 32 := 5#32
  let v387 : Index := Scalar.indexCast c5_i32_298
  let c32_299 : Index := 32#32
  ![0, v386.toNat, 5, 32]
def k0_off37 (k0_t2 : Fin k0_t2_loop.trips) : Fin 4 → Nat :=
  let c0_i32_300 : BitVec 32 := 0#32
  let v392 : Index := Scalar.indexCast c0_i32_300
  let c0_i32_104 : BitVec 32 := 0#32
  let c1_i32_106 : BitVec 32 := 1#32
  let arg15 : BitVec 32 := Scf.iv c0_i32_104 c1_i32_106 k0_t2
  let v393 : Index := Scalar.indexCast arg15
  let c6_i32_301 : BitVec 32 := 6#32
  let v394 : Index := Scalar.indexCast c6_i32_301
  let c32_302 : Index := 32#32
  ![0, v393.toNat, 6, 32]
def k0_off38 (k0_t2 : Fin k0_t2_loop.trips) : Fin 4 → Nat :=
  let c0_i32_304 : BitVec 32 := 0#32
  let v405 : Index := Scalar.indexCast c0_i32_304
  let c0_i32_104 : BitVec 32 := 0#32
  let c1_i32_106 : BitVec 32 := 1#32
  let arg15 : BitVec 32 := Scf.iv c0_i32_104 c1_i32_106 k0_t2
  let v406 : Index := Scalar.indexCast arg15
  let c7_i32_305 : BitVec 32 := 7#32
  let v407 : Index := Scalar.indexCast c7_i32_305
  let c32_306 : Index := 32#32
  ![0, v406.toNat, 7, 32]
def k0_off39 (k0_t2 : Fin k0_t2_loop.trips) : Fin 4 → Nat :=
  let c0_i32_307 : BitVec 32 := 0#32
  let v411 : Index := Scalar.indexCast c0_i32_307
  let c0_i32_104 : BitVec 32 := 0#32
  let c1_i32_106 : BitVec 32 := 1#32
  let arg15 : BitVec 32 := Scf.iv c0_i32_104 c1_i32_106 k0_t2
  let v412 : Index := Scalar.indexCast arg15
  let c0_i32_308 : BitVec 32 := 0#32
  let v413 : Index := Scalar.indexCast c0_i32_308
  let c48 : Index := 48#32
  ![0, v412.toNat, 0, 48]
def k0_off40 (k0_t2 : Fin k0_t2_loop.trips) : Fin 4 → Nat :=
  let c0_i32_309 : BitVec 32 := 0#32
  let v416 : Index := Scalar.indexCast c0_i32_309
  let c0_i32_104 : BitVec 32 := 0#32
  let c1_i32_106 : BitVec 32 := 1#32
  let arg15 : BitVec 32 := Scf.iv c0_i32_104 c1_i32_106 k0_t2
  let v417 : Index := Scalar.indexCast arg15
  let c1_i32_310 : BitVec 32 := 1#32
  let v418 : Index := Scalar.indexCast c1_i32_310
  let c48_311 : Index := 48#32
  ![0, v417.toNat, 1, 48]
def k0_off41 (k0_t2 : Fin k0_t2_loop.trips) : Fin 4 → Nat :=
  let c0_i32_312 : BitVec 32 := 0#32
  let v421 : Index := Scalar.indexCast c0_i32_312
  let c0_i32_104 : BitVec 32 := 0#32
  let c1_i32_106 : BitVec 32 := 1#32
  let arg15 : BitVec 32 := Scf.iv c0_i32_104 c1_i32_106 k0_t2
  let v422 : Index := Scalar.indexCast arg15
  let c2_i32_313 : BitVec 32 := 2#32
  let v423 : Index := Scalar.indexCast c2_i32_313
  let c48_314 : Index := 48#32
  ![0, v422.toNat, 2, 48]
def k0_off42 (k0_t2 : Fin k0_t2_loop.trips) : Fin 4 → Nat :=
  let c0_i32_315 : BitVec 32 := 0#32
  let v426 : Index := Scalar.indexCast c0_i32_315
  let c0_i32_104 : BitVec 32 := 0#32
  let c1_i32_106 : BitVec 32 := 1#32
  let arg15 : BitVec 32 := Scf.iv c0_i32_104 c1_i32_106 k0_t2
  let v427 : Index := Scalar.indexCast arg15
  let c3_i32_316 : BitVec 32 := 3#32
  let v428 : Index := Scalar.indexCast c3_i32_316
  let c48_317 : Index := 48#32
  ![0, v427.toNat, 3, 48]
def k0_off43 (k0_t2 : Fin k0_t2_loop.trips) : Fin 4 → Nat :=
  let c0_i32_330 : BitVec 32 := 0#32
  let v452 : Index := Scalar.indexCast c0_i32_330
  let c0_i32_104 : BitVec 32 := 0#32
  let c1_i32_106 : BitVec 32 := 1#32
  let arg15 : BitVec 32 := Scf.iv c0_i32_104 c1_i32_106 k0_t2
  let v453 : Index := Scalar.indexCast arg15
  let c0_i32_331 : BitVec 32 := 0#32
  let v454 : Index := Scalar.indexCast c0_i32_331
  let c48_332 : Index := 48#32
  ![0, v453.toNat, 0, 48]
def k0_off44 (k0_t2 : Fin k0_t2_loop.trips) : Fin 4 → Nat :=
  let c0_i32_333 : BitVec 32 := 0#32
  let v459 : Index := Scalar.indexCast c0_i32_333
  let c0_i32_104 : BitVec 32 := 0#32
  let c1_i32_106 : BitVec 32 := 1#32
  let arg15 : BitVec 32 := Scf.iv c0_i32_104 c1_i32_106 k0_t2
  let v460 : Index := Scalar.indexCast arg15
  let c1_i32_334 : BitVec 32 := 1#32
  let v461 : Index := Scalar.indexCast c1_i32_334
  let c48_335 : Index := 48#32
  ![0, v460.toNat, 1, 48]
def k0_off45 (k0_t2 : Fin k0_t2_loop.trips) : Fin 4 → Nat :=
  let c0_i32_336 : BitVec 32 := 0#32
  let v466 : Index := Scalar.indexCast c0_i32_336
  let c0_i32_104 : BitVec 32 := 0#32
  let c1_i32_106 : BitVec 32 := 1#32
  let arg15 : BitVec 32 := Scf.iv c0_i32_104 c1_i32_106 k0_t2
  let v467 : Index := Scalar.indexCast arg15
  let c2_i32_337 : BitVec 32 := 2#32
  let v468 : Index := Scalar.indexCast c2_i32_337
  let c48_338 : Index := 48#32
  ![0, v467.toNat, 2, 48]
def k0_off46 (k0_t2 : Fin k0_t2_loop.trips) : Fin 4 → Nat :=
  let c0_i32_339 : BitVec 32 := 0#32
  let v473 : Index := Scalar.indexCast c0_i32_339
  let c0_i32_104 : BitVec 32 := 0#32
  let c1_i32_106 : BitVec 32 := 1#32
  let arg15 : BitVec 32 := Scf.iv c0_i32_104 c1_i32_106 k0_t2
  let v474 : Index := Scalar.indexCast arg15
  let c3_i32_340 : BitVec 32 := 3#32
  let v475 : Index := Scalar.indexCast c3_i32_340
  let c48_341 : Index := 48#32
  ![0, v474.toNat, 3, 48]
def k0_off47 (k0_t2 : Fin k0_t2_loop.trips) : Fin 4 → Nat :=
  let c0_i32_342 : BitVec 32 := 0#32
  let v480 : Index := Scalar.indexCast c0_i32_342
  let c0_i32_104 : BitVec 32 := 0#32
  let c1_i32_106 : BitVec 32 := 1#32
  let arg15 : BitVec 32 := Scf.iv c0_i32_104 c1_i32_106 k0_t2
  let v481 : Index := Scalar.indexCast arg15
  let c4_i32_343 : BitVec 32 := 4#32
  let v482 : Index := Scalar.indexCast c4_i32_343
  let c48_344 : Index := 48#32
  ![0, v481.toNat, 4, 48]
def k0_off48 (k0_t2 : Fin k0_t2_loop.trips) : Fin 4 → Nat :=
  let c0_i32_345 : BitVec 32 := 0#32
  let v487 : Index := Scalar.indexCast c0_i32_345
  let c0_i32_104 : BitVec 32 := 0#32
  let c1_i32_106 : BitVec 32 := 1#32
  let arg15 : BitVec 32 := Scf.iv c0_i32_104 c1_i32_106 k0_t2
  let v488 : Index := Scalar.indexCast arg15
  let c5_i32_346 : BitVec 32 := 5#32
  let v489 : Index := Scalar.indexCast c5_i32_346
  let c48_347 : Index := 48#32
  ![0, v488.toNat, 5, 48]
def k0_off49 (k0_t2 : Fin k0_t2_loop.trips) : Fin 4 → Nat :=
  let c0_i32_348 : BitVec 32 := 0#32
  let v494 : Index := Scalar.indexCast c0_i32_348
  let c0_i32_104 : BitVec 32 := 0#32
  let c1_i32_106 : BitVec 32 := 1#32
  let arg15 : BitVec 32 := Scf.iv c0_i32_104 c1_i32_106 k0_t2
  let v495 : Index := Scalar.indexCast arg15
  let c6_i32_349 : BitVec 32 := 6#32
  let v496 : Index := Scalar.indexCast c6_i32_349
  let c48_350 : Index := 48#32
  ![0, v495.toNat, 6, 48]
def k0_off50 (k0_t2 : Fin k0_t2_loop.trips) : Fin 4 → Nat :=
  let c0_i32_352 : BitVec 32 := 0#32
  let v507 : Index := Scalar.indexCast c0_i32_352
  let c0_i32_104 : BitVec 32 := 0#32
  let c1_i32_106 : BitVec 32 := 1#32
  let arg15 : BitVec 32 := Scf.iv c0_i32_104 c1_i32_106 k0_t2
  let v508 : Index := Scalar.indexCast arg15
  let c7_i32_353 : BitVec 32 := 7#32
  let v509 : Index := Scalar.indexCast c7_i32_353
  let c48_354 : Index := 48#32
  ![0, v508.toNat, 7, 48]
def k0_off51 (k0_t2 : Fin k0_t2_loop.trips) : Fin 4 → Nat :=
  let c0_i32_355 : BitVec 32 := 0#32
  let v513 : Index := Scalar.indexCast c0_i32_355
  let c0_i32_104 : BitVec 32 := 0#32
  let c1_i32_106 : BitVec 32 := 1#32
  let arg15 : BitVec 32 := Scf.iv c0_i32_104 c1_i32_106 k0_t2
  let v514 : Index := Scalar.indexCast arg15
  let c0_i32_356 : BitVec 32 := 0#32
  let v515 : Index := Scalar.indexCast c0_i32_356
  let c64 : Index := 64#32
  ![0, v514.toNat, 0, 64]
def k0_off52 (k0_t2 : Fin k0_t2_loop.trips) : Fin 4 → Nat :=
  let c0_i32_357 : BitVec 32 := 0#32
  let v518 : Index := Scalar.indexCast c0_i32_357
  let c0_i32_104 : BitVec 32 := 0#32
  let c1_i32_106 : BitVec 32 := 1#32
  let arg15 : BitVec 32 := Scf.iv c0_i32_104 c1_i32_106 k0_t2
  let v519 : Index := Scalar.indexCast arg15
  let c1_i32_358 : BitVec 32 := 1#32
  let v520 : Index := Scalar.indexCast c1_i32_358
  let c64_359 : Index := 64#32
  ![0, v519.toNat, 1, 64]
def k0_off53 (k0_t2 : Fin k0_t2_loop.trips) : Fin 4 → Nat :=
  let c0_i32_360 : BitVec 32 := 0#32
  let v523 : Index := Scalar.indexCast c0_i32_360
  let c0_i32_104 : BitVec 32 := 0#32
  let c1_i32_106 : BitVec 32 := 1#32
  let arg15 : BitVec 32 := Scf.iv c0_i32_104 c1_i32_106 k0_t2
  let v524 : Index := Scalar.indexCast arg15
  let c2_i32_361 : BitVec 32 := 2#32
  let v525 : Index := Scalar.indexCast c2_i32_361
  let c64_362 : Index := 64#32
  ![0, v524.toNat, 2, 64]
def k0_off54 (k0_t2 : Fin k0_t2_loop.trips) : Fin 4 → Nat :=
  let c0_i32_363 : BitVec 32 := 0#32
  let v528 : Index := Scalar.indexCast c0_i32_363
  let c0_i32_104 : BitVec 32 := 0#32
  let c1_i32_106 : BitVec 32 := 1#32
  let arg15 : BitVec 32 := Scf.iv c0_i32_104 c1_i32_106 k0_t2
  let v529 : Index := Scalar.indexCast arg15
  let c3_i32_364 : BitVec 32 := 3#32
  let v530 : Index := Scalar.indexCast c3_i32_364
  let c64_365 : Index := 64#32
  ![0, v529.toNat, 3, 64]
def k0_off55 (k0_t2 : Fin k0_t2_loop.trips) : Fin 4 → Nat :=
  let c0_i32_378 : BitVec 32 := 0#32
  let v554 : Index := Scalar.indexCast c0_i32_378
  let c0_i32_104 : BitVec 32 := 0#32
  let c1_i32_106 : BitVec 32 := 1#32
  let arg15 : BitVec 32 := Scf.iv c0_i32_104 c1_i32_106 k0_t2
  let v555 : Index := Scalar.indexCast arg15
  let c0_i32_379 : BitVec 32 := 0#32
  let v556 : Index := Scalar.indexCast c0_i32_379
  let c64_380 : Index := 64#32
  ![0, v555.toNat, 0, 64]
def k0_off56 (k0_t2 : Fin k0_t2_loop.trips) : Fin 4 → Nat :=
  let c0_i32_381 : BitVec 32 := 0#32
  let v561 : Index := Scalar.indexCast c0_i32_381
  let c0_i32_104 : BitVec 32 := 0#32
  let c1_i32_106 : BitVec 32 := 1#32
  let arg15 : BitVec 32 := Scf.iv c0_i32_104 c1_i32_106 k0_t2
  let v562 : Index := Scalar.indexCast arg15
  let c1_i32_382 : BitVec 32 := 1#32
  let v563 : Index := Scalar.indexCast c1_i32_382
  let c64_383 : Index := 64#32
  ![0, v562.toNat, 1, 64]
def k0_off57 (k0_t2 : Fin k0_t2_loop.trips) : Fin 4 → Nat :=
  let c0_i32_384 : BitVec 32 := 0#32
  let v568 : Index := Scalar.indexCast c0_i32_384
  let c0_i32_104 : BitVec 32 := 0#32
  let c1_i32_106 : BitVec 32 := 1#32
  let arg15 : BitVec 32 := Scf.iv c0_i32_104 c1_i32_106 k0_t2
  let v569 : Index := Scalar.indexCast arg15
  let c2_i32_385 : BitVec 32 := 2#32
  let v570 : Index := Scalar.indexCast c2_i32_385
  let c64_386 : Index := 64#32
  ![0, v569.toNat, 2, 64]
def k0_off58 (k0_t2 : Fin k0_t2_loop.trips) : Fin 4 → Nat :=
  let c0_i32_387 : BitVec 32 := 0#32
  let v575 : Index := Scalar.indexCast c0_i32_387
  let c0_i32_104 : BitVec 32 := 0#32
  let c1_i32_106 : BitVec 32 := 1#32
  let arg15 : BitVec 32 := Scf.iv c0_i32_104 c1_i32_106 k0_t2
  let v576 : Index := Scalar.indexCast arg15
  let c3_i32_388 : BitVec 32 := 3#32
  let v577 : Index := Scalar.indexCast c3_i32_388
  let c64_389 : Index := 64#32
  ![0, v576.toNat, 3, 64]
def k0_off59 (k0_t2 : Fin k0_t2_loop.trips) : Fin 4 → Nat :=
  let c0_i32_390 : BitVec 32 := 0#32
  let v582 : Index := Scalar.indexCast c0_i32_390
  let c0_i32_104 : BitVec 32 := 0#32
  let c1_i32_106 : BitVec 32 := 1#32
  let arg15 : BitVec 32 := Scf.iv c0_i32_104 c1_i32_106 k0_t2
  let v583 : Index := Scalar.indexCast arg15
  let c4_i32_391 : BitVec 32 := 4#32
  let v584 : Index := Scalar.indexCast c4_i32_391
  let c64_392 : Index := 64#32
  ![0, v583.toNat, 4, 64]
def k0_off60 (k0_t2 : Fin k0_t2_loop.trips) : Fin 4 → Nat :=
  let c0_i32_393 : BitVec 32 := 0#32
  let v589 : Index := Scalar.indexCast c0_i32_393
  let c0_i32_104 : BitVec 32 := 0#32
  let c1_i32_106 : BitVec 32 := 1#32
  let arg15 : BitVec 32 := Scf.iv c0_i32_104 c1_i32_106 k0_t2
  let v590 : Index := Scalar.indexCast arg15
  let c5_i32_394 : BitVec 32 := 5#32
  let v591 : Index := Scalar.indexCast c5_i32_394
  let c64_395 : Index := 64#32
  ![0, v590.toNat, 5, 64]
def k0_off61 (k0_t2 : Fin k0_t2_loop.trips) : Fin 4 → Nat :=
  let c0_i32_396 : BitVec 32 := 0#32
  let v596 : Index := Scalar.indexCast c0_i32_396
  let c0_i32_104 : BitVec 32 := 0#32
  let c1_i32_106 : BitVec 32 := 1#32
  let arg15 : BitVec 32 := Scf.iv c0_i32_104 c1_i32_106 k0_t2
  let v597 : Index := Scalar.indexCast arg15
  let c6_i32_397 : BitVec 32 := 6#32
  let v598 : Index := Scalar.indexCast c6_i32_397
  let c64_398 : Index := 64#32
  ![0, v597.toNat, 6, 64]
def k0_off62 (k0_t2 : Fin k0_t2_loop.trips) : Fin 4 → Nat :=
  let c0_i32_400 : BitVec 32 := 0#32
  let v609 : Index := Scalar.indexCast c0_i32_400
  let c0_i32_104 : BitVec 32 := 0#32
  let c1_i32_106 : BitVec 32 := 1#32
  let arg15 : BitVec 32 := Scf.iv c0_i32_104 c1_i32_106 k0_t2
  let v610 : Index := Scalar.indexCast arg15
  let c7_i32_401 : BitVec 32 := 7#32
  let v611 : Index := Scalar.indexCast c7_i32_401
  let c64_402 : Index := 64#32
  ![0, v610.toNat, 7, 64]
def k0_off63 (k0_t2 : Fin k0_t2_loop.trips) : Fin 4 → Nat :=
  let c0_i32_403 : BitVec 32 := 0#32
  let v615 : Index := Scalar.indexCast c0_i32_403
  let c0_i32_104 : BitVec 32 := 0#32
  let c1_i32_106 : BitVec 32 := 1#32
  let arg15 : BitVec 32 := Scf.iv c0_i32_104 c1_i32_106 k0_t2
  let v616 : Index := Scalar.indexCast arg15
  let c0_i32_404 : BitVec 32 := 0#32
  let v617 : Index := Scalar.indexCast c0_i32_404
  let c80 : Index := 80#32
  ![0, v616.toNat, 0, 80]
def k0_off64 (k0_t2 : Fin k0_t2_loop.trips) : Fin 4 → Nat :=
  let c0_i32_405 : BitVec 32 := 0#32
  let v620 : Index := Scalar.indexCast c0_i32_405
  let c0_i32_104 : BitVec 32 := 0#32
  let c1_i32_106 : BitVec 32 := 1#32
  let arg15 : BitVec 32 := Scf.iv c0_i32_104 c1_i32_106 k0_t2
  let v621 : Index := Scalar.indexCast arg15
  let c1_i32_406 : BitVec 32 := 1#32
  let v622 : Index := Scalar.indexCast c1_i32_406
  let c80_407 : Index := 80#32
  ![0, v621.toNat, 1, 80]
def k0_off65 (k0_t2 : Fin k0_t2_loop.trips) : Fin 4 → Nat :=
  let c0_i32_408 : BitVec 32 := 0#32
  let v625 : Index := Scalar.indexCast c0_i32_408
  let c0_i32_104 : BitVec 32 := 0#32
  let c1_i32_106 : BitVec 32 := 1#32
  let arg15 : BitVec 32 := Scf.iv c0_i32_104 c1_i32_106 k0_t2
  let v626 : Index := Scalar.indexCast arg15
  let c2_i32_409 : BitVec 32 := 2#32
  let v627 : Index := Scalar.indexCast c2_i32_409
  let c80_410 : Index := 80#32
  ![0, v626.toNat, 2, 80]
def k0_off66 (k0_t2 : Fin k0_t2_loop.trips) : Fin 4 → Nat :=
  let c0_i32_411 : BitVec 32 := 0#32
  let v630 : Index := Scalar.indexCast c0_i32_411
  let c0_i32_104 : BitVec 32 := 0#32
  let c1_i32_106 : BitVec 32 := 1#32
  let arg15 : BitVec 32 := Scf.iv c0_i32_104 c1_i32_106 k0_t2
  let v631 : Index := Scalar.indexCast arg15
  let c3_i32_412 : BitVec 32 := 3#32
  let v632 : Index := Scalar.indexCast c3_i32_412
  let c80_413 : Index := 80#32
  ![0, v631.toNat, 3, 80]
def k0_off67 (k0_t2 : Fin k0_t2_loop.trips) : Fin 4 → Nat :=
  let c0_i32_426 : BitVec 32 := 0#32
  let v656 : Index := Scalar.indexCast c0_i32_426
  let c0_i32_104 : BitVec 32 := 0#32
  let c1_i32_106 : BitVec 32 := 1#32
  let arg15 : BitVec 32 := Scf.iv c0_i32_104 c1_i32_106 k0_t2
  let v657 : Index := Scalar.indexCast arg15
  let c0_i32_427 : BitVec 32 := 0#32
  let v658 : Index := Scalar.indexCast c0_i32_427
  let c80_428 : Index := 80#32
  ![0, v657.toNat, 0, 80]
def k0_off68 (k0_t2 : Fin k0_t2_loop.trips) : Fin 4 → Nat :=
  let c0_i32_429 : BitVec 32 := 0#32
  let v663 : Index := Scalar.indexCast c0_i32_429
  let c0_i32_104 : BitVec 32 := 0#32
  let c1_i32_106 : BitVec 32 := 1#32
  let arg15 : BitVec 32 := Scf.iv c0_i32_104 c1_i32_106 k0_t2
  let v664 : Index := Scalar.indexCast arg15
  let c1_i32_430 : BitVec 32 := 1#32
  let v665 : Index := Scalar.indexCast c1_i32_430
  let c80_431 : Index := 80#32
  ![0, v664.toNat, 1, 80]
def k0_off69 (k0_t2 : Fin k0_t2_loop.trips) : Fin 4 → Nat :=
  let c0_i32_432 : BitVec 32 := 0#32
  let v670 : Index := Scalar.indexCast c0_i32_432
  let c0_i32_104 : BitVec 32 := 0#32
  let c1_i32_106 : BitVec 32 := 1#32
  let arg15 : BitVec 32 := Scf.iv c0_i32_104 c1_i32_106 k0_t2
  let v671 : Index := Scalar.indexCast arg15
  let c2_i32_433 : BitVec 32 := 2#32
  let v672 : Index := Scalar.indexCast c2_i32_433
  let c80_434 : Index := 80#32
  ![0, v671.toNat, 2, 80]
def k0_off70 (k0_t2 : Fin k0_t2_loop.trips) : Fin 4 → Nat :=
  let c0_i32_435 : BitVec 32 := 0#32
  let v677 : Index := Scalar.indexCast c0_i32_435
  let c0_i32_104 : BitVec 32 := 0#32
  let c1_i32_106 : BitVec 32 := 1#32
  let arg15 : BitVec 32 := Scf.iv c0_i32_104 c1_i32_106 k0_t2
  let v678 : Index := Scalar.indexCast arg15
  let c3_i32_436 : BitVec 32 := 3#32
  let v679 : Index := Scalar.indexCast c3_i32_436
  let c80_437 : Index := 80#32
  ![0, v678.toNat, 3, 80]
def k0_off71 (k0_t2 : Fin k0_t2_loop.trips) : Fin 4 → Nat :=
  let c0_i32_438 : BitVec 32 := 0#32
  let v684 : Index := Scalar.indexCast c0_i32_438
  let c0_i32_104 : BitVec 32 := 0#32
  let c1_i32_106 : BitVec 32 := 1#32
  let arg15 : BitVec 32 := Scf.iv c0_i32_104 c1_i32_106 k0_t2
  let v685 : Index := Scalar.indexCast arg15
  let c4_i32_439 : BitVec 32 := 4#32
  let v686 : Index := Scalar.indexCast c4_i32_439
  let c80_440 : Index := 80#32
  ![0, v685.toNat, 4, 80]
def k0_off72 (k0_t2 : Fin k0_t2_loop.trips) : Fin 4 → Nat :=
  let c0_i32_441 : BitVec 32 := 0#32
  let v691 : Index := Scalar.indexCast c0_i32_441
  let c0_i32_104 : BitVec 32 := 0#32
  let c1_i32_106 : BitVec 32 := 1#32
  let arg15 : BitVec 32 := Scf.iv c0_i32_104 c1_i32_106 k0_t2
  let v692 : Index := Scalar.indexCast arg15
  let c5_i32_442 : BitVec 32 := 5#32
  let v693 : Index := Scalar.indexCast c5_i32_442
  let c80_443 : Index := 80#32
  ![0, v692.toNat, 5, 80]
def k0_off73 (k0_t2 : Fin k0_t2_loop.trips) : Fin 4 → Nat :=
  let c0_i32_444 : BitVec 32 := 0#32
  let v698 : Index := Scalar.indexCast c0_i32_444
  let c0_i32_104 : BitVec 32 := 0#32
  let c1_i32_106 : BitVec 32 := 1#32
  let arg15 : BitVec 32 := Scf.iv c0_i32_104 c1_i32_106 k0_t2
  let v699 : Index := Scalar.indexCast arg15
  let c6_i32_445 : BitVec 32 := 6#32
  let v700 : Index := Scalar.indexCast c6_i32_445
  let c80_446 : Index := 80#32
  ![0, v699.toNat, 6, 80]
def k0_off74 (k0_t2 : Fin k0_t2_loop.trips) : Fin 4 → Nat :=
  let c0_i32_448 : BitVec 32 := 0#32
  let v711 : Index := Scalar.indexCast c0_i32_448
  let c0_i32_104 : BitVec 32 := 0#32
  let c1_i32_106 : BitVec 32 := 1#32
  let arg15 : BitVec 32 := Scf.iv c0_i32_104 c1_i32_106 k0_t2
  let v712 : Index := Scalar.indexCast arg15
  let c7_i32_449 : BitVec 32 := 7#32
  let v713 : Index := Scalar.indexCast c7_i32_449
  let c80_450 : Index := 80#32
  ![0, v712.toNat, 7, 80]
def k0_off75 (k0_t2 : Fin k0_t2_loop.trips) : Fin 4 → Nat :=
  let c0_i32_451 : BitVec 32 := 0#32
  let v717 : Index := Scalar.indexCast c0_i32_451
  let c0_i32_104 : BitVec 32 := 0#32
  let c1_i32_106 : BitVec 32 := 1#32
  let arg15 : BitVec 32 := Scf.iv c0_i32_104 c1_i32_106 k0_t2
  let v718 : Index := Scalar.indexCast arg15
  let c0_i32_452 : BitVec 32 := 0#32
  let v719 : Index := Scalar.indexCast c0_i32_452
  let c96 : Index := 96#32
  ![0, v718.toNat, 0, 96]
def k0_off76 (k0_t2 : Fin k0_t2_loop.trips) : Fin 4 → Nat :=
  let c0_i32_453 : BitVec 32 := 0#32
  let v722 : Index := Scalar.indexCast c0_i32_453
  let c0_i32_104 : BitVec 32 := 0#32
  let c1_i32_106 : BitVec 32 := 1#32
  let arg15 : BitVec 32 := Scf.iv c0_i32_104 c1_i32_106 k0_t2
  let v723 : Index := Scalar.indexCast arg15
  let c1_i32_454 : BitVec 32 := 1#32
  let v724 : Index := Scalar.indexCast c1_i32_454
  let c96_455 : Index := 96#32
  ![0, v723.toNat, 1, 96]
def k0_off77 (k0_t2 : Fin k0_t2_loop.trips) : Fin 4 → Nat :=
  let c0_i32_456 : BitVec 32 := 0#32
  let v727 : Index := Scalar.indexCast c0_i32_456
  let c0_i32_104 : BitVec 32 := 0#32
  let c1_i32_106 : BitVec 32 := 1#32
  let arg15 : BitVec 32 := Scf.iv c0_i32_104 c1_i32_106 k0_t2
  let v728 : Index := Scalar.indexCast arg15
  let c2_i32_457 : BitVec 32 := 2#32
  let v729 : Index := Scalar.indexCast c2_i32_457
  let c96_458 : Index := 96#32
  ![0, v728.toNat, 2, 96]
def k0_off78 (k0_t2 : Fin k0_t2_loop.trips) : Fin 4 → Nat :=
  let c0_i32_459 : BitVec 32 := 0#32
  let v732 : Index := Scalar.indexCast c0_i32_459
  let c0_i32_104 : BitVec 32 := 0#32
  let c1_i32_106 : BitVec 32 := 1#32
  let arg15 : BitVec 32 := Scf.iv c0_i32_104 c1_i32_106 k0_t2
  let v733 : Index := Scalar.indexCast arg15
  let c3_i32_460 : BitVec 32 := 3#32
  let v734 : Index := Scalar.indexCast c3_i32_460
  let c96_461 : Index := 96#32
  ![0, v733.toNat, 3, 96]
def k0_off79 (k0_t2 : Fin k0_t2_loop.trips) : Fin 4 → Nat :=
  let c0_i32_474 : BitVec 32 := 0#32
  let v758 : Index := Scalar.indexCast c0_i32_474
  let c0_i32_104 : BitVec 32 := 0#32
  let c1_i32_106 : BitVec 32 := 1#32
  let arg15 : BitVec 32 := Scf.iv c0_i32_104 c1_i32_106 k0_t2
  let v759 : Index := Scalar.indexCast arg15
  let c0_i32_475 : BitVec 32 := 0#32
  let v760 : Index := Scalar.indexCast c0_i32_475
  let c96_476 : Index := 96#32
  ![0, v759.toNat, 0, 96]
def k0_off80 (k0_t2 : Fin k0_t2_loop.trips) : Fin 4 → Nat :=
  let c0_i32_477 : BitVec 32 := 0#32
  let v765 : Index := Scalar.indexCast c0_i32_477
  let c0_i32_104 : BitVec 32 := 0#32
  let c1_i32_106 : BitVec 32 := 1#32
  let arg15 : BitVec 32 := Scf.iv c0_i32_104 c1_i32_106 k0_t2
  let v766 : Index := Scalar.indexCast arg15
  let c1_i32_478 : BitVec 32 := 1#32
  let v767 : Index := Scalar.indexCast c1_i32_478
  let c96_479 : Index := 96#32
  ![0, v766.toNat, 1, 96]
def k0_off81 (k0_t2 : Fin k0_t2_loop.trips) : Fin 4 → Nat :=
  let c0_i32_480 : BitVec 32 := 0#32
  let v772 : Index := Scalar.indexCast c0_i32_480
  let c0_i32_104 : BitVec 32 := 0#32
  let c1_i32_106 : BitVec 32 := 1#32
  let arg15 : BitVec 32 := Scf.iv c0_i32_104 c1_i32_106 k0_t2
  let v773 : Index := Scalar.indexCast arg15
  let c2_i32_481 : BitVec 32 := 2#32
  let v774 : Index := Scalar.indexCast c2_i32_481
  let c96_482 : Index := 96#32
  ![0, v773.toNat, 2, 96]
def k0_off82 (k0_t2 : Fin k0_t2_loop.trips) : Fin 4 → Nat :=
  let c0_i32_483 : BitVec 32 := 0#32
  let v779 : Index := Scalar.indexCast c0_i32_483
  let c0_i32_104 : BitVec 32 := 0#32
  let c1_i32_106 : BitVec 32 := 1#32
  let arg15 : BitVec 32 := Scf.iv c0_i32_104 c1_i32_106 k0_t2
  let v780 : Index := Scalar.indexCast arg15
  let c3_i32_484 : BitVec 32 := 3#32
  let v781 : Index := Scalar.indexCast c3_i32_484
  let c96_485 : Index := 96#32
  ![0, v780.toNat, 3, 96]
def k0_off83 (k0_t2 : Fin k0_t2_loop.trips) : Fin 4 → Nat :=
  let c0_i32_486 : BitVec 32 := 0#32
  let v786 : Index := Scalar.indexCast c0_i32_486
  let c0_i32_104 : BitVec 32 := 0#32
  let c1_i32_106 : BitVec 32 := 1#32
  let arg15 : BitVec 32 := Scf.iv c0_i32_104 c1_i32_106 k0_t2
  let v787 : Index := Scalar.indexCast arg15
  let c4_i32_487 : BitVec 32 := 4#32
  let v788 : Index := Scalar.indexCast c4_i32_487
  let c96_488 : Index := 96#32
  ![0, v787.toNat, 4, 96]
def k0_off84 (k0_t2 : Fin k0_t2_loop.trips) : Fin 4 → Nat :=
  let c0_i32_489 : BitVec 32 := 0#32
  let v793 : Index := Scalar.indexCast c0_i32_489
  let c0_i32_104 : BitVec 32 := 0#32
  let c1_i32_106 : BitVec 32 := 1#32
  let arg15 : BitVec 32 := Scf.iv c0_i32_104 c1_i32_106 k0_t2
  let v794 : Index := Scalar.indexCast arg15
  let c5_i32_490 : BitVec 32 := 5#32
  let v795 : Index := Scalar.indexCast c5_i32_490
  let c96_491 : Index := 96#32
  ![0, v794.toNat, 5, 96]
def k0_off85 (k0_t2 : Fin k0_t2_loop.trips) : Fin 4 → Nat :=
  let c0_i32_492 : BitVec 32 := 0#32
  let v800 : Index := Scalar.indexCast c0_i32_492
  let c0_i32_104 : BitVec 32 := 0#32
  let c1_i32_106 : BitVec 32 := 1#32
  let arg15 : BitVec 32 := Scf.iv c0_i32_104 c1_i32_106 k0_t2
  let v801 : Index := Scalar.indexCast arg15
  let c6_i32_493 : BitVec 32 := 6#32
  let v802 : Index := Scalar.indexCast c6_i32_493
  let c96_494 : Index := 96#32
  ![0, v801.toNat, 6, 96]
def k0_off86 (k0_t2 : Fin k0_t2_loop.trips) : Fin 4 → Nat :=
  let c0_i32_496 : BitVec 32 := 0#32
  let v813 : Index := Scalar.indexCast c0_i32_496
  let c0_i32_104 : BitVec 32 := 0#32
  let c1_i32_106 : BitVec 32 := 1#32
  let arg15 : BitVec 32 := Scf.iv c0_i32_104 c1_i32_106 k0_t2
  let v814 : Index := Scalar.indexCast arg15
  let c7_i32_497 : BitVec 32 := 7#32
  let v815 : Index := Scalar.indexCast c7_i32_497
  let c96_498 : Index := 96#32
  ![0, v814.toNat, 7, 96]
def k0_off87 (k0_t2 : Fin k0_t2_loop.trips) : Fin 4 → Nat :=
  let c0_i32_499 : BitVec 32 := 0#32
  let v819 : Index := Scalar.indexCast c0_i32_499
  let c0_i32_104 : BitVec 32 := 0#32
  let c1_i32_106 : BitVec 32 := 1#32
  let arg15 : BitVec 32 := Scf.iv c0_i32_104 c1_i32_106 k0_t2
  let v820 : Index := Scalar.indexCast arg15
  let c0_i32_500 : BitVec 32 := 0#32
  let v821 : Index := Scalar.indexCast c0_i32_500
  let c112 : Index := 112#32
  ![0, v820.toNat, 0, 112]
def k0_off88 (k0_t2 : Fin k0_t2_loop.trips) : Fin 4 → Nat :=
  let c0_i32_501 : BitVec 32 := 0#32
  let v824 : Index := Scalar.indexCast c0_i32_501
  let c0_i32_104 : BitVec 32 := 0#32
  let c1_i32_106 : BitVec 32 := 1#32
  let arg15 : BitVec 32 := Scf.iv c0_i32_104 c1_i32_106 k0_t2
  let v825 : Index := Scalar.indexCast arg15
  let c1_i32_502 : BitVec 32 := 1#32
  let v826 : Index := Scalar.indexCast c1_i32_502
  let c112_503 : Index := 112#32
  ![0, v825.toNat, 1, 112]
def k0_off89 (k0_t2 : Fin k0_t2_loop.trips) : Fin 4 → Nat :=
  let c0_i32_504 : BitVec 32 := 0#32
  let v829 : Index := Scalar.indexCast c0_i32_504
  let c0_i32_104 : BitVec 32 := 0#32
  let c1_i32_106 : BitVec 32 := 1#32
  let arg15 : BitVec 32 := Scf.iv c0_i32_104 c1_i32_106 k0_t2
  let v830 : Index := Scalar.indexCast arg15
  let c2_i32_505 : BitVec 32 := 2#32
  let v831 : Index := Scalar.indexCast c2_i32_505
  let c112_506 : Index := 112#32
  ![0, v830.toNat, 2, 112]
def k0_off90 (k0_t2 : Fin k0_t2_loop.trips) : Fin 4 → Nat :=
  let c0_i32_507 : BitVec 32 := 0#32
  let v834 : Index := Scalar.indexCast c0_i32_507
  let c0_i32_104 : BitVec 32 := 0#32
  let c1_i32_106 : BitVec 32 := 1#32
  let arg15 : BitVec 32 := Scf.iv c0_i32_104 c1_i32_106 k0_t2
  let v835 : Index := Scalar.indexCast arg15
  let c3_i32_508 : BitVec 32 := 3#32
  let v836 : Index := Scalar.indexCast c3_i32_508
  let c112_509 : Index := 112#32
  ![0, v835.toNat, 3, 112]
def k0_off91 (k0_t2 : Fin k0_t2_loop.trips) : Fin 4 → Nat :=
  let c0_i32_522 : BitVec 32 := 0#32
  let v860 : Index := Scalar.indexCast c0_i32_522
  let c0_i32_104 : BitVec 32 := 0#32
  let c1_i32_106 : BitVec 32 := 1#32
  let arg15 : BitVec 32 := Scf.iv c0_i32_104 c1_i32_106 k0_t2
  let v861 : Index := Scalar.indexCast arg15
  let c0_i32_523 : BitVec 32 := 0#32
  let v862 : Index := Scalar.indexCast c0_i32_523
  let c112_524 : Index := 112#32
  ![0, v861.toNat, 0, 112]
def k0_off92 (k0_t2 : Fin k0_t2_loop.trips) : Fin 4 → Nat :=
  let c0_i32_525 : BitVec 32 := 0#32
  let v867 : Index := Scalar.indexCast c0_i32_525
  let c0_i32_104 : BitVec 32 := 0#32
  let c1_i32_106 : BitVec 32 := 1#32
  let arg15 : BitVec 32 := Scf.iv c0_i32_104 c1_i32_106 k0_t2
  let v868 : Index := Scalar.indexCast arg15
  let c1_i32_526 : BitVec 32 := 1#32
  let v869 : Index := Scalar.indexCast c1_i32_526
  let c112_527 : Index := 112#32
  ![0, v868.toNat, 1, 112]
def k0_off93 (k0_t2 : Fin k0_t2_loop.trips) : Fin 4 → Nat :=
  let c0_i32_528 : BitVec 32 := 0#32
  let v874 : Index := Scalar.indexCast c0_i32_528
  let c0_i32_104 : BitVec 32 := 0#32
  let c1_i32_106 : BitVec 32 := 1#32
  let arg15 : BitVec 32 := Scf.iv c0_i32_104 c1_i32_106 k0_t2
  let v875 : Index := Scalar.indexCast arg15
  let c2_i32_529 : BitVec 32 := 2#32
  let v876 : Index := Scalar.indexCast c2_i32_529
  let c112_530 : Index := 112#32
  ![0, v875.toNat, 2, 112]
def k0_off94 (k0_t2 : Fin k0_t2_loop.trips) : Fin 4 → Nat :=
  let c0_i32_531 : BitVec 32 := 0#32
  let v881 : Index := Scalar.indexCast c0_i32_531
  let c0_i32_104 : BitVec 32 := 0#32
  let c1_i32_106 : BitVec 32 := 1#32
  let arg15 : BitVec 32 := Scf.iv c0_i32_104 c1_i32_106 k0_t2
  let v882 : Index := Scalar.indexCast arg15
  let c3_i32_532 : BitVec 32 := 3#32
  let v883 : Index := Scalar.indexCast c3_i32_532
  let c112_533 : Index := 112#32
  ![0, v882.toNat, 3, 112]
def k0_off95 (k0_t2 : Fin k0_t2_loop.trips) : Fin 4 → Nat :=
  let c0_i32_534 : BitVec 32 := 0#32
  let v888 : Index := Scalar.indexCast c0_i32_534
  let c0_i32_104 : BitVec 32 := 0#32
  let c1_i32_106 : BitVec 32 := 1#32
  let arg15 : BitVec 32 := Scf.iv c0_i32_104 c1_i32_106 k0_t2
  let v889 : Index := Scalar.indexCast arg15
  let c4_i32_535 : BitVec 32 := 4#32
  let v890 : Index := Scalar.indexCast c4_i32_535
  let c112_536 : Index := 112#32
  ![0, v889.toNat, 4, 112]
def k0_off96 (k0_t2 : Fin k0_t2_loop.trips) : Fin 4 → Nat :=
  let c0_i32_537 : BitVec 32 := 0#32
  let v895 : Index := Scalar.indexCast c0_i32_537
  let c0_i32_104 : BitVec 32 := 0#32
  let c1_i32_106 : BitVec 32 := 1#32
  let arg15 : BitVec 32 := Scf.iv c0_i32_104 c1_i32_106 k0_t2
  let v896 : Index := Scalar.indexCast arg15
  let c5_i32_538 : BitVec 32 := 5#32
  let v897 : Index := Scalar.indexCast c5_i32_538
  let c112_539 : Index := 112#32
  ![0, v896.toNat, 5, 112]
def k0_off97 (k0_t2 : Fin k0_t2_loop.trips) : Fin 4 → Nat :=
  let c0_i32_540 : BitVec 32 := 0#32
  let v902 : Index := Scalar.indexCast c0_i32_540
  let c0_i32_104 : BitVec 32 := 0#32
  let c1_i32_106 : BitVec 32 := 1#32
  let arg15 : BitVec 32 := Scf.iv c0_i32_104 c1_i32_106 k0_t2
  let v903 : Index := Scalar.indexCast arg15
  let c6_i32_541 : BitVec 32 := 6#32
  let v904 : Index := Scalar.indexCast c6_i32_541
  let c112_542 : Index := 112#32
  ![0, v903.toNat, 6, 112]
def k0_off98 (k0_t2 : Fin k0_t2_loop.trips) : Fin 4 → Nat :=
  let c0_i32_544 : BitVec 32 := 0#32
  let v915 : Index := Scalar.indexCast c0_i32_544
  let c0_i32_104 : BitVec 32 := 0#32
  let c1_i32_106 : BitVec 32 := 1#32
  let arg15 : BitVec 32 := Scf.iv c0_i32_104 c1_i32_106 k0_t2
  let v916 : Index := Scalar.indexCast arg15
  let c7_i32_545 : BitVec 32 := 7#32
  let v917 : Index := Scalar.indexCast c7_i32_545
  let c112_546 : Index := 112#32
  ![0, v916.toNat, 7, 112]
def k0_off99 (k0_t2 : Fin k0_t2_loop.trips) : Fin 4 → Nat :=
  let c0_i32_547 : BitVec 32 := 0#32
  let v921 : Index := Scalar.indexCast c0_i32_547
  let c0_i32_104 : BitVec 32 := 0#32
  let c1_i32_106 : BitVec 32 := 1#32
  let arg15 : BitVec 32 := Scf.iv c0_i32_104 c1_i32_106 k0_t2
  let v922 : Index := Scalar.indexCast arg15
  let c0_i32_548 : BitVec 32 := 0#32
  let v923 : Index := Scalar.indexCast c0_i32_548
  let c128 : Index := 128#32
  ![0, v922.toNat, 0, 128]
def k0_off100 (k0_t2 : Fin k0_t2_loop.trips) : Fin 4 → Nat :=
  let c0_i32_549 : BitVec 32 := 0#32
  let v926 : Index := Scalar.indexCast c0_i32_549
  let c0_i32_104 : BitVec 32 := 0#32
  let c1_i32_106 : BitVec 32 := 1#32
  let arg15 : BitVec 32 := Scf.iv c0_i32_104 c1_i32_106 k0_t2
  let v927 : Index := Scalar.indexCast arg15
  let c1_i32_550 : BitVec 32 := 1#32
  let v928 : Index := Scalar.indexCast c1_i32_550
  let c128_551 : Index := 128#32
  ![0, v927.toNat, 1, 128]
def k0_off101 (k0_t2 : Fin k0_t2_loop.trips) : Fin 4 → Nat :=
  let c0_i32_552 : BitVec 32 := 0#32
  let v931 : Index := Scalar.indexCast c0_i32_552
  let c0_i32_104 : BitVec 32 := 0#32
  let c1_i32_106 : BitVec 32 := 1#32
  let arg15 : BitVec 32 := Scf.iv c0_i32_104 c1_i32_106 k0_t2
  let v932 : Index := Scalar.indexCast arg15
  let c2_i32_553 : BitVec 32 := 2#32
  let v933 : Index := Scalar.indexCast c2_i32_553
  let c128_554 : Index := 128#32
  ![0, v932.toNat, 2, 128]
def k0_off102 (k0_t2 : Fin k0_t2_loop.trips) : Fin 4 → Nat :=
  let c0_i32_555 : BitVec 32 := 0#32
  let v936 : Index := Scalar.indexCast c0_i32_555
  let c0_i32_104 : BitVec 32 := 0#32
  let c1_i32_106 : BitVec 32 := 1#32
  let arg15 : BitVec 32 := Scf.iv c0_i32_104 c1_i32_106 k0_t2
  let v937 : Index := Scalar.indexCast arg15
  let c3_i32_556 : BitVec 32 := 3#32
  let v938 : Index := Scalar.indexCast c3_i32_556
  let c128_557 : Index := 128#32
  ![0, v937.toNat, 3, 128]
def k0_off103 (k0_t2 : Fin k0_t2_loop.trips) : Fin 4 → Nat :=
  let c0_i32_570 : BitVec 32 := 0#32
  let v962 : Index := Scalar.indexCast c0_i32_570
  let c0_i32_104 : BitVec 32 := 0#32
  let c1_i32_106 : BitVec 32 := 1#32
  let arg15 : BitVec 32 := Scf.iv c0_i32_104 c1_i32_106 k0_t2
  let v963 : Index := Scalar.indexCast arg15
  let c0_i32_571 : BitVec 32 := 0#32
  let v964 : Index := Scalar.indexCast c0_i32_571
  let c128_572 : Index := 128#32
  ![0, v963.toNat, 0, 128]
def k0_off104 (k0_t2 : Fin k0_t2_loop.trips) : Fin 4 → Nat :=
  let c0_i32_573 : BitVec 32 := 0#32
  let v969 : Index := Scalar.indexCast c0_i32_573
  let c0_i32_104 : BitVec 32 := 0#32
  let c1_i32_106 : BitVec 32 := 1#32
  let arg15 : BitVec 32 := Scf.iv c0_i32_104 c1_i32_106 k0_t2
  let v970 : Index := Scalar.indexCast arg15
  let c1_i32_574 : BitVec 32 := 1#32
  let v971 : Index := Scalar.indexCast c1_i32_574
  let c128_575 : Index := 128#32
  ![0, v970.toNat, 1, 128]
def k0_off105 (k0_t2 : Fin k0_t2_loop.trips) : Fin 4 → Nat :=
  let c0_i32_576 : BitVec 32 := 0#32
  let v976 : Index := Scalar.indexCast c0_i32_576
  let c0_i32_104 : BitVec 32 := 0#32
  let c1_i32_106 : BitVec 32 := 1#32
  let arg15 : BitVec 32 := Scf.iv c0_i32_104 c1_i32_106 k0_t2
  let v977 : Index := Scalar.indexCast arg15
  let c2_i32_577 : BitVec 32 := 2#32
  let v978 : Index := Scalar.indexCast c2_i32_577
  let c128_578 : Index := 128#32
  ![0, v977.toNat, 2, 128]
def k0_off106 (k0_t2 : Fin k0_t2_loop.trips) : Fin 4 → Nat :=
  let c0_i32_579 : BitVec 32 := 0#32
  let v983 : Index := Scalar.indexCast c0_i32_579
  let c0_i32_104 : BitVec 32 := 0#32
  let c1_i32_106 : BitVec 32 := 1#32
  let arg15 : BitVec 32 := Scf.iv c0_i32_104 c1_i32_106 k0_t2
  let v984 : Index := Scalar.indexCast arg15
  let c3_i32_580 : BitVec 32 := 3#32
  let v985 : Index := Scalar.indexCast c3_i32_580
  let c128_581 : Index := 128#32
  ![0, v984.toNat, 3, 128]
def k0_off107 (k0_t2 : Fin k0_t2_loop.trips) : Fin 4 → Nat :=
  let c0_i32_582 : BitVec 32 := 0#32
  let v990 : Index := Scalar.indexCast c0_i32_582
  let c0_i32_104 : BitVec 32 := 0#32
  let c1_i32_106 : BitVec 32 := 1#32
  let arg15 : BitVec 32 := Scf.iv c0_i32_104 c1_i32_106 k0_t2
  let v991 : Index := Scalar.indexCast arg15
  let c4_i32_583 : BitVec 32 := 4#32
  let v992 : Index := Scalar.indexCast c4_i32_583
  let c128_584 : Index := 128#32
  ![0, v991.toNat, 4, 128]
def k0_off108 (k0_t2 : Fin k0_t2_loop.trips) : Fin 4 → Nat :=
  let c0_i32_585 : BitVec 32 := 0#32
  let v997 : Index := Scalar.indexCast c0_i32_585
  let c0_i32_104 : BitVec 32 := 0#32
  let c1_i32_106 : BitVec 32 := 1#32
  let arg15 : BitVec 32 := Scf.iv c0_i32_104 c1_i32_106 k0_t2
  let v998 : Index := Scalar.indexCast arg15
  let c5_i32_586 : BitVec 32 := 5#32
  let v999 : Index := Scalar.indexCast c5_i32_586
  let c128_587 : Index := 128#32
  ![0, v998.toNat, 5, 128]
def k0_off109 (k0_t2 : Fin k0_t2_loop.trips) : Fin 4 → Nat :=
  let c0_i32_588 : BitVec 32 := 0#32
  let v1004 : Index := Scalar.indexCast c0_i32_588
  let c0_i32_104 : BitVec 32 := 0#32
  let c1_i32_106 : BitVec 32 := 1#32
  let arg15 : BitVec 32 := Scf.iv c0_i32_104 c1_i32_106 k0_t2
  let v1005 : Index := Scalar.indexCast arg15
  let c6_i32_589 : BitVec 32 := 6#32
  let v1006 : Index := Scalar.indexCast c6_i32_589
  let c128_590 : Index := 128#32
  ![0, v1005.toNat, 6, 128]
def k0_off110 (k0_t2 : Fin k0_t2_loop.trips) : Fin 4 → Nat :=
  let c0_i32_592 : BitVec 32 := 0#32
  let v1017 : Index := Scalar.indexCast c0_i32_592
  let c0_i32_104 : BitVec 32 := 0#32
  let c1_i32_106 : BitVec 32 := 1#32
  let arg15 : BitVec 32 := Scf.iv c0_i32_104 c1_i32_106 k0_t2
  let v1018 : Index := Scalar.indexCast arg15
  let c7_i32_593 : BitVec 32 := 7#32
  let v1019 : Index := Scalar.indexCast c7_i32_593
  let c128_594 : Index := 128#32
  ![0, v1018.toNat, 7, 128]
def k0_off111 (k0_t2 : Fin k0_t2_loop.trips) : Fin 4 → Nat :=
  let c0_i32_595 : BitVec 32 := 0#32
  let v1023 : Index := Scalar.indexCast c0_i32_595
  let c0_i32_104 : BitVec 32 := 0#32
  let c1_i32_106 : BitVec 32 := 1#32
  let arg15 : BitVec 32 := Scf.iv c0_i32_104 c1_i32_106 k0_t2
  let v1024 : Index := Scalar.indexCast arg15
  let c0_i32_596 : BitVec 32 := 0#32
  let v1025 : Index := Scalar.indexCast c0_i32_596
  let c144 : Index := 144#32
  ![0, v1024.toNat, 0, 144]
def k0_off112 (k0_t2 : Fin k0_t2_loop.trips) : Fin 4 → Nat :=
  let c0_i32_597 : BitVec 32 := 0#32
  let v1028 : Index := Scalar.indexCast c0_i32_597
  let c0_i32_104 : BitVec 32 := 0#32
  let c1_i32_106 : BitVec 32 := 1#32
  let arg15 : BitVec 32 := Scf.iv c0_i32_104 c1_i32_106 k0_t2
  let v1029 : Index := Scalar.indexCast arg15
  let c1_i32_598 : BitVec 32 := 1#32
  let v1030 : Index := Scalar.indexCast c1_i32_598
  let c144_599 : Index := 144#32
  ![0, v1029.toNat, 1, 144]
def k0_off113 (k0_t2 : Fin k0_t2_loop.trips) : Fin 4 → Nat :=
  let c0_i32_600 : BitVec 32 := 0#32
  let v1033 : Index := Scalar.indexCast c0_i32_600
  let c0_i32_104 : BitVec 32 := 0#32
  let c1_i32_106 : BitVec 32 := 1#32
  let arg15 : BitVec 32 := Scf.iv c0_i32_104 c1_i32_106 k0_t2
  let v1034 : Index := Scalar.indexCast arg15
  let c2_i32_601 : BitVec 32 := 2#32
  let v1035 : Index := Scalar.indexCast c2_i32_601
  let c144_602 : Index := 144#32
  ![0, v1034.toNat, 2, 144]
def k0_off114 (k0_t2 : Fin k0_t2_loop.trips) : Fin 4 → Nat :=
  let c0_i32_603 : BitVec 32 := 0#32
  let v1038 : Index := Scalar.indexCast c0_i32_603
  let c0_i32_104 : BitVec 32 := 0#32
  let c1_i32_106 : BitVec 32 := 1#32
  let arg15 : BitVec 32 := Scf.iv c0_i32_104 c1_i32_106 k0_t2
  let v1039 : Index := Scalar.indexCast arg15
  let c3_i32_604 : BitVec 32 := 3#32
  let v1040 : Index := Scalar.indexCast c3_i32_604
  let c144_605 : Index := 144#32
  ![0, v1039.toNat, 3, 144]
def k0_off115 (k0_t2 : Fin k0_t2_loop.trips) : Fin 4 → Nat :=
  let c0_i32_618 : BitVec 32 := 0#32
  let v1064 : Index := Scalar.indexCast c0_i32_618
  let c0_i32_104 : BitVec 32 := 0#32
  let c1_i32_106 : BitVec 32 := 1#32
  let arg15 : BitVec 32 := Scf.iv c0_i32_104 c1_i32_106 k0_t2
  let v1065 : Index := Scalar.indexCast arg15
  let c0_i32_619 : BitVec 32 := 0#32
  let v1066 : Index := Scalar.indexCast c0_i32_619
  let c144_620 : Index := 144#32
  ![0, v1065.toNat, 0, 144]
def k0_off116 (k0_t2 : Fin k0_t2_loop.trips) : Fin 4 → Nat :=
  let c0_i32_621 : BitVec 32 := 0#32
  let v1071 : Index := Scalar.indexCast c0_i32_621
  let c0_i32_104 : BitVec 32 := 0#32
  let c1_i32_106 : BitVec 32 := 1#32
  let arg15 : BitVec 32 := Scf.iv c0_i32_104 c1_i32_106 k0_t2
  let v1072 : Index := Scalar.indexCast arg15
  let c1_i32_622 : BitVec 32 := 1#32
  let v1073 : Index := Scalar.indexCast c1_i32_622
  let c144_623 : Index := 144#32
  ![0, v1072.toNat, 1, 144]
def k0_off117 (k0_t2 : Fin k0_t2_loop.trips) : Fin 4 → Nat :=
  let c0_i32_624 : BitVec 32 := 0#32
  let v1078 : Index := Scalar.indexCast c0_i32_624
  let c0_i32_104 : BitVec 32 := 0#32
  let c1_i32_106 : BitVec 32 := 1#32
  let arg15 : BitVec 32 := Scf.iv c0_i32_104 c1_i32_106 k0_t2
  let v1079 : Index := Scalar.indexCast arg15
  let c2_i32_625 : BitVec 32 := 2#32
  let v1080 : Index := Scalar.indexCast c2_i32_625
  let c144_626 : Index := 144#32
  ![0, v1079.toNat, 2, 144]
def k0_off118 (k0_t2 : Fin k0_t2_loop.trips) : Fin 4 → Nat :=
  let c0_i32_627 : BitVec 32 := 0#32
  let v1085 : Index := Scalar.indexCast c0_i32_627
  let c0_i32_104 : BitVec 32 := 0#32
  let c1_i32_106 : BitVec 32 := 1#32
  let arg15 : BitVec 32 := Scf.iv c0_i32_104 c1_i32_106 k0_t2
  let v1086 : Index := Scalar.indexCast arg15
  let c3_i32_628 : BitVec 32 := 3#32
  let v1087 : Index := Scalar.indexCast c3_i32_628
  let c144_629 : Index := 144#32
  ![0, v1086.toNat, 3, 144]
def k0_off119 (k0_t2 : Fin k0_t2_loop.trips) : Fin 4 → Nat :=
  let c0_i32_630 : BitVec 32 := 0#32
  let v1092 : Index := Scalar.indexCast c0_i32_630
  let c0_i32_104 : BitVec 32 := 0#32
  let c1_i32_106 : BitVec 32 := 1#32
  let arg15 : BitVec 32 := Scf.iv c0_i32_104 c1_i32_106 k0_t2
  let v1093 : Index := Scalar.indexCast arg15
  let c4_i32_631 : BitVec 32 := 4#32
  let v1094 : Index := Scalar.indexCast c4_i32_631
  let c144_632 : Index := 144#32
  ![0, v1093.toNat, 4, 144]
def k0_off120 (k0_t2 : Fin k0_t2_loop.trips) : Fin 4 → Nat :=
  let c0_i32_633 : BitVec 32 := 0#32
  let v1099 : Index := Scalar.indexCast c0_i32_633
  let c0_i32_104 : BitVec 32 := 0#32
  let c1_i32_106 : BitVec 32 := 1#32
  let arg15 : BitVec 32 := Scf.iv c0_i32_104 c1_i32_106 k0_t2
  let v1100 : Index := Scalar.indexCast arg15
  let c5_i32_634 : BitVec 32 := 5#32
  let v1101 : Index := Scalar.indexCast c5_i32_634
  let c144_635 : Index := 144#32
  ![0, v1100.toNat, 5, 144]
def k0_off121 (k0_t2 : Fin k0_t2_loop.trips) : Fin 4 → Nat :=
  let c0_i32_636 : BitVec 32 := 0#32
  let v1106 : Index := Scalar.indexCast c0_i32_636
  let c0_i32_104 : BitVec 32 := 0#32
  let c1_i32_106 : BitVec 32 := 1#32
  let arg15 : BitVec 32 := Scf.iv c0_i32_104 c1_i32_106 k0_t2
  let v1107 : Index := Scalar.indexCast arg15
  let c6_i32_637 : BitVec 32 := 6#32
  let v1108 : Index := Scalar.indexCast c6_i32_637
  let c144_638 : Index := 144#32
  ![0, v1107.toNat, 6, 144]
def k0_off122 (k0_t2 : Fin k0_t2_loop.trips) : Fin 4 → Nat :=
  let c0_i32_640 : BitVec 32 := 0#32
  let v1119 : Index := Scalar.indexCast c0_i32_640
  let c0_i32_104 : BitVec 32 := 0#32
  let c1_i32_106 : BitVec 32 := 1#32
  let arg15 : BitVec 32 := Scf.iv c0_i32_104 c1_i32_106 k0_t2
  let v1120 : Index := Scalar.indexCast arg15
  let c7_i32_641 : BitVec 32 := 7#32
  let v1121 : Index := Scalar.indexCast c7_i32_641
  let c144_642 : Index := 144#32
  ![0, v1120.toNat, 7, 144]
def k0_off123 (k0_t2 : Fin k0_t2_loop.trips) : Fin 4 → Nat :=
  let c0_i32_643 : BitVec 32 := 0#32
  let v1125 : Index := Scalar.indexCast c0_i32_643
  let c0_i32_104 : BitVec 32 := 0#32
  let c1_i32_106 : BitVec 32 := 1#32
  let arg15 : BitVec 32 := Scf.iv c0_i32_104 c1_i32_106 k0_t2
  let v1126 : Index := Scalar.indexCast arg15
  let c0_i32_644 : BitVec 32 := 0#32
  let v1127 : Index := Scalar.indexCast c0_i32_644
  let c160 : Index := 160#32
  ![0, v1126.toNat, 0, 160]
def k0_off124 (k0_t2 : Fin k0_t2_loop.trips) : Fin 4 → Nat :=
  let c0_i32_645 : BitVec 32 := 0#32
  let v1130 : Index := Scalar.indexCast c0_i32_645
  let c0_i32_104 : BitVec 32 := 0#32
  let c1_i32_106 : BitVec 32 := 1#32
  let arg15 : BitVec 32 := Scf.iv c0_i32_104 c1_i32_106 k0_t2
  let v1131 : Index := Scalar.indexCast arg15
  let c1_i32_646 : BitVec 32 := 1#32
  let v1132 : Index := Scalar.indexCast c1_i32_646
  let c160_647 : Index := 160#32
  ![0, v1131.toNat, 1, 160]
def k0_off125 (k0_t2 : Fin k0_t2_loop.trips) : Fin 4 → Nat :=
  let c0_i32_648 : BitVec 32 := 0#32
  let v1135 : Index := Scalar.indexCast c0_i32_648
  let c0_i32_104 : BitVec 32 := 0#32
  let c1_i32_106 : BitVec 32 := 1#32
  let arg15 : BitVec 32 := Scf.iv c0_i32_104 c1_i32_106 k0_t2
  let v1136 : Index := Scalar.indexCast arg15
  let c2_i32_649 : BitVec 32 := 2#32
  let v1137 : Index := Scalar.indexCast c2_i32_649
  let c160_650 : Index := 160#32
  ![0, v1136.toNat, 2, 160]
def k0_off126 (k0_t2 : Fin k0_t2_loop.trips) : Fin 4 → Nat :=
  let c0_i32_651 : BitVec 32 := 0#32
  let v1140 : Index := Scalar.indexCast c0_i32_651
  let c0_i32_104 : BitVec 32 := 0#32
  let c1_i32_106 : BitVec 32 := 1#32
  let arg15 : BitVec 32 := Scf.iv c0_i32_104 c1_i32_106 k0_t2
  let v1141 : Index := Scalar.indexCast arg15
  let c3_i32_652 : BitVec 32 := 3#32
  let v1142 : Index := Scalar.indexCast c3_i32_652
  let c160_653 : Index := 160#32
  ![0, v1141.toNat, 3, 160]
def k0_off127 (k0_t2 : Fin k0_t2_loop.trips) : Fin 4 → Nat :=
  let c0_i32_666 : BitVec 32 := 0#32
  let v1166 : Index := Scalar.indexCast c0_i32_666
  let c0_i32_104 : BitVec 32 := 0#32
  let c1_i32_106 : BitVec 32 := 1#32
  let arg15 : BitVec 32 := Scf.iv c0_i32_104 c1_i32_106 k0_t2
  let v1167 : Index := Scalar.indexCast arg15
  let c0_i32_667 : BitVec 32 := 0#32
  let v1168 : Index := Scalar.indexCast c0_i32_667
  let c160_668 : Index := 160#32
  ![0, v1167.toNat, 0, 160]
def k0_off128 (k0_t2 : Fin k0_t2_loop.trips) : Fin 4 → Nat :=
  let c0_i32_669 : BitVec 32 := 0#32
  let v1173 : Index := Scalar.indexCast c0_i32_669
  let c0_i32_104 : BitVec 32 := 0#32
  let c1_i32_106 : BitVec 32 := 1#32
  let arg15 : BitVec 32 := Scf.iv c0_i32_104 c1_i32_106 k0_t2
  let v1174 : Index := Scalar.indexCast arg15
  let c1_i32_670 : BitVec 32 := 1#32
  let v1175 : Index := Scalar.indexCast c1_i32_670
  let c160_671 : Index := 160#32
  ![0, v1174.toNat, 1, 160]
def k0_off129 (k0_t2 : Fin k0_t2_loop.trips) : Fin 4 → Nat :=
  let c0_i32_672 : BitVec 32 := 0#32
  let v1180 : Index := Scalar.indexCast c0_i32_672
  let c0_i32_104 : BitVec 32 := 0#32
  let c1_i32_106 : BitVec 32 := 1#32
  let arg15 : BitVec 32 := Scf.iv c0_i32_104 c1_i32_106 k0_t2
  let v1181 : Index := Scalar.indexCast arg15
  let c2_i32_673 : BitVec 32 := 2#32
  let v1182 : Index := Scalar.indexCast c2_i32_673
  let c160_674 : Index := 160#32
  ![0, v1181.toNat, 2, 160]
def k0_off130 (k0_t2 : Fin k0_t2_loop.trips) : Fin 4 → Nat :=
  let c0_i32_675 : BitVec 32 := 0#32
  let v1187 : Index := Scalar.indexCast c0_i32_675
  let c0_i32_104 : BitVec 32 := 0#32
  let c1_i32_106 : BitVec 32 := 1#32
  let arg15 : BitVec 32 := Scf.iv c0_i32_104 c1_i32_106 k0_t2
  let v1188 : Index := Scalar.indexCast arg15
  let c3_i32_676 : BitVec 32 := 3#32
  let v1189 : Index := Scalar.indexCast c3_i32_676
  let c160_677 : Index := 160#32
  ![0, v1188.toNat, 3, 160]
def k0_off131 (k0_t2 : Fin k0_t2_loop.trips) : Fin 4 → Nat :=
  let c0_i32_678 : BitVec 32 := 0#32
  let v1194 : Index := Scalar.indexCast c0_i32_678
  let c0_i32_104 : BitVec 32 := 0#32
  let c1_i32_106 : BitVec 32 := 1#32
  let arg15 : BitVec 32 := Scf.iv c0_i32_104 c1_i32_106 k0_t2
  let v1195 : Index := Scalar.indexCast arg15
  let c4_i32_679 : BitVec 32 := 4#32
  let v1196 : Index := Scalar.indexCast c4_i32_679
  let c160_680 : Index := 160#32
  ![0, v1195.toNat, 4, 160]
def k0_off132 (k0_t2 : Fin k0_t2_loop.trips) : Fin 4 → Nat :=
  let c0_i32_681 : BitVec 32 := 0#32
  let v1201 : Index := Scalar.indexCast c0_i32_681
  let c0_i32_104 : BitVec 32 := 0#32
  let c1_i32_106 : BitVec 32 := 1#32
  let arg15 : BitVec 32 := Scf.iv c0_i32_104 c1_i32_106 k0_t2
  let v1202 : Index := Scalar.indexCast arg15
  let c5_i32_682 : BitVec 32 := 5#32
  let v1203 : Index := Scalar.indexCast c5_i32_682
  let c160_683 : Index := 160#32
  ![0, v1202.toNat, 5, 160]
def k0_off133 (k0_t2 : Fin k0_t2_loop.trips) : Fin 4 → Nat :=
  let c0_i32_684 : BitVec 32 := 0#32
  let v1208 : Index := Scalar.indexCast c0_i32_684
  let c0_i32_104 : BitVec 32 := 0#32
  let c1_i32_106 : BitVec 32 := 1#32
  let arg15 : BitVec 32 := Scf.iv c0_i32_104 c1_i32_106 k0_t2
  let v1209 : Index := Scalar.indexCast arg15
  let c6_i32_685 : BitVec 32 := 6#32
  let v1210 : Index := Scalar.indexCast c6_i32_685
  let c160_686 : Index := 160#32
  ![0, v1209.toNat, 6, 160]
def k0_off134 (k0_t2 : Fin k0_t2_loop.trips) : Fin 4 → Nat :=
  let c0_i32_688 : BitVec 32 := 0#32
  let v1221 : Index := Scalar.indexCast c0_i32_688
  let c0_i32_104 : BitVec 32 := 0#32
  let c1_i32_106 : BitVec 32 := 1#32
  let arg15 : BitVec 32 := Scf.iv c0_i32_104 c1_i32_106 k0_t2
  let v1222 : Index := Scalar.indexCast arg15
  let c7_i32_689 : BitVec 32 := 7#32
  let v1223 : Index := Scalar.indexCast c7_i32_689
  let c160_690 : Index := 160#32
  ![0, v1222.toNat, 7, 160]
def k0_off135 (k0_t2 : Fin k0_t2_loop.trips) : Fin 4 → Nat :=
  let c0_i32_691 : BitVec 32 := 0#32
  let v1227 : Index := Scalar.indexCast c0_i32_691
  let c0_i32_104 : BitVec 32 := 0#32
  let c1_i32_106 : BitVec 32 := 1#32
  let arg15 : BitVec 32 := Scf.iv c0_i32_104 c1_i32_106 k0_t2
  let v1228 : Index := Scalar.indexCast arg15
  let c0_i32_692 : BitVec 32 := 0#32
  let v1229 : Index := Scalar.indexCast c0_i32_692
  let c176 : Index := 176#32
  ![0, v1228.toNat, 0, 176]
def k0_off136 (k0_t2 : Fin k0_t2_loop.trips) : Fin 4 → Nat :=
  let c0_i32_693 : BitVec 32 := 0#32
  let v1232 : Index := Scalar.indexCast c0_i32_693
  let c0_i32_104 : BitVec 32 := 0#32
  let c1_i32_106 : BitVec 32 := 1#32
  let arg15 : BitVec 32 := Scf.iv c0_i32_104 c1_i32_106 k0_t2
  let v1233 : Index := Scalar.indexCast arg15
  let c1_i32_694 : BitVec 32 := 1#32
  let v1234 : Index := Scalar.indexCast c1_i32_694
  let c176_695 : Index := 176#32
  ![0, v1233.toNat, 1, 176]
def k0_off137 (k0_t2 : Fin k0_t2_loop.trips) : Fin 4 → Nat :=
  let c0_i32_696 : BitVec 32 := 0#32
  let v1237 : Index := Scalar.indexCast c0_i32_696
  let c0_i32_104 : BitVec 32 := 0#32
  let c1_i32_106 : BitVec 32 := 1#32
  let arg15 : BitVec 32 := Scf.iv c0_i32_104 c1_i32_106 k0_t2
  let v1238 : Index := Scalar.indexCast arg15
  let c2_i32_697 : BitVec 32 := 2#32
  let v1239 : Index := Scalar.indexCast c2_i32_697
  let c176_698 : Index := 176#32
  ![0, v1238.toNat, 2, 176]
def k0_off138 (k0_t2 : Fin k0_t2_loop.trips) : Fin 4 → Nat :=
  let c0_i32_699 : BitVec 32 := 0#32
  let v1242 : Index := Scalar.indexCast c0_i32_699
  let c0_i32_104 : BitVec 32 := 0#32
  let c1_i32_106 : BitVec 32 := 1#32
  let arg15 : BitVec 32 := Scf.iv c0_i32_104 c1_i32_106 k0_t2
  let v1243 : Index := Scalar.indexCast arg15
  let c3_i32_700 : BitVec 32 := 3#32
  let v1244 : Index := Scalar.indexCast c3_i32_700
  let c176_701 : Index := 176#32
  ![0, v1243.toNat, 3, 176]
def k0_off139 (k0_t2 : Fin k0_t2_loop.trips) : Fin 4 → Nat :=
  let c0_i32_714 : BitVec 32 := 0#32
  let v1268 : Index := Scalar.indexCast c0_i32_714
  let c0_i32_104 : BitVec 32 := 0#32
  let c1_i32_106 : BitVec 32 := 1#32
  let arg15 : BitVec 32 := Scf.iv c0_i32_104 c1_i32_106 k0_t2
  let v1269 : Index := Scalar.indexCast arg15
  let c0_i32_715 : BitVec 32 := 0#32
  let v1270 : Index := Scalar.indexCast c0_i32_715
  let c176_716 : Index := 176#32
  ![0, v1269.toNat, 0, 176]
def k0_off140 (k0_t2 : Fin k0_t2_loop.trips) : Fin 4 → Nat :=
  let c0_i32_717 : BitVec 32 := 0#32
  let v1275 : Index := Scalar.indexCast c0_i32_717
  let c0_i32_104 : BitVec 32 := 0#32
  let c1_i32_106 : BitVec 32 := 1#32
  let arg15 : BitVec 32 := Scf.iv c0_i32_104 c1_i32_106 k0_t2
  let v1276 : Index := Scalar.indexCast arg15
  let c1_i32_718 : BitVec 32 := 1#32
  let v1277 : Index := Scalar.indexCast c1_i32_718
  let c176_719 : Index := 176#32
  ![0, v1276.toNat, 1, 176]
def k0_off141 (k0_t2 : Fin k0_t2_loop.trips) : Fin 4 → Nat :=
  let c0_i32_720 : BitVec 32 := 0#32
  let v1282 : Index := Scalar.indexCast c0_i32_720
  let c0_i32_104 : BitVec 32 := 0#32
  let c1_i32_106 : BitVec 32 := 1#32
  let arg15 : BitVec 32 := Scf.iv c0_i32_104 c1_i32_106 k0_t2
  let v1283 : Index := Scalar.indexCast arg15
  let c2_i32_721 : BitVec 32 := 2#32
  let v1284 : Index := Scalar.indexCast c2_i32_721
  let c176_722 : Index := 176#32
  ![0, v1283.toNat, 2, 176]
def k0_off142 (k0_t2 : Fin k0_t2_loop.trips) : Fin 4 → Nat :=
  let c0_i32_723 : BitVec 32 := 0#32
  let v1289 : Index := Scalar.indexCast c0_i32_723
  let c0_i32_104 : BitVec 32 := 0#32
  let c1_i32_106 : BitVec 32 := 1#32
  let arg15 : BitVec 32 := Scf.iv c0_i32_104 c1_i32_106 k0_t2
  let v1290 : Index := Scalar.indexCast arg15
  let c3_i32_724 : BitVec 32 := 3#32
  let v1291 : Index := Scalar.indexCast c3_i32_724
  let c176_725 : Index := 176#32
  ![0, v1290.toNat, 3, 176]
def k0_off143 (k0_t2 : Fin k0_t2_loop.trips) : Fin 4 → Nat :=
  let c0_i32_726 : BitVec 32 := 0#32
  let v1296 : Index := Scalar.indexCast c0_i32_726
  let c0_i32_104 : BitVec 32 := 0#32
  let c1_i32_106 : BitVec 32 := 1#32
  let arg15 : BitVec 32 := Scf.iv c0_i32_104 c1_i32_106 k0_t2
  let v1297 : Index := Scalar.indexCast arg15
  let c4_i32_727 : BitVec 32 := 4#32
  let v1298 : Index := Scalar.indexCast c4_i32_727
  let c176_728 : Index := 176#32
  ![0, v1297.toNat, 4, 176]
def k0_off144 (k0_t2 : Fin k0_t2_loop.trips) : Fin 4 → Nat :=
  let c0_i32_729 : BitVec 32 := 0#32
  let v1303 : Index := Scalar.indexCast c0_i32_729
  let c0_i32_104 : BitVec 32 := 0#32
  let c1_i32_106 : BitVec 32 := 1#32
  let arg15 : BitVec 32 := Scf.iv c0_i32_104 c1_i32_106 k0_t2
  let v1304 : Index := Scalar.indexCast arg15
  let c5_i32_730 : BitVec 32 := 5#32
  let v1305 : Index := Scalar.indexCast c5_i32_730
  let c176_731 : Index := 176#32
  ![0, v1304.toNat, 5, 176]
def k0_off145 (k0_t2 : Fin k0_t2_loop.trips) : Fin 4 → Nat :=
  let c0_i32_732 : BitVec 32 := 0#32
  let v1310 : Index := Scalar.indexCast c0_i32_732
  let c0_i32_104 : BitVec 32 := 0#32
  let c1_i32_106 : BitVec 32 := 1#32
  let arg15 : BitVec 32 := Scf.iv c0_i32_104 c1_i32_106 k0_t2
  let v1311 : Index := Scalar.indexCast arg15
  let c6_i32_733 : BitVec 32 := 6#32
  let v1312 : Index := Scalar.indexCast c6_i32_733
  let c176_734 : Index := 176#32
  ![0, v1311.toNat, 6, 176]
def k0_off146 (k0_t2 : Fin k0_t2_loop.trips) : Fin 4 → Nat :=
  let c0_i32_736 : BitVec 32 := 0#32
  let v1323 : Index := Scalar.indexCast c0_i32_736
  let c0_i32_104 : BitVec 32 := 0#32
  let c1_i32_106 : BitVec 32 := 1#32
  let arg15 : BitVec 32 := Scf.iv c0_i32_104 c1_i32_106 k0_t2
  let v1324 : Index := Scalar.indexCast arg15
  let c7_i32_737 : BitVec 32 := 7#32
  let v1325 : Index := Scalar.indexCast c7_i32_737
  let c176_738 : Index := 176#32
  ![0, v1324.toNat, 7, 176]
def k0_off147 (k0_t2 : Fin k0_t2_loop.trips) : Fin 4 → Nat :=
  let c0_i32_739 : BitVec 32 := 0#32
  let v1329 : Index := Scalar.indexCast c0_i32_739
  let c0_i32_104 : BitVec 32 := 0#32
  let c1_i32_106 : BitVec 32 := 1#32
  let arg15 : BitVec 32 := Scf.iv c0_i32_104 c1_i32_106 k0_t2
  let v1330 : Index := Scalar.indexCast arg15
  let c0_i32_740 : BitVec 32 := 0#32
  let v1331 : Index := Scalar.indexCast c0_i32_740
  let c192 : Index := 192#32
  ![0, v1330.toNat, 0, 192]
def k0_off148 (k0_t2 : Fin k0_t2_loop.trips) : Fin 4 → Nat :=
  let c0_i32_741 : BitVec 32 := 0#32
  let v1334 : Index := Scalar.indexCast c0_i32_741
  let c0_i32_104 : BitVec 32 := 0#32
  let c1_i32_106 : BitVec 32 := 1#32
  let arg15 : BitVec 32 := Scf.iv c0_i32_104 c1_i32_106 k0_t2
  let v1335 : Index := Scalar.indexCast arg15
  let c1_i32_742 : BitVec 32 := 1#32
  let v1336 : Index := Scalar.indexCast c1_i32_742
  let c192_743 : Index := 192#32
  ![0, v1335.toNat, 1, 192]
def k0_off149 (k0_t2 : Fin k0_t2_loop.trips) : Fin 4 → Nat :=
  let c0_i32_744 : BitVec 32 := 0#32
  let v1339 : Index := Scalar.indexCast c0_i32_744
  let c0_i32_104 : BitVec 32 := 0#32
  let c1_i32_106 : BitVec 32 := 1#32
  let arg15 : BitVec 32 := Scf.iv c0_i32_104 c1_i32_106 k0_t2
  let v1340 : Index := Scalar.indexCast arg15
  let c2_i32_745 : BitVec 32 := 2#32
  let v1341 : Index := Scalar.indexCast c2_i32_745
  let c192_746 : Index := 192#32
  ![0, v1340.toNat, 2, 192]
def k0_off150 (k0_t2 : Fin k0_t2_loop.trips) : Fin 4 → Nat :=
  let c0_i32_747 : BitVec 32 := 0#32
  let v1344 : Index := Scalar.indexCast c0_i32_747
  let c0_i32_104 : BitVec 32 := 0#32
  let c1_i32_106 : BitVec 32 := 1#32
  let arg15 : BitVec 32 := Scf.iv c0_i32_104 c1_i32_106 k0_t2
  let v1345 : Index := Scalar.indexCast arg15
  let c3_i32_748 : BitVec 32 := 3#32
  let v1346 : Index := Scalar.indexCast c3_i32_748
  let c192_749 : Index := 192#32
  ![0, v1345.toNat, 3, 192]
def k0_off151 (k0_t2 : Fin k0_t2_loop.trips) : Fin 4 → Nat :=
  let c0_i32_762 : BitVec 32 := 0#32
  let v1370 : Index := Scalar.indexCast c0_i32_762
  let c0_i32_104 : BitVec 32 := 0#32
  let c1_i32_106 : BitVec 32 := 1#32
  let arg15 : BitVec 32 := Scf.iv c0_i32_104 c1_i32_106 k0_t2
  let v1371 : Index := Scalar.indexCast arg15
  let c0_i32_763 : BitVec 32 := 0#32
  let v1372 : Index := Scalar.indexCast c0_i32_763
  let c192_764 : Index := 192#32
  ![0, v1371.toNat, 0, 192]
def k0_off152 (k0_t2 : Fin k0_t2_loop.trips) : Fin 4 → Nat :=
  let c0_i32_765 : BitVec 32 := 0#32
  let v1377 : Index := Scalar.indexCast c0_i32_765
  let c0_i32_104 : BitVec 32 := 0#32
  let c1_i32_106 : BitVec 32 := 1#32
  let arg15 : BitVec 32 := Scf.iv c0_i32_104 c1_i32_106 k0_t2
  let v1378 : Index := Scalar.indexCast arg15
  let c1_i32_766 : BitVec 32 := 1#32
  let v1379 : Index := Scalar.indexCast c1_i32_766
  let c192_767 : Index := 192#32
  ![0, v1378.toNat, 1, 192]
def k0_off153 (k0_t2 : Fin k0_t2_loop.trips) : Fin 4 → Nat :=
  let c0_i32_768 : BitVec 32 := 0#32
  let v1384 : Index := Scalar.indexCast c0_i32_768
  let c0_i32_104 : BitVec 32 := 0#32
  let c1_i32_106 : BitVec 32 := 1#32
  let arg15 : BitVec 32 := Scf.iv c0_i32_104 c1_i32_106 k0_t2
  let v1385 : Index := Scalar.indexCast arg15
  let c2_i32_769 : BitVec 32 := 2#32
  let v1386 : Index := Scalar.indexCast c2_i32_769
  let c192_770 : Index := 192#32
  ![0, v1385.toNat, 2, 192]
def k0_off154 (k0_t2 : Fin k0_t2_loop.trips) : Fin 4 → Nat :=
  let c0_i32_771 : BitVec 32 := 0#32
  let v1391 : Index := Scalar.indexCast c0_i32_771
  let c0_i32_104 : BitVec 32 := 0#32
  let c1_i32_106 : BitVec 32 := 1#32
  let arg15 : BitVec 32 := Scf.iv c0_i32_104 c1_i32_106 k0_t2
  let v1392 : Index := Scalar.indexCast arg15
  let c3_i32_772 : BitVec 32 := 3#32
  let v1393 : Index := Scalar.indexCast c3_i32_772
  let c192_773 : Index := 192#32
  ![0, v1392.toNat, 3, 192]
def k0_off155 (k0_t2 : Fin k0_t2_loop.trips) : Fin 4 → Nat :=
  let c0_i32_774 : BitVec 32 := 0#32
  let v1398 : Index := Scalar.indexCast c0_i32_774
  let c0_i32_104 : BitVec 32 := 0#32
  let c1_i32_106 : BitVec 32 := 1#32
  let arg15 : BitVec 32 := Scf.iv c0_i32_104 c1_i32_106 k0_t2
  let v1399 : Index := Scalar.indexCast arg15
  let c4_i32_775 : BitVec 32 := 4#32
  let v1400 : Index := Scalar.indexCast c4_i32_775
  let c192_776 : Index := 192#32
  ![0, v1399.toNat, 4, 192]
def k0_off156 (k0_t2 : Fin k0_t2_loop.trips) : Fin 4 → Nat :=
  let c0_i32_777 : BitVec 32 := 0#32
  let v1405 : Index := Scalar.indexCast c0_i32_777
  let c0_i32_104 : BitVec 32 := 0#32
  let c1_i32_106 : BitVec 32 := 1#32
  let arg15 : BitVec 32 := Scf.iv c0_i32_104 c1_i32_106 k0_t2
  let v1406 : Index := Scalar.indexCast arg15
  let c5_i32_778 : BitVec 32 := 5#32
  let v1407 : Index := Scalar.indexCast c5_i32_778
  let c192_779 : Index := 192#32
  ![0, v1406.toNat, 5, 192]
def k0_off157 (k0_t2 : Fin k0_t2_loop.trips) : Fin 4 → Nat :=
  let c0_i32_780 : BitVec 32 := 0#32
  let v1412 : Index := Scalar.indexCast c0_i32_780
  let c0_i32_104 : BitVec 32 := 0#32
  let c1_i32_106 : BitVec 32 := 1#32
  let arg15 : BitVec 32 := Scf.iv c0_i32_104 c1_i32_106 k0_t2
  let v1413 : Index := Scalar.indexCast arg15
  let c6_i32_781 : BitVec 32 := 6#32
  let v1414 : Index := Scalar.indexCast c6_i32_781
  let c192_782 : Index := 192#32
  ![0, v1413.toNat, 6, 192]
def k0_off158 (k0_t2 : Fin k0_t2_loop.trips) : Fin 4 → Nat :=
  let c0_i32_784 : BitVec 32 := 0#32
  let v1425 : Index := Scalar.indexCast c0_i32_784
  let c0_i32_104 : BitVec 32 := 0#32
  let c1_i32_106 : BitVec 32 := 1#32
  let arg15 : BitVec 32 := Scf.iv c0_i32_104 c1_i32_106 k0_t2
  let v1426 : Index := Scalar.indexCast arg15
  let c7_i32_785 : BitVec 32 := 7#32
  let v1427 : Index := Scalar.indexCast c7_i32_785
  let c192_786 : Index := 192#32
  ![0, v1426.toNat, 7, 192]
def k0_off159 (k0_t2 : Fin k0_t2_loop.trips) : Fin 4 → Nat :=
  let c0_i32_787 : BitVec 32 := 0#32
  let v1431 : Index := Scalar.indexCast c0_i32_787
  let c0_i32_104 : BitVec 32 := 0#32
  let c1_i32_106 : BitVec 32 := 1#32
  let arg15 : BitVec 32 := Scf.iv c0_i32_104 c1_i32_106 k0_t2
  let v1432 : Index := Scalar.indexCast arg15
  let c0_i32_788 : BitVec 32 := 0#32
  let v1433 : Index := Scalar.indexCast c0_i32_788
  let c208 : Index := 208#32
  ![0, v1432.toNat, 0, 208]
def k0_off160 (k0_t2 : Fin k0_t2_loop.trips) : Fin 4 → Nat :=
  let c0_i32_789 : BitVec 32 := 0#32
  let v1436 : Index := Scalar.indexCast c0_i32_789
  let c0_i32_104 : BitVec 32 := 0#32
  let c1_i32_106 : BitVec 32 := 1#32
  let arg15 : BitVec 32 := Scf.iv c0_i32_104 c1_i32_106 k0_t2
  let v1437 : Index := Scalar.indexCast arg15
  let c1_i32_790 : BitVec 32 := 1#32
  let v1438 : Index := Scalar.indexCast c1_i32_790
  let c208_791 : Index := 208#32
  ![0, v1437.toNat, 1, 208]
def k0_off161 (k0_t2 : Fin k0_t2_loop.trips) : Fin 4 → Nat :=
  let c0_i32_792 : BitVec 32 := 0#32
  let v1441 : Index := Scalar.indexCast c0_i32_792
  let c0_i32_104 : BitVec 32 := 0#32
  let c1_i32_106 : BitVec 32 := 1#32
  let arg15 : BitVec 32 := Scf.iv c0_i32_104 c1_i32_106 k0_t2
  let v1442 : Index := Scalar.indexCast arg15
  let c2_i32_793 : BitVec 32 := 2#32
  let v1443 : Index := Scalar.indexCast c2_i32_793
  let c208_794 : Index := 208#32
  ![0, v1442.toNat, 2, 208]
def k0_off162 (k0_t2 : Fin k0_t2_loop.trips) : Fin 4 → Nat :=
  let c0_i32_795 : BitVec 32 := 0#32
  let v1446 : Index := Scalar.indexCast c0_i32_795
  let c0_i32_104 : BitVec 32 := 0#32
  let c1_i32_106 : BitVec 32 := 1#32
  let arg15 : BitVec 32 := Scf.iv c0_i32_104 c1_i32_106 k0_t2
  let v1447 : Index := Scalar.indexCast arg15
  let c3_i32_796 : BitVec 32 := 3#32
  let v1448 : Index := Scalar.indexCast c3_i32_796
  let c208_797 : Index := 208#32
  ![0, v1447.toNat, 3, 208]
def k0_off163 (k0_t2 : Fin k0_t2_loop.trips) : Fin 4 → Nat :=
  let c0_i32_810 : BitVec 32 := 0#32
  let v1472 : Index := Scalar.indexCast c0_i32_810
  let c0_i32_104 : BitVec 32 := 0#32
  let c1_i32_106 : BitVec 32 := 1#32
  let arg15 : BitVec 32 := Scf.iv c0_i32_104 c1_i32_106 k0_t2
  let v1473 : Index := Scalar.indexCast arg15
  let c0_i32_811 : BitVec 32 := 0#32
  let v1474 : Index := Scalar.indexCast c0_i32_811
  let c208_812 : Index := 208#32
  ![0, v1473.toNat, 0, 208]
def k0_off164 (k0_t2 : Fin k0_t2_loop.trips) : Fin 4 → Nat :=
  let c0_i32_813 : BitVec 32 := 0#32
  let v1479 : Index := Scalar.indexCast c0_i32_813
  let c0_i32_104 : BitVec 32 := 0#32
  let c1_i32_106 : BitVec 32 := 1#32
  let arg15 : BitVec 32 := Scf.iv c0_i32_104 c1_i32_106 k0_t2
  let v1480 : Index := Scalar.indexCast arg15
  let c1_i32_814 : BitVec 32 := 1#32
  let v1481 : Index := Scalar.indexCast c1_i32_814
  let c208_815 : Index := 208#32
  ![0, v1480.toNat, 1, 208]
def k0_off165 (k0_t2 : Fin k0_t2_loop.trips) : Fin 4 → Nat :=
  let c0_i32_816 : BitVec 32 := 0#32
  let v1486 : Index := Scalar.indexCast c0_i32_816
  let c0_i32_104 : BitVec 32 := 0#32
  let c1_i32_106 : BitVec 32 := 1#32
  let arg15 : BitVec 32 := Scf.iv c0_i32_104 c1_i32_106 k0_t2
  let v1487 : Index := Scalar.indexCast arg15
  let c2_i32_817 : BitVec 32 := 2#32
  let v1488 : Index := Scalar.indexCast c2_i32_817
  let c208_818 : Index := 208#32
  ![0, v1487.toNat, 2, 208]
def k0_off166 (k0_t2 : Fin k0_t2_loop.trips) : Fin 4 → Nat :=
  let c0_i32_819 : BitVec 32 := 0#32
  let v1493 : Index := Scalar.indexCast c0_i32_819
  let c0_i32_104 : BitVec 32 := 0#32
  let c1_i32_106 : BitVec 32 := 1#32
  let arg15 : BitVec 32 := Scf.iv c0_i32_104 c1_i32_106 k0_t2
  let v1494 : Index := Scalar.indexCast arg15
  let c3_i32_820 : BitVec 32 := 3#32
  let v1495 : Index := Scalar.indexCast c3_i32_820
  let c208_821 : Index := 208#32
  ![0, v1494.toNat, 3, 208]
def k0_off167 (k0_t2 : Fin k0_t2_loop.trips) : Fin 4 → Nat :=
  let c0_i32_822 : BitVec 32 := 0#32
  let v1500 : Index := Scalar.indexCast c0_i32_822
  let c0_i32_104 : BitVec 32 := 0#32
  let c1_i32_106 : BitVec 32 := 1#32
  let arg15 : BitVec 32 := Scf.iv c0_i32_104 c1_i32_106 k0_t2
  let v1501 : Index := Scalar.indexCast arg15
  let c4_i32_823 : BitVec 32 := 4#32
  let v1502 : Index := Scalar.indexCast c4_i32_823
  let c208_824 : Index := 208#32
  ![0, v1501.toNat, 4, 208]
def k0_off168 (k0_t2 : Fin k0_t2_loop.trips) : Fin 4 → Nat :=
  let c0_i32_825 : BitVec 32 := 0#32
  let v1507 : Index := Scalar.indexCast c0_i32_825
  let c0_i32_104 : BitVec 32 := 0#32
  let c1_i32_106 : BitVec 32 := 1#32
  let arg15 : BitVec 32 := Scf.iv c0_i32_104 c1_i32_106 k0_t2
  let v1508 : Index := Scalar.indexCast arg15
  let c5_i32_826 : BitVec 32 := 5#32
  let v1509 : Index := Scalar.indexCast c5_i32_826
  let c208_827 : Index := 208#32
  ![0, v1508.toNat, 5, 208]
def k0_off169 (k0_t2 : Fin k0_t2_loop.trips) : Fin 4 → Nat :=
  let c0_i32_828 : BitVec 32 := 0#32
  let v1514 : Index := Scalar.indexCast c0_i32_828
  let c0_i32_104 : BitVec 32 := 0#32
  let c1_i32_106 : BitVec 32 := 1#32
  let arg15 : BitVec 32 := Scf.iv c0_i32_104 c1_i32_106 k0_t2
  let v1515 : Index := Scalar.indexCast arg15
  let c6_i32_829 : BitVec 32 := 6#32
  let v1516 : Index := Scalar.indexCast c6_i32_829
  let c208_830 : Index := 208#32
  ![0, v1515.toNat, 6, 208]
def k0_off170 (k0_t2 : Fin k0_t2_loop.trips) : Fin 4 → Nat :=
  let c0_i32_832 : BitVec 32 := 0#32
  let v1527 : Index := Scalar.indexCast c0_i32_832
  let c0_i32_104 : BitVec 32 := 0#32
  let c1_i32_106 : BitVec 32 := 1#32
  let arg15 : BitVec 32 := Scf.iv c0_i32_104 c1_i32_106 k0_t2
  let v1528 : Index := Scalar.indexCast arg15
  let c7_i32_833 : BitVec 32 := 7#32
  let v1529 : Index := Scalar.indexCast c7_i32_833
  let c208_834 : Index := 208#32
  ![0, v1528.toNat, 7, 208]
def k0_off171 (k0_t2 : Fin k0_t2_loop.trips) : Fin 4 → Nat :=
  let c0_i32_835 : BitVec 32 := 0#32
  let v1533 : Index := Scalar.indexCast c0_i32_835
  let c0_i32_104 : BitVec 32 := 0#32
  let c1_i32_106 : BitVec 32 := 1#32
  let arg15 : BitVec 32 := Scf.iv c0_i32_104 c1_i32_106 k0_t2
  let v1534 : Index := Scalar.indexCast arg15
  let c0_i32_836 : BitVec 32 := 0#32
  let v1535 : Index := Scalar.indexCast c0_i32_836
  let c224 : Index := 224#32
  ![0, v1534.toNat, 0, 224]
def k0_off172 (k0_t2 : Fin k0_t2_loop.trips) : Fin 4 → Nat :=
  let c0_i32_837 : BitVec 32 := 0#32
  let v1538 : Index := Scalar.indexCast c0_i32_837
  let c0_i32_104 : BitVec 32 := 0#32
  let c1_i32_106 : BitVec 32 := 1#32
  let arg15 : BitVec 32 := Scf.iv c0_i32_104 c1_i32_106 k0_t2
  let v1539 : Index := Scalar.indexCast arg15
  let c1_i32_838 : BitVec 32 := 1#32
  let v1540 : Index := Scalar.indexCast c1_i32_838
  let c224_839 : Index := 224#32
  ![0, v1539.toNat, 1, 224]
def k0_off173 (k0_t2 : Fin k0_t2_loop.trips) : Fin 4 → Nat :=
  let c0_i32_840 : BitVec 32 := 0#32
  let v1543 : Index := Scalar.indexCast c0_i32_840
  let c0_i32_104 : BitVec 32 := 0#32
  let c1_i32_106 : BitVec 32 := 1#32
  let arg15 : BitVec 32 := Scf.iv c0_i32_104 c1_i32_106 k0_t2
  let v1544 : Index := Scalar.indexCast arg15
  let c2_i32_841 : BitVec 32 := 2#32
  let v1545 : Index := Scalar.indexCast c2_i32_841
  let c224_842 : Index := 224#32
  ![0, v1544.toNat, 2, 224]
def k0_off174 (k0_t2 : Fin k0_t2_loop.trips) : Fin 4 → Nat :=
  let c0_i32_843 : BitVec 32 := 0#32
  let v1548 : Index := Scalar.indexCast c0_i32_843
  let c0_i32_104 : BitVec 32 := 0#32
  let c1_i32_106 : BitVec 32 := 1#32
  let arg15 : BitVec 32 := Scf.iv c0_i32_104 c1_i32_106 k0_t2
  let v1549 : Index := Scalar.indexCast arg15
  let c3_i32_844 : BitVec 32 := 3#32
  let v1550 : Index := Scalar.indexCast c3_i32_844
  let c224_845 : Index := 224#32
  ![0, v1549.toNat, 3, 224]
def k0_off175 (k0_t2 : Fin k0_t2_loop.trips) : Fin 4 → Nat :=
  let c0_i32_858 : BitVec 32 := 0#32
  let v1574 : Index := Scalar.indexCast c0_i32_858
  let c0_i32_104 : BitVec 32 := 0#32
  let c1_i32_106 : BitVec 32 := 1#32
  let arg15 : BitVec 32 := Scf.iv c0_i32_104 c1_i32_106 k0_t2
  let v1575 : Index := Scalar.indexCast arg15
  let c0_i32_859 : BitVec 32 := 0#32
  let v1576 : Index := Scalar.indexCast c0_i32_859
  let c224_860 : Index := 224#32
  ![0, v1575.toNat, 0, 224]
def k0_off176 (k0_t2 : Fin k0_t2_loop.trips) : Fin 4 → Nat :=
  let c0_i32_861 : BitVec 32 := 0#32
  let v1581 : Index := Scalar.indexCast c0_i32_861
  let c0_i32_104 : BitVec 32 := 0#32
  let c1_i32_106 : BitVec 32 := 1#32
  let arg15 : BitVec 32 := Scf.iv c0_i32_104 c1_i32_106 k0_t2
  let v1582 : Index := Scalar.indexCast arg15
  let c1_i32_862 : BitVec 32 := 1#32
  let v1583 : Index := Scalar.indexCast c1_i32_862
  let c224_863 : Index := 224#32
  ![0, v1582.toNat, 1, 224]
def k0_off177 (k0_t2 : Fin k0_t2_loop.trips) : Fin 4 → Nat :=
  let c0_i32_864 : BitVec 32 := 0#32
  let v1588 : Index := Scalar.indexCast c0_i32_864
  let c0_i32_104 : BitVec 32 := 0#32
  let c1_i32_106 : BitVec 32 := 1#32
  let arg15 : BitVec 32 := Scf.iv c0_i32_104 c1_i32_106 k0_t2
  let v1589 : Index := Scalar.indexCast arg15
  let c2_i32_865 : BitVec 32 := 2#32
  let v1590 : Index := Scalar.indexCast c2_i32_865
  let c224_866 : Index := 224#32
  ![0, v1589.toNat, 2, 224]
def k0_off178 (k0_t2 : Fin k0_t2_loop.trips) : Fin 4 → Nat :=
  let c0_i32_867 : BitVec 32 := 0#32
  let v1595 : Index := Scalar.indexCast c0_i32_867
  let c0_i32_104 : BitVec 32 := 0#32
  let c1_i32_106 : BitVec 32 := 1#32
  let arg15 : BitVec 32 := Scf.iv c0_i32_104 c1_i32_106 k0_t2
  let v1596 : Index := Scalar.indexCast arg15
  let c3_i32_868 : BitVec 32 := 3#32
  let v1597 : Index := Scalar.indexCast c3_i32_868
  let c224_869 : Index := 224#32
  ![0, v1596.toNat, 3, 224]
def k0_off179 (k0_t2 : Fin k0_t2_loop.trips) : Fin 4 → Nat :=
  let c0_i32_870 : BitVec 32 := 0#32
  let v1602 : Index := Scalar.indexCast c0_i32_870
  let c0_i32_104 : BitVec 32 := 0#32
  let c1_i32_106 : BitVec 32 := 1#32
  let arg15 : BitVec 32 := Scf.iv c0_i32_104 c1_i32_106 k0_t2
  let v1603 : Index := Scalar.indexCast arg15
  let c4_i32_871 : BitVec 32 := 4#32
  let v1604 : Index := Scalar.indexCast c4_i32_871
  let c224_872 : Index := 224#32
  ![0, v1603.toNat, 4, 224]
def k0_off180 (k0_t2 : Fin k0_t2_loop.trips) : Fin 4 → Nat :=
  let c0_i32_873 : BitVec 32 := 0#32
  let v1609 : Index := Scalar.indexCast c0_i32_873
  let c0_i32_104 : BitVec 32 := 0#32
  let c1_i32_106 : BitVec 32 := 1#32
  let arg15 : BitVec 32 := Scf.iv c0_i32_104 c1_i32_106 k0_t2
  let v1610 : Index := Scalar.indexCast arg15
  let c5_i32_874 : BitVec 32 := 5#32
  let v1611 : Index := Scalar.indexCast c5_i32_874
  let c224_875 : Index := 224#32
  ![0, v1610.toNat, 5, 224]
def k0_off181 (k0_t2 : Fin k0_t2_loop.trips) : Fin 4 → Nat :=
  let c0_i32_876 : BitVec 32 := 0#32
  let v1616 : Index := Scalar.indexCast c0_i32_876
  let c0_i32_104 : BitVec 32 := 0#32
  let c1_i32_106 : BitVec 32 := 1#32
  let arg15 : BitVec 32 := Scf.iv c0_i32_104 c1_i32_106 k0_t2
  let v1617 : Index := Scalar.indexCast arg15
  let c6_i32_877 : BitVec 32 := 6#32
  let v1618 : Index := Scalar.indexCast c6_i32_877
  let c224_878 : Index := 224#32
  ![0, v1617.toNat, 6, 224]
def k0_off182 (k0_t2 : Fin k0_t2_loop.trips) : Fin 4 → Nat :=
  let c0_i32_880 : BitVec 32 := 0#32
  let v1629 : Index := Scalar.indexCast c0_i32_880
  let c0_i32_104 : BitVec 32 := 0#32
  let c1_i32_106 : BitVec 32 := 1#32
  let arg15 : BitVec 32 := Scf.iv c0_i32_104 c1_i32_106 k0_t2
  let v1630 : Index := Scalar.indexCast arg15
  let c7_i32_881 : BitVec 32 := 7#32
  let v1631 : Index := Scalar.indexCast c7_i32_881
  let c224_882 : Index := 224#32
  ![0, v1630.toNat, 7, 224]
def k0_off183 (k0_t2 : Fin k0_t2_loop.trips) : Fin 4 → Nat :=
  let c0_i32_883 : BitVec 32 := 0#32
  let v1635 : Index := Scalar.indexCast c0_i32_883
  let c0_i32_104 : BitVec 32 := 0#32
  let c1_i32_106 : BitVec 32 := 1#32
  let arg15 : BitVec 32 := Scf.iv c0_i32_104 c1_i32_106 k0_t2
  let v1636 : Index := Scalar.indexCast arg15
  let c0_i32_884 : BitVec 32 := 0#32
  let v1637 : Index := Scalar.indexCast c0_i32_884
  let c240 : Index := 240#32
  ![0, v1636.toNat, 0, 240]
def k0_off184 (k0_t2 : Fin k0_t2_loop.trips) : Fin 4 → Nat :=
  let c0_i32_885 : BitVec 32 := 0#32
  let v1640 : Index := Scalar.indexCast c0_i32_885
  let c0_i32_104 : BitVec 32 := 0#32
  let c1_i32_106 : BitVec 32 := 1#32
  let arg15 : BitVec 32 := Scf.iv c0_i32_104 c1_i32_106 k0_t2
  let v1641 : Index := Scalar.indexCast arg15
  let c1_i32_886 : BitVec 32 := 1#32
  let v1642 : Index := Scalar.indexCast c1_i32_886
  let c240_887 : Index := 240#32
  ![0, v1641.toNat, 1, 240]
def k0_off185 (k0_t2 : Fin k0_t2_loop.trips) : Fin 4 → Nat :=
  let c0_i32_888 : BitVec 32 := 0#32
  let v1645 : Index := Scalar.indexCast c0_i32_888
  let c0_i32_104 : BitVec 32 := 0#32
  let c1_i32_106 : BitVec 32 := 1#32
  let arg15 : BitVec 32 := Scf.iv c0_i32_104 c1_i32_106 k0_t2
  let v1646 : Index := Scalar.indexCast arg15
  let c2_i32_889 : BitVec 32 := 2#32
  let v1647 : Index := Scalar.indexCast c2_i32_889
  let c240_890 : Index := 240#32
  ![0, v1646.toNat, 2, 240]
def k0_off186 (k0_t2 : Fin k0_t2_loop.trips) : Fin 4 → Nat :=
  let c0_i32_891 : BitVec 32 := 0#32
  let v1650 : Index := Scalar.indexCast c0_i32_891
  let c0_i32_104 : BitVec 32 := 0#32
  let c1_i32_106 : BitVec 32 := 1#32
  let arg15 : BitVec 32 := Scf.iv c0_i32_104 c1_i32_106 k0_t2
  let v1651 : Index := Scalar.indexCast arg15
  let c3_i32_892 : BitVec 32 := 3#32
  let v1652 : Index := Scalar.indexCast c3_i32_892
  let c240_893 : Index := 240#32
  ![0, v1651.toNat, 3, 240]
def k0_off187 (k0_t2 : Fin k0_t2_loop.trips) : Fin 4 → Nat :=
  let c0_i32_906 : BitVec 32 := 0#32
  let v1676 : Index := Scalar.indexCast c0_i32_906
  let c0_i32_104 : BitVec 32 := 0#32
  let c1_i32_106 : BitVec 32 := 1#32
  let arg15 : BitVec 32 := Scf.iv c0_i32_104 c1_i32_106 k0_t2
  let v1677 : Index := Scalar.indexCast arg15
  let c0_i32_907 : BitVec 32 := 0#32
  let v1678 : Index := Scalar.indexCast c0_i32_907
  let c240_908 : Index := 240#32
  ![0, v1677.toNat, 0, 240]
def k0_off188 (k0_t2 : Fin k0_t2_loop.trips) : Fin 4 → Nat :=
  let c0_i32_909 : BitVec 32 := 0#32
  let v1683 : Index := Scalar.indexCast c0_i32_909
  let c0_i32_104 : BitVec 32 := 0#32
  let c1_i32_106 : BitVec 32 := 1#32
  let arg15 : BitVec 32 := Scf.iv c0_i32_104 c1_i32_106 k0_t2
  let v1684 : Index := Scalar.indexCast arg15
  let c1_i32_910 : BitVec 32 := 1#32
  let v1685 : Index := Scalar.indexCast c1_i32_910
  let c240_911 : Index := 240#32
  ![0, v1684.toNat, 1, 240]
def k0_off189 (k0_t2 : Fin k0_t2_loop.trips) : Fin 4 → Nat :=
  let c0_i32_912 : BitVec 32 := 0#32
  let v1690 : Index := Scalar.indexCast c0_i32_912
  let c0_i32_104 : BitVec 32 := 0#32
  let c1_i32_106 : BitVec 32 := 1#32
  let arg15 : BitVec 32 := Scf.iv c0_i32_104 c1_i32_106 k0_t2
  let v1691 : Index := Scalar.indexCast arg15
  let c2_i32_913 : BitVec 32 := 2#32
  let v1692 : Index := Scalar.indexCast c2_i32_913
  let c240_914 : Index := 240#32
  ![0, v1691.toNat, 2, 240]
def k0_off190 (k0_t2 : Fin k0_t2_loop.trips) : Fin 4 → Nat :=
  let c0_i32_915 : BitVec 32 := 0#32
  let v1697 : Index := Scalar.indexCast c0_i32_915
  let c0_i32_104 : BitVec 32 := 0#32
  let c1_i32_106 : BitVec 32 := 1#32
  let arg15 : BitVec 32 := Scf.iv c0_i32_104 c1_i32_106 k0_t2
  let v1698 : Index := Scalar.indexCast arg15
  let c3_i32_916 : BitVec 32 := 3#32
  let v1699 : Index := Scalar.indexCast c3_i32_916
  let c240_917 : Index := 240#32
  ![0, v1698.toNat, 3, 240]
def k0_off191 (k0_t2 : Fin k0_t2_loop.trips) : Fin 4 → Nat :=
  let c0_i32_918 : BitVec 32 := 0#32
  let v1704 : Index := Scalar.indexCast c0_i32_918
  let c0_i32_104 : BitVec 32 := 0#32
  let c1_i32_106 : BitVec 32 := 1#32
  let arg15 : BitVec 32 := Scf.iv c0_i32_104 c1_i32_106 k0_t2
  let v1705 : Index := Scalar.indexCast arg15
  let c4_i32_919 : BitVec 32 := 4#32
  let v1706 : Index := Scalar.indexCast c4_i32_919
  let c240_920 : Index := 240#32
  ![0, v1705.toNat, 4, 240]
def k0_off192 (k0_t2 : Fin k0_t2_loop.trips) : Fin 4 → Nat :=
  let c0_i32_921 : BitVec 32 := 0#32
  let v1711 : Index := Scalar.indexCast c0_i32_921
  let c0_i32_104 : BitVec 32 := 0#32
  let c1_i32_106 : BitVec 32 := 1#32
  let arg15 : BitVec 32 := Scf.iv c0_i32_104 c1_i32_106 k0_t2
  let v1712 : Index := Scalar.indexCast arg15
  let c5_i32_922 : BitVec 32 := 5#32
  let v1713 : Index := Scalar.indexCast c5_i32_922
  let c240_923 : Index := 240#32
  ![0, v1712.toNat, 5, 240]
def k0_off193 (k0_t2 : Fin k0_t2_loop.trips) : Fin 4 → Nat :=
  let c0_i32_924 : BitVec 32 := 0#32
  let v1718 : Index := Scalar.indexCast c0_i32_924
  let c0_i32_104 : BitVec 32 := 0#32
  let c1_i32_106 : BitVec 32 := 1#32
  let arg15 : BitVec 32 := Scf.iv c0_i32_104 c1_i32_106 k0_t2
  let v1719 : Index := Scalar.indexCast arg15
  let c6_i32_925 : BitVec 32 := 6#32
  let v1720 : Index := Scalar.indexCast c6_i32_925
  let c240_926 : Index := 240#32
  ![0, v1719.toNat, 6, 240]
def k0_off194 (k0_t2 : Fin k0_t2_loop.trips) : Fin 4 → Nat :=
  let c0_i32_928 : BitVec 32 := 0#32
  let v1731 : Index := Scalar.indexCast c0_i32_928
  let c0_i32_104 : BitVec 32 := 0#32
  let c1_i32_106 : BitVec 32 := 1#32
  let arg15 : BitVec 32 := Scf.iv c0_i32_104 c1_i32_106 k0_t2
  let v1732 : Index := Scalar.indexCast arg15
  let c7_i32_929 : BitVec 32 := 7#32
  let v1733 : Index := Scalar.indexCast c7_i32_929
  let c240_930 : Index := 240#32
  ![0, v1732.toNat, 7, 240]
def k0_off195 (k0_t2 : Fin k0_t2_loop.trips) : Fin 4 → Nat :=
  let c0_i32_931 : BitVec 32 := 0#32
  let v1737 : Index := Scalar.indexCast c0_i32_931
  let c0_i32_104 : BitVec 32 := 0#32
  let c1_i32_106 : BitVec 32 := 1#32
  let arg15 : BitVec 32 := Scf.iv c0_i32_104 c1_i32_106 k0_t2
  let v1738 : Index := Scalar.indexCast arg15
  let c0_i32_932 : BitVec 32 := 0#32
  let v1739 : Index := Scalar.indexCast c0_i32_932
  let c256 : Index := 256#32
  ![0, v1738.toNat, 0, 256]
def k0_off196 (k0_t2 : Fin k0_t2_loop.trips) : Fin 4 → Nat :=
  let c0_i32_933 : BitVec 32 := 0#32
  let v1742 : Index := Scalar.indexCast c0_i32_933
  let c0_i32_104 : BitVec 32 := 0#32
  let c1_i32_106 : BitVec 32 := 1#32
  let arg15 : BitVec 32 := Scf.iv c0_i32_104 c1_i32_106 k0_t2
  let v1743 : Index := Scalar.indexCast arg15
  let c1_i32_934 : BitVec 32 := 1#32
  let v1744 : Index := Scalar.indexCast c1_i32_934
  let c256_935 : Index := 256#32
  ![0, v1743.toNat, 1, 256]
def k0_off197 (k0_t2 : Fin k0_t2_loop.trips) : Fin 4 → Nat :=
  let c0_i32_936 : BitVec 32 := 0#32
  let v1747 : Index := Scalar.indexCast c0_i32_936
  let c0_i32_104 : BitVec 32 := 0#32
  let c1_i32_106 : BitVec 32 := 1#32
  let arg15 : BitVec 32 := Scf.iv c0_i32_104 c1_i32_106 k0_t2
  let v1748 : Index := Scalar.indexCast arg15
  let c2_i32_937 : BitVec 32 := 2#32
  let v1749 : Index := Scalar.indexCast c2_i32_937
  let c256_938 : Index := 256#32
  ![0, v1748.toNat, 2, 256]
def k0_off198 (k0_t2 : Fin k0_t2_loop.trips) : Fin 4 → Nat :=
  let c0_i32_939 : BitVec 32 := 0#32
  let v1752 : Index := Scalar.indexCast c0_i32_939
  let c0_i32_104 : BitVec 32 := 0#32
  let c1_i32_106 : BitVec 32 := 1#32
  let arg15 : BitVec 32 := Scf.iv c0_i32_104 c1_i32_106 k0_t2
  let v1753 : Index := Scalar.indexCast arg15
  let c3_i32_940 : BitVec 32 := 3#32
  let v1754 : Index := Scalar.indexCast c3_i32_940
  let c256_941 : Index := 256#32
  ![0, v1753.toNat, 3, 256]
def k0_off199 (k0_t2 : Fin k0_t2_loop.trips) : Fin 4 → Nat :=
  let c0_i32_954 : BitVec 32 := 0#32
  let v1778 : Index := Scalar.indexCast c0_i32_954
  let c0_i32_104 : BitVec 32 := 0#32
  let c1_i32_106 : BitVec 32 := 1#32
  let arg15 : BitVec 32 := Scf.iv c0_i32_104 c1_i32_106 k0_t2
  let v1779 : Index := Scalar.indexCast arg15
  let c0_i32_955 : BitVec 32 := 0#32
  let v1780 : Index := Scalar.indexCast c0_i32_955
  let c256_956 : Index := 256#32
  ![0, v1779.toNat, 0, 256]
def k0_off200 (k0_t2 : Fin k0_t2_loop.trips) : Fin 4 → Nat :=
  let c0_i32_957 : BitVec 32 := 0#32
  let v1785 : Index := Scalar.indexCast c0_i32_957
  let c0_i32_104 : BitVec 32 := 0#32
  let c1_i32_106 : BitVec 32 := 1#32
  let arg15 : BitVec 32 := Scf.iv c0_i32_104 c1_i32_106 k0_t2
  let v1786 : Index := Scalar.indexCast arg15
  let c1_i32_958 : BitVec 32 := 1#32
  let v1787 : Index := Scalar.indexCast c1_i32_958
  let c256_959 : Index := 256#32
  ![0, v1786.toNat, 1, 256]
def k0_off201 (k0_t2 : Fin k0_t2_loop.trips) : Fin 4 → Nat :=
  let c0_i32_960 : BitVec 32 := 0#32
  let v1792 : Index := Scalar.indexCast c0_i32_960
  let c0_i32_104 : BitVec 32 := 0#32
  let c1_i32_106 : BitVec 32 := 1#32
  let arg15 : BitVec 32 := Scf.iv c0_i32_104 c1_i32_106 k0_t2
  let v1793 : Index := Scalar.indexCast arg15
  let c2_i32_961 : BitVec 32 := 2#32
  let v1794 : Index := Scalar.indexCast c2_i32_961
  let c256_962 : Index := 256#32
  ![0, v1793.toNat, 2, 256]
def k0_off202 (k0_t2 : Fin k0_t2_loop.trips) : Fin 4 → Nat :=
  let c0_i32_963 : BitVec 32 := 0#32
  let v1799 : Index := Scalar.indexCast c0_i32_963
  let c0_i32_104 : BitVec 32 := 0#32
  let c1_i32_106 : BitVec 32 := 1#32
  let arg15 : BitVec 32 := Scf.iv c0_i32_104 c1_i32_106 k0_t2
  let v1800 : Index := Scalar.indexCast arg15
  let c3_i32_964 : BitVec 32 := 3#32
  let v1801 : Index := Scalar.indexCast c3_i32_964
  let c256_965 : Index := 256#32
  ![0, v1800.toNat, 3, 256]
def k0_off203 (k0_t2 : Fin k0_t2_loop.trips) : Fin 4 → Nat :=
  let c0_i32_966 : BitVec 32 := 0#32
  let v1806 : Index := Scalar.indexCast c0_i32_966
  let c0_i32_104 : BitVec 32 := 0#32
  let c1_i32_106 : BitVec 32 := 1#32
  let arg15 : BitVec 32 := Scf.iv c0_i32_104 c1_i32_106 k0_t2
  let v1807 : Index := Scalar.indexCast arg15
  let c4_i32_967 : BitVec 32 := 4#32
  let v1808 : Index := Scalar.indexCast c4_i32_967
  let c256_968 : Index := 256#32
  ![0, v1807.toNat, 4, 256]
def k0_off204 (k0_t2 : Fin k0_t2_loop.trips) : Fin 4 → Nat :=
  let c0_i32_969 : BitVec 32 := 0#32
  let v1813 : Index := Scalar.indexCast c0_i32_969
  let c0_i32_104 : BitVec 32 := 0#32
  let c1_i32_106 : BitVec 32 := 1#32
  let arg15 : BitVec 32 := Scf.iv c0_i32_104 c1_i32_106 k0_t2
  let v1814 : Index := Scalar.indexCast arg15
  let c5_i32_970 : BitVec 32 := 5#32
  let v1815 : Index := Scalar.indexCast c5_i32_970
  let c256_971 : Index := 256#32
  ![0, v1814.toNat, 5, 256]
def k0_off205 (k0_t2 : Fin k0_t2_loop.trips) : Fin 4 → Nat :=
  let c0_i32_972 : BitVec 32 := 0#32
  let v1820 : Index := Scalar.indexCast c0_i32_972
  let c0_i32_104 : BitVec 32 := 0#32
  let c1_i32_106 : BitVec 32 := 1#32
  let arg15 : BitVec 32 := Scf.iv c0_i32_104 c1_i32_106 k0_t2
  let v1821 : Index := Scalar.indexCast arg15
  let c6_i32_973 : BitVec 32 := 6#32
  let v1822 : Index := Scalar.indexCast c6_i32_973
  let c256_974 : Index := 256#32
  ![0, v1821.toNat, 6, 256]
def k0_off206 (k0_t2 : Fin k0_t2_loop.trips) : Fin 4 → Nat :=
  let c0_i32_976 : BitVec 32 := 0#32
  let v1833 : Index := Scalar.indexCast c0_i32_976
  let c0_i32_104 : BitVec 32 := 0#32
  let c1_i32_106 : BitVec 32 := 1#32
  let arg15 : BitVec 32 := Scf.iv c0_i32_104 c1_i32_106 k0_t2
  let v1834 : Index := Scalar.indexCast arg15
  let c7_i32_977 : BitVec 32 := 7#32
  let v1835 : Index := Scalar.indexCast c7_i32_977
  let c256_978 : Index := 256#32
  ![0, v1834.toNat, 7, 256]
def k0_off207 (k0_t2 : Fin k0_t2_loop.trips) : Fin 4 → Nat :=
  let c0_i32_979 : BitVec 32 := 0#32
  let v1839 : Index := Scalar.indexCast c0_i32_979
  let c0_i32_104 : BitVec 32 := 0#32
  let c1_i32_106 : BitVec 32 := 1#32
  let arg15 : BitVec 32 := Scf.iv c0_i32_104 c1_i32_106 k0_t2
  let v1840 : Index := Scalar.indexCast arg15
  let c0_i32_980 : BitVec 32 := 0#32
  let v1841 : Index := Scalar.indexCast c0_i32_980
  let c272 : Index := 272#32
  ![0, v1840.toNat, 0, 272]
def k0_off208 (k0_t2 : Fin k0_t2_loop.trips) : Fin 4 → Nat :=
  let c0_i32_981 : BitVec 32 := 0#32
  let v1844 : Index := Scalar.indexCast c0_i32_981
  let c0_i32_104 : BitVec 32 := 0#32
  let c1_i32_106 : BitVec 32 := 1#32
  let arg15 : BitVec 32 := Scf.iv c0_i32_104 c1_i32_106 k0_t2
  let v1845 : Index := Scalar.indexCast arg15
  let c1_i32_982 : BitVec 32 := 1#32
  let v1846 : Index := Scalar.indexCast c1_i32_982
  let c272_983 : Index := 272#32
  ![0, v1845.toNat, 1, 272]
def k0_off209 (k0_t2 : Fin k0_t2_loop.trips) : Fin 4 → Nat :=
  let c0_i32_984 : BitVec 32 := 0#32
  let v1849 : Index := Scalar.indexCast c0_i32_984
  let c0_i32_104 : BitVec 32 := 0#32
  let c1_i32_106 : BitVec 32 := 1#32
  let arg15 : BitVec 32 := Scf.iv c0_i32_104 c1_i32_106 k0_t2
  let v1850 : Index := Scalar.indexCast arg15
  let c2_i32_985 : BitVec 32 := 2#32
  let v1851 : Index := Scalar.indexCast c2_i32_985
  let c272_986 : Index := 272#32
  ![0, v1850.toNat, 2, 272]
def k0_off210 (k0_t2 : Fin k0_t2_loop.trips) : Fin 4 → Nat :=
  let c0_i32_987 : BitVec 32 := 0#32
  let v1854 : Index := Scalar.indexCast c0_i32_987
  let c0_i32_104 : BitVec 32 := 0#32
  let c1_i32_106 : BitVec 32 := 1#32
  let arg15 : BitVec 32 := Scf.iv c0_i32_104 c1_i32_106 k0_t2
  let v1855 : Index := Scalar.indexCast arg15
  let c3_i32_988 : BitVec 32 := 3#32
  let v1856 : Index := Scalar.indexCast c3_i32_988
  let c272_989 : Index := 272#32
  ![0, v1855.toNat, 3, 272]
def k0_off211 (k0_t2 : Fin k0_t2_loop.trips) : Fin 4 → Nat :=
  let c0_i32_1002 : BitVec 32 := 0#32
  let v1880 : Index := Scalar.indexCast c0_i32_1002
  let c0_i32_104 : BitVec 32 := 0#32
  let c1_i32_106 : BitVec 32 := 1#32
  let arg15 : BitVec 32 := Scf.iv c0_i32_104 c1_i32_106 k0_t2
  let v1881 : Index := Scalar.indexCast arg15
  let c0_i32_1003 : BitVec 32 := 0#32
  let v1882 : Index := Scalar.indexCast c0_i32_1003
  let c272_1004 : Index := 272#32
  ![0, v1881.toNat, 0, 272]
def k0_off212 (k0_t2 : Fin k0_t2_loop.trips) : Fin 4 → Nat :=
  let c0_i32_1005 : BitVec 32 := 0#32
  let v1887 : Index := Scalar.indexCast c0_i32_1005
  let c0_i32_104 : BitVec 32 := 0#32
  let c1_i32_106 : BitVec 32 := 1#32
  let arg15 : BitVec 32 := Scf.iv c0_i32_104 c1_i32_106 k0_t2
  let v1888 : Index := Scalar.indexCast arg15
  let c1_i32_1006 : BitVec 32 := 1#32
  let v1889 : Index := Scalar.indexCast c1_i32_1006
  let c272_1007 : Index := 272#32
  ![0, v1888.toNat, 1, 272]
def k0_off213 (k0_t2 : Fin k0_t2_loop.trips) : Fin 4 → Nat :=
  let c0_i32_1008 : BitVec 32 := 0#32
  let v1894 : Index := Scalar.indexCast c0_i32_1008
  let c0_i32_104 : BitVec 32 := 0#32
  let c1_i32_106 : BitVec 32 := 1#32
  let arg15 : BitVec 32 := Scf.iv c0_i32_104 c1_i32_106 k0_t2
  let v1895 : Index := Scalar.indexCast arg15
  let c2_i32_1009 : BitVec 32 := 2#32
  let v1896 : Index := Scalar.indexCast c2_i32_1009
  let c272_1010 : Index := 272#32
  ![0, v1895.toNat, 2, 272]
def k0_off214 (k0_t2 : Fin k0_t2_loop.trips) : Fin 4 → Nat :=
  let c0_i32_1011 : BitVec 32 := 0#32
  let v1901 : Index := Scalar.indexCast c0_i32_1011
  let c0_i32_104 : BitVec 32 := 0#32
  let c1_i32_106 : BitVec 32 := 1#32
  let arg15 : BitVec 32 := Scf.iv c0_i32_104 c1_i32_106 k0_t2
  let v1902 : Index := Scalar.indexCast arg15
  let c3_i32_1012 : BitVec 32 := 3#32
  let v1903 : Index := Scalar.indexCast c3_i32_1012
  let c272_1013 : Index := 272#32
  ![0, v1902.toNat, 3, 272]
def k0_off215 (k0_t2 : Fin k0_t2_loop.trips) : Fin 4 → Nat :=
  let c0_i32_1014 : BitVec 32 := 0#32
  let v1908 : Index := Scalar.indexCast c0_i32_1014
  let c0_i32_104 : BitVec 32 := 0#32
  let c1_i32_106 : BitVec 32 := 1#32
  let arg15 : BitVec 32 := Scf.iv c0_i32_104 c1_i32_106 k0_t2
  let v1909 : Index := Scalar.indexCast arg15
  let c4_i32_1015 : BitVec 32 := 4#32
  let v1910 : Index := Scalar.indexCast c4_i32_1015
  let c272_1016 : Index := 272#32
  ![0, v1909.toNat, 4, 272]
def k0_off216 (k0_t2 : Fin k0_t2_loop.trips) : Fin 4 → Nat :=
  let c0_i32_1017 : BitVec 32 := 0#32
  let v1915 : Index := Scalar.indexCast c0_i32_1017
  let c0_i32_104 : BitVec 32 := 0#32
  let c1_i32_106 : BitVec 32 := 1#32
  let arg15 : BitVec 32 := Scf.iv c0_i32_104 c1_i32_106 k0_t2
  let v1916 : Index := Scalar.indexCast arg15
  let c5_i32_1018 : BitVec 32 := 5#32
  let v1917 : Index := Scalar.indexCast c5_i32_1018
  let c272_1019 : Index := 272#32
  ![0, v1916.toNat, 5, 272]
def k0_off217 (k0_t2 : Fin k0_t2_loop.trips) : Fin 4 → Nat :=
  let c0_i32_1020 : BitVec 32 := 0#32
  let v1922 : Index := Scalar.indexCast c0_i32_1020
  let c0_i32_104 : BitVec 32 := 0#32
  let c1_i32_106 : BitVec 32 := 1#32
  let arg15 : BitVec 32 := Scf.iv c0_i32_104 c1_i32_106 k0_t2
  let v1923 : Index := Scalar.indexCast arg15
  let c6_i32_1021 : BitVec 32 := 6#32
  let v1924 : Index := Scalar.indexCast c6_i32_1021
  let c272_1022 : Index := 272#32
  ![0, v1923.toNat, 6, 272]
def k0_off218 (k0_t2 : Fin k0_t2_loop.trips) : Fin 4 → Nat :=
  let c0_i32_1024 : BitVec 32 := 0#32
  let v1935 : Index := Scalar.indexCast c0_i32_1024
  let c0_i32_104 : BitVec 32 := 0#32
  let c1_i32_106 : BitVec 32 := 1#32
  let arg15 : BitVec 32 := Scf.iv c0_i32_104 c1_i32_106 k0_t2
  let v1936 : Index := Scalar.indexCast arg15
  let c7_i32_1025 : BitVec 32 := 7#32
  let v1937 : Index := Scalar.indexCast c7_i32_1025
  let c272_1026 : Index := 272#32
  ![0, v1936.toNat, 7, 272]
def k0_off219 (k0_t2 : Fin k0_t2_loop.trips) : Fin 4 → Nat :=
  let c0_i32_1027 : BitVec 32 := 0#32
  let v1941 : Index := Scalar.indexCast c0_i32_1027
  let c0_i32_104 : BitVec 32 := 0#32
  let c1_i32_106 : BitVec 32 := 1#32
  let arg15 : BitVec 32 := Scf.iv c0_i32_104 c1_i32_106 k0_t2
  let v1942 : Index := Scalar.indexCast arg15
  let c0_i32_1028 : BitVec 32 := 0#32
  let v1943 : Index := Scalar.indexCast c0_i32_1028
  let c288 : Index := 288#32
  ![0, v1942.toNat, 0, 288]
def k0_off220 (k0_t2 : Fin k0_t2_loop.trips) : Fin 4 → Nat :=
  let c0_i32_1029 : BitVec 32 := 0#32
  let v1946 : Index := Scalar.indexCast c0_i32_1029
  let c0_i32_104 : BitVec 32 := 0#32
  let c1_i32_106 : BitVec 32 := 1#32
  let arg15 : BitVec 32 := Scf.iv c0_i32_104 c1_i32_106 k0_t2
  let v1947 : Index := Scalar.indexCast arg15
  let c1_i32_1030 : BitVec 32 := 1#32
  let v1948 : Index := Scalar.indexCast c1_i32_1030
  let c288_1031 : Index := 288#32
  ![0, v1947.toNat, 1, 288]
def k0_off221 (k0_t2 : Fin k0_t2_loop.trips) : Fin 4 → Nat :=
  let c0_i32_1032 : BitVec 32 := 0#32
  let v1951 : Index := Scalar.indexCast c0_i32_1032
  let c0_i32_104 : BitVec 32 := 0#32
  let c1_i32_106 : BitVec 32 := 1#32
  let arg15 : BitVec 32 := Scf.iv c0_i32_104 c1_i32_106 k0_t2
  let v1952 : Index := Scalar.indexCast arg15
  let c2_i32_1033 : BitVec 32 := 2#32
  let v1953 : Index := Scalar.indexCast c2_i32_1033
  let c288_1034 : Index := 288#32
  ![0, v1952.toNat, 2, 288]
def k0_off222 (k0_t2 : Fin k0_t2_loop.trips) : Fin 4 → Nat :=
  let c0_i32_1035 : BitVec 32 := 0#32
  let v1956 : Index := Scalar.indexCast c0_i32_1035
  let c0_i32_104 : BitVec 32 := 0#32
  let c1_i32_106 : BitVec 32 := 1#32
  let arg15 : BitVec 32 := Scf.iv c0_i32_104 c1_i32_106 k0_t2
  let v1957 : Index := Scalar.indexCast arg15
  let c3_i32_1036 : BitVec 32 := 3#32
  let v1958 : Index := Scalar.indexCast c3_i32_1036
  let c288_1037 : Index := 288#32
  ![0, v1957.toNat, 3, 288]
def k0_off223 (k0_t2 : Fin k0_t2_loop.trips) : Fin 4 → Nat :=
  let c0_i32_1050 : BitVec 32 := 0#32
  let v1982 : Index := Scalar.indexCast c0_i32_1050
  let c0_i32_104 : BitVec 32 := 0#32
  let c1_i32_106 : BitVec 32 := 1#32
  let arg15 : BitVec 32 := Scf.iv c0_i32_104 c1_i32_106 k0_t2
  let v1983 : Index := Scalar.indexCast arg15
  let c0_i32_1051 : BitVec 32 := 0#32
  let v1984 : Index := Scalar.indexCast c0_i32_1051
  let c288_1052 : Index := 288#32
  ![0, v1983.toNat, 0, 288]
def k0_off224 (k0_t2 : Fin k0_t2_loop.trips) : Fin 4 → Nat :=
  let c0_i32_1053 : BitVec 32 := 0#32
  let v1989 : Index := Scalar.indexCast c0_i32_1053
  let c0_i32_104 : BitVec 32 := 0#32
  let c1_i32_106 : BitVec 32 := 1#32
  let arg15 : BitVec 32 := Scf.iv c0_i32_104 c1_i32_106 k0_t2
  let v1990 : Index := Scalar.indexCast arg15
  let c1_i32_1054 : BitVec 32 := 1#32
  let v1991 : Index := Scalar.indexCast c1_i32_1054
  let c288_1055 : Index := 288#32
  ![0, v1990.toNat, 1, 288]
def k0_off225 (k0_t2 : Fin k0_t2_loop.trips) : Fin 4 → Nat :=
  let c0_i32_1056 : BitVec 32 := 0#32
  let v1996 : Index := Scalar.indexCast c0_i32_1056
  let c0_i32_104 : BitVec 32 := 0#32
  let c1_i32_106 : BitVec 32 := 1#32
  let arg15 : BitVec 32 := Scf.iv c0_i32_104 c1_i32_106 k0_t2
  let v1997 : Index := Scalar.indexCast arg15
  let c2_i32_1057 : BitVec 32 := 2#32
  let v1998 : Index := Scalar.indexCast c2_i32_1057
  let c288_1058 : Index := 288#32
  ![0, v1997.toNat, 2, 288]
def k0_off226 (k0_t2 : Fin k0_t2_loop.trips) : Fin 4 → Nat :=
  let c0_i32_1059 : BitVec 32 := 0#32
  let v2003 : Index := Scalar.indexCast c0_i32_1059
  let c0_i32_104 : BitVec 32 := 0#32
  let c1_i32_106 : BitVec 32 := 1#32
  let arg15 : BitVec 32 := Scf.iv c0_i32_104 c1_i32_106 k0_t2
  let v2004 : Index := Scalar.indexCast arg15
  let c3_i32_1060 : BitVec 32 := 3#32
  let v2005 : Index := Scalar.indexCast c3_i32_1060
  let c288_1061 : Index := 288#32
  ![0, v2004.toNat, 3, 288]
def k0_off227 (k0_t2 : Fin k0_t2_loop.trips) : Fin 4 → Nat :=
  let c0_i32_1062 : BitVec 32 := 0#32
  let v2010 : Index := Scalar.indexCast c0_i32_1062
  let c0_i32_104 : BitVec 32 := 0#32
  let c1_i32_106 : BitVec 32 := 1#32
  let arg15 : BitVec 32 := Scf.iv c0_i32_104 c1_i32_106 k0_t2
  let v2011 : Index := Scalar.indexCast arg15
  let c4_i32_1063 : BitVec 32 := 4#32
  let v2012 : Index := Scalar.indexCast c4_i32_1063
  let c288_1064 : Index := 288#32
  ![0, v2011.toNat, 4, 288]
def k0_off228 (k0_t2 : Fin k0_t2_loop.trips) : Fin 4 → Nat :=
  let c0_i32_1065 : BitVec 32 := 0#32
  let v2017 : Index := Scalar.indexCast c0_i32_1065
  let c0_i32_104 : BitVec 32 := 0#32
  let c1_i32_106 : BitVec 32 := 1#32
  let arg15 : BitVec 32 := Scf.iv c0_i32_104 c1_i32_106 k0_t2
  let v2018 : Index := Scalar.indexCast arg15
  let c5_i32_1066 : BitVec 32 := 5#32
  let v2019 : Index := Scalar.indexCast c5_i32_1066
  let c288_1067 : Index := 288#32
  ![0, v2018.toNat, 5, 288]
def k0_off229 (k0_t2 : Fin k0_t2_loop.trips) : Fin 4 → Nat :=
  let c0_i32_1068 : BitVec 32 := 0#32
  let v2024 : Index := Scalar.indexCast c0_i32_1068
  let c0_i32_104 : BitVec 32 := 0#32
  let c1_i32_106 : BitVec 32 := 1#32
  let arg15 : BitVec 32 := Scf.iv c0_i32_104 c1_i32_106 k0_t2
  let v2025 : Index := Scalar.indexCast arg15
  let c6_i32_1069 : BitVec 32 := 6#32
  let v2026 : Index := Scalar.indexCast c6_i32_1069
  let c288_1070 : Index := 288#32
  ![0, v2025.toNat, 6, 288]
def k0_off230 (k0_t2 : Fin k0_t2_loop.trips) : Fin 4 → Nat :=
  let c0_i32_1072 : BitVec 32 := 0#32
  let v2037 : Index := Scalar.indexCast c0_i32_1072
  let c0_i32_104 : BitVec 32 := 0#32
  let c1_i32_106 : BitVec 32 := 1#32
  let arg15 : BitVec 32 := Scf.iv c0_i32_104 c1_i32_106 k0_t2
  let v2038 : Index := Scalar.indexCast arg15
  let c7_i32_1073 : BitVec 32 := 7#32
  let v2039 : Index := Scalar.indexCast c7_i32_1073
  let c288_1074 : Index := 288#32
  ![0, v2038.toNat, 7, 288]
def k0_off231 (k0_t2 : Fin k0_t2_loop.trips) : Fin 4 → Nat :=
  let c0_i32_1075 : BitVec 32 := 0#32
  let v2043 : Index := Scalar.indexCast c0_i32_1075
  let c0_i32_104 : BitVec 32 := 0#32
  let c1_i32_106 : BitVec 32 := 1#32
  let arg15 : BitVec 32 := Scf.iv c0_i32_104 c1_i32_106 k0_t2
  let v2044 : Index := Scalar.indexCast arg15
  let c0_i32_1076 : BitVec 32 := 0#32
  let v2045 : Index := Scalar.indexCast c0_i32_1076
  let c304 : Index := 304#32
  ![0, v2044.toNat, 0, 304]
def k0_off232 (k0_t2 : Fin k0_t2_loop.trips) : Fin 4 → Nat :=
  let c0_i32_1077 : BitVec 32 := 0#32
  let v2048 : Index := Scalar.indexCast c0_i32_1077
  let c0_i32_104 : BitVec 32 := 0#32
  let c1_i32_106 : BitVec 32 := 1#32
  let arg15 : BitVec 32 := Scf.iv c0_i32_104 c1_i32_106 k0_t2
  let v2049 : Index := Scalar.indexCast arg15
  let c1_i32_1078 : BitVec 32 := 1#32
  let v2050 : Index := Scalar.indexCast c1_i32_1078
  let c304_1079 : Index := 304#32
  ![0, v2049.toNat, 1, 304]
def k0_off233 (k0_t2 : Fin k0_t2_loop.trips) : Fin 4 → Nat :=
  let c0_i32_1080 : BitVec 32 := 0#32
  let v2053 : Index := Scalar.indexCast c0_i32_1080
  let c0_i32_104 : BitVec 32 := 0#32
  let c1_i32_106 : BitVec 32 := 1#32
  let arg15 : BitVec 32 := Scf.iv c0_i32_104 c1_i32_106 k0_t2
  let v2054 : Index := Scalar.indexCast arg15
  let c2_i32_1081 : BitVec 32 := 2#32
  let v2055 : Index := Scalar.indexCast c2_i32_1081
  let c304_1082 : Index := 304#32
  ![0, v2054.toNat, 2, 304]
def k0_off234 (k0_t2 : Fin k0_t2_loop.trips) : Fin 4 → Nat :=
  let c0_i32_1083 : BitVec 32 := 0#32
  let v2058 : Index := Scalar.indexCast c0_i32_1083
  let c0_i32_104 : BitVec 32 := 0#32
  let c1_i32_106 : BitVec 32 := 1#32
  let arg15 : BitVec 32 := Scf.iv c0_i32_104 c1_i32_106 k0_t2
  let v2059 : Index := Scalar.indexCast arg15
  let c3_i32_1084 : BitVec 32 := 3#32
  let v2060 : Index := Scalar.indexCast c3_i32_1084
  let c304_1085 : Index := 304#32
  ![0, v2059.toNat, 3, 304]
def k0_off235 (k0_t2 : Fin k0_t2_loop.trips) : Fin 4 → Nat :=
  let c0_i32_1098 : BitVec 32 := 0#32
  let v2084 : Index := Scalar.indexCast c0_i32_1098
  let c0_i32_104 : BitVec 32 := 0#32
  let c1_i32_106 : BitVec 32 := 1#32
  let arg15 : BitVec 32 := Scf.iv c0_i32_104 c1_i32_106 k0_t2
  let v2085 : Index := Scalar.indexCast arg15
  let c0_i32_1099 : BitVec 32 := 0#32
  let v2086 : Index := Scalar.indexCast c0_i32_1099
  let c304_1100 : Index := 304#32
  ![0, v2085.toNat, 0, 304]
def k0_off236 (k0_t2 : Fin k0_t2_loop.trips) : Fin 4 → Nat :=
  let c0_i32_1101 : BitVec 32 := 0#32
  let v2091 : Index := Scalar.indexCast c0_i32_1101
  let c0_i32_104 : BitVec 32 := 0#32
  let c1_i32_106 : BitVec 32 := 1#32
  let arg15 : BitVec 32 := Scf.iv c0_i32_104 c1_i32_106 k0_t2
  let v2092 : Index := Scalar.indexCast arg15
  let c1_i32_1102 : BitVec 32 := 1#32
  let v2093 : Index := Scalar.indexCast c1_i32_1102
  let c304_1103 : Index := 304#32
  ![0, v2092.toNat, 1, 304]
def k0_off237 (k0_t2 : Fin k0_t2_loop.trips) : Fin 4 → Nat :=
  let c0_i32_1104 : BitVec 32 := 0#32
  let v2098 : Index := Scalar.indexCast c0_i32_1104
  let c0_i32_104 : BitVec 32 := 0#32
  let c1_i32_106 : BitVec 32 := 1#32
  let arg15 : BitVec 32 := Scf.iv c0_i32_104 c1_i32_106 k0_t2
  let v2099 : Index := Scalar.indexCast arg15
  let c2_i32_1105 : BitVec 32 := 2#32
  let v2100 : Index := Scalar.indexCast c2_i32_1105
  let c304_1106 : Index := 304#32
  ![0, v2099.toNat, 2, 304]
def k0_off238 (k0_t2 : Fin k0_t2_loop.trips) : Fin 4 → Nat :=
  let c0_i32_1107 : BitVec 32 := 0#32
  let v2105 : Index := Scalar.indexCast c0_i32_1107
  let c0_i32_104 : BitVec 32 := 0#32
  let c1_i32_106 : BitVec 32 := 1#32
  let arg15 : BitVec 32 := Scf.iv c0_i32_104 c1_i32_106 k0_t2
  let v2106 : Index := Scalar.indexCast arg15
  let c3_i32_1108 : BitVec 32 := 3#32
  let v2107 : Index := Scalar.indexCast c3_i32_1108
  let c304_1109 : Index := 304#32
  ![0, v2106.toNat, 3, 304]
def k0_off239 (k0_t2 : Fin k0_t2_loop.trips) : Fin 4 → Nat :=
  let c0_i32_1110 : BitVec 32 := 0#32
  let v2112 : Index := Scalar.indexCast c0_i32_1110
  let c0_i32_104 : BitVec 32 := 0#32
  let c1_i32_106 : BitVec 32 := 1#32
  let arg15 : BitVec 32 := Scf.iv c0_i32_104 c1_i32_106 k0_t2
  let v2113 : Index := Scalar.indexCast arg15
  let c4_i32_1111 : BitVec 32 := 4#32
  let v2114 : Index := Scalar.indexCast c4_i32_1111
  let c304_1112 : Index := 304#32
  ![0, v2113.toNat, 4, 304]
def k0_off240 (k0_t2 : Fin k0_t2_loop.trips) : Fin 4 → Nat :=
  let c0_i32_1113 : BitVec 32 := 0#32
  let v2119 : Index := Scalar.indexCast c0_i32_1113
  let c0_i32_104 : BitVec 32 := 0#32
  let c1_i32_106 : BitVec 32 := 1#32
  let arg15 : BitVec 32 := Scf.iv c0_i32_104 c1_i32_106 k0_t2
  let v2120 : Index := Scalar.indexCast arg15
  let c5_i32_1114 : BitVec 32 := 5#32
  let v2121 : Index := Scalar.indexCast c5_i32_1114
  let c304_1115 : Index := 304#32
  ![0, v2120.toNat, 5, 304]
def k0_off241 (k0_t2 : Fin k0_t2_loop.trips) : Fin 4 → Nat :=
  let c0_i32_1116 : BitVec 32 := 0#32
  let v2126 : Index := Scalar.indexCast c0_i32_1116
  let c0_i32_104 : BitVec 32 := 0#32
  let c1_i32_106 : BitVec 32 := 1#32
  let arg15 : BitVec 32 := Scf.iv c0_i32_104 c1_i32_106 k0_t2
  let v2127 : Index := Scalar.indexCast arg15
  let c6_i32_1117 : BitVec 32 := 6#32
  let v2128 : Index := Scalar.indexCast c6_i32_1117
  let c304_1118 : Index := 304#32
  ![0, v2127.toNat, 6, 304]
def k0_off242 (k0_t2 : Fin k0_t2_loop.trips) : Fin 4 → Nat :=
  let c0_i32_1120 : BitVec 32 := 0#32
  let v2139 : Index := Scalar.indexCast c0_i32_1120
  let c0_i32_104 : BitVec 32 := 0#32
  let c1_i32_106 : BitVec 32 := 1#32
  let arg15 : BitVec 32 := Scf.iv c0_i32_104 c1_i32_106 k0_t2
  let v2140 : Index := Scalar.indexCast arg15
  let c7_i32_1121 : BitVec 32 := 7#32
  let v2141 : Index := Scalar.indexCast c7_i32_1121
  let c304_1122 : Index := 304#32
  ![0, v2140.toNat, 7, 304]
def k0_off243 (k0_t2 : Fin k0_t2_loop.trips) : Fin 4 → Nat :=
  let c0_i32_1123 : BitVec 32 := 0#32
  let v2145 : Index := Scalar.indexCast c0_i32_1123
  let c0_i32_104 : BitVec 32 := 0#32
  let c1_i32_106 : BitVec 32 := 1#32
  let arg15 : BitVec 32 := Scf.iv c0_i32_104 c1_i32_106 k0_t2
  let v2146 : Index := Scalar.indexCast arg15
  let c0_i32_1124 : BitVec 32 := 0#32
  let v2147 : Index := Scalar.indexCast c0_i32_1124
  let c320 : Index := 320#32
  ![0, v2146.toNat, 0, 320]
def k0_off244 (k0_t2 : Fin k0_t2_loop.trips) : Fin 4 → Nat :=
  let c0_i32_1125 : BitVec 32 := 0#32
  let v2150 : Index := Scalar.indexCast c0_i32_1125
  let c0_i32_104 : BitVec 32 := 0#32
  let c1_i32_106 : BitVec 32 := 1#32
  let arg15 : BitVec 32 := Scf.iv c0_i32_104 c1_i32_106 k0_t2
  let v2151 : Index := Scalar.indexCast arg15
  let c1_i32_1126 : BitVec 32 := 1#32
  let v2152 : Index := Scalar.indexCast c1_i32_1126
  let c320_1127 : Index := 320#32
  ![0, v2151.toNat, 1, 320]
def k0_off245 (k0_t2 : Fin k0_t2_loop.trips) : Fin 4 → Nat :=
  let c0_i32_1128 : BitVec 32 := 0#32
  let v2155 : Index := Scalar.indexCast c0_i32_1128
  let c0_i32_104 : BitVec 32 := 0#32
  let c1_i32_106 : BitVec 32 := 1#32
  let arg15 : BitVec 32 := Scf.iv c0_i32_104 c1_i32_106 k0_t2
  let v2156 : Index := Scalar.indexCast arg15
  let c2_i32_1129 : BitVec 32 := 2#32
  let v2157 : Index := Scalar.indexCast c2_i32_1129
  let c320_1130 : Index := 320#32
  ![0, v2156.toNat, 2, 320]
def k0_off246 (k0_t2 : Fin k0_t2_loop.trips) : Fin 4 → Nat :=
  let c0_i32_1131 : BitVec 32 := 0#32
  let v2160 : Index := Scalar.indexCast c0_i32_1131
  let c0_i32_104 : BitVec 32 := 0#32
  let c1_i32_106 : BitVec 32 := 1#32
  let arg15 : BitVec 32 := Scf.iv c0_i32_104 c1_i32_106 k0_t2
  let v2161 : Index := Scalar.indexCast arg15
  let c3_i32_1132 : BitVec 32 := 3#32
  let v2162 : Index := Scalar.indexCast c3_i32_1132
  let c320_1133 : Index := 320#32
  ![0, v2161.toNat, 3, 320]
def k0_off247 (k0_t2 : Fin k0_t2_loop.trips) : Fin 4 → Nat :=
  let c0_i32_1146 : BitVec 32 := 0#32
  let v2186 : Index := Scalar.indexCast c0_i32_1146
  let c0_i32_104 : BitVec 32 := 0#32
  let c1_i32_106 : BitVec 32 := 1#32
  let arg15 : BitVec 32 := Scf.iv c0_i32_104 c1_i32_106 k0_t2
  let v2187 : Index := Scalar.indexCast arg15
  let c0_i32_1147 : BitVec 32 := 0#32
  let v2188 : Index := Scalar.indexCast c0_i32_1147
  let c320_1148 : Index := 320#32
  ![0, v2187.toNat, 0, 320]
def k0_off248 (k0_t2 : Fin k0_t2_loop.trips) : Fin 4 → Nat :=
  let c0_i32_1149 : BitVec 32 := 0#32
  let v2193 : Index := Scalar.indexCast c0_i32_1149
  let c0_i32_104 : BitVec 32 := 0#32
  let c1_i32_106 : BitVec 32 := 1#32
  let arg15 : BitVec 32 := Scf.iv c0_i32_104 c1_i32_106 k0_t2
  let v2194 : Index := Scalar.indexCast arg15
  let c1_i32_1150 : BitVec 32 := 1#32
  let v2195 : Index := Scalar.indexCast c1_i32_1150
  let c320_1151 : Index := 320#32
  ![0, v2194.toNat, 1, 320]
def k0_off249 (k0_t2 : Fin k0_t2_loop.trips) : Fin 4 → Nat :=
  let c0_i32_1152 : BitVec 32 := 0#32
  let v2200 : Index := Scalar.indexCast c0_i32_1152
  let c0_i32_104 : BitVec 32 := 0#32
  let c1_i32_106 : BitVec 32 := 1#32
  let arg15 : BitVec 32 := Scf.iv c0_i32_104 c1_i32_106 k0_t2
  let v2201 : Index := Scalar.indexCast arg15
  let c2_i32_1153 : BitVec 32 := 2#32
  let v2202 : Index := Scalar.indexCast c2_i32_1153
  let c320_1154 : Index := 320#32
  ![0, v2201.toNat, 2, 320]
def k0_off250 (k0_t2 : Fin k0_t2_loop.trips) : Fin 4 → Nat :=
  let c0_i32_1155 : BitVec 32 := 0#32
  let v2207 : Index := Scalar.indexCast c0_i32_1155
  let c0_i32_104 : BitVec 32 := 0#32
  let c1_i32_106 : BitVec 32 := 1#32
  let arg15 : BitVec 32 := Scf.iv c0_i32_104 c1_i32_106 k0_t2
  let v2208 : Index := Scalar.indexCast arg15
  let c3_i32_1156 : BitVec 32 := 3#32
  let v2209 : Index := Scalar.indexCast c3_i32_1156
  let c320_1157 : Index := 320#32
  ![0, v2208.toNat, 3, 320]
def k0_off251 (k0_t2 : Fin k0_t2_loop.trips) : Fin 4 → Nat :=
  let c0_i32_1158 : BitVec 32 := 0#32
  let v2214 : Index := Scalar.indexCast c0_i32_1158
  let c0_i32_104 : BitVec 32 := 0#32
  let c1_i32_106 : BitVec 32 := 1#32
  let arg15 : BitVec 32 := Scf.iv c0_i32_104 c1_i32_106 k0_t2
  let v2215 : Index := Scalar.indexCast arg15
  let c4_i32_1159 : BitVec 32 := 4#32
  let v2216 : Index := Scalar.indexCast c4_i32_1159
  let c320_1160 : Index := 320#32
  ![0, v2215.toNat, 4, 320]
def k0_off252 (k0_t2 : Fin k0_t2_loop.trips) : Fin 4 → Nat :=
  let c0_i32_1161 : BitVec 32 := 0#32
  let v2221 : Index := Scalar.indexCast c0_i32_1161
  let c0_i32_104 : BitVec 32 := 0#32
  let c1_i32_106 : BitVec 32 := 1#32
  let arg15 : BitVec 32 := Scf.iv c0_i32_104 c1_i32_106 k0_t2
  let v2222 : Index := Scalar.indexCast arg15
  let c5_i32_1162 : BitVec 32 := 5#32
  let v2223 : Index := Scalar.indexCast c5_i32_1162
  let c320_1163 : Index := 320#32
  ![0, v2222.toNat, 5, 320]
def k0_off253 (k0_t2 : Fin k0_t2_loop.trips) : Fin 4 → Nat :=
  let c0_i32_1164 : BitVec 32 := 0#32
  let v2228 : Index := Scalar.indexCast c0_i32_1164
  let c0_i32_104 : BitVec 32 := 0#32
  let c1_i32_106 : BitVec 32 := 1#32
  let arg15 : BitVec 32 := Scf.iv c0_i32_104 c1_i32_106 k0_t2
  let v2229 : Index := Scalar.indexCast arg15
  let c6_i32_1165 : BitVec 32 := 6#32
  let v2230 : Index := Scalar.indexCast c6_i32_1165
  let c320_1166 : Index := 320#32
  ![0, v2229.toNat, 6, 320]
def k0_off254 (k0_t2 : Fin k0_t2_loop.trips) : Fin 4 → Nat :=
  let c0_i32_1168 : BitVec 32 := 0#32
  let v2241 : Index := Scalar.indexCast c0_i32_1168
  let c0_i32_104 : BitVec 32 := 0#32
  let c1_i32_106 : BitVec 32 := 1#32
  let arg15 : BitVec 32 := Scf.iv c0_i32_104 c1_i32_106 k0_t2
  let v2242 : Index := Scalar.indexCast arg15
  let c7_i32_1169 : BitVec 32 := 7#32
  let v2243 : Index := Scalar.indexCast c7_i32_1169
  let c320_1170 : Index := 320#32
  ![0, v2242.toNat, 7, 320]
def k0_off255 (k0_t2 : Fin k0_t2_loop.trips) : Fin 4 → Nat :=
  let c0_i32_1171 : BitVec 32 := 0#32
  let v2247 : Index := Scalar.indexCast c0_i32_1171
  let c0_i32_104 : BitVec 32 := 0#32
  let c1_i32_106 : BitVec 32 := 1#32
  let arg15 : BitVec 32 := Scf.iv c0_i32_104 c1_i32_106 k0_t2
  let v2248 : Index := Scalar.indexCast arg15
  let c0_i32_1172 : BitVec 32 := 0#32
  let v2249 : Index := Scalar.indexCast c0_i32_1172
  let c336 : Index := 336#32
  ![0, v2248.toNat, 0, 336]
def k0_off256 (k0_t2 : Fin k0_t2_loop.trips) : Fin 4 → Nat :=
  let c0_i32_1173 : BitVec 32 := 0#32
  let v2252 : Index := Scalar.indexCast c0_i32_1173
  let c0_i32_104 : BitVec 32 := 0#32
  let c1_i32_106 : BitVec 32 := 1#32
  let arg15 : BitVec 32 := Scf.iv c0_i32_104 c1_i32_106 k0_t2
  let v2253 : Index := Scalar.indexCast arg15
  let c1_i32_1174 : BitVec 32 := 1#32
  let v2254 : Index := Scalar.indexCast c1_i32_1174
  let c336_1175 : Index := 336#32
  ![0, v2253.toNat, 1, 336]
def k0_off257 (k0_t2 : Fin k0_t2_loop.trips) : Fin 4 → Nat :=
  let c0_i32_1176 : BitVec 32 := 0#32
  let v2257 : Index := Scalar.indexCast c0_i32_1176
  let c0_i32_104 : BitVec 32 := 0#32
  let c1_i32_106 : BitVec 32 := 1#32
  let arg15 : BitVec 32 := Scf.iv c0_i32_104 c1_i32_106 k0_t2
  let v2258 : Index := Scalar.indexCast arg15
  let c2_i32_1177 : BitVec 32 := 2#32
  let v2259 : Index := Scalar.indexCast c2_i32_1177
  let c336_1178 : Index := 336#32
  ![0, v2258.toNat, 2, 336]
def k0_off258 (k0_t2 : Fin k0_t2_loop.trips) : Fin 4 → Nat :=
  let c0_i32_1179 : BitVec 32 := 0#32
  let v2262 : Index := Scalar.indexCast c0_i32_1179
  let c0_i32_104 : BitVec 32 := 0#32
  let c1_i32_106 : BitVec 32 := 1#32
  let arg15 : BitVec 32 := Scf.iv c0_i32_104 c1_i32_106 k0_t2
  let v2263 : Index := Scalar.indexCast arg15
  let c3_i32_1180 : BitVec 32 := 3#32
  let v2264 : Index := Scalar.indexCast c3_i32_1180
  let c336_1181 : Index := 336#32
  ![0, v2263.toNat, 3, 336]
def k0_off259 (k0_t2 : Fin k0_t2_loop.trips) : Fin 4 → Nat :=
  let c0_i32_1194 : BitVec 32 := 0#32
  let v2288 : Index := Scalar.indexCast c0_i32_1194
  let c0_i32_104 : BitVec 32 := 0#32
  let c1_i32_106 : BitVec 32 := 1#32
  let arg15 : BitVec 32 := Scf.iv c0_i32_104 c1_i32_106 k0_t2
  let v2289 : Index := Scalar.indexCast arg15
  let c0_i32_1195 : BitVec 32 := 0#32
  let v2290 : Index := Scalar.indexCast c0_i32_1195
  let c336_1196 : Index := 336#32
  ![0, v2289.toNat, 0, 336]
def k0_off260 (k0_t2 : Fin k0_t2_loop.trips) : Fin 4 → Nat :=
  let c0_i32_1197 : BitVec 32 := 0#32
  let v2295 : Index := Scalar.indexCast c0_i32_1197
  let c0_i32_104 : BitVec 32 := 0#32
  let c1_i32_106 : BitVec 32 := 1#32
  let arg15 : BitVec 32 := Scf.iv c0_i32_104 c1_i32_106 k0_t2
  let v2296 : Index := Scalar.indexCast arg15
  let c1_i32_1198 : BitVec 32 := 1#32
  let v2297 : Index := Scalar.indexCast c1_i32_1198
  let c336_1199 : Index := 336#32
  ![0, v2296.toNat, 1, 336]
def k0_off261 (k0_t2 : Fin k0_t2_loop.trips) : Fin 4 → Nat :=
  let c0_i32_1200 : BitVec 32 := 0#32
  let v2302 : Index := Scalar.indexCast c0_i32_1200
  let c0_i32_104 : BitVec 32 := 0#32
  let c1_i32_106 : BitVec 32 := 1#32
  let arg15 : BitVec 32 := Scf.iv c0_i32_104 c1_i32_106 k0_t2
  let v2303 : Index := Scalar.indexCast arg15
  let c2_i32_1201 : BitVec 32 := 2#32
  let v2304 : Index := Scalar.indexCast c2_i32_1201
  let c336_1202 : Index := 336#32
  ![0, v2303.toNat, 2, 336]
def k0_off262 (k0_t2 : Fin k0_t2_loop.trips) : Fin 4 → Nat :=
  let c0_i32_1203 : BitVec 32 := 0#32
  let v2309 : Index := Scalar.indexCast c0_i32_1203
  let c0_i32_104 : BitVec 32 := 0#32
  let c1_i32_106 : BitVec 32 := 1#32
  let arg15 : BitVec 32 := Scf.iv c0_i32_104 c1_i32_106 k0_t2
  let v2310 : Index := Scalar.indexCast arg15
  let c3_i32_1204 : BitVec 32 := 3#32
  let v2311 : Index := Scalar.indexCast c3_i32_1204
  let c336_1205 : Index := 336#32
  ![0, v2310.toNat, 3, 336]
def k0_off263 (k0_t2 : Fin k0_t2_loop.trips) : Fin 4 → Nat :=
  let c0_i32_1206 : BitVec 32 := 0#32
  let v2316 : Index := Scalar.indexCast c0_i32_1206
  let c0_i32_104 : BitVec 32 := 0#32
  let c1_i32_106 : BitVec 32 := 1#32
  let arg15 : BitVec 32 := Scf.iv c0_i32_104 c1_i32_106 k0_t2
  let v2317 : Index := Scalar.indexCast arg15
  let c4_i32_1207 : BitVec 32 := 4#32
  let v2318 : Index := Scalar.indexCast c4_i32_1207
  let c336_1208 : Index := 336#32
  ![0, v2317.toNat, 4, 336]
def k0_off264 (k0_t2 : Fin k0_t2_loop.trips) : Fin 4 → Nat :=
  let c0_i32_1209 : BitVec 32 := 0#32
  let v2323 : Index := Scalar.indexCast c0_i32_1209
  let c0_i32_104 : BitVec 32 := 0#32
  let c1_i32_106 : BitVec 32 := 1#32
  let arg15 : BitVec 32 := Scf.iv c0_i32_104 c1_i32_106 k0_t2
  let v2324 : Index := Scalar.indexCast arg15
  let c5_i32_1210 : BitVec 32 := 5#32
  let v2325 : Index := Scalar.indexCast c5_i32_1210
  let c336_1211 : Index := 336#32
  ![0, v2324.toNat, 5, 336]
def k0_off265 (k0_t2 : Fin k0_t2_loop.trips) : Fin 4 → Nat :=
  let c0_i32_1212 : BitVec 32 := 0#32
  let v2330 : Index := Scalar.indexCast c0_i32_1212
  let c0_i32_104 : BitVec 32 := 0#32
  let c1_i32_106 : BitVec 32 := 1#32
  let arg15 : BitVec 32 := Scf.iv c0_i32_104 c1_i32_106 k0_t2
  let v2331 : Index := Scalar.indexCast arg15
  let c6_i32_1213 : BitVec 32 := 6#32
  let v2332 : Index := Scalar.indexCast c6_i32_1213
  let c336_1214 : Index := 336#32
  ![0, v2331.toNat, 6, 336]
def k0_off266 (k0_t2 : Fin k0_t2_loop.trips) : Fin 4 → Nat :=
  let c0_i32_1216 : BitVec 32 := 0#32
  let v2343 : Index := Scalar.indexCast c0_i32_1216
  let c0_i32_104 : BitVec 32 := 0#32
  let c1_i32_106 : BitVec 32 := 1#32
  let arg15 : BitVec 32 := Scf.iv c0_i32_104 c1_i32_106 k0_t2
  let v2344 : Index := Scalar.indexCast arg15
  let c7_i32_1217 : BitVec 32 := 7#32
  let v2345 : Index := Scalar.indexCast c7_i32_1217
  let c336_1218 : Index := 336#32
  ![0, v2344.toNat, 7, 336]
def k0_off267 (k0_t2 : Fin k0_t2_loop.trips) : Fin 4 → Nat :=
  let c0_i32_1219 : BitVec 32 := 0#32
  let v2349 : Index := Scalar.indexCast c0_i32_1219
  let c0_i32_104 : BitVec 32 := 0#32
  let c1_i32_106 : BitVec 32 := 1#32
  let arg15 : BitVec 32 := Scf.iv c0_i32_104 c1_i32_106 k0_t2
  let v2350 : Index := Scalar.indexCast arg15
  let c0_i32_1220 : BitVec 32 := 0#32
  let v2351 : Index := Scalar.indexCast c0_i32_1220
  let c352 : Index := 352#32
  ![0, v2350.toNat, 0, 352]
def k0_off268 (k0_t2 : Fin k0_t2_loop.trips) : Fin 4 → Nat :=
  let c0_i32_1221 : BitVec 32 := 0#32
  let v2354 : Index := Scalar.indexCast c0_i32_1221
  let c0_i32_104 : BitVec 32 := 0#32
  let c1_i32_106 : BitVec 32 := 1#32
  let arg15 : BitVec 32 := Scf.iv c0_i32_104 c1_i32_106 k0_t2
  let v2355 : Index := Scalar.indexCast arg15
  let c1_i32_1222 : BitVec 32 := 1#32
  let v2356 : Index := Scalar.indexCast c1_i32_1222
  let c352_1223 : Index := 352#32
  ![0, v2355.toNat, 1, 352]
def k0_off269 (k0_t2 : Fin k0_t2_loop.trips) : Fin 4 → Nat :=
  let c0_i32_1224 : BitVec 32 := 0#32
  let v2359 : Index := Scalar.indexCast c0_i32_1224
  let c0_i32_104 : BitVec 32 := 0#32
  let c1_i32_106 : BitVec 32 := 1#32
  let arg15 : BitVec 32 := Scf.iv c0_i32_104 c1_i32_106 k0_t2
  let v2360 : Index := Scalar.indexCast arg15
  let c2_i32_1225 : BitVec 32 := 2#32
  let v2361 : Index := Scalar.indexCast c2_i32_1225
  let c352_1226 : Index := 352#32
  ![0, v2360.toNat, 2, 352]
def k0_off270 (k0_t2 : Fin k0_t2_loop.trips) : Fin 4 → Nat :=
  let c0_i32_1227 : BitVec 32 := 0#32
  let v2364 : Index := Scalar.indexCast c0_i32_1227
  let c0_i32_104 : BitVec 32 := 0#32
  let c1_i32_106 : BitVec 32 := 1#32
  let arg15 : BitVec 32 := Scf.iv c0_i32_104 c1_i32_106 k0_t2
  let v2365 : Index := Scalar.indexCast arg15
  let c3_i32_1228 : BitVec 32 := 3#32
  let v2366 : Index := Scalar.indexCast c3_i32_1228
  let c352_1229 : Index := 352#32
  ![0, v2365.toNat, 3, 352]
def k0_off271 (k0_t2 : Fin k0_t2_loop.trips) : Fin 4 → Nat :=
  let c0_i32_1242 : BitVec 32 := 0#32
  let v2390 : Index := Scalar.indexCast c0_i32_1242
  let c0_i32_104 : BitVec 32 := 0#32
  let c1_i32_106 : BitVec 32 := 1#32
  let arg15 : BitVec 32 := Scf.iv c0_i32_104 c1_i32_106 k0_t2
  let v2391 : Index := Scalar.indexCast arg15
  let c0_i32_1243 : BitVec 32 := 0#32
  let v2392 : Index := Scalar.indexCast c0_i32_1243
  let c352_1244 : Index := 352#32
  ![0, v2391.toNat, 0, 352]
def k0_off272 (k0_t2 : Fin k0_t2_loop.trips) : Fin 4 → Nat :=
  let c0_i32_1245 : BitVec 32 := 0#32
  let v2397 : Index := Scalar.indexCast c0_i32_1245
  let c0_i32_104 : BitVec 32 := 0#32
  let c1_i32_106 : BitVec 32 := 1#32
  let arg15 : BitVec 32 := Scf.iv c0_i32_104 c1_i32_106 k0_t2
  let v2398 : Index := Scalar.indexCast arg15
  let c1_i32_1246 : BitVec 32 := 1#32
  let v2399 : Index := Scalar.indexCast c1_i32_1246
  let c352_1247 : Index := 352#32
  ![0, v2398.toNat, 1, 352]
def k0_off273 (k0_t2 : Fin k0_t2_loop.trips) : Fin 4 → Nat :=
  let c0_i32_1248 : BitVec 32 := 0#32
  let v2404 : Index := Scalar.indexCast c0_i32_1248
  let c0_i32_104 : BitVec 32 := 0#32
  let c1_i32_106 : BitVec 32 := 1#32
  let arg15 : BitVec 32 := Scf.iv c0_i32_104 c1_i32_106 k0_t2
  let v2405 : Index := Scalar.indexCast arg15
  let c2_i32_1249 : BitVec 32 := 2#32
  let v2406 : Index := Scalar.indexCast c2_i32_1249
  let c352_1250 : Index := 352#32
  ![0, v2405.toNat, 2, 352]
def k0_off274 (k0_t2 : Fin k0_t2_loop.trips) : Fin 4 → Nat :=
  let c0_i32_1251 : BitVec 32 := 0#32
  let v2411 : Index := Scalar.indexCast c0_i32_1251
  let c0_i32_104 : BitVec 32 := 0#32
  let c1_i32_106 : BitVec 32 := 1#32
  let arg15 : BitVec 32 := Scf.iv c0_i32_104 c1_i32_106 k0_t2
  let v2412 : Index := Scalar.indexCast arg15
  let c3_i32_1252 : BitVec 32 := 3#32
  let v2413 : Index := Scalar.indexCast c3_i32_1252
  let c352_1253 : Index := 352#32
  ![0, v2412.toNat, 3, 352]
def k0_off275 (k0_t2 : Fin k0_t2_loop.trips) : Fin 4 → Nat :=
  let c0_i32_1254 : BitVec 32 := 0#32
  let v2418 : Index := Scalar.indexCast c0_i32_1254
  let c0_i32_104 : BitVec 32 := 0#32
  let c1_i32_106 : BitVec 32 := 1#32
  let arg15 : BitVec 32 := Scf.iv c0_i32_104 c1_i32_106 k0_t2
  let v2419 : Index := Scalar.indexCast arg15
  let c4_i32_1255 : BitVec 32 := 4#32
  let v2420 : Index := Scalar.indexCast c4_i32_1255
  let c352_1256 : Index := 352#32
  ![0, v2419.toNat, 4, 352]
def k0_off276 (k0_t2 : Fin k0_t2_loop.trips) : Fin 4 → Nat :=
  let c0_i32_1257 : BitVec 32 := 0#32
  let v2425 : Index := Scalar.indexCast c0_i32_1257
  let c0_i32_104 : BitVec 32 := 0#32
  let c1_i32_106 : BitVec 32 := 1#32
  let arg15 : BitVec 32 := Scf.iv c0_i32_104 c1_i32_106 k0_t2
  let v2426 : Index := Scalar.indexCast arg15
  let c5_i32_1258 : BitVec 32 := 5#32
  let v2427 : Index := Scalar.indexCast c5_i32_1258
  let c352_1259 : Index := 352#32
  ![0, v2426.toNat, 5, 352]
def k0_off277 (k0_t2 : Fin k0_t2_loop.trips) : Fin 4 → Nat :=
  let c0_i32_1260 : BitVec 32 := 0#32
  let v2432 : Index := Scalar.indexCast c0_i32_1260
  let c0_i32_104 : BitVec 32 := 0#32
  let c1_i32_106 : BitVec 32 := 1#32
  let arg15 : BitVec 32 := Scf.iv c0_i32_104 c1_i32_106 k0_t2
  let v2433 : Index := Scalar.indexCast arg15
  let c6_i32_1261 : BitVec 32 := 6#32
  let v2434 : Index := Scalar.indexCast c6_i32_1261
  let c352_1262 : Index := 352#32
  ![0, v2433.toNat, 6, 352]
def k0_off278 (k0_t2 : Fin k0_t2_loop.trips) : Fin 4 → Nat :=
  let c0_i32_1264 : BitVec 32 := 0#32
  let v2445 : Index := Scalar.indexCast c0_i32_1264
  let c0_i32_104 : BitVec 32 := 0#32
  let c1_i32_106 : BitVec 32 := 1#32
  let arg15 : BitVec 32 := Scf.iv c0_i32_104 c1_i32_106 k0_t2
  let v2446 : Index := Scalar.indexCast arg15
  let c7_i32_1265 : BitVec 32 := 7#32
  let v2447 : Index := Scalar.indexCast c7_i32_1265
  let c352_1266 : Index := 352#32
  ![0, v2446.toNat, 7, 352]
def k0_off279 (k0_t2 : Fin k0_t2_loop.trips) : Fin 4 → Nat :=
  let c0_i32_1267 : BitVec 32 := 0#32
  let v2451 : Index := Scalar.indexCast c0_i32_1267
  let c0_i32_104 : BitVec 32 := 0#32
  let c1_i32_106 : BitVec 32 := 1#32
  let arg15 : BitVec 32 := Scf.iv c0_i32_104 c1_i32_106 k0_t2
  let v2452 : Index := Scalar.indexCast arg15
  let c0_i32_1268 : BitVec 32 := 0#32
  let v2453 : Index := Scalar.indexCast c0_i32_1268
  let c368 : Index := 368#32
  ![0, v2452.toNat, 0, 368]
def k0_off280 (k0_t2 : Fin k0_t2_loop.trips) : Fin 4 → Nat :=
  let c0_i32_1269 : BitVec 32 := 0#32
  let v2456 : Index := Scalar.indexCast c0_i32_1269
  let c0_i32_104 : BitVec 32 := 0#32
  let c1_i32_106 : BitVec 32 := 1#32
  let arg15 : BitVec 32 := Scf.iv c0_i32_104 c1_i32_106 k0_t2
  let v2457 : Index := Scalar.indexCast arg15
  let c1_i32_1270 : BitVec 32 := 1#32
  let v2458 : Index := Scalar.indexCast c1_i32_1270
  let c368_1271 : Index := 368#32
  ![0, v2457.toNat, 1, 368]
def k0_off281 (k0_t2 : Fin k0_t2_loop.trips) : Fin 4 → Nat :=
  let c0_i32_1272 : BitVec 32 := 0#32
  let v2461 : Index := Scalar.indexCast c0_i32_1272
  let c0_i32_104 : BitVec 32 := 0#32
  let c1_i32_106 : BitVec 32 := 1#32
  let arg15 : BitVec 32 := Scf.iv c0_i32_104 c1_i32_106 k0_t2
  let v2462 : Index := Scalar.indexCast arg15
  let c2_i32_1273 : BitVec 32 := 2#32
  let v2463 : Index := Scalar.indexCast c2_i32_1273
  let c368_1274 : Index := 368#32
  ![0, v2462.toNat, 2, 368]
def k0_off282 (k0_t2 : Fin k0_t2_loop.trips) : Fin 4 → Nat :=
  let c0_i32_1275 : BitVec 32 := 0#32
  let v2466 : Index := Scalar.indexCast c0_i32_1275
  let c0_i32_104 : BitVec 32 := 0#32
  let c1_i32_106 : BitVec 32 := 1#32
  let arg15 : BitVec 32 := Scf.iv c0_i32_104 c1_i32_106 k0_t2
  let v2467 : Index := Scalar.indexCast arg15
  let c3_i32_1276 : BitVec 32 := 3#32
  let v2468 : Index := Scalar.indexCast c3_i32_1276
  let c368_1277 : Index := 368#32
  ![0, v2467.toNat, 3, 368]
def k0_off283 (k0_t2 : Fin k0_t2_loop.trips) : Fin 4 → Nat :=
  let c0_i32_1290 : BitVec 32 := 0#32
  let v2492 : Index := Scalar.indexCast c0_i32_1290
  let c0_i32_104 : BitVec 32 := 0#32
  let c1_i32_106 : BitVec 32 := 1#32
  let arg15 : BitVec 32 := Scf.iv c0_i32_104 c1_i32_106 k0_t2
  let v2493 : Index := Scalar.indexCast arg15
  let c0_i32_1291 : BitVec 32 := 0#32
  let v2494 : Index := Scalar.indexCast c0_i32_1291
  let c368_1292 : Index := 368#32
  ![0, v2493.toNat, 0, 368]
def k0_off284 (k0_t2 : Fin k0_t2_loop.trips) : Fin 4 → Nat :=
  let c0_i32_1293 : BitVec 32 := 0#32
  let v2499 : Index := Scalar.indexCast c0_i32_1293
  let c0_i32_104 : BitVec 32 := 0#32
  let c1_i32_106 : BitVec 32 := 1#32
  let arg15 : BitVec 32 := Scf.iv c0_i32_104 c1_i32_106 k0_t2
  let v2500 : Index := Scalar.indexCast arg15
  let c1_i32_1294 : BitVec 32 := 1#32
  let v2501 : Index := Scalar.indexCast c1_i32_1294
  let c368_1295 : Index := 368#32
  ![0, v2500.toNat, 1, 368]
def k0_off285 (k0_t2 : Fin k0_t2_loop.trips) : Fin 4 → Nat :=
  let c0_i32_1296 : BitVec 32 := 0#32
  let v2506 : Index := Scalar.indexCast c0_i32_1296
  let c0_i32_104 : BitVec 32 := 0#32
  let c1_i32_106 : BitVec 32 := 1#32
  let arg15 : BitVec 32 := Scf.iv c0_i32_104 c1_i32_106 k0_t2
  let v2507 : Index := Scalar.indexCast arg15
  let c2_i32_1297 : BitVec 32 := 2#32
  let v2508 : Index := Scalar.indexCast c2_i32_1297
  let c368_1298 : Index := 368#32
  ![0, v2507.toNat, 2, 368]
def k0_off286 (k0_t2 : Fin k0_t2_loop.trips) : Fin 4 → Nat :=
  let c0_i32_1299 : BitVec 32 := 0#32
  let v2513 : Index := Scalar.indexCast c0_i32_1299
  let c0_i32_104 : BitVec 32 := 0#32
  let c1_i32_106 : BitVec 32 := 1#32
  let arg15 : BitVec 32 := Scf.iv c0_i32_104 c1_i32_106 k0_t2
  let v2514 : Index := Scalar.indexCast arg15
  let c3_i32_1300 : BitVec 32 := 3#32
  let v2515 : Index := Scalar.indexCast c3_i32_1300
  let c368_1301 : Index := 368#32
  ![0, v2514.toNat, 3, 368]
def k0_off287 (k0_t2 : Fin k0_t2_loop.trips) : Fin 4 → Nat :=
  let c0_i32_1302 : BitVec 32 := 0#32
  let v2520 : Index := Scalar.indexCast c0_i32_1302
  let c0_i32_104 : BitVec 32 := 0#32
  let c1_i32_106 : BitVec 32 := 1#32
  let arg15 : BitVec 32 := Scf.iv c0_i32_104 c1_i32_106 k0_t2
  let v2521 : Index := Scalar.indexCast arg15
  let c4_i32_1303 : BitVec 32 := 4#32
  let v2522 : Index := Scalar.indexCast c4_i32_1303
  let c368_1304 : Index := 368#32
  ![0, v2521.toNat, 4, 368]
def k0_off288 (k0_t2 : Fin k0_t2_loop.trips) : Fin 4 → Nat :=
  let c0_i32_1305 : BitVec 32 := 0#32
  let v2527 : Index := Scalar.indexCast c0_i32_1305
  let c0_i32_104 : BitVec 32 := 0#32
  let c1_i32_106 : BitVec 32 := 1#32
  let arg15 : BitVec 32 := Scf.iv c0_i32_104 c1_i32_106 k0_t2
  let v2528 : Index := Scalar.indexCast arg15
  let c5_i32_1306 : BitVec 32 := 5#32
  let v2529 : Index := Scalar.indexCast c5_i32_1306
  let c368_1307 : Index := 368#32
  ![0, v2528.toNat, 5, 368]
def k0_off289 (k0_t2 : Fin k0_t2_loop.trips) : Fin 4 → Nat :=
  let c0_i32_1308 : BitVec 32 := 0#32
  let v2534 : Index := Scalar.indexCast c0_i32_1308
  let c0_i32_104 : BitVec 32 := 0#32
  let c1_i32_106 : BitVec 32 := 1#32
  let arg15 : BitVec 32 := Scf.iv c0_i32_104 c1_i32_106 k0_t2
  let v2535 : Index := Scalar.indexCast arg15
  let c6_i32_1309 : BitVec 32 := 6#32
  let v2536 : Index := Scalar.indexCast c6_i32_1309
  let c368_1310 : Index := 368#32
  ![0, v2535.toNat, 6, 368]
def k0_off290 (k0_t2 : Fin k0_t2_loop.trips) : Fin 4 → Nat :=
  let c0_i32_1312 : BitVec 32 := 0#32
  let v2547 : Index := Scalar.indexCast c0_i32_1312
  let c0_i32_104 : BitVec 32 := 0#32
  let c1_i32_106 : BitVec 32 := 1#32
  let arg15 : BitVec 32 := Scf.iv c0_i32_104 c1_i32_106 k0_t2
  let v2548 : Index := Scalar.indexCast arg15
  let c7_i32_1313 : BitVec 32 := 7#32
  let v2549 : Index := Scalar.indexCast c7_i32_1313
  let c368_1314 : Index := 368#32
  ![0, v2548.toNat, 7, 368]
def k0_off291 (k0_t2 : Fin k0_t2_loop.trips) : Fin 4 → Nat :=
  let c0_i32_1315 : BitVec 32 := 0#32
  let v2553 : Index := Scalar.indexCast c0_i32_1315
  let c0_i32_104 : BitVec 32 := 0#32
  let c1_i32_106 : BitVec 32 := 1#32
  let arg15 : BitVec 32 := Scf.iv c0_i32_104 c1_i32_106 k0_t2
  let v2554 : Index := Scalar.indexCast arg15
  let c0_i32_1316 : BitVec 32 := 0#32
  let v2555 : Index := Scalar.indexCast c0_i32_1316
  let c384 : Index := 384#32
  ![0, v2554.toNat, 0, 384]
def k0_off292 (k0_t2 : Fin k0_t2_loop.trips) : Fin 4 → Nat :=
  let c0_i32_1317 : BitVec 32 := 0#32
  let v2558 : Index := Scalar.indexCast c0_i32_1317
  let c0_i32_104 : BitVec 32 := 0#32
  let c1_i32_106 : BitVec 32 := 1#32
  let arg15 : BitVec 32 := Scf.iv c0_i32_104 c1_i32_106 k0_t2
  let v2559 : Index := Scalar.indexCast arg15
  let c1_i32_1318 : BitVec 32 := 1#32
  let v2560 : Index := Scalar.indexCast c1_i32_1318
  let c384_1319 : Index := 384#32
  ![0, v2559.toNat, 1, 384]
def k0_off293 (k0_t2 : Fin k0_t2_loop.trips) : Fin 4 → Nat :=
  let c0_i32_1320 : BitVec 32 := 0#32
  let v2563 : Index := Scalar.indexCast c0_i32_1320
  let c0_i32_104 : BitVec 32 := 0#32
  let c1_i32_106 : BitVec 32 := 1#32
  let arg15 : BitVec 32 := Scf.iv c0_i32_104 c1_i32_106 k0_t2
  let v2564 : Index := Scalar.indexCast arg15
  let c2_i32_1321 : BitVec 32 := 2#32
  let v2565 : Index := Scalar.indexCast c2_i32_1321
  let c384_1322 : Index := 384#32
  ![0, v2564.toNat, 2, 384]
def k0_off294 (k0_t2 : Fin k0_t2_loop.trips) : Fin 4 → Nat :=
  let c0_i32_1323 : BitVec 32 := 0#32
  let v2568 : Index := Scalar.indexCast c0_i32_1323
  let c0_i32_104 : BitVec 32 := 0#32
  let c1_i32_106 : BitVec 32 := 1#32
  let arg15 : BitVec 32 := Scf.iv c0_i32_104 c1_i32_106 k0_t2
  let v2569 : Index := Scalar.indexCast arg15
  let c3_i32_1324 : BitVec 32 := 3#32
  let v2570 : Index := Scalar.indexCast c3_i32_1324
  let c384_1325 : Index := 384#32
  ![0, v2569.toNat, 3, 384]
def k0_off295 (k0_t2 : Fin k0_t2_loop.trips) : Fin 4 → Nat :=
  let c0_i32_1338 : BitVec 32 := 0#32
  let v2594 : Index := Scalar.indexCast c0_i32_1338
  let c0_i32_104 : BitVec 32 := 0#32
  let c1_i32_106 : BitVec 32 := 1#32
  let arg15 : BitVec 32 := Scf.iv c0_i32_104 c1_i32_106 k0_t2
  let v2595 : Index := Scalar.indexCast arg15
  let c0_i32_1339 : BitVec 32 := 0#32
  let v2596 : Index := Scalar.indexCast c0_i32_1339
  let c384_1340 : Index := 384#32
  ![0, v2595.toNat, 0, 384]
def k0_off296 (k0_t2 : Fin k0_t2_loop.trips) : Fin 4 → Nat :=
  let c0_i32_1341 : BitVec 32 := 0#32
  let v2601 : Index := Scalar.indexCast c0_i32_1341
  let c0_i32_104 : BitVec 32 := 0#32
  let c1_i32_106 : BitVec 32 := 1#32
  let arg15 : BitVec 32 := Scf.iv c0_i32_104 c1_i32_106 k0_t2
  let v2602 : Index := Scalar.indexCast arg15
  let c1_i32_1342 : BitVec 32 := 1#32
  let v2603 : Index := Scalar.indexCast c1_i32_1342
  let c384_1343 : Index := 384#32
  ![0, v2602.toNat, 1, 384]
def k0_off297 (k0_t2 : Fin k0_t2_loop.trips) : Fin 4 → Nat :=
  let c0_i32_1344 : BitVec 32 := 0#32
  let v2608 : Index := Scalar.indexCast c0_i32_1344
  let c0_i32_104 : BitVec 32 := 0#32
  let c1_i32_106 : BitVec 32 := 1#32
  let arg15 : BitVec 32 := Scf.iv c0_i32_104 c1_i32_106 k0_t2
  let v2609 : Index := Scalar.indexCast arg15
  let c2_i32_1345 : BitVec 32 := 2#32
  let v2610 : Index := Scalar.indexCast c2_i32_1345
  let c384_1346 : Index := 384#32
  ![0, v2609.toNat, 2, 384]
def k0_off298 (k0_t2 : Fin k0_t2_loop.trips) : Fin 4 → Nat :=
  let c0_i32_1347 : BitVec 32 := 0#32
  let v2615 : Index := Scalar.indexCast c0_i32_1347
  let c0_i32_104 : BitVec 32 := 0#32
  let c1_i32_106 : BitVec 32 := 1#32
  let arg15 : BitVec 32 := Scf.iv c0_i32_104 c1_i32_106 k0_t2
  let v2616 : Index := Scalar.indexCast arg15
  let c3_i32_1348 : BitVec 32 := 3#32
  let v2617 : Index := Scalar.indexCast c3_i32_1348
  let c384_1349 : Index := 384#32
  ![0, v2616.toNat, 3, 384]
def k0_off299 (k0_t2 : Fin k0_t2_loop.trips) : Fin 4 → Nat :=
  let c0_i32_1350 : BitVec 32 := 0#32
  let v2622 : Index := Scalar.indexCast c0_i32_1350
  let c0_i32_104 : BitVec 32 := 0#32
  let c1_i32_106 : BitVec 32 := 1#32
  let arg15 : BitVec 32 := Scf.iv c0_i32_104 c1_i32_106 k0_t2
  let v2623 : Index := Scalar.indexCast arg15
  let c4_i32_1351 : BitVec 32 := 4#32
  let v2624 : Index := Scalar.indexCast c4_i32_1351
  let c384_1352 : Index := 384#32
  ![0, v2623.toNat, 4, 384]
def k0_off300 (k0_t2 : Fin k0_t2_loop.trips) : Fin 4 → Nat :=
  let c0_i32_1353 : BitVec 32 := 0#32
  let v2629 : Index := Scalar.indexCast c0_i32_1353
  let c0_i32_104 : BitVec 32 := 0#32
  let c1_i32_106 : BitVec 32 := 1#32
  let arg15 : BitVec 32 := Scf.iv c0_i32_104 c1_i32_106 k0_t2
  let v2630 : Index := Scalar.indexCast arg15
  let c5_i32_1354 : BitVec 32 := 5#32
  let v2631 : Index := Scalar.indexCast c5_i32_1354
  let c384_1355 : Index := 384#32
  ![0, v2630.toNat, 5, 384]
def k0_off301 (k0_t2 : Fin k0_t2_loop.trips) : Fin 4 → Nat :=
  let c0_i32_1356 : BitVec 32 := 0#32
  let v2636 : Index := Scalar.indexCast c0_i32_1356
  let c0_i32_104 : BitVec 32 := 0#32
  let c1_i32_106 : BitVec 32 := 1#32
  let arg15 : BitVec 32 := Scf.iv c0_i32_104 c1_i32_106 k0_t2
  let v2637 : Index := Scalar.indexCast arg15
  let c6_i32_1357 : BitVec 32 := 6#32
  let v2638 : Index := Scalar.indexCast c6_i32_1357
  let c384_1358 : Index := 384#32
  ![0, v2637.toNat, 6, 384]
def k0_off302 (k0_t2 : Fin k0_t2_loop.trips) : Fin 4 → Nat :=
  let c0_i32_1360 : BitVec 32 := 0#32
  let v2649 : Index := Scalar.indexCast c0_i32_1360
  let c0_i32_104 : BitVec 32 := 0#32
  let c1_i32_106 : BitVec 32 := 1#32
  let arg15 : BitVec 32 := Scf.iv c0_i32_104 c1_i32_106 k0_t2
  let v2650 : Index := Scalar.indexCast arg15
  let c7_i32_1361 : BitVec 32 := 7#32
  let v2651 : Index := Scalar.indexCast c7_i32_1361
  let c384_1362 : Index := 384#32
  ![0, v2650.toNat, 7, 384]
def k0_off303 (k0_t2 : Fin k0_t2_loop.trips) : Fin 4 → Nat :=
  let c0_i32_1363 : BitVec 32 := 0#32
  let v2655 : Index := Scalar.indexCast c0_i32_1363
  let c0_i32_104 : BitVec 32 := 0#32
  let c1_i32_106 : BitVec 32 := 1#32
  let arg15 : BitVec 32 := Scf.iv c0_i32_104 c1_i32_106 k0_t2
  let v2656 : Index := Scalar.indexCast arg15
  let c0_i32_1364 : BitVec 32 := 0#32
  let v2657 : Index := Scalar.indexCast c0_i32_1364
  let c400 : Index := 400#32
  ![0, v2656.toNat, 0, 400]
def k0_off304 (k0_t2 : Fin k0_t2_loop.trips) : Fin 4 → Nat :=
  let c0_i32_1365 : BitVec 32 := 0#32
  let v2660 : Index := Scalar.indexCast c0_i32_1365
  let c0_i32_104 : BitVec 32 := 0#32
  let c1_i32_106 : BitVec 32 := 1#32
  let arg15 : BitVec 32 := Scf.iv c0_i32_104 c1_i32_106 k0_t2
  let v2661 : Index := Scalar.indexCast arg15
  let c1_i32_1366 : BitVec 32 := 1#32
  let v2662 : Index := Scalar.indexCast c1_i32_1366
  let c400_1367 : Index := 400#32
  ![0, v2661.toNat, 1, 400]
def k0_off305 (k0_t2 : Fin k0_t2_loop.trips) : Fin 4 → Nat :=
  let c0_i32_1368 : BitVec 32 := 0#32
  let v2665 : Index := Scalar.indexCast c0_i32_1368
  let c0_i32_104 : BitVec 32 := 0#32
  let c1_i32_106 : BitVec 32 := 1#32
  let arg15 : BitVec 32 := Scf.iv c0_i32_104 c1_i32_106 k0_t2
  let v2666 : Index := Scalar.indexCast arg15
  let c2_i32_1369 : BitVec 32 := 2#32
  let v2667 : Index := Scalar.indexCast c2_i32_1369
  let c400_1370 : Index := 400#32
  ![0, v2666.toNat, 2, 400]
def k0_off306 (k0_t2 : Fin k0_t2_loop.trips) : Fin 4 → Nat :=
  let c0_i32_1371 : BitVec 32 := 0#32
  let v2670 : Index := Scalar.indexCast c0_i32_1371
  let c0_i32_104 : BitVec 32 := 0#32
  let c1_i32_106 : BitVec 32 := 1#32
  let arg15 : BitVec 32 := Scf.iv c0_i32_104 c1_i32_106 k0_t2
  let v2671 : Index := Scalar.indexCast arg15
  let c3_i32_1372 : BitVec 32 := 3#32
  let v2672 : Index := Scalar.indexCast c3_i32_1372
  let c400_1373 : Index := 400#32
  ![0, v2671.toNat, 3, 400]
def k0_off307 (k0_t2 : Fin k0_t2_loop.trips) : Fin 4 → Nat :=
  let c0_i32_1386 : BitVec 32 := 0#32
  let v2696 : Index := Scalar.indexCast c0_i32_1386
  let c0_i32_104 : BitVec 32 := 0#32
  let c1_i32_106 : BitVec 32 := 1#32
  let arg15 : BitVec 32 := Scf.iv c0_i32_104 c1_i32_106 k0_t2
  let v2697 : Index := Scalar.indexCast arg15
  let c0_i32_1387 : BitVec 32 := 0#32
  let v2698 : Index := Scalar.indexCast c0_i32_1387
  let c400_1388 : Index := 400#32
  ![0, v2697.toNat, 0, 400]
def k0_off308 (k0_t2 : Fin k0_t2_loop.trips) : Fin 4 → Nat :=
  let c0_i32_1389 : BitVec 32 := 0#32
  let v2703 : Index := Scalar.indexCast c0_i32_1389
  let c0_i32_104 : BitVec 32 := 0#32
  let c1_i32_106 : BitVec 32 := 1#32
  let arg15 : BitVec 32 := Scf.iv c0_i32_104 c1_i32_106 k0_t2
  let v2704 : Index := Scalar.indexCast arg15
  let c1_i32_1390 : BitVec 32 := 1#32
  let v2705 : Index := Scalar.indexCast c1_i32_1390
  let c400_1391 : Index := 400#32
  ![0, v2704.toNat, 1, 400]
def k0_off309 (k0_t2 : Fin k0_t2_loop.trips) : Fin 4 → Nat :=
  let c0_i32_1392 : BitVec 32 := 0#32
  let v2710 : Index := Scalar.indexCast c0_i32_1392
  let c0_i32_104 : BitVec 32 := 0#32
  let c1_i32_106 : BitVec 32 := 1#32
  let arg15 : BitVec 32 := Scf.iv c0_i32_104 c1_i32_106 k0_t2
  let v2711 : Index := Scalar.indexCast arg15
  let c2_i32_1393 : BitVec 32 := 2#32
  let v2712 : Index := Scalar.indexCast c2_i32_1393
  let c400_1394 : Index := 400#32
  ![0, v2711.toNat, 2, 400]
def k0_off310 (k0_t2 : Fin k0_t2_loop.trips) : Fin 4 → Nat :=
  let c0_i32_1395 : BitVec 32 := 0#32
  let v2717 : Index := Scalar.indexCast c0_i32_1395
  let c0_i32_104 : BitVec 32 := 0#32
  let c1_i32_106 : BitVec 32 := 1#32
  let arg15 : BitVec 32 := Scf.iv c0_i32_104 c1_i32_106 k0_t2
  let v2718 : Index := Scalar.indexCast arg15
  let c3_i32_1396 : BitVec 32 := 3#32
  let v2719 : Index := Scalar.indexCast c3_i32_1396
  let c400_1397 : Index := 400#32
  ![0, v2718.toNat, 3, 400]
def k0_off311 (k0_t2 : Fin k0_t2_loop.trips) : Fin 4 → Nat :=
  let c0_i32_1398 : BitVec 32 := 0#32
  let v2724 : Index := Scalar.indexCast c0_i32_1398
  let c0_i32_104 : BitVec 32 := 0#32
  let c1_i32_106 : BitVec 32 := 1#32
  let arg15 : BitVec 32 := Scf.iv c0_i32_104 c1_i32_106 k0_t2
  let v2725 : Index := Scalar.indexCast arg15
  let c4_i32_1399 : BitVec 32 := 4#32
  let v2726 : Index := Scalar.indexCast c4_i32_1399
  let c400_1400 : Index := 400#32
  ![0, v2725.toNat, 4, 400]
def k0_off312 (k0_t2 : Fin k0_t2_loop.trips) : Fin 4 → Nat :=
  let c0_i32_1401 : BitVec 32 := 0#32
  let v2731 : Index := Scalar.indexCast c0_i32_1401
  let c0_i32_104 : BitVec 32 := 0#32
  let c1_i32_106 : BitVec 32 := 1#32
  let arg15 : BitVec 32 := Scf.iv c0_i32_104 c1_i32_106 k0_t2
  let v2732 : Index := Scalar.indexCast arg15
  let c5_i32_1402 : BitVec 32 := 5#32
  let v2733 : Index := Scalar.indexCast c5_i32_1402
  let c400_1403 : Index := 400#32
  ![0, v2732.toNat, 5, 400]
def k0_off313 (k0_t2 : Fin k0_t2_loop.trips) : Fin 4 → Nat :=
  let c0_i32_1404 : BitVec 32 := 0#32
  let v2738 : Index := Scalar.indexCast c0_i32_1404
  let c0_i32_104 : BitVec 32 := 0#32
  let c1_i32_106 : BitVec 32 := 1#32
  let arg15 : BitVec 32 := Scf.iv c0_i32_104 c1_i32_106 k0_t2
  let v2739 : Index := Scalar.indexCast arg15
  let c6_i32_1405 : BitVec 32 := 6#32
  let v2740 : Index := Scalar.indexCast c6_i32_1405
  let c400_1406 : Index := 400#32
  ![0, v2739.toNat, 6, 400]
def k0_off314 (k0_t2 : Fin k0_t2_loop.trips) : Fin 4 → Nat :=
  let c0_i32_1408 : BitVec 32 := 0#32
  let v2751 : Index := Scalar.indexCast c0_i32_1408
  let c0_i32_104 : BitVec 32 := 0#32
  let c1_i32_106 : BitVec 32 := 1#32
  let arg15 : BitVec 32 := Scf.iv c0_i32_104 c1_i32_106 k0_t2
  let v2752 : Index := Scalar.indexCast arg15
  let c7_i32_1409 : BitVec 32 := 7#32
  let v2753 : Index := Scalar.indexCast c7_i32_1409
  let c400_1410 : Index := 400#32
  ![0, v2752.toNat, 7, 400]
def k0_off315 (k0_t2 : Fin k0_t2_loop.trips) : Fin 4 → Nat :=
  let c0_i32_1411 : BitVec 32 := 0#32
  let v2757 : Index := Scalar.indexCast c0_i32_1411
  let c0_i32_104 : BitVec 32 := 0#32
  let c1_i32_106 : BitVec 32 := 1#32
  let arg15 : BitVec 32 := Scf.iv c0_i32_104 c1_i32_106 k0_t2
  let v2758 : Index := Scalar.indexCast arg15
  let c0_i32_1412 : BitVec 32 := 0#32
  let v2759 : Index := Scalar.indexCast c0_i32_1412
  let c416 : Index := 416#32
  ![0, v2758.toNat, 0, 416]
def k0_off316 (k0_t2 : Fin k0_t2_loop.trips) : Fin 4 → Nat :=
  let c0_i32_1413 : BitVec 32 := 0#32
  let v2762 : Index := Scalar.indexCast c0_i32_1413
  let c0_i32_104 : BitVec 32 := 0#32
  let c1_i32_106 : BitVec 32 := 1#32
  let arg15 : BitVec 32 := Scf.iv c0_i32_104 c1_i32_106 k0_t2
  let v2763 : Index := Scalar.indexCast arg15
  let c1_i32_1414 : BitVec 32 := 1#32
  let v2764 : Index := Scalar.indexCast c1_i32_1414
  let c416_1415 : Index := 416#32
  ![0, v2763.toNat, 1, 416]
def k0_off317 (k0_t2 : Fin k0_t2_loop.trips) : Fin 4 → Nat :=
  let c0_i32_1416 : BitVec 32 := 0#32
  let v2767 : Index := Scalar.indexCast c0_i32_1416
  let c0_i32_104 : BitVec 32 := 0#32
  let c1_i32_106 : BitVec 32 := 1#32
  let arg15 : BitVec 32 := Scf.iv c0_i32_104 c1_i32_106 k0_t2
  let v2768 : Index := Scalar.indexCast arg15
  let c2_i32_1417 : BitVec 32 := 2#32
  let v2769 : Index := Scalar.indexCast c2_i32_1417
  let c416_1418 : Index := 416#32
  ![0, v2768.toNat, 2, 416]
def k0_off318 (k0_t2 : Fin k0_t2_loop.trips) : Fin 4 → Nat :=
  let c0_i32_1419 : BitVec 32 := 0#32
  let v2772 : Index := Scalar.indexCast c0_i32_1419
  let c0_i32_104 : BitVec 32 := 0#32
  let c1_i32_106 : BitVec 32 := 1#32
  let arg15 : BitVec 32 := Scf.iv c0_i32_104 c1_i32_106 k0_t2
  let v2773 : Index := Scalar.indexCast arg15
  let c3_i32_1420 : BitVec 32 := 3#32
  let v2774 : Index := Scalar.indexCast c3_i32_1420
  let c416_1421 : Index := 416#32
  ![0, v2773.toNat, 3, 416]
def k0_off319 (k0_t2 : Fin k0_t2_loop.trips) : Fin 4 → Nat :=
  let c0_i32_1434 : BitVec 32 := 0#32
  let v2798 : Index := Scalar.indexCast c0_i32_1434
  let c0_i32_104 : BitVec 32 := 0#32
  let c1_i32_106 : BitVec 32 := 1#32
  let arg15 : BitVec 32 := Scf.iv c0_i32_104 c1_i32_106 k0_t2
  let v2799 : Index := Scalar.indexCast arg15
  let c0_i32_1435 : BitVec 32 := 0#32
  let v2800 : Index := Scalar.indexCast c0_i32_1435
  let c416_1436 : Index := 416#32
  ![0, v2799.toNat, 0, 416]
def k0_off320 (k0_t2 : Fin k0_t2_loop.trips) : Fin 4 → Nat :=
  let c0_i32_1437 : BitVec 32 := 0#32
  let v2805 : Index := Scalar.indexCast c0_i32_1437
  let c0_i32_104 : BitVec 32 := 0#32
  let c1_i32_106 : BitVec 32 := 1#32
  let arg15 : BitVec 32 := Scf.iv c0_i32_104 c1_i32_106 k0_t2
  let v2806 : Index := Scalar.indexCast arg15
  let c1_i32_1438 : BitVec 32 := 1#32
  let v2807 : Index := Scalar.indexCast c1_i32_1438
  let c416_1439 : Index := 416#32
  ![0, v2806.toNat, 1, 416]
def k0_off321 (k0_t2 : Fin k0_t2_loop.trips) : Fin 4 → Nat :=
  let c0_i32_1440 : BitVec 32 := 0#32
  let v2812 : Index := Scalar.indexCast c0_i32_1440
  let c0_i32_104 : BitVec 32 := 0#32
  let c1_i32_106 : BitVec 32 := 1#32
  let arg15 : BitVec 32 := Scf.iv c0_i32_104 c1_i32_106 k0_t2
  let v2813 : Index := Scalar.indexCast arg15
  let c2_i32_1441 : BitVec 32 := 2#32
  let v2814 : Index := Scalar.indexCast c2_i32_1441
  let c416_1442 : Index := 416#32
  ![0, v2813.toNat, 2, 416]
def k0_off322 (k0_t2 : Fin k0_t2_loop.trips) : Fin 4 → Nat :=
  let c0_i32_1443 : BitVec 32 := 0#32
  let v2819 : Index := Scalar.indexCast c0_i32_1443
  let c0_i32_104 : BitVec 32 := 0#32
  let c1_i32_106 : BitVec 32 := 1#32
  let arg15 : BitVec 32 := Scf.iv c0_i32_104 c1_i32_106 k0_t2
  let v2820 : Index := Scalar.indexCast arg15
  let c3_i32_1444 : BitVec 32 := 3#32
  let v2821 : Index := Scalar.indexCast c3_i32_1444
  let c416_1445 : Index := 416#32
  ![0, v2820.toNat, 3, 416]
def k0_off323 (k0_t2 : Fin k0_t2_loop.trips) : Fin 4 → Nat :=
  let c0_i32_1446 : BitVec 32 := 0#32
  let v2826 : Index := Scalar.indexCast c0_i32_1446
  let c0_i32_104 : BitVec 32 := 0#32
  let c1_i32_106 : BitVec 32 := 1#32
  let arg15 : BitVec 32 := Scf.iv c0_i32_104 c1_i32_106 k0_t2
  let v2827 : Index := Scalar.indexCast arg15
  let c4_i32_1447 : BitVec 32 := 4#32
  let v2828 : Index := Scalar.indexCast c4_i32_1447
  let c416_1448 : Index := 416#32
  ![0, v2827.toNat, 4, 416]
def k0_off324 (k0_t2 : Fin k0_t2_loop.trips) : Fin 4 → Nat :=
  let c0_i32_1449 : BitVec 32 := 0#32
  let v2833 : Index := Scalar.indexCast c0_i32_1449
  let c0_i32_104 : BitVec 32 := 0#32
  let c1_i32_106 : BitVec 32 := 1#32
  let arg15 : BitVec 32 := Scf.iv c0_i32_104 c1_i32_106 k0_t2
  let v2834 : Index := Scalar.indexCast arg15
  let c5_i32_1450 : BitVec 32 := 5#32
  let v2835 : Index := Scalar.indexCast c5_i32_1450
  let c416_1451 : Index := 416#32
  ![0, v2834.toNat, 5, 416]
def k0_off325 (k0_t2 : Fin k0_t2_loop.trips) : Fin 4 → Nat :=
  let c0_i32_1452 : BitVec 32 := 0#32
  let v2840 : Index := Scalar.indexCast c0_i32_1452
  let c0_i32_104 : BitVec 32 := 0#32
  let c1_i32_106 : BitVec 32 := 1#32
  let arg15 : BitVec 32 := Scf.iv c0_i32_104 c1_i32_106 k0_t2
  let v2841 : Index := Scalar.indexCast arg15
  let c6_i32_1453 : BitVec 32 := 6#32
  let v2842 : Index := Scalar.indexCast c6_i32_1453
  let c416_1454 : Index := 416#32
  ![0, v2841.toNat, 6, 416]
def k0_off326 (k0_t2 : Fin k0_t2_loop.trips) : Fin 4 → Nat :=
  let c0_i32_1456 : BitVec 32 := 0#32
  let v2853 : Index := Scalar.indexCast c0_i32_1456
  let c0_i32_104 : BitVec 32 := 0#32
  let c1_i32_106 : BitVec 32 := 1#32
  let arg15 : BitVec 32 := Scf.iv c0_i32_104 c1_i32_106 k0_t2
  let v2854 : Index := Scalar.indexCast arg15
  let c7_i32_1457 : BitVec 32 := 7#32
  let v2855 : Index := Scalar.indexCast c7_i32_1457
  let c416_1458 : Index := 416#32
  ![0, v2854.toNat, 7, 416]
def k0_off327 (k0_t2 : Fin k0_t2_loop.trips) : Fin 4 → Nat :=
  let c0_i32_1459 : BitVec 32 := 0#32
  let v2859 : Index := Scalar.indexCast c0_i32_1459
  let c0_i32_104 : BitVec 32 := 0#32
  let c1_i32_106 : BitVec 32 := 1#32
  let arg15 : BitVec 32 := Scf.iv c0_i32_104 c1_i32_106 k0_t2
  let v2860 : Index := Scalar.indexCast arg15
  let c0_i32_1460 : BitVec 32 := 0#32
  let v2861 : Index := Scalar.indexCast c0_i32_1460
  let c432 : Index := 432#32
  ![0, v2860.toNat, 0, 432]
def k0_off328 (k0_t2 : Fin k0_t2_loop.trips) : Fin 4 → Nat :=
  let c0_i32_1461 : BitVec 32 := 0#32
  let v2864 : Index := Scalar.indexCast c0_i32_1461
  let c0_i32_104 : BitVec 32 := 0#32
  let c1_i32_106 : BitVec 32 := 1#32
  let arg15 : BitVec 32 := Scf.iv c0_i32_104 c1_i32_106 k0_t2
  let v2865 : Index := Scalar.indexCast arg15
  let c1_i32_1462 : BitVec 32 := 1#32
  let v2866 : Index := Scalar.indexCast c1_i32_1462
  let c432_1463 : Index := 432#32
  ![0, v2865.toNat, 1, 432]
def k0_off329 (k0_t2 : Fin k0_t2_loop.trips) : Fin 4 → Nat :=
  let c0_i32_1464 : BitVec 32 := 0#32
  let v2869 : Index := Scalar.indexCast c0_i32_1464
  let c0_i32_104 : BitVec 32 := 0#32
  let c1_i32_106 : BitVec 32 := 1#32
  let arg15 : BitVec 32 := Scf.iv c0_i32_104 c1_i32_106 k0_t2
  let v2870 : Index := Scalar.indexCast arg15
  let c2_i32_1465 : BitVec 32 := 2#32
  let v2871 : Index := Scalar.indexCast c2_i32_1465
  let c432_1466 : Index := 432#32
  ![0, v2870.toNat, 2, 432]
def k0_off330 (k0_t2 : Fin k0_t2_loop.trips) : Fin 4 → Nat :=
  let c0_i32_1467 : BitVec 32 := 0#32
  let v2874 : Index := Scalar.indexCast c0_i32_1467
  let c0_i32_104 : BitVec 32 := 0#32
  let c1_i32_106 : BitVec 32 := 1#32
  let arg15 : BitVec 32 := Scf.iv c0_i32_104 c1_i32_106 k0_t2
  let v2875 : Index := Scalar.indexCast arg15
  let c3_i32_1468 : BitVec 32 := 3#32
  let v2876 : Index := Scalar.indexCast c3_i32_1468
  let c432_1469 : Index := 432#32
  ![0, v2875.toNat, 3, 432]
def k0_off331 (k0_t2 : Fin k0_t2_loop.trips) : Fin 4 → Nat :=
  let c0_i32_1482 : BitVec 32 := 0#32
  let v2900 : Index := Scalar.indexCast c0_i32_1482
  let c0_i32_104 : BitVec 32 := 0#32
  let c1_i32_106 : BitVec 32 := 1#32
  let arg15 : BitVec 32 := Scf.iv c0_i32_104 c1_i32_106 k0_t2
  let v2901 : Index := Scalar.indexCast arg15
  let c0_i32_1483 : BitVec 32 := 0#32
  let v2902 : Index := Scalar.indexCast c0_i32_1483
  let c432_1484 : Index := 432#32
  ![0, v2901.toNat, 0, 432]
def k0_off332 (k0_t2 : Fin k0_t2_loop.trips) : Fin 4 → Nat :=
  let c0_i32_1485 : BitVec 32 := 0#32
  let v2907 : Index := Scalar.indexCast c0_i32_1485
  let c0_i32_104 : BitVec 32 := 0#32
  let c1_i32_106 : BitVec 32 := 1#32
  let arg15 : BitVec 32 := Scf.iv c0_i32_104 c1_i32_106 k0_t2
  let v2908 : Index := Scalar.indexCast arg15
  let c1_i32_1486 : BitVec 32 := 1#32
  let v2909 : Index := Scalar.indexCast c1_i32_1486
  let c432_1487 : Index := 432#32
  ![0, v2908.toNat, 1, 432]
def k0_off333 (k0_t2 : Fin k0_t2_loop.trips) : Fin 4 → Nat :=
  let c0_i32_1488 : BitVec 32 := 0#32
  let v2914 : Index := Scalar.indexCast c0_i32_1488
  let c0_i32_104 : BitVec 32 := 0#32
  let c1_i32_106 : BitVec 32 := 1#32
  let arg15 : BitVec 32 := Scf.iv c0_i32_104 c1_i32_106 k0_t2
  let v2915 : Index := Scalar.indexCast arg15
  let c2_i32_1489 : BitVec 32 := 2#32
  let v2916 : Index := Scalar.indexCast c2_i32_1489
  let c432_1490 : Index := 432#32
  ![0, v2915.toNat, 2, 432]
def k0_off334 (k0_t2 : Fin k0_t2_loop.trips) : Fin 4 → Nat :=
  let c0_i32_1491 : BitVec 32 := 0#32
  let v2921 : Index := Scalar.indexCast c0_i32_1491
  let c0_i32_104 : BitVec 32 := 0#32
  let c1_i32_106 : BitVec 32 := 1#32
  let arg15 : BitVec 32 := Scf.iv c0_i32_104 c1_i32_106 k0_t2
  let v2922 : Index := Scalar.indexCast arg15
  let c3_i32_1492 : BitVec 32 := 3#32
  let v2923 : Index := Scalar.indexCast c3_i32_1492
  let c432_1493 : Index := 432#32
  ![0, v2922.toNat, 3, 432]
def k0_off335 (k0_t2 : Fin k0_t2_loop.trips) : Fin 4 → Nat :=
  let c0_i32_1494 : BitVec 32 := 0#32
  let v2928 : Index := Scalar.indexCast c0_i32_1494
  let c0_i32_104 : BitVec 32 := 0#32
  let c1_i32_106 : BitVec 32 := 1#32
  let arg15 : BitVec 32 := Scf.iv c0_i32_104 c1_i32_106 k0_t2
  let v2929 : Index := Scalar.indexCast arg15
  let c4_i32_1495 : BitVec 32 := 4#32
  let v2930 : Index := Scalar.indexCast c4_i32_1495
  let c432_1496 : Index := 432#32
  ![0, v2929.toNat, 4, 432]
def k0_off336 (k0_t2 : Fin k0_t2_loop.trips) : Fin 4 → Nat :=
  let c0_i32_1497 : BitVec 32 := 0#32
  let v2935 : Index := Scalar.indexCast c0_i32_1497
  let c0_i32_104 : BitVec 32 := 0#32
  let c1_i32_106 : BitVec 32 := 1#32
  let arg15 : BitVec 32 := Scf.iv c0_i32_104 c1_i32_106 k0_t2
  let v2936 : Index := Scalar.indexCast arg15
  let c5_i32_1498 : BitVec 32 := 5#32
  let v2937 : Index := Scalar.indexCast c5_i32_1498
  let c432_1499 : Index := 432#32
  ![0, v2936.toNat, 5, 432]
def k0_off337 (k0_t2 : Fin k0_t2_loop.trips) : Fin 4 → Nat :=
  let c0_i32_1500 : BitVec 32 := 0#32
  let v2942 : Index := Scalar.indexCast c0_i32_1500
  let c0_i32_104 : BitVec 32 := 0#32
  let c1_i32_106 : BitVec 32 := 1#32
  let arg15 : BitVec 32 := Scf.iv c0_i32_104 c1_i32_106 k0_t2
  let v2943 : Index := Scalar.indexCast arg15
  let c6_i32_1501 : BitVec 32 := 6#32
  let v2944 : Index := Scalar.indexCast c6_i32_1501
  let c432_1502 : Index := 432#32
  ![0, v2943.toNat, 6, 432]
def k0_off338 (k0_t2 : Fin k0_t2_loop.trips) : Fin 4 → Nat :=
  let c0_i32_1504 : BitVec 32 := 0#32
  let v2955 : Index := Scalar.indexCast c0_i32_1504
  let c0_i32_104 : BitVec 32 := 0#32
  let c1_i32_106 : BitVec 32 := 1#32
  let arg15 : BitVec 32 := Scf.iv c0_i32_104 c1_i32_106 k0_t2
  let v2956 : Index := Scalar.indexCast arg15
  let c7_i32_1505 : BitVec 32 := 7#32
  let v2957 : Index := Scalar.indexCast c7_i32_1505
  let c432_1506 : Index := 432#32
  ![0, v2956.toNat, 7, 432]
def k0_off339 (k0_t2 : Fin k0_t2_loop.trips) : Fin 4 → Nat :=
  let c0_i32_1507 : BitVec 32 := 0#32
  let v2961 : Index := Scalar.indexCast c0_i32_1507
  let c0_i32_104 : BitVec 32 := 0#32
  let c1_i32_106 : BitVec 32 := 1#32
  let arg15 : BitVec 32 := Scf.iv c0_i32_104 c1_i32_106 k0_t2
  let v2962 : Index := Scalar.indexCast arg15
  let c0_i32_1508 : BitVec 32 := 0#32
  let v2963 : Index := Scalar.indexCast c0_i32_1508
  let c448 : Index := 448#32
  ![0, v2962.toNat, 0, 448]
def k0_off340 (k0_t2 : Fin k0_t2_loop.trips) : Fin 4 → Nat :=
  let c0_i32_1509 : BitVec 32 := 0#32
  let v2966 : Index := Scalar.indexCast c0_i32_1509
  let c0_i32_104 : BitVec 32 := 0#32
  let c1_i32_106 : BitVec 32 := 1#32
  let arg15 : BitVec 32 := Scf.iv c0_i32_104 c1_i32_106 k0_t2
  let v2967 : Index := Scalar.indexCast arg15
  let c1_i32_1510 : BitVec 32 := 1#32
  let v2968 : Index := Scalar.indexCast c1_i32_1510
  let c448_1511 : Index := 448#32
  ![0, v2967.toNat, 1, 448]
def k0_off341 (k0_t2 : Fin k0_t2_loop.trips) : Fin 4 → Nat :=
  let c0_i32_1512 : BitVec 32 := 0#32
  let v2971 : Index := Scalar.indexCast c0_i32_1512
  let c0_i32_104 : BitVec 32 := 0#32
  let c1_i32_106 : BitVec 32 := 1#32
  let arg15 : BitVec 32 := Scf.iv c0_i32_104 c1_i32_106 k0_t2
  let v2972 : Index := Scalar.indexCast arg15
  let c2_i32_1513 : BitVec 32 := 2#32
  let v2973 : Index := Scalar.indexCast c2_i32_1513
  let c448_1514 : Index := 448#32
  ![0, v2972.toNat, 2, 448]
def k0_off342 (k0_t2 : Fin k0_t2_loop.trips) : Fin 4 → Nat :=
  let c0_i32_1515 : BitVec 32 := 0#32
  let v2976 : Index := Scalar.indexCast c0_i32_1515
  let c0_i32_104 : BitVec 32 := 0#32
  let c1_i32_106 : BitVec 32 := 1#32
  let arg15 : BitVec 32 := Scf.iv c0_i32_104 c1_i32_106 k0_t2
  let v2977 : Index := Scalar.indexCast arg15
  let c3_i32_1516 : BitVec 32 := 3#32
  let v2978 : Index := Scalar.indexCast c3_i32_1516
  let c448_1517 : Index := 448#32
  ![0, v2977.toNat, 3, 448]
def k0_off343 (k0_t2 : Fin k0_t2_loop.trips) : Fin 4 → Nat :=
  let c0_i32_1530 : BitVec 32 := 0#32
  let v3002 : Index := Scalar.indexCast c0_i32_1530
  let c0_i32_104 : BitVec 32 := 0#32
  let c1_i32_106 : BitVec 32 := 1#32
  let arg15 : BitVec 32 := Scf.iv c0_i32_104 c1_i32_106 k0_t2
  let v3003 : Index := Scalar.indexCast arg15
  let c0_i32_1531 : BitVec 32 := 0#32
  let v3004 : Index := Scalar.indexCast c0_i32_1531
  let c448_1532 : Index := 448#32
  ![0, v3003.toNat, 0, 448]
def k0_off344 (k0_t2 : Fin k0_t2_loop.trips) : Fin 4 → Nat :=
  let c0_i32_1533 : BitVec 32 := 0#32
  let v3009 : Index := Scalar.indexCast c0_i32_1533
  let c0_i32_104 : BitVec 32 := 0#32
  let c1_i32_106 : BitVec 32 := 1#32
  let arg15 : BitVec 32 := Scf.iv c0_i32_104 c1_i32_106 k0_t2
  let v3010 : Index := Scalar.indexCast arg15
  let c1_i32_1534 : BitVec 32 := 1#32
  let v3011 : Index := Scalar.indexCast c1_i32_1534
  let c448_1535 : Index := 448#32
  ![0, v3010.toNat, 1, 448]
def k0_off345 (k0_t2 : Fin k0_t2_loop.trips) : Fin 4 → Nat :=
  let c0_i32_1536 : BitVec 32 := 0#32
  let v3016 : Index := Scalar.indexCast c0_i32_1536
  let c0_i32_104 : BitVec 32 := 0#32
  let c1_i32_106 : BitVec 32 := 1#32
  let arg15 : BitVec 32 := Scf.iv c0_i32_104 c1_i32_106 k0_t2
  let v3017 : Index := Scalar.indexCast arg15
  let c2_i32_1537 : BitVec 32 := 2#32
  let v3018 : Index := Scalar.indexCast c2_i32_1537
  let c448_1538 : Index := 448#32
  ![0, v3017.toNat, 2, 448]
def k0_off346 (k0_t2 : Fin k0_t2_loop.trips) : Fin 4 → Nat :=
  let c0_i32_1539 : BitVec 32 := 0#32
  let v3023 : Index := Scalar.indexCast c0_i32_1539
  let c0_i32_104 : BitVec 32 := 0#32
  let c1_i32_106 : BitVec 32 := 1#32
  let arg15 : BitVec 32 := Scf.iv c0_i32_104 c1_i32_106 k0_t2
  let v3024 : Index := Scalar.indexCast arg15
  let c3_i32_1540 : BitVec 32 := 3#32
  let v3025 : Index := Scalar.indexCast c3_i32_1540
  let c448_1541 : Index := 448#32
  ![0, v3024.toNat, 3, 448]
def k0_off347 (k0_t2 : Fin k0_t2_loop.trips) : Fin 4 → Nat :=
  let c0_i32_1542 : BitVec 32 := 0#32
  let v3030 : Index := Scalar.indexCast c0_i32_1542
  let c0_i32_104 : BitVec 32 := 0#32
  let c1_i32_106 : BitVec 32 := 1#32
  let arg15 : BitVec 32 := Scf.iv c0_i32_104 c1_i32_106 k0_t2
  let v3031 : Index := Scalar.indexCast arg15
  let c4_i32_1543 : BitVec 32 := 4#32
  let v3032 : Index := Scalar.indexCast c4_i32_1543
  let c448_1544 : Index := 448#32
  ![0, v3031.toNat, 4, 448]
def k0_off348 (k0_t2 : Fin k0_t2_loop.trips) : Fin 4 → Nat :=
  let c0_i32_1545 : BitVec 32 := 0#32
  let v3037 : Index := Scalar.indexCast c0_i32_1545
  let c0_i32_104 : BitVec 32 := 0#32
  let c1_i32_106 : BitVec 32 := 1#32
  let arg15 : BitVec 32 := Scf.iv c0_i32_104 c1_i32_106 k0_t2
  let v3038 : Index := Scalar.indexCast arg15
  let c5_i32_1546 : BitVec 32 := 5#32
  let v3039 : Index := Scalar.indexCast c5_i32_1546
  let c448_1547 : Index := 448#32
  ![0, v3038.toNat, 5, 448]
def k0_off349 (k0_t2 : Fin k0_t2_loop.trips) : Fin 4 → Nat :=
  let c0_i32_1548 : BitVec 32 := 0#32
  let v3044 : Index := Scalar.indexCast c0_i32_1548
  let c0_i32_104 : BitVec 32 := 0#32
  let c1_i32_106 : BitVec 32 := 1#32
  let arg15 : BitVec 32 := Scf.iv c0_i32_104 c1_i32_106 k0_t2
  let v3045 : Index := Scalar.indexCast arg15
  let c6_i32_1549 : BitVec 32 := 6#32
  let v3046 : Index := Scalar.indexCast c6_i32_1549
  let c448_1550 : Index := 448#32
  ![0, v3045.toNat, 6, 448]
def k0_off350 (k0_t2 : Fin k0_t2_loop.trips) : Fin 4 → Nat :=
  let c0_i32_1552 : BitVec 32 := 0#32
  let v3057 : Index := Scalar.indexCast c0_i32_1552
  let c0_i32_104 : BitVec 32 := 0#32
  let c1_i32_106 : BitVec 32 := 1#32
  let arg15 : BitVec 32 := Scf.iv c0_i32_104 c1_i32_106 k0_t2
  let v3058 : Index := Scalar.indexCast arg15
  let c7_i32_1553 : BitVec 32 := 7#32
  let v3059 : Index := Scalar.indexCast c7_i32_1553
  let c448_1554 : Index := 448#32
  ![0, v3058.toNat, 7, 448]
def k0_off351 (k0_t2 : Fin k0_t2_loop.trips) : Fin 4 → Nat :=
  let c0_i32_1555 : BitVec 32 := 0#32
  let v3063 : Index := Scalar.indexCast c0_i32_1555
  let c0_i32_104 : BitVec 32 := 0#32
  let c1_i32_106 : BitVec 32 := 1#32
  let arg15 : BitVec 32 := Scf.iv c0_i32_104 c1_i32_106 k0_t2
  let v3064 : Index := Scalar.indexCast arg15
  let c0_i32_1556 : BitVec 32 := 0#32
  let v3065 : Index := Scalar.indexCast c0_i32_1556
  let c464 : Index := 464#32
  ![0, v3064.toNat, 0, 464]
def k0_off352 (k0_t2 : Fin k0_t2_loop.trips) : Fin 4 → Nat :=
  let c0_i32_1557 : BitVec 32 := 0#32
  let v3068 : Index := Scalar.indexCast c0_i32_1557
  let c0_i32_104 : BitVec 32 := 0#32
  let c1_i32_106 : BitVec 32 := 1#32
  let arg15 : BitVec 32 := Scf.iv c0_i32_104 c1_i32_106 k0_t2
  let v3069 : Index := Scalar.indexCast arg15
  let c1_i32_1558 : BitVec 32 := 1#32
  let v3070 : Index := Scalar.indexCast c1_i32_1558
  let c464_1559 : Index := 464#32
  ![0, v3069.toNat, 1, 464]
def k0_off353 (k0_t2 : Fin k0_t2_loop.trips) : Fin 4 → Nat :=
  let c0_i32_1560 : BitVec 32 := 0#32
  let v3073 : Index := Scalar.indexCast c0_i32_1560
  let c0_i32_104 : BitVec 32 := 0#32
  let c1_i32_106 : BitVec 32 := 1#32
  let arg15 : BitVec 32 := Scf.iv c0_i32_104 c1_i32_106 k0_t2
  let v3074 : Index := Scalar.indexCast arg15
  let c2_i32_1561 : BitVec 32 := 2#32
  let v3075 : Index := Scalar.indexCast c2_i32_1561
  let c464_1562 : Index := 464#32
  ![0, v3074.toNat, 2, 464]
def k0_off354 (k0_t2 : Fin k0_t2_loop.trips) : Fin 4 → Nat :=
  let c0_i32_1563 : BitVec 32 := 0#32
  let v3078 : Index := Scalar.indexCast c0_i32_1563
  let c0_i32_104 : BitVec 32 := 0#32
  let c1_i32_106 : BitVec 32 := 1#32
  let arg15 : BitVec 32 := Scf.iv c0_i32_104 c1_i32_106 k0_t2
  let v3079 : Index := Scalar.indexCast arg15
  let c3_i32_1564 : BitVec 32 := 3#32
  let v3080 : Index := Scalar.indexCast c3_i32_1564
  let c464_1565 : Index := 464#32
  ![0, v3079.toNat, 3, 464]
def k0_off355 (k0_t2 : Fin k0_t2_loop.trips) : Fin 4 → Nat :=
  let c0_i32_1578 : BitVec 32 := 0#32
  let v3104 : Index := Scalar.indexCast c0_i32_1578
  let c0_i32_104 : BitVec 32 := 0#32
  let c1_i32_106 : BitVec 32 := 1#32
  let arg15 : BitVec 32 := Scf.iv c0_i32_104 c1_i32_106 k0_t2
  let v3105 : Index := Scalar.indexCast arg15
  let c0_i32_1579 : BitVec 32 := 0#32
  let v3106 : Index := Scalar.indexCast c0_i32_1579
  let c464_1580 : Index := 464#32
  ![0, v3105.toNat, 0, 464]
def k0_off356 (k0_t2 : Fin k0_t2_loop.trips) : Fin 4 → Nat :=
  let c0_i32_1581 : BitVec 32 := 0#32
  let v3111 : Index := Scalar.indexCast c0_i32_1581
  let c0_i32_104 : BitVec 32 := 0#32
  let c1_i32_106 : BitVec 32 := 1#32
  let arg15 : BitVec 32 := Scf.iv c0_i32_104 c1_i32_106 k0_t2
  let v3112 : Index := Scalar.indexCast arg15
  let c1_i32_1582 : BitVec 32 := 1#32
  let v3113 : Index := Scalar.indexCast c1_i32_1582
  let c464_1583 : Index := 464#32
  ![0, v3112.toNat, 1, 464]
def k0_off357 (k0_t2 : Fin k0_t2_loop.trips) : Fin 4 → Nat :=
  let c0_i32_1584 : BitVec 32 := 0#32
  let v3118 : Index := Scalar.indexCast c0_i32_1584
  let c0_i32_104 : BitVec 32 := 0#32
  let c1_i32_106 : BitVec 32 := 1#32
  let arg15 : BitVec 32 := Scf.iv c0_i32_104 c1_i32_106 k0_t2
  let v3119 : Index := Scalar.indexCast arg15
  let c2_i32_1585 : BitVec 32 := 2#32
  let v3120 : Index := Scalar.indexCast c2_i32_1585
  let c464_1586 : Index := 464#32
  ![0, v3119.toNat, 2, 464]
def k0_off358 (k0_t2 : Fin k0_t2_loop.trips) : Fin 4 → Nat :=
  let c0_i32_1587 : BitVec 32 := 0#32
  let v3125 : Index := Scalar.indexCast c0_i32_1587
  let c0_i32_104 : BitVec 32 := 0#32
  let c1_i32_106 : BitVec 32 := 1#32
  let arg15 : BitVec 32 := Scf.iv c0_i32_104 c1_i32_106 k0_t2
  let v3126 : Index := Scalar.indexCast arg15
  let c3_i32_1588 : BitVec 32 := 3#32
  let v3127 : Index := Scalar.indexCast c3_i32_1588
  let c464_1589 : Index := 464#32
  ![0, v3126.toNat, 3, 464]
def k0_off359 (k0_t2 : Fin k0_t2_loop.trips) : Fin 4 → Nat :=
  let c0_i32_1590 : BitVec 32 := 0#32
  let v3132 : Index := Scalar.indexCast c0_i32_1590
  let c0_i32_104 : BitVec 32 := 0#32
  let c1_i32_106 : BitVec 32 := 1#32
  let arg15 : BitVec 32 := Scf.iv c0_i32_104 c1_i32_106 k0_t2
  let v3133 : Index := Scalar.indexCast arg15
  let c4_i32_1591 : BitVec 32 := 4#32
  let v3134 : Index := Scalar.indexCast c4_i32_1591
  let c464_1592 : Index := 464#32
  ![0, v3133.toNat, 4, 464]
def k0_off360 (k0_t2 : Fin k0_t2_loop.trips) : Fin 4 → Nat :=
  let c0_i32_1593 : BitVec 32 := 0#32
  let v3139 : Index := Scalar.indexCast c0_i32_1593
  let c0_i32_104 : BitVec 32 := 0#32
  let c1_i32_106 : BitVec 32 := 1#32
  let arg15 : BitVec 32 := Scf.iv c0_i32_104 c1_i32_106 k0_t2
  let v3140 : Index := Scalar.indexCast arg15
  let c5_i32_1594 : BitVec 32 := 5#32
  let v3141 : Index := Scalar.indexCast c5_i32_1594
  let c464_1595 : Index := 464#32
  ![0, v3140.toNat, 5, 464]
def k0_off361 (k0_t2 : Fin k0_t2_loop.trips) : Fin 4 → Nat :=
  let c0_i32_1596 : BitVec 32 := 0#32
  let v3146 : Index := Scalar.indexCast c0_i32_1596
  let c0_i32_104 : BitVec 32 := 0#32
  let c1_i32_106 : BitVec 32 := 1#32
  let arg15 : BitVec 32 := Scf.iv c0_i32_104 c1_i32_106 k0_t2
  let v3147 : Index := Scalar.indexCast arg15
  let c6_i32_1597 : BitVec 32 := 6#32
  let v3148 : Index := Scalar.indexCast c6_i32_1597
  let c464_1598 : Index := 464#32
  ![0, v3147.toNat, 6, 464]
def k0_off362 (k0_t2 : Fin k0_t2_loop.trips) : Fin 4 → Nat :=
  let c0_i32_1600 : BitVec 32 := 0#32
  let v3159 : Index := Scalar.indexCast c0_i32_1600
  let c0_i32_104 : BitVec 32 := 0#32
  let c1_i32_106 : BitVec 32 := 1#32
  let arg15 : BitVec 32 := Scf.iv c0_i32_104 c1_i32_106 k0_t2
  let v3160 : Index := Scalar.indexCast arg15
  let c7_i32_1601 : BitVec 32 := 7#32
  let v3161 : Index := Scalar.indexCast c7_i32_1601
  let c464_1602 : Index := 464#32
  ![0, v3160.toNat, 7, 464]
def k0_off363 (k0_t2 : Fin k0_t2_loop.trips) : Fin 4 → Nat :=
  let c0_i32_1603 : BitVec 32 := 0#32
  let v3165 : Index := Scalar.indexCast c0_i32_1603
  let c0_i32_104 : BitVec 32 := 0#32
  let c1_i32_106 : BitVec 32 := 1#32
  let arg15 : BitVec 32 := Scf.iv c0_i32_104 c1_i32_106 k0_t2
  let v3166 : Index := Scalar.indexCast arg15
  let c0_i32_1604 : BitVec 32 := 0#32
  let v3167 : Index := Scalar.indexCast c0_i32_1604
  let c480 : Index := 480#32
  ![0, v3166.toNat, 0, 480]
def k0_off364 (k0_t2 : Fin k0_t2_loop.trips) : Fin 4 → Nat :=
  let c0_i32_1605 : BitVec 32 := 0#32
  let v3170 : Index := Scalar.indexCast c0_i32_1605
  let c0_i32_104 : BitVec 32 := 0#32
  let c1_i32_106 : BitVec 32 := 1#32
  let arg15 : BitVec 32 := Scf.iv c0_i32_104 c1_i32_106 k0_t2
  let v3171 : Index := Scalar.indexCast arg15
  let c1_i32_1606 : BitVec 32 := 1#32
  let v3172 : Index := Scalar.indexCast c1_i32_1606
  let c480_1607 : Index := 480#32
  ![0, v3171.toNat, 1, 480]
def k0_off365 (k0_t2 : Fin k0_t2_loop.trips) : Fin 4 → Nat :=
  let c0_i32_1608 : BitVec 32 := 0#32
  let v3175 : Index := Scalar.indexCast c0_i32_1608
  let c0_i32_104 : BitVec 32 := 0#32
  let c1_i32_106 : BitVec 32 := 1#32
  let arg15 : BitVec 32 := Scf.iv c0_i32_104 c1_i32_106 k0_t2
  let v3176 : Index := Scalar.indexCast arg15
  let c2_i32_1609 : BitVec 32 := 2#32
  let v3177 : Index := Scalar.indexCast c2_i32_1609
  let c480_1610 : Index := 480#32
  ![0, v3176.toNat, 2, 480]
def k0_off366 (k0_t2 : Fin k0_t2_loop.trips) : Fin 4 → Nat :=
  let c0_i32_1611 : BitVec 32 := 0#32
  let v3180 : Index := Scalar.indexCast c0_i32_1611
  let c0_i32_104 : BitVec 32 := 0#32
  let c1_i32_106 : BitVec 32 := 1#32
  let arg15 : BitVec 32 := Scf.iv c0_i32_104 c1_i32_106 k0_t2
  let v3181 : Index := Scalar.indexCast arg15
  let c3_i32_1612 : BitVec 32 := 3#32
  let v3182 : Index := Scalar.indexCast c3_i32_1612
  let c480_1613 : Index := 480#32
  ![0, v3181.toNat, 3, 480]
def k0_off367 (k0_t2 : Fin k0_t2_loop.trips) : Fin 4 → Nat :=
  let c0_i32_1626 : BitVec 32 := 0#32
  let v3206 : Index := Scalar.indexCast c0_i32_1626
  let c0_i32_104 : BitVec 32 := 0#32
  let c1_i32_106 : BitVec 32 := 1#32
  let arg15 : BitVec 32 := Scf.iv c0_i32_104 c1_i32_106 k0_t2
  let v3207 : Index := Scalar.indexCast arg15
  let c0_i32_1627 : BitVec 32 := 0#32
  let v3208 : Index := Scalar.indexCast c0_i32_1627
  let c480_1628 : Index := 480#32
  ![0, v3207.toNat, 0, 480]
def k0_off368 (k0_t2 : Fin k0_t2_loop.trips) : Fin 4 → Nat :=
  let c0_i32_1629 : BitVec 32 := 0#32
  let v3213 : Index := Scalar.indexCast c0_i32_1629
  let c0_i32_104 : BitVec 32 := 0#32
  let c1_i32_106 : BitVec 32 := 1#32
  let arg15 : BitVec 32 := Scf.iv c0_i32_104 c1_i32_106 k0_t2
  let v3214 : Index := Scalar.indexCast arg15
  let c1_i32_1630 : BitVec 32 := 1#32
  let v3215 : Index := Scalar.indexCast c1_i32_1630
  let c480_1631 : Index := 480#32
  ![0, v3214.toNat, 1, 480]
def k0_off369 (k0_t2 : Fin k0_t2_loop.trips) : Fin 4 → Nat :=
  let c0_i32_1632 : BitVec 32 := 0#32
  let v3220 : Index := Scalar.indexCast c0_i32_1632
  let c0_i32_104 : BitVec 32 := 0#32
  let c1_i32_106 : BitVec 32 := 1#32
  let arg15 : BitVec 32 := Scf.iv c0_i32_104 c1_i32_106 k0_t2
  let v3221 : Index := Scalar.indexCast arg15
  let c2_i32_1633 : BitVec 32 := 2#32
  let v3222 : Index := Scalar.indexCast c2_i32_1633
  let c480_1634 : Index := 480#32
  ![0, v3221.toNat, 2, 480]
def k0_off370 (k0_t2 : Fin k0_t2_loop.trips) : Fin 4 → Nat :=
  let c0_i32_1635 : BitVec 32 := 0#32
  let v3227 : Index := Scalar.indexCast c0_i32_1635
  let c0_i32_104 : BitVec 32 := 0#32
  let c1_i32_106 : BitVec 32 := 1#32
  let arg15 : BitVec 32 := Scf.iv c0_i32_104 c1_i32_106 k0_t2
  let v3228 : Index := Scalar.indexCast arg15
  let c3_i32_1636 : BitVec 32 := 3#32
  let v3229 : Index := Scalar.indexCast c3_i32_1636
  let c480_1637 : Index := 480#32
  ![0, v3228.toNat, 3, 480]
def k0_off371 (k0_t2 : Fin k0_t2_loop.trips) : Fin 4 → Nat :=
  let c0_i32_1638 : BitVec 32 := 0#32
  let v3234 : Index := Scalar.indexCast c0_i32_1638
  let c0_i32_104 : BitVec 32 := 0#32
  let c1_i32_106 : BitVec 32 := 1#32
  let arg15 : BitVec 32 := Scf.iv c0_i32_104 c1_i32_106 k0_t2
  let v3235 : Index := Scalar.indexCast arg15
  let c4_i32_1639 : BitVec 32 := 4#32
  let v3236 : Index := Scalar.indexCast c4_i32_1639
  let c480_1640 : Index := 480#32
  ![0, v3235.toNat, 4, 480]
def k0_off372 (k0_t2 : Fin k0_t2_loop.trips) : Fin 4 → Nat :=
  let c0_i32_1641 : BitVec 32 := 0#32
  let v3241 : Index := Scalar.indexCast c0_i32_1641
  let c0_i32_104 : BitVec 32 := 0#32
  let c1_i32_106 : BitVec 32 := 1#32
  let arg15 : BitVec 32 := Scf.iv c0_i32_104 c1_i32_106 k0_t2
  let v3242 : Index := Scalar.indexCast arg15
  let c5_i32_1642 : BitVec 32 := 5#32
  let v3243 : Index := Scalar.indexCast c5_i32_1642
  let c480_1643 : Index := 480#32
  ![0, v3242.toNat, 5, 480]
def k0_off373 (k0_t2 : Fin k0_t2_loop.trips) : Fin 4 → Nat :=
  let c0_i32_1644 : BitVec 32 := 0#32
  let v3248 : Index := Scalar.indexCast c0_i32_1644
  let c0_i32_104 : BitVec 32 := 0#32
  let c1_i32_106 : BitVec 32 := 1#32
  let arg15 : BitVec 32 := Scf.iv c0_i32_104 c1_i32_106 k0_t2
  let v3249 : Index := Scalar.indexCast arg15
  let c6_i32_1645 : BitVec 32 := 6#32
  let v3250 : Index := Scalar.indexCast c6_i32_1645
  let c480_1646 : Index := 480#32
  ![0, v3249.toNat, 6, 480]
def k0_off374 (k0_t2 : Fin k0_t2_loop.trips) : Fin 4 → Nat :=
  let c0_i32_1648 : BitVec 32 := 0#32
  let v3261 : Index := Scalar.indexCast c0_i32_1648
  let c0_i32_104 : BitVec 32 := 0#32
  let c1_i32_106 : BitVec 32 := 1#32
  let arg15 : BitVec 32 := Scf.iv c0_i32_104 c1_i32_106 k0_t2
  let v3262 : Index := Scalar.indexCast arg15
  let c7_i32_1649 : BitVec 32 := 7#32
  let v3263 : Index := Scalar.indexCast c7_i32_1649
  let c480_1650 : Index := 480#32
  ![0, v3262.toNat, 7, 480]
def k0_off375 (k0_t2 : Fin k0_t2_loop.trips) : Fin 4 → Nat :=
  let c0_i32_1651 : BitVec 32 := 0#32
  let v3267 : Index := Scalar.indexCast c0_i32_1651
  let c0_i32_104 : BitVec 32 := 0#32
  let c1_i32_106 : BitVec 32 := 1#32
  let arg15 : BitVec 32 := Scf.iv c0_i32_104 c1_i32_106 k0_t2
  let v3268 : Index := Scalar.indexCast arg15
  let c0_i32_1652 : BitVec 32 := 0#32
  let v3269 : Index := Scalar.indexCast c0_i32_1652
  let c496 : Index := 496#32
  ![0, v3268.toNat, 0, 496]
def k0_off376 (k0_t2 : Fin k0_t2_loop.trips) : Fin 4 → Nat :=
  let c0_i32_1653 : BitVec 32 := 0#32
  let v3272 : Index := Scalar.indexCast c0_i32_1653
  let c0_i32_104 : BitVec 32 := 0#32
  let c1_i32_106 : BitVec 32 := 1#32
  let arg15 : BitVec 32 := Scf.iv c0_i32_104 c1_i32_106 k0_t2
  let v3273 : Index := Scalar.indexCast arg15
  let c1_i32_1654 : BitVec 32 := 1#32
  let v3274 : Index := Scalar.indexCast c1_i32_1654
  let c496_1655 : Index := 496#32
  ![0, v3273.toNat, 1, 496]
def k0_off377 (k0_t2 : Fin k0_t2_loop.trips) : Fin 4 → Nat :=
  let c0_i32_1656 : BitVec 32 := 0#32
  let v3277 : Index := Scalar.indexCast c0_i32_1656
  let c0_i32_104 : BitVec 32 := 0#32
  let c1_i32_106 : BitVec 32 := 1#32
  let arg15 : BitVec 32 := Scf.iv c0_i32_104 c1_i32_106 k0_t2
  let v3278 : Index := Scalar.indexCast arg15
  let c2_i32_1657 : BitVec 32 := 2#32
  let v3279 : Index := Scalar.indexCast c2_i32_1657
  let c496_1658 : Index := 496#32
  ![0, v3278.toNat, 2, 496]
def k0_off378 (k0_t2 : Fin k0_t2_loop.trips) : Fin 4 → Nat :=
  let c0_i32_1659 : BitVec 32 := 0#32
  let v3282 : Index := Scalar.indexCast c0_i32_1659
  let c0_i32_104 : BitVec 32 := 0#32
  let c1_i32_106 : BitVec 32 := 1#32
  let arg15 : BitVec 32 := Scf.iv c0_i32_104 c1_i32_106 k0_t2
  let v3283 : Index := Scalar.indexCast arg15
  let c3_i32_1660 : BitVec 32 := 3#32
  let v3284 : Index := Scalar.indexCast c3_i32_1660
  let c496_1661 : Index := 496#32
  ![0, v3283.toNat, 3, 496]
def k0_off379 (k0_t2 : Fin k0_t2_loop.trips) : Fin 4 → Nat :=
  let c0_i32_1674 : BitVec 32 := 0#32
  let v3308 : Index := Scalar.indexCast c0_i32_1674
  let c0_i32_104 : BitVec 32 := 0#32
  let c1_i32_106 : BitVec 32 := 1#32
  let arg15 : BitVec 32 := Scf.iv c0_i32_104 c1_i32_106 k0_t2
  let v3309 : Index := Scalar.indexCast arg15
  let c0_i32_1675 : BitVec 32 := 0#32
  let v3310 : Index := Scalar.indexCast c0_i32_1675
  let c496_1676 : Index := 496#32
  ![0, v3309.toNat, 0, 496]
def k0_off380 (k0_t2 : Fin k0_t2_loop.trips) : Fin 4 → Nat :=
  let c0_i32_1677 : BitVec 32 := 0#32
  let v3315 : Index := Scalar.indexCast c0_i32_1677
  let c0_i32_104 : BitVec 32 := 0#32
  let c1_i32_106 : BitVec 32 := 1#32
  let arg15 : BitVec 32 := Scf.iv c0_i32_104 c1_i32_106 k0_t2
  let v3316 : Index := Scalar.indexCast arg15
  let c1_i32_1678 : BitVec 32 := 1#32
  let v3317 : Index := Scalar.indexCast c1_i32_1678
  let c496_1679 : Index := 496#32
  ![0, v3316.toNat, 1, 496]
def k0_off381 (k0_t2 : Fin k0_t2_loop.trips) : Fin 4 → Nat :=
  let c0_i32_1680 : BitVec 32 := 0#32
  let v3322 : Index := Scalar.indexCast c0_i32_1680
  let c0_i32_104 : BitVec 32 := 0#32
  let c1_i32_106 : BitVec 32 := 1#32
  let arg15 : BitVec 32 := Scf.iv c0_i32_104 c1_i32_106 k0_t2
  let v3323 : Index := Scalar.indexCast arg15
  let c2_i32_1681 : BitVec 32 := 2#32
  let v3324 : Index := Scalar.indexCast c2_i32_1681
  let c496_1682 : Index := 496#32
  ![0, v3323.toNat, 2, 496]
def k0_off382 (k0_t2 : Fin k0_t2_loop.trips) : Fin 4 → Nat :=
  let c0_i32_1683 : BitVec 32 := 0#32
  let v3329 : Index := Scalar.indexCast c0_i32_1683
  let c0_i32_104 : BitVec 32 := 0#32
  let c1_i32_106 : BitVec 32 := 1#32
  let arg15 : BitVec 32 := Scf.iv c0_i32_104 c1_i32_106 k0_t2
  let v3330 : Index := Scalar.indexCast arg15
  let c3_i32_1684 : BitVec 32 := 3#32
  let v3331 : Index := Scalar.indexCast c3_i32_1684
  let c496_1685 : Index := 496#32
  ![0, v3330.toNat, 3, 496]
def k0_off383 (k0_t2 : Fin k0_t2_loop.trips) : Fin 4 → Nat :=
  let c0_i32_1686 : BitVec 32 := 0#32
  let v3336 : Index := Scalar.indexCast c0_i32_1686
  let c0_i32_104 : BitVec 32 := 0#32
  let c1_i32_106 : BitVec 32 := 1#32
  let arg15 : BitVec 32 := Scf.iv c0_i32_104 c1_i32_106 k0_t2
  let v3337 : Index := Scalar.indexCast arg15
  let c4_i32_1687 : BitVec 32 := 4#32
  let v3338 : Index := Scalar.indexCast c4_i32_1687
  let c496_1688 : Index := 496#32
  ![0, v3337.toNat, 4, 496]
def k0_off384 (k0_t2 : Fin k0_t2_loop.trips) : Fin 4 → Nat :=
  let c0_i32_1689 : BitVec 32 := 0#32
  let v3343 : Index := Scalar.indexCast c0_i32_1689
  let c0_i32_104 : BitVec 32 := 0#32
  let c1_i32_106 : BitVec 32 := 1#32
  let arg15 : BitVec 32 := Scf.iv c0_i32_104 c1_i32_106 k0_t2
  let v3344 : Index := Scalar.indexCast arg15
  let c5_i32_1690 : BitVec 32 := 5#32
  let v3345 : Index := Scalar.indexCast c5_i32_1690
  let c496_1691 : Index := 496#32
  ![0, v3344.toNat, 5, 496]
def k0_off385 (k0_t2 : Fin k0_t2_loop.trips) : Fin 4 → Nat :=
  let c0_i32_1692 : BitVec 32 := 0#32
  let v3350 : Index := Scalar.indexCast c0_i32_1692
  let c0_i32_104 : BitVec 32 := 0#32
  let c1_i32_106 : BitVec 32 := 1#32
  let arg15 : BitVec 32 := Scf.iv c0_i32_104 c1_i32_106 k0_t2
  let v3351 : Index := Scalar.indexCast arg15
  let c6_i32_1693 : BitVec 32 := 6#32
  let v3352 : Index := Scalar.indexCast c6_i32_1693
  let c496_1694 : Index := 496#32
  ![0, v3351.toNat, 6, 496]
def k0_off386 (k0_t2 : Fin k0_t2_loop.trips) : Fin 4 → Nat :=
  let c0_i32_1696 : BitVec 32 := 0#32
  let v3363 : Index := Scalar.indexCast c0_i32_1696
  let c0_i32_104 : BitVec 32 := 0#32
  let c1_i32_106 : BitVec 32 := 1#32
  let arg15 : BitVec 32 := Scf.iv c0_i32_104 c1_i32_106 k0_t2
  let v3364 : Index := Scalar.indexCast arg15
  let c7_i32_1697 : BitVec 32 := 7#32
  let v3365 : Index := Scalar.indexCast c7_i32_1697
  let c496_1698 : Index := 496#32
  ![0, v3364.toNat, 7, 496]
def k0_off387 (i : grid0.Coords) (k0_t1 : Fin k0_t1_loop.trips) (c0_i32_76 : BitVec 32) : Fin 3 → Nat :=
  let c0_i32_45 : BitVec 32 := 0#32
  let c1_i32_47 : BitVec 32 := 1#32
  let arg14 : BitVec 32 := Scf.iv c0_i32_45 c1_i32_47 k0_t1
  let c2_i32_75 : BitVec 32 := 2#32
  let v43 : BitVec 32 := Scalar.muli arg14 c2_i32_75
  let v44 : BitVec 32 := Scalar.addi v43 c0_i32_76
  let c32_i32_77 : BitVec 32 := 32#32
  let v45 : BitVec 32 := Scalar.muli v44 c32_i32_77
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v46 : BitVec 32 := Scalar.addi v45 v1
  let c4_i32_78 : BitVec 32 := 4#32
  let v47 : BitVec 32 := Scalar.muli v46 c4_i32_78
  let c0_i32_112 : BitVec 32 := 0#32
  let c0_i32_113 : BitVec 32 := 0#32
  ![v47.toNat, 0, 0]
def k0_cond2 (k0_t1 : Fin k0_t1_loop.trips) : BitVec 1 :=
  let c0_i32_45 : BitVec 32 := 0#32
  let c1_i32_47 : BitVec 32 := 1#32
  let arg14 : BitVec 32 := Scf.iv c0_i32_45 c1_i32_47 k0_t1
  let c2_i32_75 : BitVec 32 := 2#32
  let v43 : BitVec 32 := Scalar.muli arg14 c2_i32_75
  let c0_i32_76 : BitVec 32 := 0#32
  let v44 : BitVec 32 := Scalar.addi v43 c0_i32_76
  let c2_i32_119 : BitVec 32 := 2#32
  let v70 : BitVec 32 := Scalar.addi v44 c2_i32_119
  let c64_i32 : BitVec 32 := 64#32
  let v71 : BitVec 1 := Scalar.cmpi .slt v70 c64_i32
  let v72 : BitVec 32 := Scalar.extui v71
  let c0_i32_120 : BitVec 32 := 0#32
  let v73 : BitVec 1 := Scalar.cmpi .ne v72 c0_i32_120
  v73

def k0_off388 (i : grid0.Coords) (k0_t1 : Fin k0_t1_loop.trips) : Fin 3 → Nat :=
  let c0_i32_45 : BitVec 32 := 0#32
  let c1_i32_47 : BitVec 32 := 1#32
  let arg14 : BitVec 32 := Scf.iv c0_i32_45 c1_i32_47 k0_t1
  let c2_i32_75 : BitVec 32 := 2#32
  let v43 : BitVec 32 := Scalar.muli arg14 c2_i32_75
  let c0_i32_76 : BitVec 32 := 0#32
  let v44 : BitVec 32 := Scalar.addi v43 c0_i32_76
  let c2_i32_168 : BitVec 32 := 2#32
  let v105 : BitVec 32 := Scalar.addi v44 c2_i32_168
  let c32_i32_169 : BitVec 32 := 32#32
  let v106 : BitVec 32 := Scalar.muli v105 c32_i32_169
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v107 : BitVec 32 := Scalar.addi v106 v1
  let c4_i32_170 : BitVec 32 := 4#32
  let v108 : BitVec 32 := Scalar.muli v107 c4_i32_170
  let c0_i32_175 : BitVec 32 := 0#32
  let c0_i32_176 : BitVec 32 := 0#32
  ![v108.toNat, 0, 0]
@[reducible] def k0_t3_loop : Scf.Loop 32 :=
  let c0_i32_150 : BitVec 32 := 0#32
  let c4_i32_151 : BitVec 32 := 4#32
  let v94 : BitVec 32 := Scalar.addi c0_i32_150 c4_i32_151
  let c1_i32_152 : BitVec 32 := 1#32
  ⟨c0_i32_150, v94, c1_i32_152⟩
def k0_off389 (k0_t3 : Fin k0_t3_loop.trips) : Fin 4 → Nat :=
  let c1_i32_168 : BitVec 32 := 1#32
  let v105 : Index := Scalar.indexCast c1_i32_168
  let c0_i32_150 : BitVec 32 := 0#32
  let c1_i32_152 : BitVec 32 := 1#32
  let arg15 : BitVec 32 := Scf.iv c0_i32_150 c1_i32_152 k0_t3
  let v106 : Index := Scalar.indexCast arg15
  let c0_i32_169 : BitVec 32 := 0#32
  let v107 : Index := Scalar.indexCast c0_i32_169
  let c0 : Index := 0#32
  ![1, v106.toNat, 0, 0]
def k0_off390 (k0_t3 : Fin k0_t3_loop.trips) : Fin 4 → Nat :=
  let c1_i32_170 : BitVec 32 := 1#32
  let v110 : Index := Scalar.indexCast c1_i32_170
  let c0_i32_150 : BitVec 32 := 0#32
  let c1_i32_152 : BitVec 32 := 1#32
  let arg15 : BitVec 32 := Scf.iv c0_i32_150 c1_i32_152 k0_t3
  let v111 : Index := Scalar.indexCast arg15
  let c1_i32_171 : BitVec 32 := 1#32
  let v112 : Index := Scalar.indexCast c1_i32_171
  let c0_172 : Index := 0#32
  ![1, v111.toNat, 1, 0]
def k0_off391 (k0_t3 : Fin k0_t3_loop.trips) : Fin 4 → Nat :=
  let c1_i32_173 : BitVec 32 := 1#32
  let v115 : Index := Scalar.indexCast c1_i32_173
  let c0_i32_150 : BitVec 32 := 0#32
  let c1_i32_152 : BitVec 32 := 1#32
  let arg15 : BitVec 32 := Scf.iv c0_i32_150 c1_i32_152 k0_t3
  let v116 : Index := Scalar.indexCast arg15
  let c2_i32_174 : BitVec 32 := 2#32
  let v117 : Index := Scalar.indexCast c2_i32_174
  let c0_175 : Index := 0#32
  ![1, v116.toNat, 2, 0]
def k0_off392 (k0_t3 : Fin k0_t3_loop.trips) : Fin 4 → Nat :=
  let c1_i32_176 : BitVec 32 := 1#32
  let v120 : Index := Scalar.indexCast c1_i32_176
  let c0_i32_150 : BitVec 32 := 0#32
  let c1_i32_152 : BitVec 32 := 1#32
  let arg15 : BitVec 32 := Scf.iv c0_i32_150 c1_i32_152 k0_t3
  let v121 : Index := Scalar.indexCast arg15
  let c3_i32 : BitVec 32 := 3#32
  let v122 : Index := Scalar.indexCast c3_i32
  let c0_177 : Index := 0#32
  ![1, v121.toNat, 3, 0]
def k0_off393 (k0_t3 : Fin k0_t3_loop.trips) : Fin 4 → Nat :=
  let c1_i32_190 : BitVec 32 := 1#32
  let v146 : Index := Scalar.indexCast c1_i32_190
  let c0_i32_150 : BitVec 32 := 0#32
  let c1_i32_152 : BitVec 32 := 1#32
  let arg15 : BitVec 32 := Scf.iv c0_i32_150 c1_i32_152 k0_t3
  let v147 : Index := Scalar.indexCast arg15
  let c0_i32_191 : BitVec 32 := 0#32
  let v148 : Index := Scalar.indexCast c0_i32_191
  let c0_192 : Index := 0#32
  ![1, v147.toNat, 0, 0]
def k0_off394 (k0_t3 : Fin k0_t3_loop.trips) : Fin 4 → Nat :=
  let c1_i32_193 : BitVec 32 := 1#32
  let v153 : Index := Scalar.indexCast c1_i32_193
  let c0_i32_150 : BitVec 32 := 0#32
  let c1_i32_152 : BitVec 32 := 1#32
  let arg15 : BitVec 32 := Scf.iv c0_i32_150 c1_i32_152 k0_t3
  let v154 : Index := Scalar.indexCast arg15
  let c1_i32_194 : BitVec 32 := 1#32
  let v155 : Index := Scalar.indexCast c1_i32_194
  let c0_195 : Index := 0#32
  ![1, v154.toNat, 1, 0]
def k0_off395 (k0_t3 : Fin k0_t3_loop.trips) : Fin 4 → Nat :=
  let c1_i32_196 : BitVec 32 := 1#32
  let v160 : Index := Scalar.indexCast c1_i32_196
  let c0_i32_150 : BitVec 32 := 0#32
  let c1_i32_152 : BitVec 32 := 1#32
  let arg15 : BitVec 32 := Scf.iv c0_i32_150 c1_i32_152 k0_t3
  let v161 : Index := Scalar.indexCast arg15
  let c2_i32_197 : BitVec 32 := 2#32
  let v162 : Index := Scalar.indexCast c2_i32_197
  let c0_198 : Index := 0#32
  ![1, v161.toNat, 2, 0]
def k0_off396 (k0_t3 : Fin k0_t3_loop.trips) : Fin 4 → Nat :=
  let c1_i32_199 : BitVec 32 := 1#32
  let v167 : Index := Scalar.indexCast c1_i32_199
  let c0_i32_150 : BitVec 32 := 0#32
  let c1_i32_152 : BitVec 32 := 1#32
  let arg15 : BitVec 32 := Scf.iv c0_i32_150 c1_i32_152 k0_t3
  let v168 : Index := Scalar.indexCast arg15
  let c3_i32_200 : BitVec 32 := 3#32
  let v169 : Index := Scalar.indexCast c3_i32_200
  let c0_201 : Index := 0#32
  ![1, v168.toNat, 3, 0]
def k0_off397 (k0_t3 : Fin k0_t3_loop.trips) : Fin 4 → Nat :=
  let c1_i32_202 : BitVec 32 := 1#32
  let v174 : Index := Scalar.indexCast c1_i32_202
  let c0_i32_150 : BitVec 32 := 0#32
  let c1_i32_152 : BitVec 32 := 1#32
  let arg15 : BitVec 32 := Scf.iv c0_i32_150 c1_i32_152 k0_t3
  let v175 : Index := Scalar.indexCast arg15
  let c4_i32_203 : BitVec 32 := 4#32
  let v176 : Index := Scalar.indexCast c4_i32_203
  let c0_204 : Index := 0#32
  ![1, v175.toNat, 4, 0]
def k0_off398 (k0_t3 : Fin k0_t3_loop.trips) : Fin 4 → Nat :=
  let c1_i32_205 : BitVec 32 := 1#32
  let v181 : Index := Scalar.indexCast c1_i32_205
  let c0_i32_150 : BitVec 32 := 0#32
  let c1_i32_152 : BitVec 32 := 1#32
  let arg15 : BitVec 32 := Scf.iv c0_i32_150 c1_i32_152 k0_t3
  let v182 : Index := Scalar.indexCast arg15
  let c5_i32 : BitVec 32 := 5#32
  let v183 : Index := Scalar.indexCast c5_i32
  let c0_206 : Index := 0#32
  ![1, v182.toNat, 5, 0]
def k0_off399 (k0_t3 : Fin k0_t3_loop.trips) : Fin 4 → Nat :=
  let c1_i32_207 : BitVec 32 := 1#32
  let v188 : Index := Scalar.indexCast c1_i32_207
  let c0_i32_150 : BitVec 32 := 0#32
  let c1_i32_152 : BitVec 32 := 1#32
  let arg15 : BitVec 32 := Scf.iv c0_i32_150 c1_i32_152 k0_t3
  let v189 : Index := Scalar.indexCast arg15
  let c6_i32 : BitVec 32 := 6#32
  let v190 : Index := Scalar.indexCast c6_i32
  let c0_208 : Index := 0#32
  ![1, v189.toNat, 6, 0]
def k0_off400 (k0_t3 : Fin k0_t3_loop.trips) : Fin 4 → Nat :=
  let c1_i32_209 : BitVec 32 := 1#32
  let v201 : Index := Scalar.indexCast c1_i32_209
  let c0_i32_150 : BitVec 32 := 0#32
  let c1_i32_152 : BitVec 32 := 1#32
  let arg15 : BitVec 32 := Scf.iv c0_i32_150 c1_i32_152 k0_t3
  let v202 : Index := Scalar.indexCast arg15
  let c7_i32 : BitVec 32 := 7#32
  let v203 : Index := Scalar.indexCast c7_i32
  let c0_210 : Index := 0#32
  ![1, v202.toNat, 7, 0]
def k0_off401 (k0_t3 : Fin k0_t3_loop.trips) : Fin 4 → Nat :=
  let c1_i32_211 : BitVec 32 := 1#32
  let v207 : Index := Scalar.indexCast c1_i32_211
  let c0_i32_150 : BitVec 32 := 0#32
  let c1_i32_152 : BitVec 32 := 1#32
  let arg15 : BitVec 32 := Scf.iv c0_i32_150 c1_i32_152 k0_t3
  let v208 : Index := Scalar.indexCast arg15
  let c0_i32_212 : BitVec 32 := 0#32
  let v209 : Index := Scalar.indexCast c0_i32_212
  let c16 : Index := 16#32
  ![1, v208.toNat, 0, 16]
def k0_off402 (k0_t3 : Fin k0_t3_loop.trips) : Fin 4 → Nat :=
  let c1_i32_213 : BitVec 32 := 1#32
  let v212 : Index := Scalar.indexCast c1_i32_213
  let c0_i32_150 : BitVec 32 := 0#32
  let c1_i32_152 : BitVec 32 := 1#32
  let arg15 : BitVec 32 := Scf.iv c0_i32_150 c1_i32_152 k0_t3
  let v213 : Index := Scalar.indexCast arg15
  let c1_i32_214 : BitVec 32 := 1#32
  let v214 : Index := Scalar.indexCast c1_i32_214
  let c16_215 : Index := 16#32
  ![1, v213.toNat, 1, 16]
def k0_off403 (k0_t3 : Fin k0_t3_loop.trips) : Fin 4 → Nat :=
  let c1_i32_216 : BitVec 32 := 1#32
  let v217 : Index := Scalar.indexCast c1_i32_216
  let c0_i32_150 : BitVec 32 := 0#32
  let c1_i32_152 : BitVec 32 := 1#32
  let arg15 : BitVec 32 := Scf.iv c0_i32_150 c1_i32_152 k0_t3
  let v218 : Index := Scalar.indexCast arg15
  let c2_i32_217 : BitVec 32 := 2#32
  let v219 : Index := Scalar.indexCast c2_i32_217
  let c16_218 : Index := 16#32
  ![1, v218.toNat, 2, 16]
def k0_off404 (k0_t3 : Fin k0_t3_loop.trips) : Fin 4 → Nat :=
  let c1_i32_219 : BitVec 32 := 1#32
  let v222 : Index := Scalar.indexCast c1_i32_219
  let c0_i32_150 : BitVec 32 := 0#32
  let c1_i32_152 : BitVec 32 := 1#32
  let arg15 : BitVec 32 := Scf.iv c0_i32_150 c1_i32_152 k0_t3
  let v223 : Index := Scalar.indexCast arg15
  let c3_i32_220 : BitVec 32 := 3#32
  let v224 : Index := Scalar.indexCast c3_i32_220
  let c16_221 : Index := 16#32
  ![1, v223.toNat, 3, 16]
def k0_off405 (k0_t3 : Fin k0_t3_loop.trips) : Fin 4 → Nat :=
  let c1_i32_234 : BitVec 32 := 1#32
  let v248 : Index := Scalar.indexCast c1_i32_234
  let c0_i32_150 : BitVec 32 := 0#32
  let c1_i32_152 : BitVec 32 := 1#32
  let arg15 : BitVec 32 := Scf.iv c0_i32_150 c1_i32_152 k0_t3
  let v249 : Index := Scalar.indexCast arg15
  let c0_i32_235 : BitVec 32 := 0#32
  let v250 : Index := Scalar.indexCast c0_i32_235
  let c16_236 : Index := 16#32
  ![1, v249.toNat, 0, 16]
def k0_off406 (k0_t3 : Fin k0_t3_loop.trips) : Fin 4 → Nat :=
  let c1_i32_237 : BitVec 32 := 1#32
  let v255 : Index := Scalar.indexCast c1_i32_237
  let c0_i32_150 : BitVec 32 := 0#32
  let c1_i32_152 : BitVec 32 := 1#32
  let arg15 : BitVec 32 := Scf.iv c0_i32_150 c1_i32_152 k0_t3
  let v256 : Index := Scalar.indexCast arg15
  let c1_i32_238 : BitVec 32 := 1#32
  let v257 : Index := Scalar.indexCast c1_i32_238
  let c16_239 : Index := 16#32
  ![1, v256.toNat, 1, 16]
def k0_off407 (k0_t3 : Fin k0_t3_loop.trips) : Fin 4 → Nat :=
  let c1_i32_240 : BitVec 32 := 1#32
  let v262 : Index := Scalar.indexCast c1_i32_240
  let c0_i32_150 : BitVec 32 := 0#32
  let c1_i32_152 : BitVec 32 := 1#32
  let arg15 : BitVec 32 := Scf.iv c0_i32_150 c1_i32_152 k0_t3
  let v263 : Index := Scalar.indexCast arg15
  let c2_i32_241 : BitVec 32 := 2#32
  let v264 : Index := Scalar.indexCast c2_i32_241
  let c16_242 : Index := 16#32
  ![1, v263.toNat, 2, 16]
def k0_off408 (k0_t3 : Fin k0_t3_loop.trips) : Fin 4 → Nat :=
  let c1_i32_243 : BitVec 32 := 1#32
  let v269 : Index := Scalar.indexCast c1_i32_243
  let c0_i32_150 : BitVec 32 := 0#32
  let c1_i32_152 : BitVec 32 := 1#32
  let arg15 : BitVec 32 := Scf.iv c0_i32_150 c1_i32_152 k0_t3
  let v270 : Index := Scalar.indexCast arg15
  let c3_i32_244 : BitVec 32 := 3#32
  let v271 : Index := Scalar.indexCast c3_i32_244
  let c16_245 : Index := 16#32
  ![1, v270.toNat, 3, 16]
def k0_off409 (k0_t3 : Fin k0_t3_loop.trips) : Fin 4 → Nat :=
  let c1_i32_246 : BitVec 32 := 1#32
  let v276 : Index := Scalar.indexCast c1_i32_246
  let c0_i32_150 : BitVec 32 := 0#32
  let c1_i32_152 : BitVec 32 := 1#32
  let arg15 : BitVec 32 := Scf.iv c0_i32_150 c1_i32_152 k0_t3
  let v277 : Index := Scalar.indexCast arg15
  let c4_i32_247 : BitVec 32 := 4#32
  let v278 : Index := Scalar.indexCast c4_i32_247
  let c16_248 : Index := 16#32
  ![1, v277.toNat, 4, 16]
def k0_off410 (k0_t3 : Fin k0_t3_loop.trips) : Fin 4 → Nat :=
  let c1_i32_249 : BitVec 32 := 1#32
  let v283 : Index := Scalar.indexCast c1_i32_249
  let c0_i32_150 : BitVec 32 := 0#32
  let c1_i32_152 : BitVec 32 := 1#32
  let arg15 : BitVec 32 := Scf.iv c0_i32_150 c1_i32_152 k0_t3
  let v284 : Index := Scalar.indexCast arg15
  let c5_i32_250 : BitVec 32 := 5#32
  let v285 : Index := Scalar.indexCast c5_i32_250
  let c16_251 : Index := 16#32
  ![1, v284.toNat, 5, 16]
def k0_off411 (k0_t3 : Fin k0_t3_loop.trips) : Fin 4 → Nat :=
  let c1_i32_252 : BitVec 32 := 1#32
  let v290 : Index := Scalar.indexCast c1_i32_252
  let c0_i32_150 : BitVec 32 := 0#32
  let c1_i32_152 : BitVec 32 := 1#32
  let arg15 : BitVec 32 := Scf.iv c0_i32_150 c1_i32_152 k0_t3
  let v291 : Index := Scalar.indexCast arg15
  let c6_i32_253 : BitVec 32 := 6#32
  let v292 : Index := Scalar.indexCast c6_i32_253
  let c16_254 : Index := 16#32
  ![1, v291.toNat, 6, 16]
def k0_off412 (k0_t3 : Fin k0_t3_loop.trips) : Fin 4 → Nat :=
  let c1_i32_256 : BitVec 32 := 1#32
  let v303 : Index := Scalar.indexCast c1_i32_256
  let c0_i32_150 : BitVec 32 := 0#32
  let c1_i32_152 : BitVec 32 := 1#32
  let arg15 : BitVec 32 := Scf.iv c0_i32_150 c1_i32_152 k0_t3
  let v304 : Index := Scalar.indexCast arg15
  let c7_i32_257 : BitVec 32 := 7#32
  let v305 : Index := Scalar.indexCast c7_i32_257
  let c16_258 : Index := 16#32
  ![1, v304.toNat, 7, 16]
def k0_off413 (k0_t3 : Fin k0_t3_loop.trips) : Fin 4 → Nat :=
  let c1_i32_259 : BitVec 32 := 1#32
  let v309 : Index := Scalar.indexCast c1_i32_259
  let c0_i32_150 : BitVec 32 := 0#32
  let c1_i32_152 : BitVec 32 := 1#32
  let arg15 : BitVec 32 := Scf.iv c0_i32_150 c1_i32_152 k0_t3
  let v310 : Index := Scalar.indexCast arg15
  let c0_i32_260 : BitVec 32 := 0#32
  let v311 : Index := Scalar.indexCast c0_i32_260
  let c32 : Index := 32#32
  ![1, v310.toNat, 0, 32]
def k0_off414 (k0_t3 : Fin k0_t3_loop.trips) : Fin 4 → Nat :=
  let c1_i32_261 : BitVec 32 := 1#32
  let v314 : Index := Scalar.indexCast c1_i32_261
  let c0_i32_150 : BitVec 32 := 0#32
  let c1_i32_152 : BitVec 32 := 1#32
  let arg15 : BitVec 32 := Scf.iv c0_i32_150 c1_i32_152 k0_t3
  let v315 : Index := Scalar.indexCast arg15
  let c1_i32_262 : BitVec 32 := 1#32
  let v316 : Index := Scalar.indexCast c1_i32_262
  let c32_263 : Index := 32#32
  ![1, v315.toNat, 1, 32]
def k0_off415 (k0_t3 : Fin k0_t3_loop.trips) : Fin 4 → Nat :=
  let c1_i32_264 : BitVec 32 := 1#32
  let v319 : Index := Scalar.indexCast c1_i32_264
  let c0_i32_150 : BitVec 32 := 0#32
  let c1_i32_152 : BitVec 32 := 1#32
  let arg15 : BitVec 32 := Scf.iv c0_i32_150 c1_i32_152 k0_t3
  let v320 : Index := Scalar.indexCast arg15
  let c2_i32_265 : BitVec 32 := 2#32
  let v321 : Index := Scalar.indexCast c2_i32_265
  let c32_266 : Index := 32#32
  ![1, v320.toNat, 2, 32]
def k0_off416 (k0_t3 : Fin k0_t3_loop.trips) : Fin 4 → Nat :=
  let c1_i32_267 : BitVec 32 := 1#32
  let v324 : Index := Scalar.indexCast c1_i32_267
  let c0_i32_150 : BitVec 32 := 0#32
  let c1_i32_152 : BitVec 32 := 1#32
  let arg15 : BitVec 32 := Scf.iv c0_i32_150 c1_i32_152 k0_t3
  let v325 : Index := Scalar.indexCast arg15
  let c3_i32_268 : BitVec 32 := 3#32
  let v326 : Index := Scalar.indexCast c3_i32_268
  let c32_269 : Index := 32#32
  ![1, v325.toNat, 3, 32]
def k0_off417 (k0_t3 : Fin k0_t3_loop.trips) : Fin 4 → Nat :=
  let c1_i32_282 : BitVec 32 := 1#32
  let v350 : Index := Scalar.indexCast c1_i32_282
  let c0_i32_150 : BitVec 32 := 0#32
  let c1_i32_152 : BitVec 32 := 1#32
  let arg15 : BitVec 32 := Scf.iv c0_i32_150 c1_i32_152 k0_t3
  let v351 : Index := Scalar.indexCast arg15
  let c0_i32_283 : BitVec 32 := 0#32
  let v352 : Index := Scalar.indexCast c0_i32_283
  let c32_284 : Index := 32#32
  ![1, v351.toNat, 0, 32]
def k0_off418 (k0_t3 : Fin k0_t3_loop.trips) : Fin 4 → Nat :=
  let c1_i32_285 : BitVec 32 := 1#32
  let v357 : Index := Scalar.indexCast c1_i32_285
  let c0_i32_150 : BitVec 32 := 0#32
  let c1_i32_152 : BitVec 32 := 1#32
  let arg15 : BitVec 32 := Scf.iv c0_i32_150 c1_i32_152 k0_t3
  let v358 : Index := Scalar.indexCast arg15
  let c1_i32_286 : BitVec 32 := 1#32
  let v359 : Index := Scalar.indexCast c1_i32_286
  let c32_287 : Index := 32#32
  ![1, v358.toNat, 1, 32]
def k0_off419 (k0_t3 : Fin k0_t3_loop.trips) : Fin 4 → Nat :=
  let c1_i32_288 : BitVec 32 := 1#32
  let v364 : Index := Scalar.indexCast c1_i32_288
  let c0_i32_150 : BitVec 32 := 0#32
  let c1_i32_152 : BitVec 32 := 1#32
  let arg15 : BitVec 32 := Scf.iv c0_i32_150 c1_i32_152 k0_t3
  let v365 : Index := Scalar.indexCast arg15
  let c2_i32_289 : BitVec 32 := 2#32
  let v366 : Index := Scalar.indexCast c2_i32_289
  let c32_290 : Index := 32#32
  ![1, v365.toNat, 2, 32]
def k0_off420 (k0_t3 : Fin k0_t3_loop.trips) : Fin 4 → Nat :=
  let c1_i32_291 : BitVec 32 := 1#32
  let v371 : Index := Scalar.indexCast c1_i32_291
  let c0_i32_150 : BitVec 32 := 0#32
  let c1_i32_152 : BitVec 32 := 1#32
  let arg15 : BitVec 32 := Scf.iv c0_i32_150 c1_i32_152 k0_t3
  let v372 : Index := Scalar.indexCast arg15
  let c3_i32_292 : BitVec 32 := 3#32
  let v373 : Index := Scalar.indexCast c3_i32_292
  let c32_293 : Index := 32#32
  ![1, v372.toNat, 3, 32]
def k0_off421 (k0_t3 : Fin k0_t3_loop.trips) : Fin 4 → Nat :=
  let c1_i32_294 : BitVec 32 := 1#32
  let v378 : Index := Scalar.indexCast c1_i32_294
  let c0_i32_150 : BitVec 32 := 0#32
  let c1_i32_152 : BitVec 32 := 1#32
  let arg15 : BitVec 32 := Scf.iv c0_i32_150 c1_i32_152 k0_t3
  let v379 : Index := Scalar.indexCast arg15
  let c4_i32_295 : BitVec 32 := 4#32
  let v380 : Index := Scalar.indexCast c4_i32_295
  let c32_296 : Index := 32#32
  ![1, v379.toNat, 4, 32]
def k0_off422 (k0_t3 : Fin k0_t3_loop.trips) : Fin 4 → Nat :=
  let c1_i32_297 : BitVec 32 := 1#32
  let v385 : Index := Scalar.indexCast c1_i32_297
  let c0_i32_150 : BitVec 32 := 0#32
  let c1_i32_152 : BitVec 32 := 1#32
  let arg15 : BitVec 32 := Scf.iv c0_i32_150 c1_i32_152 k0_t3
  let v386 : Index := Scalar.indexCast arg15
  let c5_i32_298 : BitVec 32 := 5#32
  let v387 : Index := Scalar.indexCast c5_i32_298
  let c32_299 : Index := 32#32
  ![1, v386.toNat, 5, 32]
def k0_off423 (k0_t3 : Fin k0_t3_loop.trips) : Fin 4 → Nat :=
  let c1_i32_300 : BitVec 32 := 1#32
  let v392 : Index := Scalar.indexCast c1_i32_300
  let c0_i32_150 : BitVec 32 := 0#32
  let c1_i32_152 : BitVec 32 := 1#32
  let arg15 : BitVec 32 := Scf.iv c0_i32_150 c1_i32_152 k0_t3
  let v393 : Index := Scalar.indexCast arg15
  let c6_i32_301 : BitVec 32 := 6#32
  let v394 : Index := Scalar.indexCast c6_i32_301
  let c32_302 : Index := 32#32
  ![1, v393.toNat, 6, 32]
def k0_off424 (k0_t3 : Fin k0_t3_loop.trips) : Fin 4 → Nat :=
  let c1_i32_304 : BitVec 32 := 1#32
  let v405 : Index := Scalar.indexCast c1_i32_304
  let c0_i32_150 : BitVec 32 := 0#32
  let c1_i32_152 : BitVec 32 := 1#32
  let arg15 : BitVec 32 := Scf.iv c0_i32_150 c1_i32_152 k0_t3
  let v406 : Index := Scalar.indexCast arg15
  let c7_i32_305 : BitVec 32 := 7#32
  let v407 : Index := Scalar.indexCast c7_i32_305
  let c32_306 : Index := 32#32
  ![1, v406.toNat, 7, 32]
def k0_off425 (k0_t3 : Fin k0_t3_loop.trips) : Fin 4 → Nat :=
  let c1_i32_307 : BitVec 32 := 1#32
  let v411 : Index := Scalar.indexCast c1_i32_307
  let c0_i32_150 : BitVec 32 := 0#32
  let c1_i32_152 : BitVec 32 := 1#32
  let arg15 : BitVec 32 := Scf.iv c0_i32_150 c1_i32_152 k0_t3
  let v412 : Index := Scalar.indexCast arg15
  let c0_i32_308 : BitVec 32 := 0#32
  let v413 : Index := Scalar.indexCast c0_i32_308
  let c48 : Index := 48#32
  ![1, v412.toNat, 0, 48]
def k0_off426 (k0_t3 : Fin k0_t3_loop.trips) : Fin 4 → Nat :=
  let c1_i32_309 : BitVec 32 := 1#32
  let v416 : Index := Scalar.indexCast c1_i32_309
  let c0_i32_150 : BitVec 32 := 0#32
  let c1_i32_152 : BitVec 32 := 1#32
  let arg15 : BitVec 32 := Scf.iv c0_i32_150 c1_i32_152 k0_t3
  let v417 : Index := Scalar.indexCast arg15
  let c1_i32_310 : BitVec 32 := 1#32
  let v418 : Index := Scalar.indexCast c1_i32_310
  let c48_311 : Index := 48#32
  ![1, v417.toNat, 1, 48]
def k0_off427 (k0_t3 : Fin k0_t3_loop.trips) : Fin 4 → Nat :=
  let c1_i32_312 : BitVec 32 := 1#32
  let v421 : Index := Scalar.indexCast c1_i32_312
  let c0_i32_150 : BitVec 32 := 0#32
  let c1_i32_152 : BitVec 32 := 1#32
  let arg15 : BitVec 32 := Scf.iv c0_i32_150 c1_i32_152 k0_t3
  let v422 : Index := Scalar.indexCast arg15
  let c2_i32_313 : BitVec 32 := 2#32
  let v423 : Index := Scalar.indexCast c2_i32_313
  let c48_314 : Index := 48#32
  ![1, v422.toNat, 2, 48]
def k0_off428 (k0_t3 : Fin k0_t3_loop.trips) : Fin 4 → Nat :=
  let c1_i32_315 : BitVec 32 := 1#32
  let v426 : Index := Scalar.indexCast c1_i32_315
  let c0_i32_150 : BitVec 32 := 0#32
  let c1_i32_152 : BitVec 32 := 1#32
  let arg15 : BitVec 32 := Scf.iv c0_i32_150 c1_i32_152 k0_t3
  let v427 : Index := Scalar.indexCast arg15
  let c3_i32_316 : BitVec 32 := 3#32
  let v428 : Index := Scalar.indexCast c3_i32_316
  let c48_317 : Index := 48#32
  ![1, v427.toNat, 3, 48]
def k0_off429 (k0_t3 : Fin k0_t3_loop.trips) : Fin 4 → Nat :=
  let c1_i32_330 : BitVec 32 := 1#32
  let v452 : Index := Scalar.indexCast c1_i32_330
  let c0_i32_150 : BitVec 32 := 0#32
  let c1_i32_152 : BitVec 32 := 1#32
  let arg15 : BitVec 32 := Scf.iv c0_i32_150 c1_i32_152 k0_t3
  let v453 : Index := Scalar.indexCast arg15
  let c0_i32_331 : BitVec 32 := 0#32
  let v454 : Index := Scalar.indexCast c0_i32_331
  let c48_332 : Index := 48#32
  ![1, v453.toNat, 0, 48]
def k0_off430 (k0_t3 : Fin k0_t3_loop.trips) : Fin 4 → Nat :=
  let c1_i32_333 : BitVec 32 := 1#32
  let v459 : Index := Scalar.indexCast c1_i32_333
  let c0_i32_150 : BitVec 32 := 0#32
  let c1_i32_152 : BitVec 32 := 1#32
  let arg15 : BitVec 32 := Scf.iv c0_i32_150 c1_i32_152 k0_t3
  let v460 : Index := Scalar.indexCast arg15
  let c1_i32_334 : BitVec 32 := 1#32
  let v461 : Index := Scalar.indexCast c1_i32_334
  let c48_335 : Index := 48#32
  ![1, v460.toNat, 1, 48]
def k0_off431 (k0_t3 : Fin k0_t3_loop.trips) : Fin 4 → Nat :=
  let c1_i32_336 : BitVec 32 := 1#32
  let v466 : Index := Scalar.indexCast c1_i32_336
  let c0_i32_150 : BitVec 32 := 0#32
  let c1_i32_152 : BitVec 32 := 1#32
  let arg15 : BitVec 32 := Scf.iv c0_i32_150 c1_i32_152 k0_t3
  let v467 : Index := Scalar.indexCast arg15
  let c2_i32_337 : BitVec 32 := 2#32
  let v468 : Index := Scalar.indexCast c2_i32_337
  let c48_338 : Index := 48#32
  ![1, v467.toNat, 2, 48]
def k0_off432 (k0_t3 : Fin k0_t3_loop.trips) : Fin 4 → Nat :=
  let c1_i32_339 : BitVec 32 := 1#32
  let v473 : Index := Scalar.indexCast c1_i32_339
  let c0_i32_150 : BitVec 32 := 0#32
  let c1_i32_152 : BitVec 32 := 1#32
  let arg15 : BitVec 32 := Scf.iv c0_i32_150 c1_i32_152 k0_t3
  let v474 : Index := Scalar.indexCast arg15
  let c3_i32_340 : BitVec 32 := 3#32
  let v475 : Index := Scalar.indexCast c3_i32_340
  let c48_341 : Index := 48#32
  ![1, v474.toNat, 3, 48]
def k0_off433 (k0_t3 : Fin k0_t3_loop.trips) : Fin 4 → Nat :=
  let c1_i32_342 : BitVec 32 := 1#32
  let v480 : Index := Scalar.indexCast c1_i32_342
  let c0_i32_150 : BitVec 32 := 0#32
  let c1_i32_152 : BitVec 32 := 1#32
  let arg15 : BitVec 32 := Scf.iv c0_i32_150 c1_i32_152 k0_t3
  let v481 : Index := Scalar.indexCast arg15
  let c4_i32_343 : BitVec 32 := 4#32
  let v482 : Index := Scalar.indexCast c4_i32_343
  let c48_344 : Index := 48#32
  ![1, v481.toNat, 4, 48]
def k0_off434 (k0_t3 : Fin k0_t3_loop.trips) : Fin 4 → Nat :=
  let c1_i32_345 : BitVec 32 := 1#32
  let v487 : Index := Scalar.indexCast c1_i32_345
  let c0_i32_150 : BitVec 32 := 0#32
  let c1_i32_152 : BitVec 32 := 1#32
  let arg15 : BitVec 32 := Scf.iv c0_i32_150 c1_i32_152 k0_t3
  let v488 : Index := Scalar.indexCast arg15
  let c5_i32_346 : BitVec 32 := 5#32
  let v489 : Index := Scalar.indexCast c5_i32_346
  let c48_347 : Index := 48#32
  ![1, v488.toNat, 5, 48]
def k0_off435 (k0_t3 : Fin k0_t3_loop.trips) : Fin 4 → Nat :=
  let c1_i32_348 : BitVec 32 := 1#32
  let v494 : Index := Scalar.indexCast c1_i32_348
  let c0_i32_150 : BitVec 32 := 0#32
  let c1_i32_152 : BitVec 32 := 1#32
  let arg15 : BitVec 32 := Scf.iv c0_i32_150 c1_i32_152 k0_t3
  let v495 : Index := Scalar.indexCast arg15
  let c6_i32_349 : BitVec 32 := 6#32
  let v496 : Index := Scalar.indexCast c6_i32_349
  let c48_350 : Index := 48#32
  ![1, v495.toNat, 6, 48]
def k0_off436 (k0_t3 : Fin k0_t3_loop.trips) : Fin 4 → Nat :=
  let c1_i32_352 : BitVec 32 := 1#32
  let v507 : Index := Scalar.indexCast c1_i32_352
  let c0_i32_150 : BitVec 32 := 0#32
  let c1_i32_152 : BitVec 32 := 1#32
  let arg15 : BitVec 32 := Scf.iv c0_i32_150 c1_i32_152 k0_t3
  let v508 : Index := Scalar.indexCast arg15
  let c7_i32_353 : BitVec 32 := 7#32
  let v509 : Index := Scalar.indexCast c7_i32_353
  let c48_354 : Index := 48#32
  ![1, v508.toNat, 7, 48]
def k0_off437 (k0_t3 : Fin k0_t3_loop.trips) : Fin 4 → Nat :=
  let c1_i32_355 : BitVec 32 := 1#32
  let v513 : Index := Scalar.indexCast c1_i32_355
  let c0_i32_150 : BitVec 32 := 0#32
  let c1_i32_152 : BitVec 32 := 1#32
  let arg15 : BitVec 32 := Scf.iv c0_i32_150 c1_i32_152 k0_t3
  let v514 : Index := Scalar.indexCast arg15
  let c0_i32_356 : BitVec 32 := 0#32
  let v515 : Index := Scalar.indexCast c0_i32_356
  let c64 : Index := 64#32
  ![1, v514.toNat, 0, 64]
def k0_off438 (k0_t3 : Fin k0_t3_loop.trips) : Fin 4 → Nat :=
  let c1_i32_357 : BitVec 32 := 1#32
  let v518 : Index := Scalar.indexCast c1_i32_357
  let c0_i32_150 : BitVec 32 := 0#32
  let c1_i32_152 : BitVec 32 := 1#32
  let arg15 : BitVec 32 := Scf.iv c0_i32_150 c1_i32_152 k0_t3
  let v519 : Index := Scalar.indexCast arg15
  let c1_i32_358 : BitVec 32 := 1#32
  let v520 : Index := Scalar.indexCast c1_i32_358
  let c64_359 : Index := 64#32
  ![1, v519.toNat, 1, 64]
def k0_off439 (k0_t3 : Fin k0_t3_loop.trips) : Fin 4 → Nat :=
  let c1_i32_360 : BitVec 32 := 1#32
  let v523 : Index := Scalar.indexCast c1_i32_360
  let c0_i32_150 : BitVec 32 := 0#32
  let c1_i32_152 : BitVec 32 := 1#32
  let arg15 : BitVec 32 := Scf.iv c0_i32_150 c1_i32_152 k0_t3
  let v524 : Index := Scalar.indexCast arg15
  let c2_i32_361 : BitVec 32 := 2#32
  let v525 : Index := Scalar.indexCast c2_i32_361
  let c64_362 : Index := 64#32
  ![1, v524.toNat, 2, 64]
def k0_off440 (k0_t3 : Fin k0_t3_loop.trips) : Fin 4 → Nat :=
  let c1_i32_363 : BitVec 32 := 1#32
  let v528 : Index := Scalar.indexCast c1_i32_363
  let c0_i32_150 : BitVec 32 := 0#32
  let c1_i32_152 : BitVec 32 := 1#32
  let arg15 : BitVec 32 := Scf.iv c0_i32_150 c1_i32_152 k0_t3
  let v529 : Index := Scalar.indexCast arg15
  let c3_i32_364 : BitVec 32 := 3#32
  let v530 : Index := Scalar.indexCast c3_i32_364
  let c64_365 : Index := 64#32
  ![1, v529.toNat, 3, 64]
def k0_off441 (k0_t3 : Fin k0_t3_loop.trips) : Fin 4 → Nat :=
  let c1_i32_378 : BitVec 32 := 1#32
  let v554 : Index := Scalar.indexCast c1_i32_378
  let c0_i32_150 : BitVec 32 := 0#32
  let c1_i32_152 : BitVec 32 := 1#32
  let arg15 : BitVec 32 := Scf.iv c0_i32_150 c1_i32_152 k0_t3
  let v555 : Index := Scalar.indexCast arg15
  let c0_i32_379 : BitVec 32 := 0#32
  let v556 : Index := Scalar.indexCast c0_i32_379
  let c64_380 : Index := 64#32
  ![1, v555.toNat, 0, 64]
def k0_off442 (k0_t3 : Fin k0_t3_loop.trips) : Fin 4 → Nat :=
  let c1_i32_381 : BitVec 32 := 1#32
  let v561 : Index := Scalar.indexCast c1_i32_381
  let c0_i32_150 : BitVec 32 := 0#32
  let c1_i32_152 : BitVec 32 := 1#32
  let arg15 : BitVec 32 := Scf.iv c0_i32_150 c1_i32_152 k0_t3
  let v562 : Index := Scalar.indexCast arg15
  let c1_i32_382 : BitVec 32 := 1#32
  let v563 : Index := Scalar.indexCast c1_i32_382
  let c64_383 : Index := 64#32
  ![1, v562.toNat, 1, 64]
def k0_off443 (k0_t3 : Fin k0_t3_loop.trips) : Fin 4 → Nat :=
  let c1_i32_384 : BitVec 32 := 1#32
  let v568 : Index := Scalar.indexCast c1_i32_384
  let c0_i32_150 : BitVec 32 := 0#32
  let c1_i32_152 : BitVec 32 := 1#32
  let arg15 : BitVec 32 := Scf.iv c0_i32_150 c1_i32_152 k0_t3
  let v569 : Index := Scalar.indexCast arg15
  let c2_i32_385 : BitVec 32 := 2#32
  let v570 : Index := Scalar.indexCast c2_i32_385
  let c64_386 : Index := 64#32
  ![1, v569.toNat, 2, 64]
def k0_off444 (k0_t3 : Fin k0_t3_loop.trips) : Fin 4 → Nat :=
  let c1_i32_387 : BitVec 32 := 1#32
  let v575 : Index := Scalar.indexCast c1_i32_387
  let c0_i32_150 : BitVec 32 := 0#32
  let c1_i32_152 : BitVec 32 := 1#32
  let arg15 : BitVec 32 := Scf.iv c0_i32_150 c1_i32_152 k0_t3
  let v576 : Index := Scalar.indexCast arg15
  let c3_i32_388 : BitVec 32 := 3#32
  let v577 : Index := Scalar.indexCast c3_i32_388
  let c64_389 : Index := 64#32
  ![1, v576.toNat, 3, 64]
def k0_off445 (k0_t3 : Fin k0_t3_loop.trips) : Fin 4 → Nat :=
  let c1_i32_390 : BitVec 32 := 1#32
  let v582 : Index := Scalar.indexCast c1_i32_390
  let c0_i32_150 : BitVec 32 := 0#32
  let c1_i32_152 : BitVec 32 := 1#32
  let arg15 : BitVec 32 := Scf.iv c0_i32_150 c1_i32_152 k0_t3
  let v583 : Index := Scalar.indexCast arg15
  let c4_i32_391 : BitVec 32 := 4#32
  let v584 : Index := Scalar.indexCast c4_i32_391
  let c64_392 : Index := 64#32
  ![1, v583.toNat, 4, 64]
def k0_off446 (k0_t3 : Fin k0_t3_loop.trips) : Fin 4 → Nat :=
  let c1_i32_393 : BitVec 32 := 1#32
  let v589 : Index := Scalar.indexCast c1_i32_393
  let c0_i32_150 : BitVec 32 := 0#32
  let c1_i32_152 : BitVec 32 := 1#32
  let arg15 : BitVec 32 := Scf.iv c0_i32_150 c1_i32_152 k0_t3
  let v590 : Index := Scalar.indexCast arg15
  let c5_i32_394 : BitVec 32 := 5#32
  let v591 : Index := Scalar.indexCast c5_i32_394
  let c64_395 : Index := 64#32
  ![1, v590.toNat, 5, 64]
def k0_off447 (k0_t3 : Fin k0_t3_loop.trips) : Fin 4 → Nat :=
  let c1_i32_396 : BitVec 32 := 1#32
  let v596 : Index := Scalar.indexCast c1_i32_396
  let c0_i32_150 : BitVec 32 := 0#32
  let c1_i32_152 : BitVec 32 := 1#32
  let arg15 : BitVec 32 := Scf.iv c0_i32_150 c1_i32_152 k0_t3
  let v597 : Index := Scalar.indexCast arg15
  let c6_i32_397 : BitVec 32 := 6#32
  let v598 : Index := Scalar.indexCast c6_i32_397
  let c64_398 : Index := 64#32
  ![1, v597.toNat, 6, 64]
def k0_off448 (k0_t3 : Fin k0_t3_loop.trips) : Fin 4 → Nat :=
  let c1_i32_400 : BitVec 32 := 1#32
  let v609 : Index := Scalar.indexCast c1_i32_400
  let c0_i32_150 : BitVec 32 := 0#32
  let c1_i32_152 : BitVec 32 := 1#32
  let arg15 : BitVec 32 := Scf.iv c0_i32_150 c1_i32_152 k0_t3
  let v610 : Index := Scalar.indexCast arg15
  let c7_i32_401 : BitVec 32 := 7#32
  let v611 : Index := Scalar.indexCast c7_i32_401
  let c64_402 : Index := 64#32
  ![1, v610.toNat, 7, 64]
def k0_off449 (k0_t3 : Fin k0_t3_loop.trips) : Fin 4 → Nat :=
  let c1_i32_403 : BitVec 32 := 1#32
  let v615 : Index := Scalar.indexCast c1_i32_403
  let c0_i32_150 : BitVec 32 := 0#32
  let c1_i32_152 : BitVec 32 := 1#32
  let arg15 : BitVec 32 := Scf.iv c0_i32_150 c1_i32_152 k0_t3
  let v616 : Index := Scalar.indexCast arg15
  let c0_i32_404 : BitVec 32 := 0#32
  let v617 : Index := Scalar.indexCast c0_i32_404
  let c80 : Index := 80#32
  ![1, v616.toNat, 0, 80]
def k0_off450 (k0_t3 : Fin k0_t3_loop.trips) : Fin 4 → Nat :=
  let c1_i32_405 : BitVec 32 := 1#32
  let v620 : Index := Scalar.indexCast c1_i32_405
  let c0_i32_150 : BitVec 32 := 0#32
  let c1_i32_152 : BitVec 32 := 1#32
  let arg15 : BitVec 32 := Scf.iv c0_i32_150 c1_i32_152 k0_t3
  let v621 : Index := Scalar.indexCast arg15
  let c1_i32_406 : BitVec 32 := 1#32
  let v622 : Index := Scalar.indexCast c1_i32_406
  let c80_407 : Index := 80#32
  ![1, v621.toNat, 1, 80]
def k0_off451 (k0_t3 : Fin k0_t3_loop.trips) : Fin 4 → Nat :=
  let c1_i32_408 : BitVec 32 := 1#32
  let v625 : Index := Scalar.indexCast c1_i32_408
  let c0_i32_150 : BitVec 32 := 0#32
  let c1_i32_152 : BitVec 32 := 1#32
  let arg15 : BitVec 32 := Scf.iv c0_i32_150 c1_i32_152 k0_t3
  let v626 : Index := Scalar.indexCast arg15
  let c2_i32_409 : BitVec 32 := 2#32
  let v627 : Index := Scalar.indexCast c2_i32_409
  let c80_410 : Index := 80#32
  ![1, v626.toNat, 2, 80]
def k0_off452 (k0_t3 : Fin k0_t3_loop.trips) : Fin 4 → Nat :=
  let c1_i32_411 : BitVec 32 := 1#32
  let v630 : Index := Scalar.indexCast c1_i32_411
  let c0_i32_150 : BitVec 32 := 0#32
  let c1_i32_152 : BitVec 32 := 1#32
  let arg15 : BitVec 32 := Scf.iv c0_i32_150 c1_i32_152 k0_t3
  let v631 : Index := Scalar.indexCast arg15
  let c3_i32_412 : BitVec 32 := 3#32
  let v632 : Index := Scalar.indexCast c3_i32_412
  let c80_413 : Index := 80#32
  ![1, v631.toNat, 3, 80]
def k0_off453 (k0_t3 : Fin k0_t3_loop.trips) : Fin 4 → Nat :=
  let c1_i32_426 : BitVec 32 := 1#32
  let v656 : Index := Scalar.indexCast c1_i32_426
  let c0_i32_150 : BitVec 32 := 0#32
  let c1_i32_152 : BitVec 32 := 1#32
  let arg15 : BitVec 32 := Scf.iv c0_i32_150 c1_i32_152 k0_t3
  let v657 : Index := Scalar.indexCast arg15
  let c0_i32_427 : BitVec 32 := 0#32
  let v658 : Index := Scalar.indexCast c0_i32_427
  let c80_428 : Index := 80#32
  ![1, v657.toNat, 0, 80]
def k0_off454 (k0_t3 : Fin k0_t3_loop.trips) : Fin 4 → Nat :=
  let c1_i32_429 : BitVec 32 := 1#32
  let v663 : Index := Scalar.indexCast c1_i32_429
  let c0_i32_150 : BitVec 32 := 0#32
  let c1_i32_152 : BitVec 32 := 1#32
  let arg15 : BitVec 32 := Scf.iv c0_i32_150 c1_i32_152 k0_t3
  let v664 : Index := Scalar.indexCast arg15
  let c1_i32_430 : BitVec 32 := 1#32
  let v665 : Index := Scalar.indexCast c1_i32_430
  let c80_431 : Index := 80#32
  ![1, v664.toNat, 1, 80]
def k0_off455 (k0_t3 : Fin k0_t3_loop.trips) : Fin 4 → Nat :=
  let c1_i32_432 : BitVec 32 := 1#32
  let v670 : Index := Scalar.indexCast c1_i32_432
  let c0_i32_150 : BitVec 32 := 0#32
  let c1_i32_152 : BitVec 32 := 1#32
  let arg15 : BitVec 32 := Scf.iv c0_i32_150 c1_i32_152 k0_t3
  let v671 : Index := Scalar.indexCast arg15
  let c2_i32_433 : BitVec 32 := 2#32
  let v672 : Index := Scalar.indexCast c2_i32_433
  let c80_434 : Index := 80#32
  ![1, v671.toNat, 2, 80]
def k0_off456 (k0_t3 : Fin k0_t3_loop.trips) : Fin 4 → Nat :=
  let c1_i32_435 : BitVec 32 := 1#32
  let v677 : Index := Scalar.indexCast c1_i32_435
  let c0_i32_150 : BitVec 32 := 0#32
  let c1_i32_152 : BitVec 32 := 1#32
  let arg15 : BitVec 32 := Scf.iv c0_i32_150 c1_i32_152 k0_t3
  let v678 : Index := Scalar.indexCast arg15
  let c3_i32_436 : BitVec 32 := 3#32
  let v679 : Index := Scalar.indexCast c3_i32_436
  let c80_437 : Index := 80#32
  ![1, v678.toNat, 3, 80]
def k0_off457 (k0_t3 : Fin k0_t3_loop.trips) : Fin 4 → Nat :=
  let c1_i32_438 : BitVec 32 := 1#32
  let v684 : Index := Scalar.indexCast c1_i32_438
  let c0_i32_150 : BitVec 32 := 0#32
  let c1_i32_152 : BitVec 32 := 1#32
  let arg15 : BitVec 32 := Scf.iv c0_i32_150 c1_i32_152 k0_t3
  let v685 : Index := Scalar.indexCast arg15
  let c4_i32_439 : BitVec 32 := 4#32
  let v686 : Index := Scalar.indexCast c4_i32_439
  let c80_440 : Index := 80#32
  ![1, v685.toNat, 4, 80]
def k0_off458 (k0_t3 : Fin k0_t3_loop.trips) : Fin 4 → Nat :=
  let c1_i32_441 : BitVec 32 := 1#32
  let v691 : Index := Scalar.indexCast c1_i32_441
  let c0_i32_150 : BitVec 32 := 0#32
  let c1_i32_152 : BitVec 32 := 1#32
  let arg15 : BitVec 32 := Scf.iv c0_i32_150 c1_i32_152 k0_t3
  let v692 : Index := Scalar.indexCast arg15
  let c5_i32_442 : BitVec 32 := 5#32
  let v693 : Index := Scalar.indexCast c5_i32_442
  let c80_443 : Index := 80#32
  ![1, v692.toNat, 5, 80]
def k0_off459 (k0_t3 : Fin k0_t3_loop.trips) : Fin 4 → Nat :=
  let c1_i32_444 : BitVec 32 := 1#32
  let v698 : Index := Scalar.indexCast c1_i32_444
  let c0_i32_150 : BitVec 32 := 0#32
  let c1_i32_152 : BitVec 32 := 1#32
  let arg15 : BitVec 32 := Scf.iv c0_i32_150 c1_i32_152 k0_t3
  let v699 : Index := Scalar.indexCast arg15
  let c6_i32_445 : BitVec 32 := 6#32
  let v700 : Index := Scalar.indexCast c6_i32_445
  let c80_446 : Index := 80#32
  ![1, v699.toNat, 6, 80]
def k0_off460 (k0_t3 : Fin k0_t3_loop.trips) : Fin 4 → Nat :=
  let c1_i32_448 : BitVec 32 := 1#32
  let v711 : Index := Scalar.indexCast c1_i32_448
  let c0_i32_150 : BitVec 32 := 0#32
  let c1_i32_152 : BitVec 32 := 1#32
  let arg15 : BitVec 32 := Scf.iv c0_i32_150 c1_i32_152 k0_t3
  let v712 : Index := Scalar.indexCast arg15
  let c7_i32_449 : BitVec 32 := 7#32
  let v713 : Index := Scalar.indexCast c7_i32_449
  let c80_450 : Index := 80#32
  ![1, v712.toNat, 7, 80]
def k0_off461 (k0_t3 : Fin k0_t3_loop.trips) : Fin 4 → Nat :=
  let c1_i32_451 : BitVec 32 := 1#32
  let v717 : Index := Scalar.indexCast c1_i32_451
  let c0_i32_150 : BitVec 32 := 0#32
  let c1_i32_152 : BitVec 32 := 1#32
  let arg15 : BitVec 32 := Scf.iv c0_i32_150 c1_i32_152 k0_t3
  let v718 : Index := Scalar.indexCast arg15
  let c0_i32_452 : BitVec 32 := 0#32
  let v719 : Index := Scalar.indexCast c0_i32_452
  let c96 : Index := 96#32
  ![1, v718.toNat, 0, 96]
def k0_off462 (k0_t3 : Fin k0_t3_loop.trips) : Fin 4 → Nat :=
  let c1_i32_453 : BitVec 32 := 1#32
  let v722 : Index := Scalar.indexCast c1_i32_453
  let c0_i32_150 : BitVec 32 := 0#32
  let c1_i32_152 : BitVec 32 := 1#32
  let arg15 : BitVec 32 := Scf.iv c0_i32_150 c1_i32_152 k0_t3
  let v723 : Index := Scalar.indexCast arg15
  let c1_i32_454 : BitVec 32 := 1#32
  let v724 : Index := Scalar.indexCast c1_i32_454
  let c96_455 : Index := 96#32
  ![1, v723.toNat, 1, 96]
def k0_off463 (k0_t3 : Fin k0_t3_loop.trips) : Fin 4 → Nat :=
  let c1_i32_456 : BitVec 32 := 1#32
  let v727 : Index := Scalar.indexCast c1_i32_456
  let c0_i32_150 : BitVec 32 := 0#32
  let c1_i32_152 : BitVec 32 := 1#32
  let arg15 : BitVec 32 := Scf.iv c0_i32_150 c1_i32_152 k0_t3
  let v728 : Index := Scalar.indexCast arg15
  let c2_i32_457 : BitVec 32 := 2#32
  let v729 : Index := Scalar.indexCast c2_i32_457
  let c96_458 : Index := 96#32
  ![1, v728.toNat, 2, 96]
def k0_off464 (k0_t3 : Fin k0_t3_loop.trips) : Fin 4 → Nat :=
  let c1_i32_459 : BitVec 32 := 1#32
  let v732 : Index := Scalar.indexCast c1_i32_459
  let c0_i32_150 : BitVec 32 := 0#32
  let c1_i32_152 : BitVec 32 := 1#32
  let arg15 : BitVec 32 := Scf.iv c0_i32_150 c1_i32_152 k0_t3
  let v733 : Index := Scalar.indexCast arg15
  let c3_i32_460 : BitVec 32 := 3#32
  let v734 : Index := Scalar.indexCast c3_i32_460
  let c96_461 : Index := 96#32
  ![1, v733.toNat, 3, 96]
def k0_off465 (k0_t3 : Fin k0_t3_loop.trips) : Fin 4 → Nat :=
  let c1_i32_474 : BitVec 32 := 1#32
  let v758 : Index := Scalar.indexCast c1_i32_474
  let c0_i32_150 : BitVec 32 := 0#32
  let c1_i32_152 : BitVec 32 := 1#32
  let arg15 : BitVec 32 := Scf.iv c0_i32_150 c1_i32_152 k0_t3
  let v759 : Index := Scalar.indexCast arg15
  let c0_i32_475 : BitVec 32 := 0#32
  let v760 : Index := Scalar.indexCast c0_i32_475
  let c96_476 : Index := 96#32
  ![1, v759.toNat, 0, 96]
def k0_off466 (k0_t3 : Fin k0_t3_loop.trips) : Fin 4 → Nat :=
  let c1_i32_477 : BitVec 32 := 1#32
  let v765 : Index := Scalar.indexCast c1_i32_477
  let c0_i32_150 : BitVec 32 := 0#32
  let c1_i32_152 : BitVec 32 := 1#32
  let arg15 : BitVec 32 := Scf.iv c0_i32_150 c1_i32_152 k0_t3
  let v766 : Index := Scalar.indexCast arg15
  let c1_i32_478 : BitVec 32 := 1#32
  let v767 : Index := Scalar.indexCast c1_i32_478
  let c96_479 : Index := 96#32
  ![1, v766.toNat, 1, 96]
def k0_off467 (k0_t3 : Fin k0_t3_loop.trips) : Fin 4 → Nat :=
  let c1_i32_480 : BitVec 32 := 1#32
  let v772 : Index := Scalar.indexCast c1_i32_480
  let c0_i32_150 : BitVec 32 := 0#32
  let c1_i32_152 : BitVec 32 := 1#32
  let arg15 : BitVec 32 := Scf.iv c0_i32_150 c1_i32_152 k0_t3
  let v773 : Index := Scalar.indexCast arg15
  let c2_i32_481 : BitVec 32 := 2#32
  let v774 : Index := Scalar.indexCast c2_i32_481
  let c96_482 : Index := 96#32
  ![1, v773.toNat, 2, 96]
def k0_off468 (k0_t3 : Fin k0_t3_loop.trips) : Fin 4 → Nat :=
  let c1_i32_483 : BitVec 32 := 1#32
  let v779 : Index := Scalar.indexCast c1_i32_483
  let c0_i32_150 : BitVec 32 := 0#32
  let c1_i32_152 : BitVec 32 := 1#32
  let arg15 : BitVec 32 := Scf.iv c0_i32_150 c1_i32_152 k0_t3
  let v780 : Index := Scalar.indexCast arg15
  let c3_i32_484 : BitVec 32 := 3#32
  let v781 : Index := Scalar.indexCast c3_i32_484
  let c96_485 : Index := 96#32
  ![1, v780.toNat, 3, 96]
def k0_off469 (k0_t3 : Fin k0_t3_loop.trips) : Fin 4 → Nat :=
  let c1_i32_486 : BitVec 32 := 1#32
  let v786 : Index := Scalar.indexCast c1_i32_486
  let c0_i32_150 : BitVec 32 := 0#32
  let c1_i32_152 : BitVec 32 := 1#32
  let arg15 : BitVec 32 := Scf.iv c0_i32_150 c1_i32_152 k0_t3
  let v787 : Index := Scalar.indexCast arg15
  let c4_i32_487 : BitVec 32 := 4#32
  let v788 : Index := Scalar.indexCast c4_i32_487
  let c96_488 : Index := 96#32
  ![1, v787.toNat, 4, 96]
def k0_off470 (k0_t3 : Fin k0_t3_loop.trips) : Fin 4 → Nat :=
  let c1_i32_489 : BitVec 32 := 1#32
  let v793 : Index := Scalar.indexCast c1_i32_489
  let c0_i32_150 : BitVec 32 := 0#32
  let c1_i32_152 : BitVec 32 := 1#32
  let arg15 : BitVec 32 := Scf.iv c0_i32_150 c1_i32_152 k0_t3
  let v794 : Index := Scalar.indexCast arg15
  let c5_i32_490 : BitVec 32 := 5#32
  let v795 : Index := Scalar.indexCast c5_i32_490
  let c96_491 : Index := 96#32
  ![1, v794.toNat, 5, 96]
def k0_off471 (k0_t3 : Fin k0_t3_loop.trips) : Fin 4 → Nat :=
  let c1_i32_492 : BitVec 32 := 1#32
  let v800 : Index := Scalar.indexCast c1_i32_492
  let c0_i32_150 : BitVec 32 := 0#32
  let c1_i32_152 : BitVec 32 := 1#32
  let arg15 : BitVec 32 := Scf.iv c0_i32_150 c1_i32_152 k0_t3
  let v801 : Index := Scalar.indexCast arg15
  let c6_i32_493 : BitVec 32 := 6#32
  let v802 : Index := Scalar.indexCast c6_i32_493
  let c96_494 : Index := 96#32
  ![1, v801.toNat, 6, 96]
def k0_off472 (k0_t3 : Fin k0_t3_loop.trips) : Fin 4 → Nat :=
  let c1_i32_496 : BitVec 32 := 1#32
  let v813 : Index := Scalar.indexCast c1_i32_496
  let c0_i32_150 : BitVec 32 := 0#32
  let c1_i32_152 : BitVec 32 := 1#32
  let arg15 : BitVec 32 := Scf.iv c0_i32_150 c1_i32_152 k0_t3
  let v814 : Index := Scalar.indexCast arg15
  let c7_i32_497 : BitVec 32 := 7#32
  let v815 : Index := Scalar.indexCast c7_i32_497
  let c96_498 : Index := 96#32
  ![1, v814.toNat, 7, 96]
def k0_off473 (k0_t3 : Fin k0_t3_loop.trips) : Fin 4 → Nat :=
  let c1_i32_499 : BitVec 32 := 1#32
  let v819 : Index := Scalar.indexCast c1_i32_499
  let c0_i32_150 : BitVec 32 := 0#32
  let c1_i32_152 : BitVec 32 := 1#32
  let arg15 : BitVec 32 := Scf.iv c0_i32_150 c1_i32_152 k0_t3
  let v820 : Index := Scalar.indexCast arg15
  let c0_i32_500 : BitVec 32 := 0#32
  let v821 : Index := Scalar.indexCast c0_i32_500
  let c112 : Index := 112#32
  ![1, v820.toNat, 0, 112]
def k0_off474 (k0_t3 : Fin k0_t3_loop.trips) : Fin 4 → Nat :=
  let c1_i32_501 : BitVec 32 := 1#32
  let v824 : Index := Scalar.indexCast c1_i32_501
  let c0_i32_150 : BitVec 32 := 0#32
  let c1_i32_152 : BitVec 32 := 1#32
  let arg15 : BitVec 32 := Scf.iv c0_i32_150 c1_i32_152 k0_t3
  let v825 : Index := Scalar.indexCast arg15
  let c1_i32_502 : BitVec 32 := 1#32
  let v826 : Index := Scalar.indexCast c1_i32_502
  let c112_503 : Index := 112#32
  ![1, v825.toNat, 1, 112]
def k0_off475 (k0_t3 : Fin k0_t3_loop.trips) : Fin 4 → Nat :=
  let c1_i32_504 : BitVec 32 := 1#32
  let v829 : Index := Scalar.indexCast c1_i32_504
  let c0_i32_150 : BitVec 32 := 0#32
  let c1_i32_152 : BitVec 32 := 1#32
  let arg15 : BitVec 32 := Scf.iv c0_i32_150 c1_i32_152 k0_t3
  let v830 : Index := Scalar.indexCast arg15
  let c2_i32_505 : BitVec 32 := 2#32
  let v831 : Index := Scalar.indexCast c2_i32_505
  let c112_506 : Index := 112#32
  ![1, v830.toNat, 2, 112]
def k0_off476 (k0_t3 : Fin k0_t3_loop.trips) : Fin 4 → Nat :=
  let c1_i32_507 : BitVec 32 := 1#32
  let v834 : Index := Scalar.indexCast c1_i32_507
  let c0_i32_150 : BitVec 32 := 0#32
  let c1_i32_152 : BitVec 32 := 1#32
  let arg15 : BitVec 32 := Scf.iv c0_i32_150 c1_i32_152 k0_t3
  let v835 : Index := Scalar.indexCast arg15
  let c3_i32_508 : BitVec 32 := 3#32
  let v836 : Index := Scalar.indexCast c3_i32_508
  let c112_509 : Index := 112#32
  ![1, v835.toNat, 3, 112]
def k0_off477 (k0_t3 : Fin k0_t3_loop.trips) : Fin 4 → Nat :=
  let c1_i32_522 : BitVec 32 := 1#32
  let v860 : Index := Scalar.indexCast c1_i32_522
  let c0_i32_150 : BitVec 32 := 0#32
  let c1_i32_152 : BitVec 32 := 1#32
  let arg15 : BitVec 32 := Scf.iv c0_i32_150 c1_i32_152 k0_t3
  let v861 : Index := Scalar.indexCast arg15
  let c0_i32_523 : BitVec 32 := 0#32
  let v862 : Index := Scalar.indexCast c0_i32_523
  let c112_524 : Index := 112#32
  ![1, v861.toNat, 0, 112]
def k0_off478 (k0_t3 : Fin k0_t3_loop.trips) : Fin 4 → Nat :=
  let c1_i32_525 : BitVec 32 := 1#32
  let v867 : Index := Scalar.indexCast c1_i32_525
  let c0_i32_150 : BitVec 32 := 0#32
  let c1_i32_152 : BitVec 32 := 1#32
  let arg15 : BitVec 32 := Scf.iv c0_i32_150 c1_i32_152 k0_t3
  let v868 : Index := Scalar.indexCast arg15
  let c1_i32_526 : BitVec 32 := 1#32
  let v869 : Index := Scalar.indexCast c1_i32_526
  let c112_527 : Index := 112#32
  ![1, v868.toNat, 1, 112]
def k0_off479 (k0_t3 : Fin k0_t3_loop.trips) : Fin 4 → Nat :=
  let c1_i32_528 : BitVec 32 := 1#32
  let v874 : Index := Scalar.indexCast c1_i32_528
  let c0_i32_150 : BitVec 32 := 0#32
  let c1_i32_152 : BitVec 32 := 1#32
  let arg15 : BitVec 32 := Scf.iv c0_i32_150 c1_i32_152 k0_t3
  let v875 : Index := Scalar.indexCast arg15
  let c2_i32_529 : BitVec 32 := 2#32
  let v876 : Index := Scalar.indexCast c2_i32_529
  let c112_530 : Index := 112#32
  ![1, v875.toNat, 2, 112]
def k0_off480 (k0_t3 : Fin k0_t3_loop.trips) : Fin 4 → Nat :=
  let c1_i32_531 : BitVec 32 := 1#32
  let v881 : Index := Scalar.indexCast c1_i32_531
  let c0_i32_150 : BitVec 32 := 0#32
  let c1_i32_152 : BitVec 32 := 1#32
  let arg15 : BitVec 32 := Scf.iv c0_i32_150 c1_i32_152 k0_t3
  let v882 : Index := Scalar.indexCast arg15
  let c3_i32_532 : BitVec 32 := 3#32
  let v883 : Index := Scalar.indexCast c3_i32_532
  let c112_533 : Index := 112#32
  ![1, v882.toNat, 3, 112]
def k0_off481 (k0_t3 : Fin k0_t3_loop.trips) : Fin 4 → Nat :=
  let c1_i32_534 : BitVec 32 := 1#32
  let v888 : Index := Scalar.indexCast c1_i32_534
  let c0_i32_150 : BitVec 32 := 0#32
  let c1_i32_152 : BitVec 32 := 1#32
  let arg15 : BitVec 32 := Scf.iv c0_i32_150 c1_i32_152 k0_t3
  let v889 : Index := Scalar.indexCast arg15
  let c4_i32_535 : BitVec 32 := 4#32
  let v890 : Index := Scalar.indexCast c4_i32_535
  let c112_536 : Index := 112#32
  ![1, v889.toNat, 4, 112]
def k0_off482 (k0_t3 : Fin k0_t3_loop.trips) : Fin 4 → Nat :=
  let c1_i32_537 : BitVec 32 := 1#32
  let v895 : Index := Scalar.indexCast c1_i32_537
  let c0_i32_150 : BitVec 32 := 0#32
  let c1_i32_152 : BitVec 32 := 1#32
  let arg15 : BitVec 32 := Scf.iv c0_i32_150 c1_i32_152 k0_t3
  let v896 : Index := Scalar.indexCast arg15
  let c5_i32_538 : BitVec 32 := 5#32
  let v897 : Index := Scalar.indexCast c5_i32_538
  let c112_539 : Index := 112#32
  ![1, v896.toNat, 5, 112]
def k0_off483 (k0_t3 : Fin k0_t3_loop.trips) : Fin 4 → Nat :=
  let c1_i32_540 : BitVec 32 := 1#32
  let v902 : Index := Scalar.indexCast c1_i32_540
  let c0_i32_150 : BitVec 32 := 0#32
  let c1_i32_152 : BitVec 32 := 1#32
  let arg15 : BitVec 32 := Scf.iv c0_i32_150 c1_i32_152 k0_t3
  let v903 : Index := Scalar.indexCast arg15
  let c6_i32_541 : BitVec 32 := 6#32
  let v904 : Index := Scalar.indexCast c6_i32_541
  let c112_542 : Index := 112#32
  ![1, v903.toNat, 6, 112]
def k0_off484 (k0_t3 : Fin k0_t3_loop.trips) : Fin 4 → Nat :=
  let c1_i32_544 : BitVec 32 := 1#32
  let v915 : Index := Scalar.indexCast c1_i32_544
  let c0_i32_150 : BitVec 32 := 0#32
  let c1_i32_152 : BitVec 32 := 1#32
  let arg15 : BitVec 32 := Scf.iv c0_i32_150 c1_i32_152 k0_t3
  let v916 : Index := Scalar.indexCast arg15
  let c7_i32_545 : BitVec 32 := 7#32
  let v917 : Index := Scalar.indexCast c7_i32_545
  let c112_546 : Index := 112#32
  ![1, v916.toNat, 7, 112]
def k0_off485 (k0_t3 : Fin k0_t3_loop.trips) : Fin 4 → Nat :=
  let c1_i32_547 : BitVec 32 := 1#32
  let v921 : Index := Scalar.indexCast c1_i32_547
  let c0_i32_150 : BitVec 32 := 0#32
  let c1_i32_152 : BitVec 32 := 1#32
  let arg15 : BitVec 32 := Scf.iv c0_i32_150 c1_i32_152 k0_t3
  let v922 : Index := Scalar.indexCast arg15
  let c0_i32_548 : BitVec 32 := 0#32
  let v923 : Index := Scalar.indexCast c0_i32_548
  let c128 : Index := 128#32
  ![1, v922.toNat, 0, 128]
def k0_off486 (k0_t3 : Fin k0_t3_loop.trips) : Fin 4 → Nat :=
  let c1_i32_549 : BitVec 32 := 1#32
  let v926 : Index := Scalar.indexCast c1_i32_549
  let c0_i32_150 : BitVec 32 := 0#32
  let c1_i32_152 : BitVec 32 := 1#32
  let arg15 : BitVec 32 := Scf.iv c0_i32_150 c1_i32_152 k0_t3
  let v927 : Index := Scalar.indexCast arg15
  let c1_i32_550 : BitVec 32 := 1#32
  let v928 : Index := Scalar.indexCast c1_i32_550
  let c128_551 : Index := 128#32
  ![1, v927.toNat, 1, 128]
def k0_off487 (k0_t3 : Fin k0_t3_loop.trips) : Fin 4 → Nat :=
  let c1_i32_552 : BitVec 32 := 1#32
  let v931 : Index := Scalar.indexCast c1_i32_552
  let c0_i32_150 : BitVec 32 := 0#32
  let c1_i32_152 : BitVec 32 := 1#32
  let arg15 : BitVec 32 := Scf.iv c0_i32_150 c1_i32_152 k0_t3
  let v932 : Index := Scalar.indexCast arg15
  let c2_i32_553 : BitVec 32 := 2#32
  let v933 : Index := Scalar.indexCast c2_i32_553
  let c128_554 : Index := 128#32
  ![1, v932.toNat, 2, 128]
def k0_off488 (k0_t3 : Fin k0_t3_loop.trips) : Fin 4 → Nat :=
  let c1_i32_555 : BitVec 32 := 1#32
  let v936 : Index := Scalar.indexCast c1_i32_555
  let c0_i32_150 : BitVec 32 := 0#32
  let c1_i32_152 : BitVec 32 := 1#32
  let arg15 : BitVec 32 := Scf.iv c0_i32_150 c1_i32_152 k0_t3
  let v937 : Index := Scalar.indexCast arg15
  let c3_i32_556 : BitVec 32 := 3#32
  let v938 : Index := Scalar.indexCast c3_i32_556
  let c128_557 : Index := 128#32
  ![1, v937.toNat, 3, 128]
def k0_off489 (k0_t3 : Fin k0_t3_loop.trips) : Fin 4 → Nat :=
  let c1_i32_570 : BitVec 32 := 1#32
  let v962 : Index := Scalar.indexCast c1_i32_570
  let c0_i32_150 : BitVec 32 := 0#32
  let c1_i32_152 : BitVec 32 := 1#32
  let arg15 : BitVec 32 := Scf.iv c0_i32_150 c1_i32_152 k0_t3
  let v963 : Index := Scalar.indexCast arg15
  let c0_i32_571 : BitVec 32 := 0#32
  let v964 : Index := Scalar.indexCast c0_i32_571
  let c128_572 : Index := 128#32
  ![1, v963.toNat, 0, 128]
def k0_off490 (k0_t3 : Fin k0_t3_loop.trips) : Fin 4 → Nat :=
  let c1_i32_573 : BitVec 32 := 1#32
  let v969 : Index := Scalar.indexCast c1_i32_573
  let c0_i32_150 : BitVec 32 := 0#32
  let c1_i32_152 : BitVec 32 := 1#32
  let arg15 : BitVec 32 := Scf.iv c0_i32_150 c1_i32_152 k0_t3
  let v970 : Index := Scalar.indexCast arg15
  let c1_i32_574 : BitVec 32 := 1#32
  let v971 : Index := Scalar.indexCast c1_i32_574
  let c128_575 : Index := 128#32
  ![1, v970.toNat, 1, 128]
def k0_off491 (k0_t3 : Fin k0_t3_loop.trips) : Fin 4 → Nat :=
  let c1_i32_576 : BitVec 32 := 1#32
  let v976 : Index := Scalar.indexCast c1_i32_576
  let c0_i32_150 : BitVec 32 := 0#32
  let c1_i32_152 : BitVec 32 := 1#32
  let arg15 : BitVec 32 := Scf.iv c0_i32_150 c1_i32_152 k0_t3
  let v977 : Index := Scalar.indexCast arg15
  let c2_i32_577 : BitVec 32 := 2#32
  let v978 : Index := Scalar.indexCast c2_i32_577
  let c128_578 : Index := 128#32
  ![1, v977.toNat, 2, 128]
def k0_off492 (k0_t3 : Fin k0_t3_loop.trips) : Fin 4 → Nat :=
  let c1_i32_579 : BitVec 32 := 1#32
  let v983 : Index := Scalar.indexCast c1_i32_579
  let c0_i32_150 : BitVec 32 := 0#32
  let c1_i32_152 : BitVec 32 := 1#32
  let arg15 : BitVec 32 := Scf.iv c0_i32_150 c1_i32_152 k0_t3
  let v984 : Index := Scalar.indexCast arg15
  let c3_i32_580 : BitVec 32 := 3#32
  let v985 : Index := Scalar.indexCast c3_i32_580
  let c128_581 : Index := 128#32
  ![1, v984.toNat, 3, 128]
def k0_off493 (k0_t3 : Fin k0_t3_loop.trips) : Fin 4 → Nat :=
  let c1_i32_582 : BitVec 32 := 1#32
  let v990 : Index := Scalar.indexCast c1_i32_582
  let c0_i32_150 : BitVec 32 := 0#32
  let c1_i32_152 : BitVec 32 := 1#32
  let arg15 : BitVec 32 := Scf.iv c0_i32_150 c1_i32_152 k0_t3
  let v991 : Index := Scalar.indexCast arg15
  let c4_i32_583 : BitVec 32 := 4#32
  let v992 : Index := Scalar.indexCast c4_i32_583
  let c128_584 : Index := 128#32
  ![1, v991.toNat, 4, 128]
def k0_off494 (k0_t3 : Fin k0_t3_loop.trips) : Fin 4 → Nat :=
  let c1_i32_585 : BitVec 32 := 1#32
  let v997 : Index := Scalar.indexCast c1_i32_585
  let c0_i32_150 : BitVec 32 := 0#32
  let c1_i32_152 : BitVec 32 := 1#32
  let arg15 : BitVec 32 := Scf.iv c0_i32_150 c1_i32_152 k0_t3
  let v998 : Index := Scalar.indexCast arg15
  let c5_i32_586 : BitVec 32 := 5#32
  let v999 : Index := Scalar.indexCast c5_i32_586
  let c128_587 : Index := 128#32
  ![1, v998.toNat, 5, 128]
def k0_off495 (k0_t3 : Fin k0_t3_loop.trips) : Fin 4 → Nat :=
  let c1_i32_588 : BitVec 32 := 1#32
  let v1004 : Index := Scalar.indexCast c1_i32_588
  let c0_i32_150 : BitVec 32 := 0#32
  let c1_i32_152 : BitVec 32 := 1#32
  let arg15 : BitVec 32 := Scf.iv c0_i32_150 c1_i32_152 k0_t3
  let v1005 : Index := Scalar.indexCast arg15
  let c6_i32_589 : BitVec 32 := 6#32
  let v1006 : Index := Scalar.indexCast c6_i32_589
  let c128_590 : Index := 128#32
  ![1, v1005.toNat, 6, 128]
def k0_off496 (k0_t3 : Fin k0_t3_loop.trips) : Fin 4 → Nat :=
  let c1_i32_592 : BitVec 32 := 1#32
  let v1017 : Index := Scalar.indexCast c1_i32_592
  let c0_i32_150 : BitVec 32 := 0#32
  let c1_i32_152 : BitVec 32 := 1#32
  let arg15 : BitVec 32 := Scf.iv c0_i32_150 c1_i32_152 k0_t3
  let v1018 : Index := Scalar.indexCast arg15
  let c7_i32_593 : BitVec 32 := 7#32
  let v1019 : Index := Scalar.indexCast c7_i32_593
  let c128_594 : Index := 128#32
  ![1, v1018.toNat, 7, 128]
def k0_off497 (k0_t3 : Fin k0_t3_loop.trips) : Fin 4 → Nat :=
  let c1_i32_595 : BitVec 32 := 1#32
  let v1023 : Index := Scalar.indexCast c1_i32_595
  let c0_i32_150 : BitVec 32 := 0#32
  let c1_i32_152 : BitVec 32 := 1#32
  let arg15 : BitVec 32 := Scf.iv c0_i32_150 c1_i32_152 k0_t3
  let v1024 : Index := Scalar.indexCast arg15
  let c0_i32_596 : BitVec 32 := 0#32
  let v1025 : Index := Scalar.indexCast c0_i32_596
  let c144 : Index := 144#32
  ![1, v1024.toNat, 0, 144]
def k0_off498 (k0_t3 : Fin k0_t3_loop.trips) : Fin 4 → Nat :=
  let c1_i32_597 : BitVec 32 := 1#32
  let v1028 : Index := Scalar.indexCast c1_i32_597
  let c0_i32_150 : BitVec 32 := 0#32
  let c1_i32_152 : BitVec 32 := 1#32
  let arg15 : BitVec 32 := Scf.iv c0_i32_150 c1_i32_152 k0_t3
  let v1029 : Index := Scalar.indexCast arg15
  let c1_i32_598 : BitVec 32 := 1#32
  let v1030 : Index := Scalar.indexCast c1_i32_598
  let c144_599 : Index := 144#32
  ![1, v1029.toNat, 1, 144]
def k0_off499 (k0_t3 : Fin k0_t3_loop.trips) : Fin 4 → Nat :=
  let c1_i32_600 : BitVec 32 := 1#32
  let v1033 : Index := Scalar.indexCast c1_i32_600
  let c0_i32_150 : BitVec 32 := 0#32
  let c1_i32_152 : BitVec 32 := 1#32
  let arg15 : BitVec 32 := Scf.iv c0_i32_150 c1_i32_152 k0_t3
  let v1034 : Index := Scalar.indexCast arg15
  let c2_i32_601 : BitVec 32 := 2#32
  let v1035 : Index := Scalar.indexCast c2_i32_601
  let c144_602 : Index := 144#32
  ![1, v1034.toNat, 2, 144]
def k0_off500 (k0_t3 : Fin k0_t3_loop.trips) : Fin 4 → Nat :=
  let c1_i32_603 : BitVec 32 := 1#32
  let v1038 : Index := Scalar.indexCast c1_i32_603
  let c0_i32_150 : BitVec 32 := 0#32
  let c1_i32_152 : BitVec 32 := 1#32
  let arg15 : BitVec 32 := Scf.iv c0_i32_150 c1_i32_152 k0_t3
  let v1039 : Index := Scalar.indexCast arg15
  let c3_i32_604 : BitVec 32 := 3#32
  let v1040 : Index := Scalar.indexCast c3_i32_604
  let c144_605 : Index := 144#32
  ![1, v1039.toNat, 3, 144]
def k0_off501 (k0_t3 : Fin k0_t3_loop.trips) : Fin 4 → Nat :=
  let c1_i32_618 : BitVec 32 := 1#32
  let v1064 : Index := Scalar.indexCast c1_i32_618
  let c0_i32_150 : BitVec 32 := 0#32
  let c1_i32_152 : BitVec 32 := 1#32
  let arg15 : BitVec 32 := Scf.iv c0_i32_150 c1_i32_152 k0_t3
  let v1065 : Index := Scalar.indexCast arg15
  let c0_i32_619 : BitVec 32 := 0#32
  let v1066 : Index := Scalar.indexCast c0_i32_619
  let c144_620 : Index := 144#32
  ![1, v1065.toNat, 0, 144]
def k0_off502 (k0_t3 : Fin k0_t3_loop.trips) : Fin 4 → Nat :=
  let c1_i32_621 : BitVec 32 := 1#32
  let v1071 : Index := Scalar.indexCast c1_i32_621
  let c0_i32_150 : BitVec 32 := 0#32
  let c1_i32_152 : BitVec 32 := 1#32
  let arg15 : BitVec 32 := Scf.iv c0_i32_150 c1_i32_152 k0_t3
  let v1072 : Index := Scalar.indexCast arg15
  let c1_i32_622 : BitVec 32 := 1#32
  let v1073 : Index := Scalar.indexCast c1_i32_622
  let c144_623 : Index := 144#32
  ![1, v1072.toNat, 1, 144]
def k0_off503 (k0_t3 : Fin k0_t3_loop.trips) : Fin 4 → Nat :=
  let c1_i32_624 : BitVec 32 := 1#32
  let v1078 : Index := Scalar.indexCast c1_i32_624
  let c0_i32_150 : BitVec 32 := 0#32
  let c1_i32_152 : BitVec 32 := 1#32
  let arg15 : BitVec 32 := Scf.iv c0_i32_150 c1_i32_152 k0_t3
  let v1079 : Index := Scalar.indexCast arg15
  let c2_i32_625 : BitVec 32 := 2#32
  let v1080 : Index := Scalar.indexCast c2_i32_625
  let c144_626 : Index := 144#32
  ![1, v1079.toNat, 2, 144]
def k0_off504 (k0_t3 : Fin k0_t3_loop.trips) : Fin 4 → Nat :=
  let c1_i32_627 : BitVec 32 := 1#32
  let v1085 : Index := Scalar.indexCast c1_i32_627
  let c0_i32_150 : BitVec 32 := 0#32
  let c1_i32_152 : BitVec 32 := 1#32
  let arg15 : BitVec 32 := Scf.iv c0_i32_150 c1_i32_152 k0_t3
  let v1086 : Index := Scalar.indexCast arg15
  let c3_i32_628 : BitVec 32 := 3#32
  let v1087 : Index := Scalar.indexCast c3_i32_628
  let c144_629 : Index := 144#32
  ![1, v1086.toNat, 3, 144]
def k0_off505 (k0_t3 : Fin k0_t3_loop.trips) : Fin 4 → Nat :=
  let c1_i32_630 : BitVec 32 := 1#32
  let v1092 : Index := Scalar.indexCast c1_i32_630
  let c0_i32_150 : BitVec 32 := 0#32
  let c1_i32_152 : BitVec 32 := 1#32
  let arg15 : BitVec 32 := Scf.iv c0_i32_150 c1_i32_152 k0_t3
  let v1093 : Index := Scalar.indexCast arg15
  let c4_i32_631 : BitVec 32 := 4#32
  let v1094 : Index := Scalar.indexCast c4_i32_631
  let c144_632 : Index := 144#32
  ![1, v1093.toNat, 4, 144]
def k0_off506 (k0_t3 : Fin k0_t3_loop.trips) : Fin 4 → Nat :=
  let c1_i32_633 : BitVec 32 := 1#32
  let v1099 : Index := Scalar.indexCast c1_i32_633
  let c0_i32_150 : BitVec 32 := 0#32
  let c1_i32_152 : BitVec 32 := 1#32
  let arg15 : BitVec 32 := Scf.iv c0_i32_150 c1_i32_152 k0_t3
  let v1100 : Index := Scalar.indexCast arg15
  let c5_i32_634 : BitVec 32 := 5#32
  let v1101 : Index := Scalar.indexCast c5_i32_634
  let c144_635 : Index := 144#32
  ![1, v1100.toNat, 5, 144]
def k0_off507 (k0_t3 : Fin k0_t3_loop.trips) : Fin 4 → Nat :=
  let c1_i32_636 : BitVec 32 := 1#32
  let v1106 : Index := Scalar.indexCast c1_i32_636
  let c0_i32_150 : BitVec 32 := 0#32
  let c1_i32_152 : BitVec 32 := 1#32
  let arg15 : BitVec 32 := Scf.iv c0_i32_150 c1_i32_152 k0_t3
  let v1107 : Index := Scalar.indexCast arg15
  let c6_i32_637 : BitVec 32 := 6#32
  let v1108 : Index := Scalar.indexCast c6_i32_637
  let c144_638 : Index := 144#32
  ![1, v1107.toNat, 6, 144]
def k0_off508 (k0_t3 : Fin k0_t3_loop.trips) : Fin 4 → Nat :=
  let c1_i32_640 : BitVec 32 := 1#32
  let v1119 : Index := Scalar.indexCast c1_i32_640
  let c0_i32_150 : BitVec 32 := 0#32
  let c1_i32_152 : BitVec 32 := 1#32
  let arg15 : BitVec 32 := Scf.iv c0_i32_150 c1_i32_152 k0_t3
  let v1120 : Index := Scalar.indexCast arg15
  let c7_i32_641 : BitVec 32 := 7#32
  let v1121 : Index := Scalar.indexCast c7_i32_641
  let c144_642 : Index := 144#32
  ![1, v1120.toNat, 7, 144]
def k0_off509 (k0_t3 : Fin k0_t3_loop.trips) : Fin 4 → Nat :=
  let c1_i32_643 : BitVec 32 := 1#32
  let v1125 : Index := Scalar.indexCast c1_i32_643
  let c0_i32_150 : BitVec 32 := 0#32
  let c1_i32_152 : BitVec 32 := 1#32
  let arg15 : BitVec 32 := Scf.iv c0_i32_150 c1_i32_152 k0_t3
  let v1126 : Index := Scalar.indexCast arg15
  let c0_i32_644 : BitVec 32 := 0#32
  let v1127 : Index := Scalar.indexCast c0_i32_644
  let c160 : Index := 160#32
  ![1, v1126.toNat, 0, 160]
def k0_off510 (k0_t3 : Fin k0_t3_loop.trips) : Fin 4 → Nat :=
  let c1_i32_645 : BitVec 32 := 1#32
  let v1130 : Index := Scalar.indexCast c1_i32_645
  let c0_i32_150 : BitVec 32 := 0#32
  let c1_i32_152 : BitVec 32 := 1#32
  let arg15 : BitVec 32 := Scf.iv c0_i32_150 c1_i32_152 k0_t3
  let v1131 : Index := Scalar.indexCast arg15
  let c1_i32_646 : BitVec 32 := 1#32
  let v1132 : Index := Scalar.indexCast c1_i32_646
  let c160_647 : Index := 160#32
  ![1, v1131.toNat, 1, 160]
def k0_off511 (k0_t3 : Fin k0_t3_loop.trips) : Fin 4 → Nat :=
  let c1_i32_648 : BitVec 32 := 1#32
  let v1135 : Index := Scalar.indexCast c1_i32_648
  let c0_i32_150 : BitVec 32 := 0#32
  let c1_i32_152 : BitVec 32 := 1#32
  let arg15 : BitVec 32 := Scf.iv c0_i32_150 c1_i32_152 k0_t3
  let v1136 : Index := Scalar.indexCast arg15
  let c2_i32_649 : BitVec 32 := 2#32
  let v1137 : Index := Scalar.indexCast c2_i32_649
  let c160_650 : Index := 160#32
  ![1, v1136.toNat, 2, 160]
def k0_off512 (k0_t3 : Fin k0_t3_loop.trips) : Fin 4 → Nat :=
  let c1_i32_651 : BitVec 32 := 1#32
  let v1140 : Index := Scalar.indexCast c1_i32_651
  let c0_i32_150 : BitVec 32 := 0#32
  let c1_i32_152 : BitVec 32 := 1#32
  let arg15 : BitVec 32 := Scf.iv c0_i32_150 c1_i32_152 k0_t3
  let v1141 : Index := Scalar.indexCast arg15
  let c3_i32_652 : BitVec 32 := 3#32
  let v1142 : Index := Scalar.indexCast c3_i32_652
  let c160_653 : Index := 160#32
  ![1, v1141.toNat, 3, 160]
def k0_off513 (k0_t3 : Fin k0_t3_loop.trips) : Fin 4 → Nat :=
  let c1_i32_666 : BitVec 32 := 1#32
  let v1166 : Index := Scalar.indexCast c1_i32_666
  let c0_i32_150 : BitVec 32 := 0#32
  let c1_i32_152 : BitVec 32 := 1#32
  let arg15 : BitVec 32 := Scf.iv c0_i32_150 c1_i32_152 k0_t3
  let v1167 : Index := Scalar.indexCast arg15
  let c0_i32_667 : BitVec 32 := 0#32
  let v1168 : Index := Scalar.indexCast c0_i32_667
  let c160_668 : Index := 160#32
  ![1, v1167.toNat, 0, 160]
def k0_off514 (k0_t3 : Fin k0_t3_loop.trips) : Fin 4 → Nat :=
  let c1_i32_669 : BitVec 32 := 1#32
  let v1173 : Index := Scalar.indexCast c1_i32_669
  let c0_i32_150 : BitVec 32 := 0#32
  let c1_i32_152 : BitVec 32 := 1#32
  let arg15 : BitVec 32 := Scf.iv c0_i32_150 c1_i32_152 k0_t3
  let v1174 : Index := Scalar.indexCast arg15
  let c1_i32_670 : BitVec 32 := 1#32
  let v1175 : Index := Scalar.indexCast c1_i32_670
  let c160_671 : Index := 160#32
  ![1, v1174.toNat, 1, 160]
def k0_off515 (k0_t3 : Fin k0_t3_loop.trips) : Fin 4 → Nat :=
  let c1_i32_672 : BitVec 32 := 1#32
  let v1180 : Index := Scalar.indexCast c1_i32_672
  let c0_i32_150 : BitVec 32 := 0#32
  let c1_i32_152 : BitVec 32 := 1#32
  let arg15 : BitVec 32 := Scf.iv c0_i32_150 c1_i32_152 k0_t3
  let v1181 : Index := Scalar.indexCast arg15
  let c2_i32_673 : BitVec 32 := 2#32
  let v1182 : Index := Scalar.indexCast c2_i32_673
  let c160_674 : Index := 160#32
  ![1, v1181.toNat, 2, 160]
def k0_off516 (k0_t3 : Fin k0_t3_loop.trips) : Fin 4 → Nat :=
  let c1_i32_675 : BitVec 32 := 1#32
  let v1187 : Index := Scalar.indexCast c1_i32_675
  let c0_i32_150 : BitVec 32 := 0#32
  let c1_i32_152 : BitVec 32 := 1#32
  let arg15 : BitVec 32 := Scf.iv c0_i32_150 c1_i32_152 k0_t3
  let v1188 : Index := Scalar.indexCast arg15
  let c3_i32_676 : BitVec 32 := 3#32
  let v1189 : Index := Scalar.indexCast c3_i32_676
  let c160_677 : Index := 160#32
  ![1, v1188.toNat, 3, 160]
def k0_off517 (k0_t3 : Fin k0_t3_loop.trips) : Fin 4 → Nat :=
  let c1_i32_678 : BitVec 32 := 1#32
  let v1194 : Index := Scalar.indexCast c1_i32_678
  let c0_i32_150 : BitVec 32 := 0#32
  let c1_i32_152 : BitVec 32 := 1#32
  let arg15 : BitVec 32 := Scf.iv c0_i32_150 c1_i32_152 k0_t3
  let v1195 : Index := Scalar.indexCast arg15
  let c4_i32_679 : BitVec 32 := 4#32
  let v1196 : Index := Scalar.indexCast c4_i32_679
  let c160_680 : Index := 160#32
  ![1, v1195.toNat, 4, 160]
def k0_off518 (k0_t3 : Fin k0_t3_loop.trips) : Fin 4 → Nat :=
  let c1_i32_681 : BitVec 32 := 1#32
  let v1201 : Index := Scalar.indexCast c1_i32_681
  let c0_i32_150 : BitVec 32 := 0#32
  let c1_i32_152 : BitVec 32 := 1#32
  let arg15 : BitVec 32 := Scf.iv c0_i32_150 c1_i32_152 k0_t3
  let v1202 : Index := Scalar.indexCast arg15
  let c5_i32_682 : BitVec 32 := 5#32
  let v1203 : Index := Scalar.indexCast c5_i32_682
  let c160_683 : Index := 160#32
  ![1, v1202.toNat, 5, 160]
def k0_off519 (k0_t3 : Fin k0_t3_loop.trips) : Fin 4 → Nat :=
  let c1_i32_684 : BitVec 32 := 1#32
  let v1208 : Index := Scalar.indexCast c1_i32_684
  let c0_i32_150 : BitVec 32 := 0#32
  let c1_i32_152 : BitVec 32 := 1#32
  let arg15 : BitVec 32 := Scf.iv c0_i32_150 c1_i32_152 k0_t3
  let v1209 : Index := Scalar.indexCast arg15
  let c6_i32_685 : BitVec 32 := 6#32
  let v1210 : Index := Scalar.indexCast c6_i32_685
  let c160_686 : Index := 160#32
  ![1, v1209.toNat, 6, 160]
def k0_off520 (k0_t3 : Fin k0_t3_loop.trips) : Fin 4 → Nat :=
  let c1_i32_688 : BitVec 32 := 1#32
  let v1221 : Index := Scalar.indexCast c1_i32_688
  let c0_i32_150 : BitVec 32 := 0#32
  let c1_i32_152 : BitVec 32 := 1#32
  let arg15 : BitVec 32 := Scf.iv c0_i32_150 c1_i32_152 k0_t3
  let v1222 : Index := Scalar.indexCast arg15
  let c7_i32_689 : BitVec 32 := 7#32
  let v1223 : Index := Scalar.indexCast c7_i32_689
  let c160_690 : Index := 160#32
  ![1, v1222.toNat, 7, 160]
def k0_off521 (k0_t3 : Fin k0_t3_loop.trips) : Fin 4 → Nat :=
  let c1_i32_691 : BitVec 32 := 1#32
  let v1227 : Index := Scalar.indexCast c1_i32_691
  let c0_i32_150 : BitVec 32 := 0#32
  let c1_i32_152 : BitVec 32 := 1#32
  let arg15 : BitVec 32 := Scf.iv c0_i32_150 c1_i32_152 k0_t3
  let v1228 : Index := Scalar.indexCast arg15
  let c0_i32_692 : BitVec 32 := 0#32
  let v1229 : Index := Scalar.indexCast c0_i32_692
  let c176 : Index := 176#32
  ![1, v1228.toNat, 0, 176]
def k0_off522 (k0_t3 : Fin k0_t3_loop.trips) : Fin 4 → Nat :=
  let c1_i32_693 : BitVec 32 := 1#32
  let v1232 : Index := Scalar.indexCast c1_i32_693
  let c0_i32_150 : BitVec 32 := 0#32
  let c1_i32_152 : BitVec 32 := 1#32
  let arg15 : BitVec 32 := Scf.iv c0_i32_150 c1_i32_152 k0_t3
  let v1233 : Index := Scalar.indexCast arg15
  let c1_i32_694 : BitVec 32 := 1#32
  let v1234 : Index := Scalar.indexCast c1_i32_694
  let c176_695 : Index := 176#32
  ![1, v1233.toNat, 1, 176]
def k0_off523 (k0_t3 : Fin k0_t3_loop.trips) : Fin 4 → Nat :=
  let c1_i32_696 : BitVec 32 := 1#32
  let v1237 : Index := Scalar.indexCast c1_i32_696
  let c0_i32_150 : BitVec 32 := 0#32
  let c1_i32_152 : BitVec 32 := 1#32
  let arg15 : BitVec 32 := Scf.iv c0_i32_150 c1_i32_152 k0_t3
  let v1238 : Index := Scalar.indexCast arg15
  let c2_i32_697 : BitVec 32 := 2#32
  let v1239 : Index := Scalar.indexCast c2_i32_697
  let c176_698 : Index := 176#32
  ![1, v1238.toNat, 2, 176]
def k0_off524 (k0_t3 : Fin k0_t3_loop.trips) : Fin 4 → Nat :=
  let c1_i32_699 : BitVec 32 := 1#32
  let v1242 : Index := Scalar.indexCast c1_i32_699
  let c0_i32_150 : BitVec 32 := 0#32
  let c1_i32_152 : BitVec 32 := 1#32
  let arg15 : BitVec 32 := Scf.iv c0_i32_150 c1_i32_152 k0_t3
  let v1243 : Index := Scalar.indexCast arg15
  let c3_i32_700 : BitVec 32 := 3#32
  let v1244 : Index := Scalar.indexCast c3_i32_700
  let c176_701 : Index := 176#32
  ![1, v1243.toNat, 3, 176]
def k0_off525 (k0_t3 : Fin k0_t3_loop.trips) : Fin 4 → Nat :=
  let c1_i32_714 : BitVec 32 := 1#32
  let v1268 : Index := Scalar.indexCast c1_i32_714
  let c0_i32_150 : BitVec 32 := 0#32
  let c1_i32_152 : BitVec 32 := 1#32
  let arg15 : BitVec 32 := Scf.iv c0_i32_150 c1_i32_152 k0_t3
  let v1269 : Index := Scalar.indexCast arg15
  let c0_i32_715 : BitVec 32 := 0#32
  let v1270 : Index := Scalar.indexCast c0_i32_715
  let c176_716 : Index := 176#32
  ![1, v1269.toNat, 0, 176]
def k0_off526 (k0_t3 : Fin k0_t3_loop.trips) : Fin 4 → Nat :=
  let c1_i32_717 : BitVec 32 := 1#32
  let v1275 : Index := Scalar.indexCast c1_i32_717
  let c0_i32_150 : BitVec 32 := 0#32
  let c1_i32_152 : BitVec 32 := 1#32
  let arg15 : BitVec 32 := Scf.iv c0_i32_150 c1_i32_152 k0_t3
  let v1276 : Index := Scalar.indexCast arg15
  let c1_i32_718 : BitVec 32 := 1#32
  let v1277 : Index := Scalar.indexCast c1_i32_718
  let c176_719 : Index := 176#32
  ![1, v1276.toNat, 1, 176]
def k0_off527 (k0_t3 : Fin k0_t3_loop.trips) : Fin 4 → Nat :=
  let c1_i32_720 : BitVec 32 := 1#32
  let v1282 : Index := Scalar.indexCast c1_i32_720
  let c0_i32_150 : BitVec 32 := 0#32
  let c1_i32_152 : BitVec 32 := 1#32
  let arg15 : BitVec 32 := Scf.iv c0_i32_150 c1_i32_152 k0_t3
  let v1283 : Index := Scalar.indexCast arg15
  let c2_i32_721 : BitVec 32 := 2#32
  let v1284 : Index := Scalar.indexCast c2_i32_721
  let c176_722 : Index := 176#32
  ![1, v1283.toNat, 2, 176]
def k0_off528 (k0_t3 : Fin k0_t3_loop.trips) : Fin 4 → Nat :=
  let c1_i32_723 : BitVec 32 := 1#32
  let v1289 : Index := Scalar.indexCast c1_i32_723
  let c0_i32_150 : BitVec 32 := 0#32
  let c1_i32_152 : BitVec 32 := 1#32
  let arg15 : BitVec 32 := Scf.iv c0_i32_150 c1_i32_152 k0_t3
  let v1290 : Index := Scalar.indexCast arg15
  let c3_i32_724 : BitVec 32 := 3#32
  let v1291 : Index := Scalar.indexCast c3_i32_724
  let c176_725 : Index := 176#32
  ![1, v1290.toNat, 3, 176]
def k0_off529 (k0_t3 : Fin k0_t3_loop.trips) : Fin 4 → Nat :=
  let c1_i32_726 : BitVec 32 := 1#32
  let v1296 : Index := Scalar.indexCast c1_i32_726
  let c0_i32_150 : BitVec 32 := 0#32
  let c1_i32_152 : BitVec 32 := 1#32
  let arg15 : BitVec 32 := Scf.iv c0_i32_150 c1_i32_152 k0_t3
  let v1297 : Index := Scalar.indexCast arg15
  let c4_i32_727 : BitVec 32 := 4#32
  let v1298 : Index := Scalar.indexCast c4_i32_727
  let c176_728 : Index := 176#32
  ![1, v1297.toNat, 4, 176]
def k0_off530 (k0_t3 : Fin k0_t3_loop.trips) : Fin 4 → Nat :=
  let c1_i32_729 : BitVec 32 := 1#32
  let v1303 : Index := Scalar.indexCast c1_i32_729
  let c0_i32_150 : BitVec 32 := 0#32
  let c1_i32_152 : BitVec 32 := 1#32
  let arg15 : BitVec 32 := Scf.iv c0_i32_150 c1_i32_152 k0_t3
  let v1304 : Index := Scalar.indexCast arg15
  let c5_i32_730 : BitVec 32 := 5#32
  let v1305 : Index := Scalar.indexCast c5_i32_730
  let c176_731 : Index := 176#32
  ![1, v1304.toNat, 5, 176]
def k0_off531 (k0_t3 : Fin k0_t3_loop.trips) : Fin 4 → Nat :=
  let c1_i32_732 : BitVec 32 := 1#32
  let v1310 : Index := Scalar.indexCast c1_i32_732
  let c0_i32_150 : BitVec 32 := 0#32
  let c1_i32_152 : BitVec 32 := 1#32
  let arg15 : BitVec 32 := Scf.iv c0_i32_150 c1_i32_152 k0_t3
  let v1311 : Index := Scalar.indexCast arg15
  let c6_i32_733 : BitVec 32 := 6#32
  let v1312 : Index := Scalar.indexCast c6_i32_733
  let c176_734 : Index := 176#32
  ![1, v1311.toNat, 6, 176]
def k0_off532 (k0_t3 : Fin k0_t3_loop.trips) : Fin 4 → Nat :=
  let c1_i32_736 : BitVec 32 := 1#32
  let v1323 : Index := Scalar.indexCast c1_i32_736
  let c0_i32_150 : BitVec 32 := 0#32
  let c1_i32_152 : BitVec 32 := 1#32
  let arg15 : BitVec 32 := Scf.iv c0_i32_150 c1_i32_152 k0_t3
  let v1324 : Index := Scalar.indexCast arg15
  let c7_i32_737 : BitVec 32 := 7#32
  let v1325 : Index := Scalar.indexCast c7_i32_737
  let c176_738 : Index := 176#32
  ![1, v1324.toNat, 7, 176]
def k0_off533 (k0_t3 : Fin k0_t3_loop.trips) : Fin 4 → Nat :=
  let c1_i32_739 : BitVec 32 := 1#32
  let v1329 : Index := Scalar.indexCast c1_i32_739
  let c0_i32_150 : BitVec 32 := 0#32
  let c1_i32_152 : BitVec 32 := 1#32
  let arg15 : BitVec 32 := Scf.iv c0_i32_150 c1_i32_152 k0_t3
  let v1330 : Index := Scalar.indexCast arg15
  let c0_i32_740 : BitVec 32 := 0#32
  let v1331 : Index := Scalar.indexCast c0_i32_740
  let c192 : Index := 192#32
  ![1, v1330.toNat, 0, 192]
def k0_off534 (k0_t3 : Fin k0_t3_loop.trips) : Fin 4 → Nat :=
  let c1_i32_741 : BitVec 32 := 1#32
  let v1334 : Index := Scalar.indexCast c1_i32_741
  let c0_i32_150 : BitVec 32 := 0#32
  let c1_i32_152 : BitVec 32 := 1#32
  let arg15 : BitVec 32 := Scf.iv c0_i32_150 c1_i32_152 k0_t3
  let v1335 : Index := Scalar.indexCast arg15
  let c1_i32_742 : BitVec 32 := 1#32
  let v1336 : Index := Scalar.indexCast c1_i32_742
  let c192_743 : Index := 192#32
  ![1, v1335.toNat, 1, 192]
def k0_off535 (k0_t3 : Fin k0_t3_loop.trips) : Fin 4 → Nat :=
  let c1_i32_744 : BitVec 32 := 1#32
  let v1339 : Index := Scalar.indexCast c1_i32_744
  let c0_i32_150 : BitVec 32 := 0#32
  let c1_i32_152 : BitVec 32 := 1#32
  let arg15 : BitVec 32 := Scf.iv c0_i32_150 c1_i32_152 k0_t3
  let v1340 : Index := Scalar.indexCast arg15
  let c2_i32_745 : BitVec 32 := 2#32
  let v1341 : Index := Scalar.indexCast c2_i32_745
  let c192_746 : Index := 192#32
  ![1, v1340.toNat, 2, 192]
def k0_off536 (k0_t3 : Fin k0_t3_loop.trips) : Fin 4 → Nat :=
  let c1_i32_747 : BitVec 32 := 1#32
  let v1344 : Index := Scalar.indexCast c1_i32_747
  let c0_i32_150 : BitVec 32 := 0#32
  let c1_i32_152 : BitVec 32 := 1#32
  let arg15 : BitVec 32 := Scf.iv c0_i32_150 c1_i32_152 k0_t3
  let v1345 : Index := Scalar.indexCast arg15
  let c3_i32_748 : BitVec 32 := 3#32
  let v1346 : Index := Scalar.indexCast c3_i32_748
  let c192_749 : Index := 192#32
  ![1, v1345.toNat, 3, 192]
def k0_off537 (k0_t3 : Fin k0_t3_loop.trips) : Fin 4 → Nat :=
  let c1_i32_762 : BitVec 32 := 1#32
  let v1370 : Index := Scalar.indexCast c1_i32_762
  let c0_i32_150 : BitVec 32 := 0#32
  let c1_i32_152 : BitVec 32 := 1#32
  let arg15 : BitVec 32 := Scf.iv c0_i32_150 c1_i32_152 k0_t3
  let v1371 : Index := Scalar.indexCast arg15
  let c0_i32_763 : BitVec 32 := 0#32
  let v1372 : Index := Scalar.indexCast c0_i32_763
  let c192_764 : Index := 192#32
  ![1, v1371.toNat, 0, 192]
def k0_off538 (k0_t3 : Fin k0_t3_loop.trips) : Fin 4 → Nat :=
  let c1_i32_765 : BitVec 32 := 1#32
  let v1377 : Index := Scalar.indexCast c1_i32_765
  let c0_i32_150 : BitVec 32 := 0#32
  let c1_i32_152 : BitVec 32 := 1#32
  let arg15 : BitVec 32 := Scf.iv c0_i32_150 c1_i32_152 k0_t3
  let v1378 : Index := Scalar.indexCast arg15
  let c1_i32_766 : BitVec 32 := 1#32
  let v1379 : Index := Scalar.indexCast c1_i32_766
  let c192_767 : Index := 192#32
  ![1, v1378.toNat, 1, 192]
def k0_off539 (k0_t3 : Fin k0_t3_loop.trips) : Fin 4 → Nat :=
  let c1_i32_768 : BitVec 32 := 1#32
  let v1384 : Index := Scalar.indexCast c1_i32_768
  let c0_i32_150 : BitVec 32 := 0#32
  let c1_i32_152 : BitVec 32 := 1#32
  let arg15 : BitVec 32 := Scf.iv c0_i32_150 c1_i32_152 k0_t3
  let v1385 : Index := Scalar.indexCast arg15
  let c2_i32_769 : BitVec 32 := 2#32
  let v1386 : Index := Scalar.indexCast c2_i32_769
  let c192_770 : Index := 192#32
  ![1, v1385.toNat, 2, 192]
def k0_off540 (k0_t3 : Fin k0_t3_loop.trips) : Fin 4 → Nat :=
  let c1_i32_771 : BitVec 32 := 1#32
  let v1391 : Index := Scalar.indexCast c1_i32_771
  let c0_i32_150 : BitVec 32 := 0#32
  let c1_i32_152 : BitVec 32 := 1#32
  let arg15 : BitVec 32 := Scf.iv c0_i32_150 c1_i32_152 k0_t3
  let v1392 : Index := Scalar.indexCast arg15
  let c3_i32_772 : BitVec 32 := 3#32
  let v1393 : Index := Scalar.indexCast c3_i32_772
  let c192_773 : Index := 192#32
  ![1, v1392.toNat, 3, 192]
def k0_off541 (k0_t3 : Fin k0_t3_loop.trips) : Fin 4 → Nat :=
  let c1_i32_774 : BitVec 32 := 1#32
  let v1398 : Index := Scalar.indexCast c1_i32_774
  let c0_i32_150 : BitVec 32 := 0#32
  let c1_i32_152 : BitVec 32 := 1#32
  let arg15 : BitVec 32 := Scf.iv c0_i32_150 c1_i32_152 k0_t3
  let v1399 : Index := Scalar.indexCast arg15
  let c4_i32_775 : BitVec 32 := 4#32
  let v1400 : Index := Scalar.indexCast c4_i32_775
  let c192_776 : Index := 192#32
  ![1, v1399.toNat, 4, 192]
def k0_off542 (k0_t3 : Fin k0_t3_loop.trips) : Fin 4 → Nat :=
  let c1_i32_777 : BitVec 32 := 1#32
  let v1405 : Index := Scalar.indexCast c1_i32_777
  let c0_i32_150 : BitVec 32 := 0#32
  let c1_i32_152 : BitVec 32 := 1#32
  let arg15 : BitVec 32 := Scf.iv c0_i32_150 c1_i32_152 k0_t3
  let v1406 : Index := Scalar.indexCast arg15
  let c5_i32_778 : BitVec 32 := 5#32
  let v1407 : Index := Scalar.indexCast c5_i32_778
  let c192_779 : Index := 192#32
  ![1, v1406.toNat, 5, 192]
def k0_off543 (k0_t3 : Fin k0_t3_loop.trips) : Fin 4 → Nat :=
  let c1_i32_780 : BitVec 32 := 1#32
  let v1412 : Index := Scalar.indexCast c1_i32_780
  let c0_i32_150 : BitVec 32 := 0#32
  let c1_i32_152 : BitVec 32 := 1#32
  let arg15 : BitVec 32 := Scf.iv c0_i32_150 c1_i32_152 k0_t3
  let v1413 : Index := Scalar.indexCast arg15
  let c6_i32_781 : BitVec 32 := 6#32
  let v1414 : Index := Scalar.indexCast c6_i32_781
  let c192_782 : Index := 192#32
  ![1, v1413.toNat, 6, 192]
def k0_off544 (k0_t3 : Fin k0_t3_loop.trips) : Fin 4 → Nat :=
  let c1_i32_784 : BitVec 32 := 1#32
  let v1425 : Index := Scalar.indexCast c1_i32_784
  let c0_i32_150 : BitVec 32 := 0#32
  let c1_i32_152 : BitVec 32 := 1#32
  let arg15 : BitVec 32 := Scf.iv c0_i32_150 c1_i32_152 k0_t3
  let v1426 : Index := Scalar.indexCast arg15
  let c7_i32_785 : BitVec 32 := 7#32
  let v1427 : Index := Scalar.indexCast c7_i32_785
  let c192_786 : Index := 192#32
  ![1, v1426.toNat, 7, 192]
def k0_off545 (k0_t3 : Fin k0_t3_loop.trips) : Fin 4 → Nat :=
  let c1_i32_787 : BitVec 32 := 1#32
  let v1431 : Index := Scalar.indexCast c1_i32_787
  let c0_i32_150 : BitVec 32 := 0#32
  let c1_i32_152 : BitVec 32 := 1#32
  let arg15 : BitVec 32 := Scf.iv c0_i32_150 c1_i32_152 k0_t3
  let v1432 : Index := Scalar.indexCast arg15
  let c0_i32_788 : BitVec 32 := 0#32
  let v1433 : Index := Scalar.indexCast c0_i32_788
  let c208 : Index := 208#32
  ![1, v1432.toNat, 0, 208]
def k0_off546 (k0_t3 : Fin k0_t3_loop.trips) : Fin 4 → Nat :=
  let c1_i32_789 : BitVec 32 := 1#32
  let v1436 : Index := Scalar.indexCast c1_i32_789
  let c0_i32_150 : BitVec 32 := 0#32
  let c1_i32_152 : BitVec 32 := 1#32
  let arg15 : BitVec 32 := Scf.iv c0_i32_150 c1_i32_152 k0_t3
  let v1437 : Index := Scalar.indexCast arg15
  let c1_i32_790 : BitVec 32 := 1#32
  let v1438 : Index := Scalar.indexCast c1_i32_790
  let c208_791 : Index := 208#32
  ![1, v1437.toNat, 1, 208]
def k0_off547 (k0_t3 : Fin k0_t3_loop.trips) : Fin 4 → Nat :=
  let c1_i32_792 : BitVec 32 := 1#32
  let v1441 : Index := Scalar.indexCast c1_i32_792
  let c0_i32_150 : BitVec 32 := 0#32
  let c1_i32_152 : BitVec 32 := 1#32
  let arg15 : BitVec 32 := Scf.iv c0_i32_150 c1_i32_152 k0_t3
  let v1442 : Index := Scalar.indexCast arg15
  let c2_i32_793 : BitVec 32 := 2#32
  let v1443 : Index := Scalar.indexCast c2_i32_793
  let c208_794 : Index := 208#32
  ![1, v1442.toNat, 2, 208]
def k0_off548 (k0_t3 : Fin k0_t3_loop.trips) : Fin 4 → Nat :=
  let c1_i32_795 : BitVec 32 := 1#32
  let v1446 : Index := Scalar.indexCast c1_i32_795
  let c0_i32_150 : BitVec 32 := 0#32
  let c1_i32_152 : BitVec 32 := 1#32
  let arg15 : BitVec 32 := Scf.iv c0_i32_150 c1_i32_152 k0_t3
  let v1447 : Index := Scalar.indexCast arg15
  let c3_i32_796 : BitVec 32 := 3#32
  let v1448 : Index := Scalar.indexCast c3_i32_796
  let c208_797 : Index := 208#32
  ![1, v1447.toNat, 3, 208]
def k0_off549 (k0_t3 : Fin k0_t3_loop.trips) : Fin 4 → Nat :=
  let c1_i32_810 : BitVec 32 := 1#32
  let v1472 : Index := Scalar.indexCast c1_i32_810
  let c0_i32_150 : BitVec 32 := 0#32
  let c1_i32_152 : BitVec 32 := 1#32
  let arg15 : BitVec 32 := Scf.iv c0_i32_150 c1_i32_152 k0_t3
  let v1473 : Index := Scalar.indexCast arg15
  let c0_i32_811 : BitVec 32 := 0#32
  let v1474 : Index := Scalar.indexCast c0_i32_811
  let c208_812 : Index := 208#32
  ![1, v1473.toNat, 0, 208]
def k0_off550 (k0_t3 : Fin k0_t3_loop.trips) : Fin 4 → Nat :=
  let c1_i32_813 : BitVec 32 := 1#32
  let v1479 : Index := Scalar.indexCast c1_i32_813
  let c0_i32_150 : BitVec 32 := 0#32
  let c1_i32_152 : BitVec 32 := 1#32
  let arg15 : BitVec 32 := Scf.iv c0_i32_150 c1_i32_152 k0_t3
  let v1480 : Index := Scalar.indexCast arg15
  let c1_i32_814 : BitVec 32 := 1#32
  let v1481 : Index := Scalar.indexCast c1_i32_814
  let c208_815 : Index := 208#32
  ![1, v1480.toNat, 1, 208]
def k0_off551 (k0_t3 : Fin k0_t3_loop.trips) : Fin 4 → Nat :=
  let c1_i32_816 : BitVec 32 := 1#32
  let v1486 : Index := Scalar.indexCast c1_i32_816
  let c0_i32_150 : BitVec 32 := 0#32
  let c1_i32_152 : BitVec 32 := 1#32
  let arg15 : BitVec 32 := Scf.iv c0_i32_150 c1_i32_152 k0_t3
  let v1487 : Index := Scalar.indexCast arg15
  let c2_i32_817 : BitVec 32 := 2#32
  let v1488 : Index := Scalar.indexCast c2_i32_817
  let c208_818 : Index := 208#32
  ![1, v1487.toNat, 2, 208]
def k0_off552 (k0_t3 : Fin k0_t3_loop.trips) : Fin 4 → Nat :=
  let c1_i32_819 : BitVec 32 := 1#32
  let v1493 : Index := Scalar.indexCast c1_i32_819
  let c0_i32_150 : BitVec 32 := 0#32
  let c1_i32_152 : BitVec 32 := 1#32
  let arg15 : BitVec 32 := Scf.iv c0_i32_150 c1_i32_152 k0_t3
  let v1494 : Index := Scalar.indexCast arg15
  let c3_i32_820 : BitVec 32 := 3#32
  let v1495 : Index := Scalar.indexCast c3_i32_820
  let c208_821 : Index := 208#32
  ![1, v1494.toNat, 3, 208]
def k0_off553 (k0_t3 : Fin k0_t3_loop.trips) : Fin 4 → Nat :=
  let c1_i32_822 : BitVec 32 := 1#32
  let v1500 : Index := Scalar.indexCast c1_i32_822
  let c0_i32_150 : BitVec 32 := 0#32
  let c1_i32_152 : BitVec 32 := 1#32
  let arg15 : BitVec 32 := Scf.iv c0_i32_150 c1_i32_152 k0_t3
  let v1501 : Index := Scalar.indexCast arg15
  let c4_i32_823 : BitVec 32 := 4#32
  let v1502 : Index := Scalar.indexCast c4_i32_823
  let c208_824 : Index := 208#32
  ![1, v1501.toNat, 4, 208]
def k0_off554 (k0_t3 : Fin k0_t3_loop.trips) : Fin 4 → Nat :=
  let c1_i32_825 : BitVec 32 := 1#32
  let v1507 : Index := Scalar.indexCast c1_i32_825
  let c0_i32_150 : BitVec 32 := 0#32
  let c1_i32_152 : BitVec 32 := 1#32
  let arg15 : BitVec 32 := Scf.iv c0_i32_150 c1_i32_152 k0_t3
  let v1508 : Index := Scalar.indexCast arg15
  let c5_i32_826 : BitVec 32 := 5#32
  let v1509 : Index := Scalar.indexCast c5_i32_826
  let c208_827 : Index := 208#32
  ![1, v1508.toNat, 5, 208]
def k0_off555 (k0_t3 : Fin k0_t3_loop.trips) : Fin 4 → Nat :=
  let c1_i32_828 : BitVec 32 := 1#32
  let v1514 : Index := Scalar.indexCast c1_i32_828
  let c0_i32_150 : BitVec 32 := 0#32
  let c1_i32_152 : BitVec 32 := 1#32
  let arg15 : BitVec 32 := Scf.iv c0_i32_150 c1_i32_152 k0_t3
  let v1515 : Index := Scalar.indexCast arg15
  let c6_i32_829 : BitVec 32 := 6#32
  let v1516 : Index := Scalar.indexCast c6_i32_829
  let c208_830 : Index := 208#32
  ![1, v1515.toNat, 6, 208]
def k0_off556 (k0_t3 : Fin k0_t3_loop.trips) : Fin 4 → Nat :=
  let c1_i32_832 : BitVec 32 := 1#32
  let v1527 : Index := Scalar.indexCast c1_i32_832
  let c0_i32_150 : BitVec 32 := 0#32
  let c1_i32_152 : BitVec 32 := 1#32
  let arg15 : BitVec 32 := Scf.iv c0_i32_150 c1_i32_152 k0_t3
  let v1528 : Index := Scalar.indexCast arg15
  let c7_i32_833 : BitVec 32 := 7#32
  let v1529 : Index := Scalar.indexCast c7_i32_833
  let c208_834 : Index := 208#32
  ![1, v1528.toNat, 7, 208]
def k0_off557 (k0_t3 : Fin k0_t3_loop.trips) : Fin 4 → Nat :=
  let c1_i32_835 : BitVec 32 := 1#32
  let v1533 : Index := Scalar.indexCast c1_i32_835
  let c0_i32_150 : BitVec 32 := 0#32
  let c1_i32_152 : BitVec 32 := 1#32
  let arg15 : BitVec 32 := Scf.iv c0_i32_150 c1_i32_152 k0_t3
  let v1534 : Index := Scalar.indexCast arg15
  let c0_i32_836 : BitVec 32 := 0#32
  let v1535 : Index := Scalar.indexCast c0_i32_836
  let c224 : Index := 224#32
  ![1, v1534.toNat, 0, 224]
def k0_off558 (k0_t3 : Fin k0_t3_loop.trips) : Fin 4 → Nat :=
  let c1_i32_837 : BitVec 32 := 1#32
  let v1538 : Index := Scalar.indexCast c1_i32_837
  let c0_i32_150 : BitVec 32 := 0#32
  let c1_i32_152 : BitVec 32 := 1#32
  let arg15 : BitVec 32 := Scf.iv c0_i32_150 c1_i32_152 k0_t3
  let v1539 : Index := Scalar.indexCast arg15
  let c1_i32_838 : BitVec 32 := 1#32
  let v1540 : Index := Scalar.indexCast c1_i32_838
  let c224_839 : Index := 224#32
  ![1, v1539.toNat, 1, 224]
def k0_off559 (k0_t3 : Fin k0_t3_loop.trips) : Fin 4 → Nat :=
  let c1_i32_840 : BitVec 32 := 1#32
  let v1543 : Index := Scalar.indexCast c1_i32_840
  let c0_i32_150 : BitVec 32 := 0#32
  let c1_i32_152 : BitVec 32 := 1#32
  let arg15 : BitVec 32 := Scf.iv c0_i32_150 c1_i32_152 k0_t3
  let v1544 : Index := Scalar.indexCast arg15
  let c2_i32_841 : BitVec 32 := 2#32
  let v1545 : Index := Scalar.indexCast c2_i32_841
  let c224_842 : Index := 224#32
  ![1, v1544.toNat, 2, 224]
def k0_off560 (k0_t3 : Fin k0_t3_loop.trips) : Fin 4 → Nat :=
  let c1_i32_843 : BitVec 32 := 1#32
  let v1548 : Index := Scalar.indexCast c1_i32_843
  let c0_i32_150 : BitVec 32 := 0#32
  let c1_i32_152 : BitVec 32 := 1#32
  let arg15 : BitVec 32 := Scf.iv c0_i32_150 c1_i32_152 k0_t3
  let v1549 : Index := Scalar.indexCast arg15
  let c3_i32_844 : BitVec 32 := 3#32
  let v1550 : Index := Scalar.indexCast c3_i32_844
  let c224_845 : Index := 224#32
  ![1, v1549.toNat, 3, 224]
def k0_off561 (k0_t3 : Fin k0_t3_loop.trips) : Fin 4 → Nat :=
  let c1_i32_858 : BitVec 32 := 1#32
  let v1574 : Index := Scalar.indexCast c1_i32_858
  let c0_i32_150 : BitVec 32 := 0#32
  let c1_i32_152 : BitVec 32 := 1#32
  let arg15 : BitVec 32 := Scf.iv c0_i32_150 c1_i32_152 k0_t3
  let v1575 : Index := Scalar.indexCast arg15
  let c0_i32_859 : BitVec 32 := 0#32
  let v1576 : Index := Scalar.indexCast c0_i32_859
  let c224_860 : Index := 224#32
  ![1, v1575.toNat, 0, 224]
def k0_off562 (k0_t3 : Fin k0_t3_loop.trips) : Fin 4 → Nat :=
  let c1_i32_861 : BitVec 32 := 1#32
  let v1581 : Index := Scalar.indexCast c1_i32_861
  let c0_i32_150 : BitVec 32 := 0#32
  let c1_i32_152 : BitVec 32 := 1#32
  let arg15 : BitVec 32 := Scf.iv c0_i32_150 c1_i32_152 k0_t3
  let v1582 : Index := Scalar.indexCast arg15
  let c1_i32_862 : BitVec 32 := 1#32
  let v1583 : Index := Scalar.indexCast c1_i32_862
  let c224_863 : Index := 224#32
  ![1, v1582.toNat, 1, 224]
def k0_off563 (k0_t3 : Fin k0_t3_loop.trips) : Fin 4 → Nat :=
  let c1_i32_864 : BitVec 32 := 1#32
  let v1588 : Index := Scalar.indexCast c1_i32_864
  let c0_i32_150 : BitVec 32 := 0#32
  let c1_i32_152 : BitVec 32 := 1#32
  let arg15 : BitVec 32 := Scf.iv c0_i32_150 c1_i32_152 k0_t3
  let v1589 : Index := Scalar.indexCast arg15
  let c2_i32_865 : BitVec 32 := 2#32
  let v1590 : Index := Scalar.indexCast c2_i32_865
  let c224_866 : Index := 224#32
  ![1, v1589.toNat, 2, 224]
def k0_off564 (k0_t3 : Fin k0_t3_loop.trips) : Fin 4 → Nat :=
  let c1_i32_867 : BitVec 32 := 1#32
  let v1595 : Index := Scalar.indexCast c1_i32_867
  let c0_i32_150 : BitVec 32 := 0#32
  let c1_i32_152 : BitVec 32 := 1#32
  let arg15 : BitVec 32 := Scf.iv c0_i32_150 c1_i32_152 k0_t3
  let v1596 : Index := Scalar.indexCast arg15
  let c3_i32_868 : BitVec 32 := 3#32
  let v1597 : Index := Scalar.indexCast c3_i32_868
  let c224_869 : Index := 224#32
  ![1, v1596.toNat, 3, 224]
def k0_off565 (k0_t3 : Fin k0_t3_loop.trips) : Fin 4 → Nat :=
  let c1_i32_870 : BitVec 32 := 1#32
  let v1602 : Index := Scalar.indexCast c1_i32_870
  let c0_i32_150 : BitVec 32 := 0#32
  let c1_i32_152 : BitVec 32 := 1#32
  let arg15 : BitVec 32 := Scf.iv c0_i32_150 c1_i32_152 k0_t3
  let v1603 : Index := Scalar.indexCast arg15
  let c4_i32_871 : BitVec 32 := 4#32
  let v1604 : Index := Scalar.indexCast c4_i32_871
  let c224_872 : Index := 224#32
  ![1, v1603.toNat, 4, 224]
def k0_off566 (k0_t3 : Fin k0_t3_loop.trips) : Fin 4 → Nat :=
  let c1_i32_873 : BitVec 32 := 1#32
  let v1609 : Index := Scalar.indexCast c1_i32_873
  let c0_i32_150 : BitVec 32 := 0#32
  let c1_i32_152 : BitVec 32 := 1#32
  let arg15 : BitVec 32 := Scf.iv c0_i32_150 c1_i32_152 k0_t3
  let v1610 : Index := Scalar.indexCast arg15
  let c5_i32_874 : BitVec 32 := 5#32
  let v1611 : Index := Scalar.indexCast c5_i32_874
  let c224_875 : Index := 224#32
  ![1, v1610.toNat, 5, 224]
def k0_off567 (k0_t3 : Fin k0_t3_loop.trips) : Fin 4 → Nat :=
  let c1_i32_876 : BitVec 32 := 1#32
  let v1616 : Index := Scalar.indexCast c1_i32_876
  let c0_i32_150 : BitVec 32 := 0#32
  let c1_i32_152 : BitVec 32 := 1#32
  let arg15 : BitVec 32 := Scf.iv c0_i32_150 c1_i32_152 k0_t3
  let v1617 : Index := Scalar.indexCast arg15
  let c6_i32_877 : BitVec 32 := 6#32
  let v1618 : Index := Scalar.indexCast c6_i32_877
  let c224_878 : Index := 224#32
  ![1, v1617.toNat, 6, 224]
def k0_off568 (k0_t3 : Fin k0_t3_loop.trips) : Fin 4 → Nat :=
  let c1_i32_880 : BitVec 32 := 1#32
  let v1629 : Index := Scalar.indexCast c1_i32_880
  let c0_i32_150 : BitVec 32 := 0#32
  let c1_i32_152 : BitVec 32 := 1#32
  let arg15 : BitVec 32 := Scf.iv c0_i32_150 c1_i32_152 k0_t3
  let v1630 : Index := Scalar.indexCast arg15
  let c7_i32_881 : BitVec 32 := 7#32
  let v1631 : Index := Scalar.indexCast c7_i32_881
  let c224_882 : Index := 224#32
  ![1, v1630.toNat, 7, 224]
def k0_off569 (k0_t3 : Fin k0_t3_loop.trips) : Fin 4 → Nat :=
  let c1_i32_883 : BitVec 32 := 1#32
  let v1635 : Index := Scalar.indexCast c1_i32_883
  let c0_i32_150 : BitVec 32 := 0#32
  let c1_i32_152 : BitVec 32 := 1#32
  let arg15 : BitVec 32 := Scf.iv c0_i32_150 c1_i32_152 k0_t3
  let v1636 : Index := Scalar.indexCast arg15
  let c0_i32_884 : BitVec 32 := 0#32
  let v1637 : Index := Scalar.indexCast c0_i32_884
  let c240 : Index := 240#32
  ![1, v1636.toNat, 0, 240]
def k0_off570 (k0_t3 : Fin k0_t3_loop.trips) : Fin 4 → Nat :=
  let c1_i32_885 : BitVec 32 := 1#32
  let v1640 : Index := Scalar.indexCast c1_i32_885
  let c0_i32_150 : BitVec 32 := 0#32
  let c1_i32_152 : BitVec 32 := 1#32
  let arg15 : BitVec 32 := Scf.iv c0_i32_150 c1_i32_152 k0_t3
  let v1641 : Index := Scalar.indexCast arg15
  let c1_i32_886 : BitVec 32 := 1#32
  let v1642 : Index := Scalar.indexCast c1_i32_886
  let c240_887 : Index := 240#32
  ![1, v1641.toNat, 1, 240]
def k0_off571 (k0_t3 : Fin k0_t3_loop.trips) : Fin 4 → Nat :=
  let c1_i32_888 : BitVec 32 := 1#32
  let v1645 : Index := Scalar.indexCast c1_i32_888
  let c0_i32_150 : BitVec 32 := 0#32
  let c1_i32_152 : BitVec 32 := 1#32
  let arg15 : BitVec 32 := Scf.iv c0_i32_150 c1_i32_152 k0_t3
  let v1646 : Index := Scalar.indexCast arg15
  let c2_i32_889 : BitVec 32 := 2#32
  let v1647 : Index := Scalar.indexCast c2_i32_889
  let c240_890 : Index := 240#32
  ![1, v1646.toNat, 2, 240]
def k0_off572 (k0_t3 : Fin k0_t3_loop.trips) : Fin 4 → Nat :=
  let c1_i32_891 : BitVec 32 := 1#32
  let v1650 : Index := Scalar.indexCast c1_i32_891
  let c0_i32_150 : BitVec 32 := 0#32
  let c1_i32_152 : BitVec 32 := 1#32
  let arg15 : BitVec 32 := Scf.iv c0_i32_150 c1_i32_152 k0_t3
  let v1651 : Index := Scalar.indexCast arg15
  let c3_i32_892 : BitVec 32 := 3#32
  let v1652 : Index := Scalar.indexCast c3_i32_892
  let c240_893 : Index := 240#32
  ![1, v1651.toNat, 3, 240]
def k0_off573 (k0_t3 : Fin k0_t3_loop.trips) : Fin 4 → Nat :=
  let c1_i32_906 : BitVec 32 := 1#32
  let v1676 : Index := Scalar.indexCast c1_i32_906
  let c0_i32_150 : BitVec 32 := 0#32
  let c1_i32_152 : BitVec 32 := 1#32
  let arg15 : BitVec 32 := Scf.iv c0_i32_150 c1_i32_152 k0_t3
  let v1677 : Index := Scalar.indexCast arg15
  let c0_i32_907 : BitVec 32 := 0#32
  let v1678 : Index := Scalar.indexCast c0_i32_907
  let c240_908 : Index := 240#32
  ![1, v1677.toNat, 0, 240]
def k0_off574 (k0_t3 : Fin k0_t3_loop.trips) : Fin 4 → Nat :=
  let c1_i32_909 : BitVec 32 := 1#32
  let v1683 : Index := Scalar.indexCast c1_i32_909
  let c0_i32_150 : BitVec 32 := 0#32
  let c1_i32_152 : BitVec 32 := 1#32
  let arg15 : BitVec 32 := Scf.iv c0_i32_150 c1_i32_152 k0_t3
  let v1684 : Index := Scalar.indexCast arg15
  let c1_i32_910 : BitVec 32 := 1#32
  let v1685 : Index := Scalar.indexCast c1_i32_910
  let c240_911 : Index := 240#32
  ![1, v1684.toNat, 1, 240]
def k0_off575 (k0_t3 : Fin k0_t3_loop.trips) : Fin 4 → Nat :=
  let c1_i32_912 : BitVec 32 := 1#32
  let v1690 : Index := Scalar.indexCast c1_i32_912
  let c0_i32_150 : BitVec 32 := 0#32
  let c1_i32_152 : BitVec 32 := 1#32
  let arg15 : BitVec 32 := Scf.iv c0_i32_150 c1_i32_152 k0_t3
  let v1691 : Index := Scalar.indexCast arg15
  let c2_i32_913 : BitVec 32 := 2#32
  let v1692 : Index := Scalar.indexCast c2_i32_913
  let c240_914 : Index := 240#32
  ![1, v1691.toNat, 2, 240]
def k0_off576 (k0_t3 : Fin k0_t3_loop.trips) : Fin 4 → Nat :=
  let c1_i32_915 : BitVec 32 := 1#32
  let v1697 : Index := Scalar.indexCast c1_i32_915
  let c0_i32_150 : BitVec 32 := 0#32
  let c1_i32_152 : BitVec 32 := 1#32
  let arg15 : BitVec 32 := Scf.iv c0_i32_150 c1_i32_152 k0_t3
  let v1698 : Index := Scalar.indexCast arg15
  let c3_i32_916 : BitVec 32 := 3#32
  let v1699 : Index := Scalar.indexCast c3_i32_916
  let c240_917 : Index := 240#32
  ![1, v1698.toNat, 3, 240]
def k0_off577 (k0_t3 : Fin k0_t3_loop.trips) : Fin 4 → Nat :=
  let c1_i32_918 : BitVec 32 := 1#32
  let v1704 : Index := Scalar.indexCast c1_i32_918
  let c0_i32_150 : BitVec 32 := 0#32
  let c1_i32_152 : BitVec 32 := 1#32
  let arg15 : BitVec 32 := Scf.iv c0_i32_150 c1_i32_152 k0_t3
  let v1705 : Index := Scalar.indexCast arg15
  let c4_i32_919 : BitVec 32 := 4#32
  let v1706 : Index := Scalar.indexCast c4_i32_919
  let c240_920 : Index := 240#32
  ![1, v1705.toNat, 4, 240]
def k0_off578 (k0_t3 : Fin k0_t3_loop.trips) : Fin 4 → Nat :=
  let c1_i32_921 : BitVec 32 := 1#32
  let v1711 : Index := Scalar.indexCast c1_i32_921
  let c0_i32_150 : BitVec 32 := 0#32
  let c1_i32_152 : BitVec 32 := 1#32
  let arg15 : BitVec 32 := Scf.iv c0_i32_150 c1_i32_152 k0_t3
  let v1712 : Index := Scalar.indexCast arg15
  let c5_i32_922 : BitVec 32 := 5#32
  let v1713 : Index := Scalar.indexCast c5_i32_922
  let c240_923 : Index := 240#32
  ![1, v1712.toNat, 5, 240]
def k0_off579 (k0_t3 : Fin k0_t3_loop.trips) : Fin 4 → Nat :=
  let c1_i32_924 : BitVec 32 := 1#32
  let v1718 : Index := Scalar.indexCast c1_i32_924
  let c0_i32_150 : BitVec 32 := 0#32
  let c1_i32_152 : BitVec 32 := 1#32
  let arg15 : BitVec 32 := Scf.iv c0_i32_150 c1_i32_152 k0_t3
  let v1719 : Index := Scalar.indexCast arg15
  let c6_i32_925 : BitVec 32 := 6#32
  let v1720 : Index := Scalar.indexCast c6_i32_925
  let c240_926 : Index := 240#32
  ![1, v1719.toNat, 6, 240]
def k0_off580 (k0_t3 : Fin k0_t3_loop.trips) : Fin 4 → Nat :=
  let c1_i32_928 : BitVec 32 := 1#32
  let v1731 : Index := Scalar.indexCast c1_i32_928
  let c0_i32_150 : BitVec 32 := 0#32
  let c1_i32_152 : BitVec 32 := 1#32
  let arg15 : BitVec 32 := Scf.iv c0_i32_150 c1_i32_152 k0_t3
  let v1732 : Index := Scalar.indexCast arg15
  let c7_i32_929 : BitVec 32 := 7#32
  let v1733 : Index := Scalar.indexCast c7_i32_929
  let c240_930 : Index := 240#32
  ![1, v1732.toNat, 7, 240]
def k0_off581 (k0_t3 : Fin k0_t3_loop.trips) : Fin 4 → Nat :=
  let c1_i32_931 : BitVec 32 := 1#32
  let v1737 : Index := Scalar.indexCast c1_i32_931
  let c0_i32_150 : BitVec 32 := 0#32
  let c1_i32_152 : BitVec 32 := 1#32
  let arg15 : BitVec 32 := Scf.iv c0_i32_150 c1_i32_152 k0_t3
  let v1738 : Index := Scalar.indexCast arg15
  let c0_i32_932 : BitVec 32 := 0#32
  let v1739 : Index := Scalar.indexCast c0_i32_932
  let c256 : Index := 256#32
  ![1, v1738.toNat, 0, 256]
def k0_off582 (k0_t3 : Fin k0_t3_loop.trips) : Fin 4 → Nat :=
  let c1_i32_933 : BitVec 32 := 1#32
  let v1742 : Index := Scalar.indexCast c1_i32_933
  let c0_i32_150 : BitVec 32 := 0#32
  let c1_i32_152 : BitVec 32 := 1#32
  let arg15 : BitVec 32 := Scf.iv c0_i32_150 c1_i32_152 k0_t3
  let v1743 : Index := Scalar.indexCast arg15
  let c1_i32_934 : BitVec 32 := 1#32
  let v1744 : Index := Scalar.indexCast c1_i32_934
  let c256_935 : Index := 256#32
  ![1, v1743.toNat, 1, 256]
def k0_off583 (k0_t3 : Fin k0_t3_loop.trips) : Fin 4 → Nat :=
  let c1_i32_936 : BitVec 32 := 1#32
  let v1747 : Index := Scalar.indexCast c1_i32_936
  let c0_i32_150 : BitVec 32 := 0#32
  let c1_i32_152 : BitVec 32 := 1#32
  let arg15 : BitVec 32 := Scf.iv c0_i32_150 c1_i32_152 k0_t3
  let v1748 : Index := Scalar.indexCast arg15
  let c2_i32_937 : BitVec 32 := 2#32
  let v1749 : Index := Scalar.indexCast c2_i32_937
  let c256_938 : Index := 256#32
  ![1, v1748.toNat, 2, 256]
def k0_off584 (k0_t3 : Fin k0_t3_loop.trips) : Fin 4 → Nat :=
  let c1_i32_939 : BitVec 32 := 1#32
  let v1752 : Index := Scalar.indexCast c1_i32_939
  let c0_i32_150 : BitVec 32 := 0#32
  let c1_i32_152 : BitVec 32 := 1#32
  let arg15 : BitVec 32 := Scf.iv c0_i32_150 c1_i32_152 k0_t3
  let v1753 : Index := Scalar.indexCast arg15
  let c3_i32_940 : BitVec 32 := 3#32
  let v1754 : Index := Scalar.indexCast c3_i32_940
  let c256_941 : Index := 256#32
  ![1, v1753.toNat, 3, 256]
def k0_off585 (k0_t3 : Fin k0_t3_loop.trips) : Fin 4 → Nat :=
  let c1_i32_954 : BitVec 32 := 1#32
  let v1778 : Index := Scalar.indexCast c1_i32_954
  let c0_i32_150 : BitVec 32 := 0#32
  let c1_i32_152 : BitVec 32 := 1#32
  let arg15 : BitVec 32 := Scf.iv c0_i32_150 c1_i32_152 k0_t3
  let v1779 : Index := Scalar.indexCast arg15
  let c0_i32_955 : BitVec 32 := 0#32
  let v1780 : Index := Scalar.indexCast c0_i32_955
  let c256_956 : Index := 256#32
  ![1, v1779.toNat, 0, 256]
def k0_off586 (k0_t3 : Fin k0_t3_loop.trips) : Fin 4 → Nat :=
  let c1_i32_957 : BitVec 32 := 1#32
  let v1785 : Index := Scalar.indexCast c1_i32_957
  let c0_i32_150 : BitVec 32 := 0#32
  let c1_i32_152 : BitVec 32 := 1#32
  let arg15 : BitVec 32 := Scf.iv c0_i32_150 c1_i32_152 k0_t3
  let v1786 : Index := Scalar.indexCast arg15
  let c1_i32_958 : BitVec 32 := 1#32
  let v1787 : Index := Scalar.indexCast c1_i32_958
  let c256_959 : Index := 256#32
  ![1, v1786.toNat, 1, 256]
def k0_off587 (k0_t3 : Fin k0_t3_loop.trips) : Fin 4 → Nat :=
  let c1_i32_960 : BitVec 32 := 1#32
  let v1792 : Index := Scalar.indexCast c1_i32_960
  let c0_i32_150 : BitVec 32 := 0#32
  let c1_i32_152 : BitVec 32 := 1#32
  let arg15 : BitVec 32 := Scf.iv c0_i32_150 c1_i32_152 k0_t3
  let v1793 : Index := Scalar.indexCast arg15
  let c2_i32_961 : BitVec 32 := 2#32
  let v1794 : Index := Scalar.indexCast c2_i32_961
  let c256_962 : Index := 256#32
  ![1, v1793.toNat, 2, 256]
def k0_off588 (k0_t3 : Fin k0_t3_loop.trips) : Fin 4 → Nat :=
  let c1_i32_963 : BitVec 32 := 1#32
  let v1799 : Index := Scalar.indexCast c1_i32_963
  let c0_i32_150 : BitVec 32 := 0#32
  let c1_i32_152 : BitVec 32 := 1#32
  let arg15 : BitVec 32 := Scf.iv c0_i32_150 c1_i32_152 k0_t3
  let v1800 : Index := Scalar.indexCast arg15
  let c3_i32_964 : BitVec 32 := 3#32
  let v1801 : Index := Scalar.indexCast c3_i32_964
  let c256_965 : Index := 256#32
  ![1, v1800.toNat, 3, 256]
def k0_off589 (k0_t3 : Fin k0_t3_loop.trips) : Fin 4 → Nat :=
  let c1_i32_966 : BitVec 32 := 1#32
  let v1806 : Index := Scalar.indexCast c1_i32_966
  let c0_i32_150 : BitVec 32 := 0#32
  let c1_i32_152 : BitVec 32 := 1#32
  let arg15 : BitVec 32 := Scf.iv c0_i32_150 c1_i32_152 k0_t3
  let v1807 : Index := Scalar.indexCast arg15
  let c4_i32_967 : BitVec 32 := 4#32
  let v1808 : Index := Scalar.indexCast c4_i32_967
  let c256_968 : Index := 256#32
  ![1, v1807.toNat, 4, 256]
def k0_off590 (k0_t3 : Fin k0_t3_loop.trips) : Fin 4 → Nat :=
  let c1_i32_969 : BitVec 32 := 1#32
  let v1813 : Index := Scalar.indexCast c1_i32_969
  let c0_i32_150 : BitVec 32 := 0#32
  let c1_i32_152 : BitVec 32 := 1#32
  let arg15 : BitVec 32 := Scf.iv c0_i32_150 c1_i32_152 k0_t3
  let v1814 : Index := Scalar.indexCast arg15
  let c5_i32_970 : BitVec 32 := 5#32
  let v1815 : Index := Scalar.indexCast c5_i32_970
  let c256_971 : Index := 256#32
  ![1, v1814.toNat, 5, 256]
def k0_off591 (k0_t3 : Fin k0_t3_loop.trips) : Fin 4 → Nat :=
  let c1_i32_972 : BitVec 32 := 1#32
  let v1820 : Index := Scalar.indexCast c1_i32_972
  let c0_i32_150 : BitVec 32 := 0#32
  let c1_i32_152 : BitVec 32 := 1#32
  let arg15 : BitVec 32 := Scf.iv c0_i32_150 c1_i32_152 k0_t3
  let v1821 : Index := Scalar.indexCast arg15
  let c6_i32_973 : BitVec 32 := 6#32
  let v1822 : Index := Scalar.indexCast c6_i32_973
  let c256_974 : Index := 256#32
  ![1, v1821.toNat, 6, 256]
def k0_off592 (k0_t3 : Fin k0_t3_loop.trips) : Fin 4 → Nat :=
  let c1_i32_976 : BitVec 32 := 1#32
  let v1833 : Index := Scalar.indexCast c1_i32_976
  let c0_i32_150 : BitVec 32 := 0#32
  let c1_i32_152 : BitVec 32 := 1#32
  let arg15 : BitVec 32 := Scf.iv c0_i32_150 c1_i32_152 k0_t3
  let v1834 : Index := Scalar.indexCast arg15
  let c7_i32_977 : BitVec 32 := 7#32
  let v1835 : Index := Scalar.indexCast c7_i32_977
  let c256_978 : Index := 256#32
  ![1, v1834.toNat, 7, 256]
def k0_off593 (k0_t3 : Fin k0_t3_loop.trips) : Fin 4 → Nat :=
  let c1_i32_979 : BitVec 32 := 1#32
  let v1839 : Index := Scalar.indexCast c1_i32_979
  let c0_i32_150 : BitVec 32 := 0#32
  let c1_i32_152 : BitVec 32 := 1#32
  let arg15 : BitVec 32 := Scf.iv c0_i32_150 c1_i32_152 k0_t3
  let v1840 : Index := Scalar.indexCast arg15
  let c0_i32_980 : BitVec 32 := 0#32
  let v1841 : Index := Scalar.indexCast c0_i32_980
  let c272 : Index := 272#32
  ![1, v1840.toNat, 0, 272]
def k0_off594 (k0_t3 : Fin k0_t3_loop.trips) : Fin 4 → Nat :=
  let c1_i32_981 : BitVec 32 := 1#32
  let v1844 : Index := Scalar.indexCast c1_i32_981
  let c0_i32_150 : BitVec 32 := 0#32
  let c1_i32_152 : BitVec 32 := 1#32
  let arg15 : BitVec 32 := Scf.iv c0_i32_150 c1_i32_152 k0_t3
  let v1845 : Index := Scalar.indexCast arg15
  let c1_i32_982 : BitVec 32 := 1#32
  let v1846 : Index := Scalar.indexCast c1_i32_982
  let c272_983 : Index := 272#32
  ![1, v1845.toNat, 1, 272]
def k0_off595 (k0_t3 : Fin k0_t3_loop.trips) : Fin 4 → Nat :=
  let c1_i32_984 : BitVec 32 := 1#32
  let v1849 : Index := Scalar.indexCast c1_i32_984
  let c0_i32_150 : BitVec 32 := 0#32
  let c1_i32_152 : BitVec 32 := 1#32
  let arg15 : BitVec 32 := Scf.iv c0_i32_150 c1_i32_152 k0_t3
  let v1850 : Index := Scalar.indexCast arg15
  let c2_i32_985 : BitVec 32 := 2#32
  let v1851 : Index := Scalar.indexCast c2_i32_985
  let c272_986 : Index := 272#32
  ![1, v1850.toNat, 2, 272]
def k0_off596 (k0_t3 : Fin k0_t3_loop.trips) : Fin 4 → Nat :=
  let c1_i32_987 : BitVec 32 := 1#32
  let v1854 : Index := Scalar.indexCast c1_i32_987
  let c0_i32_150 : BitVec 32 := 0#32
  let c1_i32_152 : BitVec 32 := 1#32
  let arg15 : BitVec 32 := Scf.iv c0_i32_150 c1_i32_152 k0_t3
  let v1855 : Index := Scalar.indexCast arg15
  let c3_i32_988 : BitVec 32 := 3#32
  let v1856 : Index := Scalar.indexCast c3_i32_988
  let c272_989 : Index := 272#32
  ![1, v1855.toNat, 3, 272]
def k0_off597 (k0_t3 : Fin k0_t3_loop.trips) : Fin 4 → Nat :=
  let c1_i32_1002 : BitVec 32 := 1#32
  let v1880 : Index := Scalar.indexCast c1_i32_1002
  let c0_i32_150 : BitVec 32 := 0#32
  let c1_i32_152 : BitVec 32 := 1#32
  let arg15 : BitVec 32 := Scf.iv c0_i32_150 c1_i32_152 k0_t3
  let v1881 : Index := Scalar.indexCast arg15
  let c0_i32_1003 : BitVec 32 := 0#32
  let v1882 : Index := Scalar.indexCast c0_i32_1003
  let c272_1004 : Index := 272#32
  ![1, v1881.toNat, 0, 272]
def k0_off598 (k0_t3 : Fin k0_t3_loop.trips) : Fin 4 → Nat :=
  let c1_i32_1005 : BitVec 32 := 1#32
  let v1887 : Index := Scalar.indexCast c1_i32_1005
  let c0_i32_150 : BitVec 32 := 0#32
  let c1_i32_152 : BitVec 32 := 1#32
  let arg15 : BitVec 32 := Scf.iv c0_i32_150 c1_i32_152 k0_t3
  let v1888 : Index := Scalar.indexCast arg15
  let c1_i32_1006 : BitVec 32 := 1#32
  let v1889 : Index := Scalar.indexCast c1_i32_1006
  let c272_1007 : Index := 272#32
  ![1, v1888.toNat, 1, 272]
def k0_off599 (k0_t3 : Fin k0_t3_loop.trips) : Fin 4 → Nat :=
  let c1_i32_1008 : BitVec 32 := 1#32
  let v1894 : Index := Scalar.indexCast c1_i32_1008
  let c0_i32_150 : BitVec 32 := 0#32
  let c1_i32_152 : BitVec 32 := 1#32
  let arg15 : BitVec 32 := Scf.iv c0_i32_150 c1_i32_152 k0_t3
  let v1895 : Index := Scalar.indexCast arg15
  let c2_i32_1009 : BitVec 32 := 2#32
  let v1896 : Index := Scalar.indexCast c2_i32_1009
  let c272_1010 : Index := 272#32
  ![1, v1895.toNat, 2, 272]
def k0_off600 (k0_t3 : Fin k0_t3_loop.trips) : Fin 4 → Nat :=
  let c1_i32_1011 : BitVec 32 := 1#32
  let v1901 : Index := Scalar.indexCast c1_i32_1011
  let c0_i32_150 : BitVec 32 := 0#32
  let c1_i32_152 : BitVec 32 := 1#32
  let arg15 : BitVec 32 := Scf.iv c0_i32_150 c1_i32_152 k0_t3
  let v1902 : Index := Scalar.indexCast arg15
  let c3_i32_1012 : BitVec 32 := 3#32
  let v1903 : Index := Scalar.indexCast c3_i32_1012
  let c272_1013 : Index := 272#32
  ![1, v1902.toNat, 3, 272]
def k0_off601 (k0_t3 : Fin k0_t3_loop.trips) : Fin 4 → Nat :=
  let c1_i32_1014 : BitVec 32 := 1#32
  let v1908 : Index := Scalar.indexCast c1_i32_1014
  let c0_i32_150 : BitVec 32 := 0#32
  let c1_i32_152 : BitVec 32 := 1#32
  let arg15 : BitVec 32 := Scf.iv c0_i32_150 c1_i32_152 k0_t3
  let v1909 : Index := Scalar.indexCast arg15
  let c4_i32_1015 : BitVec 32 := 4#32
  let v1910 : Index := Scalar.indexCast c4_i32_1015
  let c272_1016 : Index := 272#32
  ![1, v1909.toNat, 4, 272]
def k0_off602 (k0_t3 : Fin k0_t3_loop.trips) : Fin 4 → Nat :=
  let c1_i32_1017 : BitVec 32 := 1#32
  let v1915 : Index := Scalar.indexCast c1_i32_1017
  let c0_i32_150 : BitVec 32 := 0#32
  let c1_i32_152 : BitVec 32 := 1#32
  let arg15 : BitVec 32 := Scf.iv c0_i32_150 c1_i32_152 k0_t3
  let v1916 : Index := Scalar.indexCast arg15
  let c5_i32_1018 : BitVec 32 := 5#32
  let v1917 : Index := Scalar.indexCast c5_i32_1018
  let c272_1019 : Index := 272#32
  ![1, v1916.toNat, 5, 272]
def k0_off603 (k0_t3 : Fin k0_t3_loop.trips) : Fin 4 → Nat :=
  let c1_i32_1020 : BitVec 32 := 1#32
  let v1922 : Index := Scalar.indexCast c1_i32_1020
  let c0_i32_150 : BitVec 32 := 0#32
  let c1_i32_152 : BitVec 32 := 1#32
  let arg15 : BitVec 32 := Scf.iv c0_i32_150 c1_i32_152 k0_t3
  let v1923 : Index := Scalar.indexCast arg15
  let c6_i32_1021 : BitVec 32 := 6#32
  let v1924 : Index := Scalar.indexCast c6_i32_1021
  let c272_1022 : Index := 272#32
  ![1, v1923.toNat, 6, 272]
def k0_off604 (k0_t3 : Fin k0_t3_loop.trips) : Fin 4 → Nat :=
  let c1_i32_1024 : BitVec 32 := 1#32
  let v1935 : Index := Scalar.indexCast c1_i32_1024
  let c0_i32_150 : BitVec 32 := 0#32
  let c1_i32_152 : BitVec 32 := 1#32
  let arg15 : BitVec 32 := Scf.iv c0_i32_150 c1_i32_152 k0_t3
  let v1936 : Index := Scalar.indexCast arg15
  let c7_i32_1025 : BitVec 32 := 7#32
  let v1937 : Index := Scalar.indexCast c7_i32_1025
  let c272_1026 : Index := 272#32
  ![1, v1936.toNat, 7, 272]
def k0_off605 (k0_t3 : Fin k0_t3_loop.trips) : Fin 4 → Nat :=
  let c1_i32_1027 : BitVec 32 := 1#32
  let v1941 : Index := Scalar.indexCast c1_i32_1027
  let c0_i32_150 : BitVec 32 := 0#32
  let c1_i32_152 : BitVec 32 := 1#32
  let arg15 : BitVec 32 := Scf.iv c0_i32_150 c1_i32_152 k0_t3
  let v1942 : Index := Scalar.indexCast arg15
  let c0_i32_1028 : BitVec 32 := 0#32
  let v1943 : Index := Scalar.indexCast c0_i32_1028
  let c288 : Index := 288#32
  ![1, v1942.toNat, 0, 288]
def k0_off606 (k0_t3 : Fin k0_t3_loop.trips) : Fin 4 → Nat :=
  let c1_i32_1029 : BitVec 32 := 1#32
  let v1946 : Index := Scalar.indexCast c1_i32_1029
  let c0_i32_150 : BitVec 32 := 0#32
  let c1_i32_152 : BitVec 32 := 1#32
  let arg15 : BitVec 32 := Scf.iv c0_i32_150 c1_i32_152 k0_t3
  let v1947 : Index := Scalar.indexCast arg15
  let c1_i32_1030 : BitVec 32 := 1#32
  let v1948 : Index := Scalar.indexCast c1_i32_1030
  let c288_1031 : Index := 288#32
  ![1, v1947.toNat, 1, 288]
def k0_off607 (k0_t3 : Fin k0_t3_loop.trips) : Fin 4 → Nat :=
  let c1_i32_1032 : BitVec 32 := 1#32
  let v1951 : Index := Scalar.indexCast c1_i32_1032
  let c0_i32_150 : BitVec 32 := 0#32
  let c1_i32_152 : BitVec 32 := 1#32
  let arg15 : BitVec 32 := Scf.iv c0_i32_150 c1_i32_152 k0_t3
  let v1952 : Index := Scalar.indexCast arg15
  let c2_i32_1033 : BitVec 32 := 2#32
  let v1953 : Index := Scalar.indexCast c2_i32_1033
  let c288_1034 : Index := 288#32
  ![1, v1952.toNat, 2, 288]
def k0_off608 (k0_t3 : Fin k0_t3_loop.trips) : Fin 4 → Nat :=
  let c1_i32_1035 : BitVec 32 := 1#32
  let v1956 : Index := Scalar.indexCast c1_i32_1035
  let c0_i32_150 : BitVec 32 := 0#32
  let c1_i32_152 : BitVec 32 := 1#32
  let arg15 : BitVec 32 := Scf.iv c0_i32_150 c1_i32_152 k0_t3
  let v1957 : Index := Scalar.indexCast arg15
  let c3_i32_1036 : BitVec 32 := 3#32
  let v1958 : Index := Scalar.indexCast c3_i32_1036
  let c288_1037 : Index := 288#32
  ![1, v1957.toNat, 3, 288]
def k0_off609 (k0_t3 : Fin k0_t3_loop.trips) : Fin 4 → Nat :=
  let c1_i32_1050 : BitVec 32 := 1#32
  let v1982 : Index := Scalar.indexCast c1_i32_1050
  let c0_i32_150 : BitVec 32 := 0#32
  let c1_i32_152 : BitVec 32 := 1#32
  let arg15 : BitVec 32 := Scf.iv c0_i32_150 c1_i32_152 k0_t3
  let v1983 : Index := Scalar.indexCast arg15
  let c0_i32_1051 : BitVec 32 := 0#32
  let v1984 : Index := Scalar.indexCast c0_i32_1051
  let c288_1052 : Index := 288#32
  ![1, v1983.toNat, 0, 288]
def k0_off610 (k0_t3 : Fin k0_t3_loop.trips) : Fin 4 → Nat :=
  let c1_i32_1053 : BitVec 32 := 1#32
  let v1989 : Index := Scalar.indexCast c1_i32_1053
  let c0_i32_150 : BitVec 32 := 0#32
  let c1_i32_152 : BitVec 32 := 1#32
  let arg15 : BitVec 32 := Scf.iv c0_i32_150 c1_i32_152 k0_t3
  let v1990 : Index := Scalar.indexCast arg15
  let c1_i32_1054 : BitVec 32 := 1#32
  let v1991 : Index := Scalar.indexCast c1_i32_1054
  let c288_1055 : Index := 288#32
  ![1, v1990.toNat, 1, 288]
def k0_off611 (k0_t3 : Fin k0_t3_loop.trips) : Fin 4 → Nat :=
  let c1_i32_1056 : BitVec 32 := 1#32
  let v1996 : Index := Scalar.indexCast c1_i32_1056
  let c0_i32_150 : BitVec 32 := 0#32
  let c1_i32_152 : BitVec 32 := 1#32
  let arg15 : BitVec 32 := Scf.iv c0_i32_150 c1_i32_152 k0_t3
  let v1997 : Index := Scalar.indexCast arg15
  let c2_i32_1057 : BitVec 32 := 2#32
  let v1998 : Index := Scalar.indexCast c2_i32_1057
  let c288_1058 : Index := 288#32
  ![1, v1997.toNat, 2, 288]
def k0_off612 (k0_t3 : Fin k0_t3_loop.trips) : Fin 4 → Nat :=
  let c1_i32_1059 : BitVec 32 := 1#32
  let v2003 : Index := Scalar.indexCast c1_i32_1059
  let c0_i32_150 : BitVec 32 := 0#32
  let c1_i32_152 : BitVec 32 := 1#32
  let arg15 : BitVec 32 := Scf.iv c0_i32_150 c1_i32_152 k0_t3
  let v2004 : Index := Scalar.indexCast arg15
  let c3_i32_1060 : BitVec 32 := 3#32
  let v2005 : Index := Scalar.indexCast c3_i32_1060
  let c288_1061 : Index := 288#32
  ![1, v2004.toNat, 3, 288]
def k0_off613 (k0_t3 : Fin k0_t3_loop.trips) : Fin 4 → Nat :=
  let c1_i32_1062 : BitVec 32 := 1#32
  let v2010 : Index := Scalar.indexCast c1_i32_1062
  let c0_i32_150 : BitVec 32 := 0#32
  let c1_i32_152 : BitVec 32 := 1#32
  let arg15 : BitVec 32 := Scf.iv c0_i32_150 c1_i32_152 k0_t3
  let v2011 : Index := Scalar.indexCast arg15
  let c4_i32_1063 : BitVec 32 := 4#32
  let v2012 : Index := Scalar.indexCast c4_i32_1063
  let c288_1064 : Index := 288#32
  ![1, v2011.toNat, 4, 288]
def k0_off614 (k0_t3 : Fin k0_t3_loop.trips) : Fin 4 → Nat :=
  let c1_i32_1065 : BitVec 32 := 1#32
  let v2017 : Index := Scalar.indexCast c1_i32_1065
  let c0_i32_150 : BitVec 32 := 0#32
  let c1_i32_152 : BitVec 32 := 1#32
  let arg15 : BitVec 32 := Scf.iv c0_i32_150 c1_i32_152 k0_t3
  let v2018 : Index := Scalar.indexCast arg15
  let c5_i32_1066 : BitVec 32 := 5#32
  let v2019 : Index := Scalar.indexCast c5_i32_1066
  let c288_1067 : Index := 288#32
  ![1, v2018.toNat, 5, 288]
def k0_off615 (k0_t3 : Fin k0_t3_loop.trips) : Fin 4 → Nat :=
  let c1_i32_1068 : BitVec 32 := 1#32
  let v2024 : Index := Scalar.indexCast c1_i32_1068
  let c0_i32_150 : BitVec 32 := 0#32
  let c1_i32_152 : BitVec 32 := 1#32
  let arg15 : BitVec 32 := Scf.iv c0_i32_150 c1_i32_152 k0_t3
  let v2025 : Index := Scalar.indexCast arg15
  let c6_i32_1069 : BitVec 32 := 6#32
  let v2026 : Index := Scalar.indexCast c6_i32_1069
  let c288_1070 : Index := 288#32
  ![1, v2025.toNat, 6, 288]
def k0_off616 (k0_t3 : Fin k0_t3_loop.trips) : Fin 4 → Nat :=
  let c1_i32_1072 : BitVec 32 := 1#32
  let v2037 : Index := Scalar.indexCast c1_i32_1072
  let c0_i32_150 : BitVec 32 := 0#32
  let c1_i32_152 : BitVec 32 := 1#32
  let arg15 : BitVec 32 := Scf.iv c0_i32_150 c1_i32_152 k0_t3
  let v2038 : Index := Scalar.indexCast arg15
  let c7_i32_1073 : BitVec 32 := 7#32
  let v2039 : Index := Scalar.indexCast c7_i32_1073
  let c288_1074 : Index := 288#32
  ![1, v2038.toNat, 7, 288]
def k0_off617 (k0_t3 : Fin k0_t3_loop.trips) : Fin 4 → Nat :=
  let c1_i32_1075 : BitVec 32 := 1#32
  let v2043 : Index := Scalar.indexCast c1_i32_1075
  let c0_i32_150 : BitVec 32 := 0#32
  let c1_i32_152 : BitVec 32 := 1#32
  let arg15 : BitVec 32 := Scf.iv c0_i32_150 c1_i32_152 k0_t3
  let v2044 : Index := Scalar.indexCast arg15
  let c0_i32_1076 : BitVec 32 := 0#32
  let v2045 : Index := Scalar.indexCast c0_i32_1076
  let c304 : Index := 304#32
  ![1, v2044.toNat, 0, 304]
def k0_off618 (k0_t3 : Fin k0_t3_loop.trips) : Fin 4 → Nat :=
  let c1_i32_1077 : BitVec 32 := 1#32
  let v2048 : Index := Scalar.indexCast c1_i32_1077
  let c0_i32_150 : BitVec 32 := 0#32
  let c1_i32_152 : BitVec 32 := 1#32
  let arg15 : BitVec 32 := Scf.iv c0_i32_150 c1_i32_152 k0_t3
  let v2049 : Index := Scalar.indexCast arg15
  let c1_i32_1078 : BitVec 32 := 1#32
  let v2050 : Index := Scalar.indexCast c1_i32_1078
  let c304_1079 : Index := 304#32
  ![1, v2049.toNat, 1, 304]
def k0_off619 (k0_t3 : Fin k0_t3_loop.trips) : Fin 4 → Nat :=
  let c1_i32_1080 : BitVec 32 := 1#32
  let v2053 : Index := Scalar.indexCast c1_i32_1080
  let c0_i32_150 : BitVec 32 := 0#32
  let c1_i32_152 : BitVec 32 := 1#32
  let arg15 : BitVec 32 := Scf.iv c0_i32_150 c1_i32_152 k0_t3
  let v2054 : Index := Scalar.indexCast arg15
  let c2_i32_1081 : BitVec 32 := 2#32
  let v2055 : Index := Scalar.indexCast c2_i32_1081
  let c304_1082 : Index := 304#32
  ![1, v2054.toNat, 2, 304]
def k0_off620 (k0_t3 : Fin k0_t3_loop.trips) : Fin 4 → Nat :=
  let c1_i32_1083 : BitVec 32 := 1#32
  let v2058 : Index := Scalar.indexCast c1_i32_1083
  let c0_i32_150 : BitVec 32 := 0#32
  let c1_i32_152 : BitVec 32 := 1#32
  let arg15 : BitVec 32 := Scf.iv c0_i32_150 c1_i32_152 k0_t3
  let v2059 : Index := Scalar.indexCast arg15
  let c3_i32_1084 : BitVec 32 := 3#32
  let v2060 : Index := Scalar.indexCast c3_i32_1084
  let c304_1085 : Index := 304#32
  ![1, v2059.toNat, 3, 304]
def k0_off621 (k0_t3 : Fin k0_t3_loop.trips) : Fin 4 → Nat :=
  let c1_i32_1098 : BitVec 32 := 1#32
  let v2084 : Index := Scalar.indexCast c1_i32_1098
  let c0_i32_150 : BitVec 32 := 0#32
  let c1_i32_152 : BitVec 32 := 1#32
  let arg15 : BitVec 32 := Scf.iv c0_i32_150 c1_i32_152 k0_t3
  let v2085 : Index := Scalar.indexCast arg15
  let c0_i32_1099 : BitVec 32 := 0#32
  let v2086 : Index := Scalar.indexCast c0_i32_1099
  let c304_1100 : Index := 304#32
  ![1, v2085.toNat, 0, 304]
def k0_off622 (k0_t3 : Fin k0_t3_loop.trips) : Fin 4 → Nat :=
  let c1_i32_1101 : BitVec 32 := 1#32
  let v2091 : Index := Scalar.indexCast c1_i32_1101
  let c0_i32_150 : BitVec 32 := 0#32
  let c1_i32_152 : BitVec 32 := 1#32
  let arg15 : BitVec 32 := Scf.iv c0_i32_150 c1_i32_152 k0_t3
  let v2092 : Index := Scalar.indexCast arg15
  let c1_i32_1102 : BitVec 32 := 1#32
  let v2093 : Index := Scalar.indexCast c1_i32_1102
  let c304_1103 : Index := 304#32
  ![1, v2092.toNat, 1, 304]
def k0_off623 (k0_t3 : Fin k0_t3_loop.trips) : Fin 4 → Nat :=
  let c1_i32_1104 : BitVec 32 := 1#32
  let v2098 : Index := Scalar.indexCast c1_i32_1104
  let c0_i32_150 : BitVec 32 := 0#32
  let c1_i32_152 : BitVec 32 := 1#32
  let arg15 : BitVec 32 := Scf.iv c0_i32_150 c1_i32_152 k0_t3
  let v2099 : Index := Scalar.indexCast arg15
  let c2_i32_1105 : BitVec 32 := 2#32
  let v2100 : Index := Scalar.indexCast c2_i32_1105
  let c304_1106 : Index := 304#32
  ![1, v2099.toNat, 2, 304]
def k0_off624 (k0_t3 : Fin k0_t3_loop.trips) : Fin 4 → Nat :=
  let c1_i32_1107 : BitVec 32 := 1#32
  let v2105 : Index := Scalar.indexCast c1_i32_1107
  let c0_i32_150 : BitVec 32 := 0#32
  let c1_i32_152 : BitVec 32 := 1#32
  let arg15 : BitVec 32 := Scf.iv c0_i32_150 c1_i32_152 k0_t3
  let v2106 : Index := Scalar.indexCast arg15
  let c3_i32_1108 : BitVec 32 := 3#32
  let v2107 : Index := Scalar.indexCast c3_i32_1108
  let c304_1109 : Index := 304#32
  ![1, v2106.toNat, 3, 304]
def k0_off625 (k0_t3 : Fin k0_t3_loop.trips) : Fin 4 → Nat :=
  let c1_i32_1110 : BitVec 32 := 1#32
  let v2112 : Index := Scalar.indexCast c1_i32_1110
  let c0_i32_150 : BitVec 32 := 0#32
  let c1_i32_152 : BitVec 32 := 1#32
  let arg15 : BitVec 32 := Scf.iv c0_i32_150 c1_i32_152 k0_t3
  let v2113 : Index := Scalar.indexCast arg15
  let c4_i32_1111 : BitVec 32 := 4#32
  let v2114 : Index := Scalar.indexCast c4_i32_1111
  let c304_1112 : Index := 304#32
  ![1, v2113.toNat, 4, 304]
def k0_off626 (k0_t3 : Fin k0_t3_loop.trips) : Fin 4 → Nat :=
  let c1_i32_1113 : BitVec 32 := 1#32
  let v2119 : Index := Scalar.indexCast c1_i32_1113
  let c0_i32_150 : BitVec 32 := 0#32
  let c1_i32_152 : BitVec 32 := 1#32
  let arg15 : BitVec 32 := Scf.iv c0_i32_150 c1_i32_152 k0_t3
  let v2120 : Index := Scalar.indexCast arg15
  let c5_i32_1114 : BitVec 32 := 5#32
  let v2121 : Index := Scalar.indexCast c5_i32_1114
  let c304_1115 : Index := 304#32
  ![1, v2120.toNat, 5, 304]
def k0_off627 (k0_t3 : Fin k0_t3_loop.trips) : Fin 4 → Nat :=
  let c1_i32_1116 : BitVec 32 := 1#32
  let v2126 : Index := Scalar.indexCast c1_i32_1116
  let c0_i32_150 : BitVec 32 := 0#32
  let c1_i32_152 : BitVec 32 := 1#32
  let arg15 : BitVec 32 := Scf.iv c0_i32_150 c1_i32_152 k0_t3
  let v2127 : Index := Scalar.indexCast arg15
  let c6_i32_1117 : BitVec 32 := 6#32
  let v2128 : Index := Scalar.indexCast c6_i32_1117
  let c304_1118 : Index := 304#32
  ![1, v2127.toNat, 6, 304]
def k0_off628 (k0_t3 : Fin k0_t3_loop.trips) : Fin 4 → Nat :=
  let c1_i32_1120 : BitVec 32 := 1#32
  let v2139 : Index := Scalar.indexCast c1_i32_1120
  let c0_i32_150 : BitVec 32 := 0#32
  let c1_i32_152 : BitVec 32 := 1#32
  let arg15 : BitVec 32 := Scf.iv c0_i32_150 c1_i32_152 k0_t3
  let v2140 : Index := Scalar.indexCast arg15
  let c7_i32_1121 : BitVec 32 := 7#32
  let v2141 : Index := Scalar.indexCast c7_i32_1121
  let c304_1122 : Index := 304#32
  ![1, v2140.toNat, 7, 304]
def k0_off629 (k0_t3 : Fin k0_t3_loop.trips) : Fin 4 → Nat :=
  let c1_i32_1123 : BitVec 32 := 1#32
  let v2145 : Index := Scalar.indexCast c1_i32_1123
  let c0_i32_150 : BitVec 32 := 0#32
  let c1_i32_152 : BitVec 32 := 1#32
  let arg15 : BitVec 32 := Scf.iv c0_i32_150 c1_i32_152 k0_t3
  let v2146 : Index := Scalar.indexCast arg15
  let c0_i32_1124 : BitVec 32 := 0#32
  let v2147 : Index := Scalar.indexCast c0_i32_1124
  let c320 : Index := 320#32
  ![1, v2146.toNat, 0, 320]
def k0_off630 (k0_t3 : Fin k0_t3_loop.trips) : Fin 4 → Nat :=
  let c1_i32_1125 : BitVec 32 := 1#32
  let v2150 : Index := Scalar.indexCast c1_i32_1125
  let c0_i32_150 : BitVec 32 := 0#32
  let c1_i32_152 : BitVec 32 := 1#32
  let arg15 : BitVec 32 := Scf.iv c0_i32_150 c1_i32_152 k0_t3
  let v2151 : Index := Scalar.indexCast arg15
  let c1_i32_1126 : BitVec 32 := 1#32
  let v2152 : Index := Scalar.indexCast c1_i32_1126
  let c320_1127 : Index := 320#32
  ![1, v2151.toNat, 1, 320]
def k0_off631 (k0_t3 : Fin k0_t3_loop.trips) : Fin 4 → Nat :=
  let c1_i32_1128 : BitVec 32 := 1#32
  let v2155 : Index := Scalar.indexCast c1_i32_1128
  let c0_i32_150 : BitVec 32 := 0#32
  let c1_i32_152 : BitVec 32 := 1#32
  let arg15 : BitVec 32 := Scf.iv c0_i32_150 c1_i32_152 k0_t3
  let v2156 : Index := Scalar.indexCast arg15
  let c2_i32_1129 : BitVec 32 := 2#32
  let v2157 : Index := Scalar.indexCast c2_i32_1129
  let c320_1130 : Index := 320#32
  ![1, v2156.toNat, 2, 320]
def k0_off632 (k0_t3 : Fin k0_t3_loop.trips) : Fin 4 → Nat :=
  let c1_i32_1131 : BitVec 32 := 1#32
  let v2160 : Index := Scalar.indexCast c1_i32_1131
  let c0_i32_150 : BitVec 32 := 0#32
  let c1_i32_152 : BitVec 32 := 1#32
  let arg15 : BitVec 32 := Scf.iv c0_i32_150 c1_i32_152 k0_t3
  let v2161 : Index := Scalar.indexCast arg15
  let c3_i32_1132 : BitVec 32 := 3#32
  let v2162 : Index := Scalar.indexCast c3_i32_1132
  let c320_1133 : Index := 320#32
  ![1, v2161.toNat, 3, 320]
def k0_off633 (k0_t3 : Fin k0_t3_loop.trips) : Fin 4 → Nat :=
  let c1_i32_1146 : BitVec 32 := 1#32
  let v2186 : Index := Scalar.indexCast c1_i32_1146
  let c0_i32_150 : BitVec 32 := 0#32
  let c1_i32_152 : BitVec 32 := 1#32
  let arg15 : BitVec 32 := Scf.iv c0_i32_150 c1_i32_152 k0_t3
  let v2187 : Index := Scalar.indexCast arg15
  let c0_i32_1147 : BitVec 32 := 0#32
  let v2188 : Index := Scalar.indexCast c0_i32_1147
  let c320_1148 : Index := 320#32
  ![1, v2187.toNat, 0, 320]
def k0_off634 (k0_t3 : Fin k0_t3_loop.trips) : Fin 4 → Nat :=
  let c1_i32_1149 : BitVec 32 := 1#32
  let v2193 : Index := Scalar.indexCast c1_i32_1149
  let c0_i32_150 : BitVec 32 := 0#32
  let c1_i32_152 : BitVec 32 := 1#32
  let arg15 : BitVec 32 := Scf.iv c0_i32_150 c1_i32_152 k0_t3
  let v2194 : Index := Scalar.indexCast arg15
  let c1_i32_1150 : BitVec 32 := 1#32
  let v2195 : Index := Scalar.indexCast c1_i32_1150
  let c320_1151 : Index := 320#32
  ![1, v2194.toNat, 1, 320]
def k0_off635 (k0_t3 : Fin k0_t3_loop.trips) : Fin 4 → Nat :=
  let c1_i32_1152 : BitVec 32 := 1#32
  let v2200 : Index := Scalar.indexCast c1_i32_1152
  let c0_i32_150 : BitVec 32 := 0#32
  let c1_i32_152 : BitVec 32 := 1#32
  let arg15 : BitVec 32 := Scf.iv c0_i32_150 c1_i32_152 k0_t3
  let v2201 : Index := Scalar.indexCast arg15
  let c2_i32_1153 : BitVec 32 := 2#32
  let v2202 : Index := Scalar.indexCast c2_i32_1153
  let c320_1154 : Index := 320#32
  ![1, v2201.toNat, 2, 320]
def k0_off636 (k0_t3 : Fin k0_t3_loop.trips) : Fin 4 → Nat :=
  let c1_i32_1155 : BitVec 32 := 1#32
  let v2207 : Index := Scalar.indexCast c1_i32_1155
  let c0_i32_150 : BitVec 32 := 0#32
  let c1_i32_152 : BitVec 32 := 1#32
  let arg15 : BitVec 32 := Scf.iv c0_i32_150 c1_i32_152 k0_t3
  let v2208 : Index := Scalar.indexCast arg15
  let c3_i32_1156 : BitVec 32 := 3#32
  let v2209 : Index := Scalar.indexCast c3_i32_1156
  let c320_1157 : Index := 320#32
  ![1, v2208.toNat, 3, 320]
def k0_off637 (k0_t3 : Fin k0_t3_loop.trips) : Fin 4 → Nat :=
  let c1_i32_1158 : BitVec 32 := 1#32
  let v2214 : Index := Scalar.indexCast c1_i32_1158
  let c0_i32_150 : BitVec 32 := 0#32
  let c1_i32_152 : BitVec 32 := 1#32
  let arg15 : BitVec 32 := Scf.iv c0_i32_150 c1_i32_152 k0_t3
  let v2215 : Index := Scalar.indexCast arg15
  let c4_i32_1159 : BitVec 32 := 4#32
  let v2216 : Index := Scalar.indexCast c4_i32_1159
  let c320_1160 : Index := 320#32
  ![1, v2215.toNat, 4, 320]
def k0_off638 (k0_t3 : Fin k0_t3_loop.trips) : Fin 4 → Nat :=
  let c1_i32_1161 : BitVec 32 := 1#32
  let v2221 : Index := Scalar.indexCast c1_i32_1161
  let c0_i32_150 : BitVec 32 := 0#32
  let c1_i32_152 : BitVec 32 := 1#32
  let arg15 : BitVec 32 := Scf.iv c0_i32_150 c1_i32_152 k0_t3
  let v2222 : Index := Scalar.indexCast arg15
  let c5_i32_1162 : BitVec 32 := 5#32
  let v2223 : Index := Scalar.indexCast c5_i32_1162
  let c320_1163 : Index := 320#32
  ![1, v2222.toNat, 5, 320]
def k0_off639 (k0_t3 : Fin k0_t3_loop.trips) : Fin 4 → Nat :=
  let c1_i32_1164 : BitVec 32 := 1#32
  let v2228 : Index := Scalar.indexCast c1_i32_1164
  let c0_i32_150 : BitVec 32 := 0#32
  let c1_i32_152 : BitVec 32 := 1#32
  let arg15 : BitVec 32 := Scf.iv c0_i32_150 c1_i32_152 k0_t3
  let v2229 : Index := Scalar.indexCast arg15
  let c6_i32_1165 : BitVec 32 := 6#32
  let v2230 : Index := Scalar.indexCast c6_i32_1165
  let c320_1166 : Index := 320#32
  ![1, v2229.toNat, 6, 320]
def k0_off640 (k0_t3 : Fin k0_t3_loop.trips) : Fin 4 → Nat :=
  let c1_i32_1168 : BitVec 32 := 1#32
  let v2241 : Index := Scalar.indexCast c1_i32_1168
  let c0_i32_150 : BitVec 32 := 0#32
  let c1_i32_152 : BitVec 32 := 1#32
  let arg15 : BitVec 32 := Scf.iv c0_i32_150 c1_i32_152 k0_t3
  let v2242 : Index := Scalar.indexCast arg15
  let c7_i32_1169 : BitVec 32 := 7#32
  let v2243 : Index := Scalar.indexCast c7_i32_1169
  let c320_1170 : Index := 320#32
  ![1, v2242.toNat, 7, 320]
def k0_off641 (k0_t3 : Fin k0_t3_loop.trips) : Fin 4 → Nat :=
  let c1_i32_1171 : BitVec 32 := 1#32
  let v2247 : Index := Scalar.indexCast c1_i32_1171
  let c0_i32_150 : BitVec 32 := 0#32
  let c1_i32_152 : BitVec 32 := 1#32
  let arg15 : BitVec 32 := Scf.iv c0_i32_150 c1_i32_152 k0_t3
  let v2248 : Index := Scalar.indexCast arg15
  let c0_i32_1172 : BitVec 32 := 0#32
  let v2249 : Index := Scalar.indexCast c0_i32_1172
  let c336 : Index := 336#32
  ![1, v2248.toNat, 0, 336]
def k0_off642 (k0_t3 : Fin k0_t3_loop.trips) : Fin 4 → Nat :=
  let c1_i32_1173 : BitVec 32 := 1#32
  let v2252 : Index := Scalar.indexCast c1_i32_1173
  let c0_i32_150 : BitVec 32 := 0#32
  let c1_i32_152 : BitVec 32 := 1#32
  let arg15 : BitVec 32 := Scf.iv c0_i32_150 c1_i32_152 k0_t3
  let v2253 : Index := Scalar.indexCast arg15
  let c1_i32_1174 : BitVec 32 := 1#32
  let v2254 : Index := Scalar.indexCast c1_i32_1174
  let c336_1175 : Index := 336#32
  ![1, v2253.toNat, 1, 336]
def k0_off643 (k0_t3 : Fin k0_t3_loop.trips) : Fin 4 → Nat :=
  let c1_i32_1176 : BitVec 32 := 1#32
  let v2257 : Index := Scalar.indexCast c1_i32_1176
  let c0_i32_150 : BitVec 32 := 0#32
  let c1_i32_152 : BitVec 32 := 1#32
  let arg15 : BitVec 32 := Scf.iv c0_i32_150 c1_i32_152 k0_t3
  let v2258 : Index := Scalar.indexCast arg15
  let c2_i32_1177 : BitVec 32 := 2#32
  let v2259 : Index := Scalar.indexCast c2_i32_1177
  let c336_1178 : Index := 336#32
  ![1, v2258.toNat, 2, 336]
def k0_off644 (k0_t3 : Fin k0_t3_loop.trips) : Fin 4 → Nat :=
  let c1_i32_1179 : BitVec 32 := 1#32
  let v2262 : Index := Scalar.indexCast c1_i32_1179
  let c0_i32_150 : BitVec 32 := 0#32
  let c1_i32_152 : BitVec 32 := 1#32
  let arg15 : BitVec 32 := Scf.iv c0_i32_150 c1_i32_152 k0_t3
  let v2263 : Index := Scalar.indexCast arg15
  let c3_i32_1180 : BitVec 32 := 3#32
  let v2264 : Index := Scalar.indexCast c3_i32_1180
  let c336_1181 : Index := 336#32
  ![1, v2263.toNat, 3, 336]
def k0_off645 (k0_t3 : Fin k0_t3_loop.trips) : Fin 4 → Nat :=
  let c1_i32_1194 : BitVec 32 := 1#32
  let v2288 : Index := Scalar.indexCast c1_i32_1194
  let c0_i32_150 : BitVec 32 := 0#32
  let c1_i32_152 : BitVec 32 := 1#32
  let arg15 : BitVec 32 := Scf.iv c0_i32_150 c1_i32_152 k0_t3
  let v2289 : Index := Scalar.indexCast arg15
  let c0_i32_1195 : BitVec 32 := 0#32
  let v2290 : Index := Scalar.indexCast c0_i32_1195
  let c336_1196 : Index := 336#32
  ![1, v2289.toNat, 0, 336]
def k0_off646 (k0_t3 : Fin k0_t3_loop.trips) : Fin 4 → Nat :=
  let c1_i32_1197 : BitVec 32 := 1#32
  let v2295 : Index := Scalar.indexCast c1_i32_1197
  let c0_i32_150 : BitVec 32 := 0#32
  let c1_i32_152 : BitVec 32 := 1#32
  let arg15 : BitVec 32 := Scf.iv c0_i32_150 c1_i32_152 k0_t3
  let v2296 : Index := Scalar.indexCast arg15
  let c1_i32_1198 : BitVec 32 := 1#32
  let v2297 : Index := Scalar.indexCast c1_i32_1198
  let c336_1199 : Index := 336#32
  ![1, v2296.toNat, 1, 336]
def k0_off647 (k0_t3 : Fin k0_t3_loop.trips) : Fin 4 → Nat :=
  let c1_i32_1200 : BitVec 32 := 1#32
  let v2302 : Index := Scalar.indexCast c1_i32_1200
  let c0_i32_150 : BitVec 32 := 0#32
  let c1_i32_152 : BitVec 32 := 1#32
  let arg15 : BitVec 32 := Scf.iv c0_i32_150 c1_i32_152 k0_t3
  let v2303 : Index := Scalar.indexCast arg15
  let c2_i32_1201 : BitVec 32 := 2#32
  let v2304 : Index := Scalar.indexCast c2_i32_1201
  let c336_1202 : Index := 336#32
  ![1, v2303.toNat, 2, 336]
def k0_off648 (k0_t3 : Fin k0_t3_loop.trips) : Fin 4 → Nat :=
  let c1_i32_1203 : BitVec 32 := 1#32
  let v2309 : Index := Scalar.indexCast c1_i32_1203
  let c0_i32_150 : BitVec 32 := 0#32
  let c1_i32_152 : BitVec 32 := 1#32
  let arg15 : BitVec 32 := Scf.iv c0_i32_150 c1_i32_152 k0_t3
  let v2310 : Index := Scalar.indexCast arg15
  let c3_i32_1204 : BitVec 32 := 3#32
  let v2311 : Index := Scalar.indexCast c3_i32_1204
  let c336_1205 : Index := 336#32
  ![1, v2310.toNat, 3, 336]
def k0_off649 (k0_t3 : Fin k0_t3_loop.trips) : Fin 4 → Nat :=
  let c1_i32_1206 : BitVec 32 := 1#32
  let v2316 : Index := Scalar.indexCast c1_i32_1206
  let c0_i32_150 : BitVec 32 := 0#32
  let c1_i32_152 : BitVec 32 := 1#32
  let arg15 : BitVec 32 := Scf.iv c0_i32_150 c1_i32_152 k0_t3
  let v2317 : Index := Scalar.indexCast arg15
  let c4_i32_1207 : BitVec 32 := 4#32
  let v2318 : Index := Scalar.indexCast c4_i32_1207
  let c336_1208 : Index := 336#32
  ![1, v2317.toNat, 4, 336]
def k0_off650 (k0_t3 : Fin k0_t3_loop.trips) : Fin 4 → Nat :=
  let c1_i32_1209 : BitVec 32 := 1#32
  let v2323 : Index := Scalar.indexCast c1_i32_1209
  let c0_i32_150 : BitVec 32 := 0#32
  let c1_i32_152 : BitVec 32 := 1#32
  let arg15 : BitVec 32 := Scf.iv c0_i32_150 c1_i32_152 k0_t3
  let v2324 : Index := Scalar.indexCast arg15
  let c5_i32_1210 : BitVec 32 := 5#32
  let v2325 : Index := Scalar.indexCast c5_i32_1210
  let c336_1211 : Index := 336#32
  ![1, v2324.toNat, 5, 336]
def k0_off651 (k0_t3 : Fin k0_t3_loop.trips) : Fin 4 → Nat :=
  let c1_i32_1212 : BitVec 32 := 1#32
  let v2330 : Index := Scalar.indexCast c1_i32_1212
  let c0_i32_150 : BitVec 32 := 0#32
  let c1_i32_152 : BitVec 32 := 1#32
  let arg15 : BitVec 32 := Scf.iv c0_i32_150 c1_i32_152 k0_t3
  let v2331 : Index := Scalar.indexCast arg15
  let c6_i32_1213 : BitVec 32 := 6#32
  let v2332 : Index := Scalar.indexCast c6_i32_1213
  let c336_1214 : Index := 336#32
  ![1, v2331.toNat, 6, 336]
def k0_off652 (k0_t3 : Fin k0_t3_loop.trips) : Fin 4 → Nat :=
  let c1_i32_1216 : BitVec 32 := 1#32
  let v2343 : Index := Scalar.indexCast c1_i32_1216
  let c0_i32_150 : BitVec 32 := 0#32
  let c1_i32_152 : BitVec 32 := 1#32
  let arg15 : BitVec 32 := Scf.iv c0_i32_150 c1_i32_152 k0_t3
  let v2344 : Index := Scalar.indexCast arg15
  let c7_i32_1217 : BitVec 32 := 7#32
  let v2345 : Index := Scalar.indexCast c7_i32_1217
  let c336_1218 : Index := 336#32
  ![1, v2344.toNat, 7, 336]
def k0_off653 (k0_t3 : Fin k0_t3_loop.trips) : Fin 4 → Nat :=
  let c1_i32_1219 : BitVec 32 := 1#32
  let v2349 : Index := Scalar.indexCast c1_i32_1219
  let c0_i32_150 : BitVec 32 := 0#32
  let c1_i32_152 : BitVec 32 := 1#32
  let arg15 : BitVec 32 := Scf.iv c0_i32_150 c1_i32_152 k0_t3
  let v2350 : Index := Scalar.indexCast arg15
  let c0_i32_1220 : BitVec 32 := 0#32
  let v2351 : Index := Scalar.indexCast c0_i32_1220
  let c352 : Index := 352#32
  ![1, v2350.toNat, 0, 352]
def k0_off654 (k0_t3 : Fin k0_t3_loop.trips) : Fin 4 → Nat :=
  let c1_i32_1221 : BitVec 32 := 1#32
  let v2354 : Index := Scalar.indexCast c1_i32_1221
  let c0_i32_150 : BitVec 32 := 0#32
  let c1_i32_152 : BitVec 32 := 1#32
  let arg15 : BitVec 32 := Scf.iv c0_i32_150 c1_i32_152 k0_t3
  let v2355 : Index := Scalar.indexCast arg15
  let c1_i32_1222 : BitVec 32 := 1#32
  let v2356 : Index := Scalar.indexCast c1_i32_1222
  let c352_1223 : Index := 352#32
  ![1, v2355.toNat, 1, 352]
def k0_off655 (k0_t3 : Fin k0_t3_loop.trips) : Fin 4 → Nat :=
  let c1_i32_1224 : BitVec 32 := 1#32
  let v2359 : Index := Scalar.indexCast c1_i32_1224
  let c0_i32_150 : BitVec 32 := 0#32
  let c1_i32_152 : BitVec 32 := 1#32
  let arg15 : BitVec 32 := Scf.iv c0_i32_150 c1_i32_152 k0_t3
  let v2360 : Index := Scalar.indexCast arg15
  let c2_i32_1225 : BitVec 32 := 2#32
  let v2361 : Index := Scalar.indexCast c2_i32_1225
  let c352_1226 : Index := 352#32
  ![1, v2360.toNat, 2, 352]
def k0_off656 (k0_t3 : Fin k0_t3_loop.trips) : Fin 4 → Nat :=
  let c1_i32_1227 : BitVec 32 := 1#32
  let v2364 : Index := Scalar.indexCast c1_i32_1227
  let c0_i32_150 : BitVec 32 := 0#32
  let c1_i32_152 : BitVec 32 := 1#32
  let arg15 : BitVec 32 := Scf.iv c0_i32_150 c1_i32_152 k0_t3
  let v2365 : Index := Scalar.indexCast arg15
  let c3_i32_1228 : BitVec 32 := 3#32
  let v2366 : Index := Scalar.indexCast c3_i32_1228
  let c352_1229 : Index := 352#32
  ![1, v2365.toNat, 3, 352]
def k0_off657 (k0_t3 : Fin k0_t3_loop.trips) : Fin 4 → Nat :=
  let c1_i32_1242 : BitVec 32 := 1#32
  let v2390 : Index := Scalar.indexCast c1_i32_1242
  let c0_i32_150 : BitVec 32 := 0#32
  let c1_i32_152 : BitVec 32 := 1#32
  let arg15 : BitVec 32 := Scf.iv c0_i32_150 c1_i32_152 k0_t3
  let v2391 : Index := Scalar.indexCast arg15
  let c0_i32_1243 : BitVec 32 := 0#32
  let v2392 : Index := Scalar.indexCast c0_i32_1243
  let c352_1244 : Index := 352#32
  ![1, v2391.toNat, 0, 352]
def k0_off658 (k0_t3 : Fin k0_t3_loop.trips) : Fin 4 → Nat :=
  let c1_i32_1245 : BitVec 32 := 1#32
  let v2397 : Index := Scalar.indexCast c1_i32_1245
  let c0_i32_150 : BitVec 32 := 0#32
  let c1_i32_152 : BitVec 32 := 1#32
  let arg15 : BitVec 32 := Scf.iv c0_i32_150 c1_i32_152 k0_t3
  let v2398 : Index := Scalar.indexCast arg15
  let c1_i32_1246 : BitVec 32 := 1#32
  let v2399 : Index := Scalar.indexCast c1_i32_1246
  let c352_1247 : Index := 352#32
  ![1, v2398.toNat, 1, 352]
def k0_off659 (k0_t3 : Fin k0_t3_loop.trips) : Fin 4 → Nat :=
  let c1_i32_1248 : BitVec 32 := 1#32
  let v2404 : Index := Scalar.indexCast c1_i32_1248
  let c0_i32_150 : BitVec 32 := 0#32
  let c1_i32_152 : BitVec 32 := 1#32
  let arg15 : BitVec 32 := Scf.iv c0_i32_150 c1_i32_152 k0_t3
  let v2405 : Index := Scalar.indexCast arg15
  let c2_i32_1249 : BitVec 32 := 2#32
  let v2406 : Index := Scalar.indexCast c2_i32_1249
  let c352_1250 : Index := 352#32
  ![1, v2405.toNat, 2, 352]
def k0_off660 (k0_t3 : Fin k0_t3_loop.trips) : Fin 4 → Nat :=
  let c1_i32_1251 : BitVec 32 := 1#32
  let v2411 : Index := Scalar.indexCast c1_i32_1251
  let c0_i32_150 : BitVec 32 := 0#32
  let c1_i32_152 : BitVec 32 := 1#32
  let arg15 : BitVec 32 := Scf.iv c0_i32_150 c1_i32_152 k0_t3
  let v2412 : Index := Scalar.indexCast arg15
  let c3_i32_1252 : BitVec 32 := 3#32
  let v2413 : Index := Scalar.indexCast c3_i32_1252
  let c352_1253 : Index := 352#32
  ![1, v2412.toNat, 3, 352]
def k0_off661 (k0_t3 : Fin k0_t3_loop.trips) : Fin 4 → Nat :=
  let c1_i32_1254 : BitVec 32 := 1#32
  let v2418 : Index := Scalar.indexCast c1_i32_1254
  let c0_i32_150 : BitVec 32 := 0#32
  let c1_i32_152 : BitVec 32 := 1#32
  let arg15 : BitVec 32 := Scf.iv c0_i32_150 c1_i32_152 k0_t3
  let v2419 : Index := Scalar.indexCast arg15
  let c4_i32_1255 : BitVec 32 := 4#32
  let v2420 : Index := Scalar.indexCast c4_i32_1255
  let c352_1256 : Index := 352#32
  ![1, v2419.toNat, 4, 352]
def k0_off662 (k0_t3 : Fin k0_t3_loop.trips) : Fin 4 → Nat :=
  let c1_i32_1257 : BitVec 32 := 1#32
  let v2425 : Index := Scalar.indexCast c1_i32_1257
  let c0_i32_150 : BitVec 32 := 0#32
  let c1_i32_152 : BitVec 32 := 1#32
  let arg15 : BitVec 32 := Scf.iv c0_i32_150 c1_i32_152 k0_t3
  let v2426 : Index := Scalar.indexCast arg15
  let c5_i32_1258 : BitVec 32 := 5#32
  let v2427 : Index := Scalar.indexCast c5_i32_1258
  let c352_1259 : Index := 352#32
  ![1, v2426.toNat, 5, 352]
def k0_off663 (k0_t3 : Fin k0_t3_loop.trips) : Fin 4 → Nat :=
  let c1_i32_1260 : BitVec 32 := 1#32
  let v2432 : Index := Scalar.indexCast c1_i32_1260
  let c0_i32_150 : BitVec 32 := 0#32
  let c1_i32_152 : BitVec 32 := 1#32
  let arg15 : BitVec 32 := Scf.iv c0_i32_150 c1_i32_152 k0_t3
  let v2433 : Index := Scalar.indexCast arg15
  let c6_i32_1261 : BitVec 32 := 6#32
  let v2434 : Index := Scalar.indexCast c6_i32_1261
  let c352_1262 : Index := 352#32
  ![1, v2433.toNat, 6, 352]
def k0_off664 (k0_t3 : Fin k0_t3_loop.trips) : Fin 4 → Nat :=
  let c1_i32_1264 : BitVec 32 := 1#32
  let v2445 : Index := Scalar.indexCast c1_i32_1264
  let c0_i32_150 : BitVec 32 := 0#32
  let c1_i32_152 : BitVec 32 := 1#32
  let arg15 : BitVec 32 := Scf.iv c0_i32_150 c1_i32_152 k0_t3
  let v2446 : Index := Scalar.indexCast arg15
  let c7_i32_1265 : BitVec 32 := 7#32
  let v2447 : Index := Scalar.indexCast c7_i32_1265
  let c352_1266 : Index := 352#32
  ![1, v2446.toNat, 7, 352]
def k0_off665 (k0_t3 : Fin k0_t3_loop.trips) : Fin 4 → Nat :=
  let c1_i32_1267 : BitVec 32 := 1#32
  let v2451 : Index := Scalar.indexCast c1_i32_1267
  let c0_i32_150 : BitVec 32 := 0#32
  let c1_i32_152 : BitVec 32 := 1#32
  let arg15 : BitVec 32 := Scf.iv c0_i32_150 c1_i32_152 k0_t3
  let v2452 : Index := Scalar.indexCast arg15
  let c0_i32_1268 : BitVec 32 := 0#32
  let v2453 : Index := Scalar.indexCast c0_i32_1268
  let c368 : Index := 368#32
  ![1, v2452.toNat, 0, 368]
def k0_off666 (k0_t3 : Fin k0_t3_loop.trips) : Fin 4 → Nat :=
  let c1_i32_1269 : BitVec 32 := 1#32
  let v2456 : Index := Scalar.indexCast c1_i32_1269
  let c0_i32_150 : BitVec 32 := 0#32
  let c1_i32_152 : BitVec 32 := 1#32
  let arg15 : BitVec 32 := Scf.iv c0_i32_150 c1_i32_152 k0_t3
  let v2457 : Index := Scalar.indexCast arg15
  let c1_i32_1270 : BitVec 32 := 1#32
  let v2458 : Index := Scalar.indexCast c1_i32_1270
  let c368_1271 : Index := 368#32
  ![1, v2457.toNat, 1, 368]
def k0_off667 (k0_t3 : Fin k0_t3_loop.trips) : Fin 4 → Nat :=
  let c1_i32_1272 : BitVec 32 := 1#32
  let v2461 : Index := Scalar.indexCast c1_i32_1272
  let c0_i32_150 : BitVec 32 := 0#32
  let c1_i32_152 : BitVec 32 := 1#32
  let arg15 : BitVec 32 := Scf.iv c0_i32_150 c1_i32_152 k0_t3
  let v2462 : Index := Scalar.indexCast arg15
  let c2_i32_1273 : BitVec 32 := 2#32
  let v2463 : Index := Scalar.indexCast c2_i32_1273
  let c368_1274 : Index := 368#32
  ![1, v2462.toNat, 2, 368]
def k0_off668 (k0_t3 : Fin k0_t3_loop.trips) : Fin 4 → Nat :=
  let c1_i32_1275 : BitVec 32 := 1#32
  let v2466 : Index := Scalar.indexCast c1_i32_1275
  let c0_i32_150 : BitVec 32 := 0#32
  let c1_i32_152 : BitVec 32 := 1#32
  let arg15 : BitVec 32 := Scf.iv c0_i32_150 c1_i32_152 k0_t3
  let v2467 : Index := Scalar.indexCast arg15
  let c3_i32_1276 : BitVec 32 := 3#32
  let v2468 : Index := Scalar.indexCast c3_i32_1276
  let c368_1277 : Index := 368#32
  ![1, v2467.toNat, 3, 368]
def k0_off669 (k0_t3 : Fin k0_t3_loop.trips) : Fin 4 → Nat :=
  let c1_i32_1290 : BitVec 32 := 1#32
  let v2492 : Index := Scalar.indexCast c1_i32_1290
  let c0_i32_150 : BitVec 32 := 0#32
  let c1_i32_152 : BitVec 32 := 1#32
  let arg15 : BitVec 32 := Scf.iv c0_i32_150 c1_i32_152 k0_t3
  let v2493 : Index := Scalar.indexCast arg15
  let c0_i32_1291 : BitVec 32 := 0#32
  let v2494 : Index := Scalar.indexCast c0_i32_1291
  let c368_1292 : Index := 368#32
  ![1, v2493.toNat, 0, 368]
def k0_off670 (k0_t3 : Fin k0_t3_loop.trips) : Fin 4 → Nat :=
  let c1_i32_1293 : BitVec 32 := 1#32
  let v2499 : Index := Scalar.indexCast c1_i32_1293
  let c0_i32_150 : BitVec 32 := 0#32
  let c1_i32_152 : BitVec 32 := 1#32
  let arg15 : BitVec 32 := Scf.iv c0_i32_150 c1_i32_152 k0_t3
  let v2500 : Index := Scalar.indexCast arg15
  let c1_i32_1294 : BitVec 32 := 1#32
  let v2501 : Index := Scalar.indexCast c1_i32_1294
  let c368_1295 : Index := 368#32
  ![1, v2500.toNat, 1, 368]
def k0_off671 (k0_t3 : Fin k0_t3_loop.trips) : Fin 4 → Nat :=
  let c1_i32_1296 : BitVec 32 := 1#32
  let v2506 : Index := Scalar.indexCast c1_i32_1296
  let c0_i32_150 : BitVec 32 := 0#32
  let c1_i32_152 : BitVec 32 := 1#32
  let arg15 : BitVec 32 := Scf.iv c0_i32_150 c1_i32_152 k0_t3
  let v2507 : Index := Scalar.indexCast arg15
  let c2_i32_1297 : BitVec 32 := 2#32
  let v2508 : Index := Scalar.indexCast c2_i32_1297
  let c368_1298 : Index := 368#32
  ![1, v2507.toNat, 2, 368]
def k0_off672 (k0_t3 : Fin k0_t3_loop.trips) : Fin 4 → Nat :=
  let c1_i32_1299 : BitVec 32 := 1#32
  let v2513 : Index := Scalar.indexCast c1_i32_1299
  let c0_i32_150 : BitVec 32 := 0#32
  let c1_i32_152 : BitVec 32 := 1#32
  let arg15 : BitVec 32 := Scf.iv c0_i32_150 c1_i32_152 k0_t3
  let v2514 : Index := Scalar.indexCast arg15
  let c3_i32_1300 : BitVec 32 := 3#32
  let v2515 : Index := Scalar.indexCast c3_i32_1300
  let c368_1301 : Index := 368#32
  ![1, v2514.toNat, 3, 368]
def k0_off673 (k0_t3 : Fin k0_t3_loop.trips) : Fin 4 → Nat :=
  let c1_i32_1302 : BitVec 32 := 1#32
  let v2520 : Index := Scalar.indexCast c1_i32_1302
  let c0_i32_150 : BitVec 32 := 0#32
  let c1_i32_152 : BitVec 32 := 1#32
  let arg15 : BitVec 32 := Scf.iv c0_i32_150 c1_i32_152 k0_t3
  let v2521 : Index := Scalar.indexCast arg15
  let c4_i32_1303 : BitVec 32 := 4#32
  let v2522 : Index := Scalar.indexCast c4_i32_1303
  let c368_1304 : Index := 368#32
  ![1, v2521.toNat, 4, 368]
def k0_off674 (k0_t3 : Fin k0_t3_loop.trips) : Fin 4 → Nat :=
  let c1_i32_1305 : BitVec 32 := 1#32
  let v2527 : Index := Scalar.indexCast c1_i32_1305
  let c0_i32_150 : BitVec 32 := 0#32
  let c1_i32_152 : BitVec 32 := 1#32
  let arg15 : BitVec 32 := Scf.iv c0_i32_150 c1_i32_152 k0_t3
  let v2528 : Index := Scalar.indexCast arg15
  let c5_i32_1306 : BitVec 32 := 5#32
  let v2529 : Index := Scalar.indexCast c5_i32_1306
  let c368_1307 : Index := 368#32
  ![1, v2528.toNat, 5, 368]
def k0_off675 (k0_t3 : Fin k0_t3_loop.trips) : Fin 4 → Nat :=
  let c1_i32_1308 : BitVec 32 := 1#32
  let v2534 : Index := Scalar.indexCast c1_i32_1308
  let c0_i32_150 : BitVec 32 := 0#32
  let c1_i32_152 : BitVec 32 := 1#32
  let arg15 : BitVec 32 := Scf.iv c0_i32_150 c1_i32_152 k0_t3
  let v2535 : Index := Scalar.indexCast arg15
  let c6_i32_1309 : BitVec 32 := 6#32
  let v2536 : Index := Scalar.indexCast c6_i32_1309
  let c368_1310 : Index := 368#32
  ![1, v2535.toNat, 6, 368]
def k0_off676 (k0_t3 : Fin k0_t3_loop.trips) : Fin 4 → Nat :=
  let c1_i32_1312 : BitVec 32 := 1#32
  let v2547 : Index := Scalar.indexCast c1_i32_1312
  let c0_i32_150 : BitVec 32 := 0#32
  let c1_i32_152 : BitVec 32 := 1#32
  let arg15 : BitVec 32 := Scf.iv c0_i32_150 c1_i32_152 k0_t3
  let v2548 : Index := Scalar.indexCast arg15
  let c7_i32_1313 : BitVec 32 := 7#32
  let v2549 : Index := Scalar.indexCast c7_i32_1313
  let c368_1314 : Index := 368#32
  ![1, v2548.toNat, 7, 368]
def k0_off677 (k0_t3 : Fin k0_t3_loop.trips) : Fin 4 → Nat :=
  let c1_i32_1315 : BitVec 32 := 1#32
  let v2553 : Index := Scalar.indexCast c1_i32_1315
  let c0_i32_150 : BitVec 32 := 0#32
  let c1_i32_152 : BitVec 32 := 1#32
  let arg15 : BitVec 32 := Scf.iv c0_i32_150 c1_i32_152 k0_t3
  let v2554 : Index := Scalar.indexCast arg15
  let c0_i32_1316 : BitVec 32 := 0#32
  let v2555 : Index := Scalar.indexCast c0_i32_1316
  let c384 : Index := 384#32
  ![1, v2554.toNat, 0, 384]
def k0_off678 (k0_t3 : Fin k0_t3_loop.trips) : Fin 4 → Nat :=
  let c1_i32_1317 : BitVec 32 := 1#32
  let v2558 : Index := Scalar.indexCast c1_i32_1317
  let c0_i32_150 : BitVec 32 := 0#32
  let c1_i32_152 : BitVec 32 := 1#32
  let arg15 : BitVec 32 := Scf.iv c0_i32_150 c1_i32_152 k0_t3
  let v2559 : Index := Scalar.indexCast arg15
  let c1_i32_1318 : BitVec 32 := 1#32
  let v2560 : Index := Scalar.indexCast c1_i32_1318
  let c384_1319 : Index := 384#32
  ![1, v2559.toNat, 1, 384]
def k0_off679 (k0_t3 : Fin k0_t3_loop.trips) : Fin 4 → Nat :=
  let c1_i32_1320 : BitVec 32 := 1#32
  let v2563 : Index := Scalar.indexCast c1_i32_1320
  let c0_i32_150 : BitVec 32 := 0#32
  let c1_i32_152 : BitVec 32 := 1#32
  let arg15 : BitVec 32 := Scf.iv c0_i32_150 c1_i32_152 k0_t3
  let v2564 : Index := Scalar.indexCast arg15
  let c2_i32_1321 : BitVec 32 := 2#32
  let v2565 : Index := Scalar.indexCast c2_i32_1321
  let c384_1322 : Index := 384#32
  ![1, v2564.toNat, 2, 384]
def k0_off680 (k0_t3 : Fin k0_t3_loop.trips) : Fin 4 → Nat :=
  let c1_i32_1323 : BitVec 32 := 1#32
  let v2568 : Index := Scalar.indexCast c1_i32_1323
  let c0_i32_150 : BitVec 32 := 0#32
  let c1_i32_152 : BitVec 32 := 1#32
  let arg15 : BitVec 32 := Scf.iv c0_i32_150 c1_i32_152 k0_t3
  let v2569 : Index := Scalar.indexCast arg15
  let c3_i32_1324 : BitVec 32 := 3#32
  let v2570 : Index := Scalar.indexCast c3_i32_1324
  let c384_1325 : Index := 384#32
  ![1, v2569.toNat, 3, 384]
def k0_off681 (k0_t3 : Fin k0_t3_loop.trips) : Fin 4 → Nat :=
  let c1_i32_1338 : BitVec 32 := 1#32
  let v2594 : Index := Scalar.indexCast c1_i32_1338
  let c0_i32_150 : BitVec 32 := 0#32
  let c1_i32_152 : BitVec 32 := 1#32
  let arg15 : BitVec 32 := Scf.iv c0_i32_150 c1_i32_152 k0_t3
  let v2595 : Index := Scalar.indexCast arg15
  let c0_i32_1339 : BitVec 32 := 0#32
  let v2596 : Index := Scalar.indexCast c0_i32_1339
  let c384_1340 : Index := 384#32
  ![1, v2595.toNat, 0, 384]
def k0_off682 (k0_t3 : Fin k0_t3_loop.trips) : Fin 4 → Nat :=
  let c1_i32_1341 : BitVec 32 := 1#32
  let v2601 : Index := Scalar.indexCast c1_i32_1341
  let c0_i32_150 : BitVec 32 := 0#32
  let c1_i32_152 : BitVec 32 := 1#32
  let arg15 : BitVec 32 := Scf.iv c0_i32_150 c1_i32_152 k0_t3
  let v2602 : Index := Scalar.indexCast arg15
  let c1_i32_1342 : BitVec 32 := 1#32
  let v2603 : Index := Scalar.indexCast c1_i32_1342
  let c384_1343 : Index := 384#32
  ![1, v2602.toNat, 1, 384]
def k0_off683 (k0_t3 : Fin k0_t3_loop.trips) : Fin 4 → Nat :=
  let c1_i32_1344 : BitVec 32 := 1#32
  let v2608 : Index := Scalar.indexCast c1_i32_1344
  let c0_i32_150 : BitVec 32 := 0#32
  let c1_i32_152 : BitVec 32 := 1#32
  let arg15 : BitVec 32 := Scf.iv c0_i32_150 c1_i32_152 k0_t3
  let v2609 : Index := Scalar.indexCast arg15
  let c2_i32_1345 : BitVec 32 := 2#32
  let v2610 : Index := Scalar.indexCast c2_i32_1345
  let c384_1346 : Index := 384#32
  ![1, v2609.toNat, 2, 384]
def k0_off684 (k0_t3 : Fin k0_t3_loop.trips) : Fin 4 → Nat :=
  let c1_i32_1347 : BitVec 32 := 1#32
  let v2615 : Index := Scalar.indexCast c1_i32_1347
  let c0_i32_150 : BitVec 32 := 0#32
  let c1_i32_152 : BitVec 32 := 1#32
  let arg15 : BitVec 32 := Scf.iv c0_i32_150 c1_i32_152 k0_t3
  let v2616 : Index := Scalar.indexCast arg15
  let c3_i32_1348 : BitVec 32 := 3#32
  let v2617 : Index := Scalar.indexCast c3_i32_1348
  let c384_1349 : Index := 384#32
  ![1, v2616.toNat, 3, 384]
def k0_off685 (k0_t3 : Fin k0_t3_loop.trips) : Fin 4 → Nat :=
  let c1_i32_1350 : BitVec 32 := 1#32
  let v2622 : Index := Scalar.indexCast c1_i32_1350
  let c0_i32_150 : BitVec 32 := 0#32
  let c1_i32_152 : BitVec 32 := 1#32
  let arg15 : BitVec 32 := Scf.iv c0_i32_150 c1_i32_152 k0_t3
  let v2623 : Index := Scalar.indexCast arg15
  let c4_i32_1351 : BitVec 32 := 4#32
  let v2624 : Index := Scalar.indexCast c4_i32_1351
  let c384_1352 : Index := 384#32
  ![1, v2623.toNat, 4, 384]
def k0_off686 (k0_t3 : Fin k0_t3_loop.trips) : Fin 4 → Nat :=
  let c1_i32_1353 : BitVec 32 := 1#32
  let v2629 : Index := Scalar.indexCast c1_i32_1353
  let c0_i32_150 : BitVec 32 := 0#32
  let c1_i32_152 : BitVec 32 := 1#32
  let arg15 : BitVec 32 := Scf.iv c0_i32_150 c1_i32_152 k0_t3
  let v2630 : Index := Scalar.indexCast arg15
  let c5_i32_1354 : BitVec 32 := 5#32
  let v2631 : Index := Scalar.indexCast c5_i32_1354
  let c384_1355 : Index := 384#32
  ![1, v2630.toNat, 5, 384]
def k0_off687 (k0_t3 : Fin k0_t3_loop.trips) : Fin 4 → Nat :=
  let c1_i32_1356 : BitVec 32 := 1#32
  let v2636 : Index := Scalar.indexCast c1_i32_1356
  let c0_i32_150 : BitVec 32 := 0#32
  let c1_i32_152 : BitVec 32 := 1#32
  let arg15 : BitVec 32 := Scf.iv c0_i32_150 c1_i32_152 k0_t3
  let v2637 : Index := Scalar.indexCast arg15
  let c6_i32_1357 : BitVec 32 := 6#32
  let v2638 : Index := Scalar.indexCast c6_i32_1357
  let c384_1358 : Index := 384#32
  ![1, v2637.toNat, 6, 384]
def k0_off688 (k0_t3 : Fin k0_t3_loop.trips) : Fin 4 → Nat :=
  let c1_i32_1360 : BitVec 32 := 1#32
  let v2649 : Index := Scalar.indexCast c1_i32_1360
  let c0_i32_150 : BitVec 32 := 0#32
  let c1_i32_152 : BitVec 32 := 1#32
  let arg15 : BitVec 32 := Scf.iv c0_i32_150 c1_i32_152 k0_t3
  let v2650 : Index := Scalar.indexCast arg15
  let c7_i32_1361 : BitVec 32 := 7#32
  let v2651 : Index := Scalar.indexCast c7_i32_1361
  let c384_1362 : Index := 384#32
  ![1, v2650.toNat, 7, 384]
def k0_off689 (k0_t3 : Fin k0_t3_loop.trips) : Fin 4 → Nat :=
  let c1_i32_1363 : BitVec 32 := 1#32
  let v2655 : Index := Scalar.indexCast c1_i32_1363
  let c0_i32_150 : BitVec 32 := 0#32
  let c1_i32_152 : BitVec 32 := 1#32
  let arg15 : BitVec 32 := Scf.iv c0_i32_150 c1_i32_152 k0_t3
  let v2656 : Index := Scalar.indexCast arg15
  let c0_i32_1364 : BitVec 32 := 0#32
  let v2657 : Index := Scalar.indexCast c0_i32_1364
  let c400 : Index := 400#32
  ![1, v2656.toNat, 0, 400]
def k0_off690 (k0_t3 : Fin k0_t3_loop.trips) : Fin 4 → Nat :=
  let c1_i32_1365 : BitVec 32 := 1#32
  let v2660 : Index := Scalar.indexCast c1_i32_1365
  let c0_i32_150 : BitVec 32 := 0#32
  let c1_i32_152 : BitVec 32 := 1#32
  let arg15 : BitVec 32 := Scf.iv c0_i32_150 c1_i32_152 k0_t3
  let v2661 : Index := Scalar.indexCast arg15
  let c1_i32_1366 : BitVec 32 := 1#32
  let v2662 : Index := Scalar.indexCast c1_i32_1366
  let c400_1367 : Index := 400#32
  ![1, v2661.toNat, 1, 400]
def k0_off691 (k0_t3 : Fin k0_t3_loop.trips) : Fin 4 → Nat :=
  let c1_i32_1368 : BitVec 32 := 1#32
  let v2665 : Index := Scalar.indexCast c1_i32_1368
  let c0_i32_150 : BitVec 32 := 0#32
  let c1_i32_152 : BitVec 32 := 1#32
  let arg15 : BitVec 32 := Scf.iv c0_i32_150 c1_i32_152 k0_t3
  let v2666 : Index := Scalar.indexCast arg15
  let c2_i32_1369 : BitVec 32 := 2#32
  let v2667 : Index := Scalar.indexCast c2_i32_1369
  let c400_1370 : Index := 400#32
  ![1, v2666.toNat, 2, 400]
def k0_off692 (k0_t3 : Fin k0_t3_loop.trips) : Fin 4 → Nat :=
  let c1_i32_1371 : BitVec 32 := 1#32
  let v2670 : Index := Scalar.indexCast c1_i32_1371
  let c0_i32_150 : BitVec 32 := 0#32
  let c1_i32_152 : BitVec 32 := 1#32
  let arg15 : BitVec 32 := Scf.iv c0_i32_150 c1_i32_152 k0_t3
  let v2671 : Index := Scalar.indexCast arg15
  let c3_i32_1372 : BitVec 32 := 3#32
  let v2672 : Index := Scalar.indexCast c3_i32_1372
  let c400_1373 : Index := 400#32
  ![1, v2671.toNat, 3, 400]
def k0_off693 (k0_t3 : Fin k0_t3_loop.trips) : Fin 4 → Nat :=
  let c1_i32_1386 : BitVec 32 := 1#32
  let v2696 : Index := Scalar.indexCast c1_i32_1386
  let c0_i32_150 : BitVec 32 := 0#32
  let c1_i32_152 : BitVec 32 := 1#32
  let arg15 : BitVec 32 := Scf.iv c0_i32_150 c1_i32_152 k0_t3
  let v2697 : Index := Scalar.indexCast arg15
  let c0_i32_1387 : BitVec 32 := 0#32
  let v2698 : Index := Scalar.indexCast c0_i32_1387
  let c400_1388 : Index := 400#32
  ![1, v2697.toNat, 0, 400]
def k0_off694 (k0_t3 : Fin k0_t3_loop.trips) : Fin 4 → Nat :=
  let c1_i32_1389 : BitVec 32 := 1#32
  let v2703 : Index := Scalar.indexCast c1_i32_1389
  let c0_i32_150 : BitVec 32 := 0#32
  let c1_i32_152 : BitVec 32 := 1#32
  let arg15 : BitVec 32 := Scf.iv c0_i32_150 c1_i32_152 k0_t3
  let v2704 : Index := Scalar.indexCast arg15
  let c1_i32_1390 : BitVec 32 := 1#32
  let v2705 : Index := Scalar.indexCast c1_i32_1390
  let c400_1391 : Index := 400#32
  ![1, v2704.toNat, 1, 400]
def k0_off695 (k0_t3 : Fin k0_t3_loop.trips) : Fin 4 → Nat :=
  let c1_i32_1392 : BitVec 32 := 1#32
  let v2710 : Index := Scalar.indexCast c1_i32_1392
  let c0_i32_150 : BitVec 32 := 0#32
  let c1_i32_152 : BitVec 32 := 1#32
  let arg15 : BitVec 32 := Scf.iv c0_i32_150 c1_i32_152 k0_t3
  let v2711 : Index := Scalar.indexCast arg15
  let c2_i32_1393 : BitVec 32 := 2#32
  let v2712 : Index := Scalar.indexCast c2_i32_1393
  let c400_1394 : Index := 400#32
  ![1, v2711.toNat, 2, 400]
def k0_off696 (k0_t3 : Fin k0_t3_loop.trips) : Fin 4 → Nat :=
  let c1_i32_1395 : BitVec 32 := 1#32
  let v2717 : Index := Scalar.indexCast c1_i32_1395
  let c0_i32_150 : BitVec 32 := 0#32
  let c1_i32_152 : BitVec 32 := 1#32
  let arg15 : BitVec 32 := Scf.iv c0_i32_150 c1_i32_152 k0_t3
  let v2718 : Index := Scalar.indexCast arg15
  let c3_i32_1396 : BitVec 32 := 3#32
  let v2719 : Index := Scalar.indexCast c3_i32_1396
  let c400_1397 : Index := 400#32
  ![1, v2718.toNat, 3, 400]
def k0_off697 (k0_t3 : Fin k0_t3_loop.trips) : Fin 4 → Nat :=
  let c1_i32_1398 : BitVec 32 := 1#32
  let v2724 : Index := Scalar.indexCast c1_i32_1398
  let c0_i32_150 : BitVec 32 := 0#32
  let c1_i32_152 : BitVec 32 := 1#32
  let arg15 : BitVec 32 := Scf.iv c0_i32_150 c1_i32_152 k0_t3
  let v2725 : Index := Scalar.indexCast arg15
  let c4_i32_1399 : BitVec 32 := 4#32
  let v2726 : Index := Scalar.indexCast c4_i32_1399
  let c400_1400 : Index := 400#32
  ![1, v2725.toNat, 4, 400]
def k0_off698 (k0_t3 : Fin k0_t3_loop.trips) : Fin 4 → Nat :=
  let c1_i32_1401 : BitVec 32 := 1#32
  let v2731 : Index := Scalar.indexCast c1_i32_1401
  let c0_i32_150 : BitVec 32 := 0#32
  let c1_i32_152 : BitVec 32 := 1#32
  let arg15 : BitVec 32 := Scf.iv c0_i32_150 c1_i32_152 k0_t3
  let v2732 : Index := Scalar.indexCast arg15
  let c5_i32_1402 : BitVec 32 := 5#32
  let v2733 : Index := Scalar.indexCast c5_i32_1402
  let c400_1403 : Index := 400#32
  ![1, v2732.toNat, 5, 400]
def k0_off699 (k0_t3 : Fin k0_t3_loop.trips) : Fin 4 → Nat :=
  let c1_i32_1404 : BitVec 32 := 1#32
  let v2738 : Index := Scalar.indexCast c1_i32_1404
  let c0_i32_150 : BitVec 32 := 0#32
  let c1_i32_152 : BitVec 32 := 1#32
  let arg15 : BitVec 32 := Scf.iv c0_i32_150 c1_i32_152 k0_t3
  let v2739 : Index := Scalar.indexCast arg15
  let c6_i32_1405 : BitVec 32 := 6#32
  let v2740 : Index := Scalar.indexCast c6_i32_1405
  let c400_1406 : Index := 400#32
  ![1, v2739.toNat, 6, 400]
def k0_off700 (k0_t3 : Fin k0_t3_loop.trips) : Fin 4 → Nat :=
  let c1_i32_1408 : BitVec 32 := 1#32
  let v2751 : Index := Scalar.indexCast c1_i32_1408
  let c0_i32_150 : BitVec 32 := 0#32
  let c1_i32_152 : BitVec 32 := 1#32
  let arg15 : BitVec 32 := Scf.iv c0_i32_150 c1_i32_152 k0_t3
  let v2752 : Index := Scalar.indexCast arg15
  let c7_i32_1409 : BitVec 32 := 7#32
  let v2753 : Index := Scalar.indexCast c7_i32_1409
  let c400_1410 : Index := 400#32
  ![1, v2752.toNat, 7, 400]
def k0_off701 (k0_t3 : Fin k0_t3_loop.trips) : Fin 4 → Nat :=
  let c1_i32_1411 : BitVec 32 := 1#32
  let v2757 : Index := Scalar.indexCast c1_i32_1411
  let c0_i32_150 : BitVec 32 := 0#32
  let c1_i32_152 : BitVec 32 := 1#32
  let arg15 : BitVec 32 := Scf.iv c0_i32_150 c1_i32_152 k0_t3
  let v2758 : Index := Scalar.indexCast arg15
  let c0_i32_1412 : BitVec 32 := 0#32
  let v2759 : Index := Scalar.indexCast c0_i32_1412
  let c416 : Index := 416#32
  ![1, v2758.toNat, 0, 416]
def k0_off702 (k0_t3 : Fin k0_t3_loop.trips) : Fin 4 → Nat :=
  let c1_i32_1413 : BitVec 32 := 1#32
  let v2762 : Index := Scalar.indexCast c1_i32_1413
  let c0_i32_150 : BitVec 32 := 0#32
  let c1_i32_152 : BitVec 32 := 1#32
  let arg15 : BitVec 32 := Scf.iv c0_i32_150 c1_i32_152 k0_t3
  let v2763 : Index := Scalar.indexCast arg15
  let c1_i32_1414 : BitVec 32 := 1#32
  let v2764 : Index := Scalar.indexCast c1_i32_1414
  let c416_1415 : Index := 416#32
  ![1, v2763.toNat, 1, 416]
def k0_off703 (k0_t3 : Fin k0_t3_loop.trips) : Fin 4 → Nat :=
  let c1_i32_1416 : BitVec 32 := 1#32
  let v2767 : Index := Scalar.indexCast c1_i32_1416
  let c0_i32_150 : BitVec 32 := 0#32
  let c1_i32_152 : BitVec 32 := 1#32
  let arg15 : BitVec 32 := Scf.iv c0_i32_150 c1_i32_152 k0_t3
  let v2768 : Index := Scalar.indexCast arg15
  let c2_i32_1417 : BitVec 32 := 2#32
  let v2769 : Index := Scalar.indexCast c2_i32_1417
  let c416_1418 : Index := 416#32
  ![1, v2768.toNat, 2, 416]
def k0_off704 (k0_t3 : Fin k0_t3_loop.trips) : Fin 4 → Nat :=
  let c1_i32_1419 : BitVec 32 := 1#32
  let v2772 : Index := Scalar.indexCast c1_i32_1419
  let c0_i32_150 : BitVec 32 := 0#32
  let c1_i32_152 : BitVec 32 := 1#32
  let arg15 : BitVec 32 := Scf.iv c0_i32_150 c1_i32_152 k0_t3
  let v2773 : Index := Scalar.indexCast arg15
  let c3_i32_1420 : BitVec 32 := 3#32
  let v2774 : Index := Scalar.indexCast c3_i32_1420
  let c416_1421 : Index := 416#32
  ![1, v2773.toNat, 3, 416]
def k0_off705 (k0_t3 : Fin k0_t3_loop.trips) : Fin 4 → Nat :=
  let c1_i32_1434 : BitVec 32 := 1#32
  let v2798 : Index := Scalar.indexCast c1_i32_1434
  let c0_i32_150 : BitVec 32 := 0#32
  let c1_i32_152 : BitVec 32 := 1#32
  let arg15 : BitVec 32 := Scf.iv c0_i32_150 c1_i32_152 k0_t3
  let v2799 : Index := Scalar.indexCast arg15
  let c0_i32_1435 : BitVec 32 := 0#32
  let v2800 : Index := Scalar.indexCast c0_i32_1435
  let c416_1436 : Index := 416#32
  ![1, v2799.toNat, 0, 416]
def k0_off706 (k0_t3 : Fin k0_t3_loop.trips) : Fin 4 → Nat :=
  let c1_i32_1437 : BitVec 32 := 1#32
  let v2805 : Index := Scalar.indexCast c1_i32_1437
  let c0_i32_150 : BitVec 32 := 0#32
  let c1_i32_152 : BitVec 32 := 1#32
  let arg15 : BitVec 32 := Scf.iv c0_i32_150 c1_i32_152 k0_t3
  let v2806 : Index := Scalar.indexCast arg15
  let c1_i32_1438 : BitVec 32 := 1#32
  let v2807 : Index := Scalar.indexCast c1_i32_1438
  let c416_1439 : Index := 416#32
  ![1, v2806.toNat, 1, 416]
def k0_off707 (k0_t3 : Fin k0_t3_loop.trips) : Fin 4 → Nat :=
  let c1_i32_1440 : BitVec 32 := 1#32
  let v2812 : Index := Scalar.indexCast c1_i32_1440
  let c0_i32_150 : BitVec 32 := 0#32
  let c1_i32_152 : BitVec 32 := 1#32
  let arg15 : BitVec 32 := Scf.iv c0_i32_150 c1_i32_152 k0_t3
  let v2813 : Index := Scalar.indexCast arg15
  let c2_i32_1441 : BitVec 32 := 2#32
  let v2814 : Index := Scalar.indexCast c2_i32_1441
  let c416_1442 : Index := 416#32
  ![1, v2813.toNat, 2, 416]
def k0_off708 (k0_t3 : Fin k0_t3_loop.trips) : Fin 4 → Nat :=
  let c1_i32_1443 : BitVec 32 := 1#32
  let v2819 : Index := Scalar.indexCast c1_i32_1443
  let c0_i32_150 : BitVec 32 := 0#32
  let c1_i32_152 : BitVec 32 := 1#32
  let arg15 : BitVec 32 := Scf.iv c0_i32_150 c1_i32_152 k0_t3
  let v2820 : Index := Scalar.indexCast arg15
  let c3_i32_1444 : BitVec 32 := 3#32
  let v2821 : Index := Scalar.indexCast c3_i32_1444
  let c416_1445 : Index := 416#32
  ![1, v2820.toNat, 3, 416]
def k0_off709 (k0_t3 : Fin k0_t3_loop.trips) : Fin 4 → Nat :=
  let c1_i32_1446 : BitVec 32 := 1#32
  let v2826 : Index := Scalar.indexCast c1_i32_1446
  let c0_i32_150 : BitVec 32 := 0#32
  let c1_i32_152 : BitVec 32 := 1#32
  let arg15 : BitVec 32 := Scf.iv c0_i32_150 c1_i32_152 k0_t3
  let v2827 : Index := Scalar.indexCast arg15
  let c4_i32_1447 : BitVec 32 := 4#32
  let v2828 : Index := Scalar.indexCast c4_i32_1447
  let c416_1448 : Index := 416#32
  ![1, v2827.toNat, 4, 416]
def k0_off710 (k0_t3 : Fin k0_t3_loop.trips) : Fin 4 → Nat :=
  let c1_i32_1449 : BitVec 32 := 1#32
  let v2833 : Index := Scalar.indexCast c1_i32_1449
  let c0_i32_150 : BitVec 32 := 0#32
  let c1_i32_152 : BitVec 32 := 1#32
  let arg15 : BitVec 32 := Scf.iv c0_i32_150 c1_i32_152 k0_t3
  let v2834 : Index := Scalar.indexCast arg15
  let c5_i32_1450 : BitVec 32 := 5#32
  let v2835 : Index := Scalar.indexCast c5_i32_1450
  let c416_1451 : Index := 416#32
  ![1, v2834.toNat, 5, 416]
def k0_off711 (k0_t3 : Fin k0_t3_loop.trips) : Fin 4 → Nat :=
  let c1_i32_1452 : BitVec 32 := 1#32
  let v2840 : Index := Scalar.indexCast c1_i32_1452
  let c0_i32_150 : BitVec 32 := 0#32
  let c1_i32_152 : BitVec 32 := 1#32
  let arg15 : BitVec 32 := Scf.iv c0_i32_150 c1_i32_152 k0_t3
  let v2841 : Index := Scalar.indexCast arg15
  let c6_i32_1453 : BitVec 32 := 6#32
  let v2842 : Index := Scalar.indexCast c6_i32_1453
  let c416_1454 : Index := 416#32
  ![1, v2841.toNat, 6, 416]
def k0_off712 (k0_t3 : Fin k0_t3_loop.trips) : Fin 4 → Nat :=
  let c1_i32_1456 : BitVec 32 := 1#32
  let v2853 : Index := Scalar.indexCast c1_i32_1456
  let c0_i32_150 : BitVec 32 := 0#32
  let c1_i32_152 : BitVec 32 := 1#32
  let arg15 : BitVec 32 := Scf.iv c0_i32_150 c1_i32_152 k0_t3
  let v2854 : Index := Scalar.indexCast arg15
  let c7_i32_1457 : BitVec 32 := 7#32
  let v2855 : Index := Scalar.indexCast c7_i32_1457
  let c416_1458 : Index := 416#32
  ![1, v2854.toNat, 7, 416]
def k0_off713 (k0_t3 : Fin k0_t3_loop.trips) : Fin 4 → Nat :=
  let c1_i32_1459 : BitVec 32 := 1#32
  let v2859 : Index := Scalar.indexCast c1_i32_1459
  let c0_i32_150 : BitVec 32 := 0#32
  let c1_i32_152 : BitVec 32 := 1#32
  let arg15 : BitVec 32 := Scf.iv c0_i32_150 c1_i32_152 k0_t3
  let v2860 : Index := Scalar.indexCast arg15
  let c0_i32_1460 : BitVec 32 := 0#32
  let v2861 : Index := Scalar.indexCast c0_i32_1460
  let c432 : Index := 432#32
  ![1, v2860.toNat, 0, 432]
def k0_off714 (k0_t3 : Fin k0_t3_loop.trips) : Fin 4 → Nat :=
  let c1_i32_1461 : BitVec 32 := 1#32
  let v2864 : Index := Scalar.indexCast c1_i32_1461
  let c0_i32_150 : BitVec 32 := 0#32
  let c1_i32_152 : BitVec 32 := 1#32
  let arg15 : BitVec 32 := Scf.iv c0_i32_150 c1_i32_152 k0_t3
  let v2865 : Index := Scalar.indexCast arg15
  let c1_i32_1462 : BitVec 32 := 1#32
  let v2866 : Index := Scalar.indexCast c1_i32_1462
  let c432_1463 : Index := 432#32
  ![1, v2865.toNat, 1, 432]
def k0_off715 (k0_t3 : Fin k0_t3_loop.trips) : Fin 4 → Nat :=
  let c1_i32_1464 : BitVec 32 := 1#32
  let v2869 : Index := Scalar.indexCast c1_i32_1464
  let c0_i32_150 : BitVec 32 := 0#32
  let c1_i32_152 : BitVec 32 := 1#32
  let arg15 : BitVec 32 := Scf.iv c0_i32_150 c1_i32_152 k0_t3
  let v2870 : Index := Scalar.indexCast arg15
  let c2_i32_1465 : BitVec 32 := 2#32
  let v2871 : Index := Scalar.indexCast c2_i32_1465
  let c432_1466 : Index := 432#32
  ![1, v2870.toNat, 2, 432]
def k0_off716 (k0_t3 : Fin k0_t3_loop.trips) : Fin 4 → Nat :=
  let c1_i32_1467 : BitVec 32 := 1#32
  let v2874 : Index := Scalar.indexCast c1_i32_1467
  let c0_i32_150 : BitVec 32 := 0#32
  let c1_i32_152 : BitVec 32 := 1#32
  let arg15 : BitVec 32 := Scf.iv c0_i32_150 c1_i32_152 k0_t3
  let v2875 : Index := Scalar.indexCast arg15
  let c3_i32_1468 : BitVec 32 := 3#32
  let v2876 : Index := Scalar.indexCast c3_i32_1468
  let c432_1469 : Index := 432#32
  ![1, v2875.toNat, 3, 432]
def k0_off717 (k0_t3 : Fin k0_t3_loop.trips) : Fin 4 → Nat :=
  let c1_i32_1482 : BitVec 32 := 1#32
  let v2900 : Index := Scalar.indexCast c1_i32_1482
  let c0_i32_150 : BitVec 32 := 0#32
  let c1_i32_152 : BitVec 32 := 1#32
  let arg15 : BitVec 32 := Scf.iv c0_i32_150 c1_i32_152 k0_t3
  let v2901 : Index := Scalar.indexCast arg15
  let c0_i32_1483 : BitVec 32 := 0#32
  let v2902 : Index := Scalar.indexCast c0_i32_1483
  let c432_1484 : Index := 432#32
  ![1, v2901.toNat, 0, 432]
def k0_off718 (k0_t3 : Fin k0_t3_loop.trips) : Fin 4 → Nat :=
  let c1_i32_1485 : BitVec 32 := 1#32
  let v2907 : Index := Scalar.indexCast c1_i32_1485
  let c0_i32_150 : BitVec 32 := 0#32
  let c1_i32_152 : BitVec 32 := 1#32
  let arg15 : BitVec 32 := Scf.iv c0_i32_150 c1_i32_152 k0_t3
  let v2908 : Index := Scalar.indexCast arg15
  let c1_i32_1486 : BitVec 32 := 1#32
  let v2909 : Index := Scalar.indexCast c1_i32_1486
  let c432_1487 : Index := 432#32
  ![1, v2908.toNat, 1, 432]
def k0_off719 (k0_t3 : Fin k0_t3_loop.trips) : Fin 4 → Nat :=
  let c1_i32_1488 : BitVec 32 := 1#32
  let v2914 : Index := Scalar.indexCast c1_i32_1488
  let c0_i32_150 : BitVec 32 := 0#32
  let c1_i32_152 : BitVec 32 := 1#32
  let arg15 : BitVec 32 := Scf.iv c0_i32_150 c1_i32_152 k0_t3
  let v2915 : Index := Scalar.indexCast arg15
  let c2_i32_1489 : BitVec 32 := 2#32
  let v2916 : Index := Scalar.indexCast c2_i32_1489
  let c432_1490 : Index := 432#32
  ![1, v2915.toNat, 2, 432]
def k0_off720 (k0_t3 : Fin k0_t3_loop.trips) : Fin 4 → Nat :=
  let c1_i32_1491 : BitVec 32 := 1#32
  let v2921 : Index := Scalar.indexCast c1_i32_1491
  let c0_i32_150 : BitVec 32 := 0#32
  let c1_i32_152 : BitVec 32 := 1#32
  let arg15 : BitVec 32 := Scf.iv c0_i32_150 c1_i32_152 k0_t3
  let v2922 : Index := Scalar.indexCast arg15
  let c3_i32_1492 : BitVec 32 := 3#32
  let v2923 : Index := Scalar.indexCast c3_i32_1492
  let c432_1493 : Index := 432#32
  ![1, v2922.toNat, 3, 432]
def k0_off721 (k0_t3 : Fin k0_t3_loop.trips) : Fin 4 → Nat :=
  let c1_i32_1494 : BitVec 32 := 1#32
  let v2928 : Index := Scalar.indexCast c1_i32_1494
  let c0_i32_150 : BitVec 32 := 0#32
  let c1_i32_152 : BitVec 32 := 1#32
  let arg15 : BitVec 32 := Scf.iv c0_i32_150 c1_i32_152 k0_t3
  let v2929 : Index := Scalar.indexCast arg15
  let c4_i32_1495 : BitVec 32 := 4#32
  let v2930 : Index := Scalar.indexCast c4_i32_1495
  let c432_1496 : Index := 432#32
  ![1, v2929.toNat, 4, 432]
def k0_off722 (k0_t3 : Fin k0_t3_loop.trips) : Fin 4 → Nat :=
  let c1_i32_1497 : BitVec 32 := 1#32
  let v2935 : Index := Scalar.indexCast c1_i32_1497
  let c0_i32_150 : BitVec 32 := 0#32
  let c1_i32_152 : BitVec 32 := 1#32
  let arg15 : BitVec 32 := Scf.iv c0_i32_150 c1_i32_152 k0_t3
  let v2936 : Index := Scalar.indexCast arg15
  let c5_i32_1498 : BitVec 32 := 5#32
  let v2937 : Index := Scalar.indexCast c5_i32_1498
  let c432_1499 : Index := 432#32
  ![1, v2936.toNat, 5, 432]
def k0_off723 (k0_t3 : Fin k0_t3_loop.trips) : Fin 4 → Nat :=
  let c1_i32_1500 : BitVec 32 := 1#32
  let v2942 : Index := Scalar.indexCast c1_i32_1500
  let c0_i32_150 : BitVec 32 := 0#32
  let c1_i32_152 : BitVec 32 := 1#32
  let arg15 : BitVec 32 := Scf.iv c0_i32_150 c1_i32_152 k0_t3
  let v2943 : Index := Scalar.indexCast arg15
  let c6_i32_1501 : BitVec 32 := 6#32
  let v2944 : Index := Scalar.indexCast c6_i32_1501
  let c432_1502 : Index := 432#32
  ![1, v2943.toNat, 6, 432]
def k0_off724 (k0_t3 : Fin k0_t3_loop.trips) : Fin 4 → Nat :=
  let c1_i32_1504 : BitVec 32 := 1#32
  let v2955 : Index := Scalar.indexCast c1_i32_1504
  let c0_i32_150 : BitVec 32 := 0#32
  let c1_i32_152 : BitVec 32 := 1#32
  let arg15 : BitVec 32 := Scf.iv c0_i32_150 c1_i32_152 k0_t3
  let v2956 : Index := Scalar.indexCast arg15
  let c7_i32_1505 : BitVec 32 := 7#32
  let v2957 : Index := Scalar.indexCast c7_i32_1505
  let c432_1506 : Index := 432#32
  ![1, v2956.toNat, 7, 432]
def k0_off725 (k0_t3 : Fin k0_t3_loop.trips) : Fin 4 → Nat :=
  let c1_i32_1507 : BitVec 32 := 1#32
  let v2961 : Index := Scalar.indexCast c1_i32_1507
  let c0_i32_150 : BitVec 32 := 0#32
  let c1_i32_152 : BitVec 32 := 1#32
  let arg15 : BitVec 32 := Scf.iv c0_i32_150 c1_i32_152 k0_t3
  let v2962 : Index := Scalar.indexCast arg15
  let c0_i32_1508 : BitVec 32 := 0#32
  let v2963 : Index := Scalar.indexCast c0_i32_1508
  let c448 : Index := 448#32
  ![1, v2962.toNat, 0, 448]
def k0_off726 (k0_t3 : Fin k0_t3_loop.trips) : Fin 4 → Nat :=
  let c1_i32_1509 : BitVec 32 := 1#32
  let v2966 : Index := Scalar.indexCast c1_i32_1509
  let c0_i32_150 : BitVec 32 := 0#32
  let c1_i32_152 : BitVec 32 := 1#32
  let arg15 : BitVec 32 := Scf.iv c0_i32_150 c1_i32_152 k0_t3
  let v2967 : Index := Scalar.indexCast arg15
  let c1_i32_1510 : BitVec 32 := 1#32
  let v2968 : Index := Scalar.indexCast c1_i32_1510
  let c448_1511 : Index := 448#32
  ![1, v2967.toNat, 1, 448]
def k0_off727 (k0_t3 : Fin k0_t3_loop.trips) : Fin 4 → Nat :=
  let c1_i32_1512 : BitVec 32 := 1#32
  let v2971 : Index := Scalar.indexCast c1_i32_1512
  let c0_i32_150 : BitVec 32 := 0#32
  let c1_i32_152 : BitVec 32 := 1#32
  let arg15 : BitVec 32 := Scf.iv c0_i32_150 c1_i32_152 k0_t3
  let v2972 : Index := Scalar.indexCast arg15
  let c2_i32_1513 : BitVec 32 := 2#32
  let v2973 : Index := Scalar.indexCast c2_i32_1513
  let c448_1514 : Index := 448#32
  ![1, v2972.toNat, 2, 448]
def k0_off728 (k0_t3 : Fin k0_t3_loop.trips) : Fin 4 → Nat :=
  let c1_i32_1515 : BitVec 32 := 1#32
  let v2976 : Index := Scalar.indexCast c1_i32_1515
  let c0_i32_150 : BitVec 32 := 0#32
  let c1_i32_152 : BitVec 32 := 1#32
  let arg15 : BitVec 32 := Scf.iv c0_i32_150 c1_i32_152 k0_t3
  let v2977 : Index := Scalar.indexCast arg15
  let c3_i32_1516 : BitVec 32 := 3#32
  let v2978 : Index := Scalar.indexCast c3_i32_1516
  let c448_1517 : Index := 448#32
  ![1, v2977.toNat, 3, 448]
def k0_off729 (k0_t3 : Fin k0_t3_loop.trips) : Fin 4 → Nat :=
  let c1_i32_1530 : BitVec 32 := 1#32
  let v3002 : Index := Scalar.indexCast c1_i32_1530
  let c0_i32_150 : BitVec 32 := 0#32
  let c1_i32_152 : BitVec 32 := 1#32
  let arg15 : BitVec 32 := Scf.iv c0_i32_150 c1_i32_152 k0_t3
  let v3003 : Index := Scalar.indexCast arg15
  let c0_i32_1531 : BitVec 32 := 0#32
  let v3004 : Index := Scalar.indexCast c0_i32_1531
  let c448_1532 : Index := 448#32
  ![1, v3003.toNat, 0, 448]
def k0_off730 (k0_t3 : Fin k0_t3_loop.trips) : Fin 4 → Nat :=
  let c1_i32_1533 : BitVec 32 := 1#32
  let v3009 : Index := Scalar.indexCast c1_i32_1533
  let c0_i32_150 : BitVec 32 := 0#32
  let c1_i32_152 : BitVec 32 := 1#32
  let arg15 : BitVec 32 := Scf.iv c0_i32_150 c1_i32_152 k0_t3
  let v3010 : Index := Scalar.indexCast arg15
  let c1_i32_1534 : BitVec 32 := 1#32
  let v3011 : Index := Scalar.indexCast c1_i32_1534
  let c448_1535 : Index := 448#32
  ![1, v3010.toNat, 1, 448]
def k0_off731 (k0_t3 : Fin k0_t3_loop.trips) : Fin 4 → Nat :=
  let c1_i32_1536 : BitVec 32 := 1#32
  let v3016 : Index := Scalar.indexCast c1_i32_1536
  let c0_i32_150 : BitVec 32 := 0#32
  let c1_i32_152 : BitVec 32 := 1#32
  let arg15 : BitVec 32 := Scf.iv c0_i32_150 c1_i32_152 k0_t3
  let v3017 : Index := Scalar.indexCast arg15
  let c2_i32_1537 : BitVec 32 := 2#32
  let v3018 : Index := Scalar.indexCast c2_i32_1537
  let c448_1538 : Index := 448#32
  ![1, v3017.toNat, 2, 448]
def k0_off732 (k0_t3 : Fin k0_t3_loop.trips) : Fin 4 → Nat :=
  let c1_i32_1539 : BitVec 32 := 1#32
  let v3023 : Index := Scalar.indexCast c1_i32_1539
  let c0_i32_150 : BitVec 32 := 0#32
  let c1_i32_152 : BitVec 32 := 1#32
  let arg15 : BitVec 32 := Scf.iv c0_i32_150 c1_i32_152 k0_t3
  let v3024 : Index := Scalar.indexCast arg15
  let c3_i32_1540 : BitVec 32 := 3#32
  let v3025 : Index := Scalar.indexCast c3_i32_1540
  let c448_1541 : Index := 448#32
  ![1, v3024.toNat, 3, 448]
def k0_off733 (k0_t3 : Fin k0_t3_loop.trips) : Fin 4 → Nat :=
  let c1_i32_1542 : BitVec 32 := 1#32
  let v3030 : Index := Scalar.indexCast c1_i32_1542
  let c0_i32_150 : BitVec 32 := 0#32
  let c1_i32_152 : BitVec 32 := 1#32
  let arg15 : BitVec 32 := Scf.iv c0_i32_150 c1_i32_152 k0_t3
  let v3031 : Index := Scalar.indexCast arg15
  let c4_i32_1543 : BitVec 32 := 4#32
  let v3032 : Index := Scalar.indexCast c4_i32_1543
  let c448_1544 : Index := 448#32
  ![1, v3031.toNat, 4, 448]
def k0_off734 (k0_t3 : Fin k0_t3_loop.trips) : Fin 4 → Nat :=
  let c1_i32_1545 : BitVec 32 := 1#32
  let v3037 : Index := Scalar.indexCast c1_i32_1545
  let c0_i32_150 : BitVec 32 := 0#32
  let c1_i32_152 : BitVec 32 := 1#32
  let arg15 : BitVec 32 := Scf.iv c0_i32_150 c1_i32_152 k0_t3
  let v3038 : Index := Scalar.indexCast arg15
  let c5_i32_1546 : BitVec 32 := 5#32
  let v3039 : Index := Scalar.indexCast c5_i32_1546
  let c448_1547 : Index := 448#32
  ![1, v3038.toNat, 5, 448]
def k0_off735 (k0_t3 : Fin k0_t3_loop.trips) : Fin 4 → Nat :=
  let c1_i32_1548 : BitVec 32 := 1#32
  let v3044 : Index := Scalar.indexCast c1_i32_1548
  let c0_i32_150 : BitVec 32 := 0#32
  let c1_i32_152 : BitVec 32 := 1#32
  let arg15 : BitVec 32 := Scf.iv c0_i32_150 c1_i32_152 k0_t3
  let v3045 : Index := Scalar.indexCast arg15
  let c6_i32_1549 : BitVec 32 := 6#32
  let v3046 : Index := Scalar.indexCast c6_i32_1549
  let c448_1550 : Index := 448#32
  ![1, v3045.toNat, 6, 448]
def k0_off736 (k0_t3 : Fin k0_t3_loop.trips) : Fin 4 → Nat :=
  let c1_i32_1552 : BitVec 32 := 1#32
  let v3057 : Index := Scalar.indexCast c1_i32_1552
  let c0_i32_150 : BitVec 32 := 0#32
  let c1_i32_152 : BitVec 32 := 1#32
  let arg15 : BitVec 32 := Scf.iv c0_i32_150 c1_i32_152 k0_t3
  let v3058 : Index := Scalar.indexCast arg15
  let c7_i32_1553 : BitVec 32 := 7#32
  let v3059 : Index := Scalar.indexCast c7_i32_1553
  let c448_1554 : Index := 448#32
  ![1, v3058.toNat, 7, 448]
def k0_off737 (k0_t3 : Fin k0_t3_loop.trips) : Fin 4 → Nat :=
  let c1_i32_1555 : BitVec 32 := 1#32
  let v3063 : Index := Scalar.indexCast c1_i32_1555
  let c0_i32_150 : BitVec 32 := 0#32
  let c1_i32_152 : BitVec 32 := 1#32
  let arg15 : BitVec 32 := Scf.iv c0_i32_150 c1_i32_152 k0_t3
  let v3064 : Index := Scalar.indexCast arg15
  let c0_i32_1556 : BitVec 32 := 0#32
  let v3065 : Index := Scalar.indexCast c0_i32_1556
  let c464 : Index := 464#32
  ![1, v3064.toNat, 0, 464]
def k0_off738 (k0_t3 : Fin k0_t3_loop.trips) : Fin 4 → Nat :=
  let c1_i32_1557 : BitVec 32 := 1#32
  let v3068 : Index := Scalar.indexCast c1_i32_1557
  let c0_i32_150 : BitVec 32 := 0#32
  let c1_i32_152 : BitVec 32 := 1#32
  let arg15 : BitVec 32 := Scf.iv c0_i32_150 c1_i32_152 k0_t3
  let v3069 : Index := Scalar.indexCast arg15
  let c1_i32_1558 : BitVec 32 := 1#32
  let v3070 : Index := Scalar.indexCast c1_i32_1558
  let c464_1559 : Index := 464#32
  ![1, v3069.toNat, 1, 464]
def k0_off739 (k0_t3 : Fin k0_t3_loop.trips) : Fin 4 → Nat :=
  let c1_i32_1560 : BitVec 32 := 1#32
  let v3073 : Index := Scalar.indexCast c1_i32_1560
  let c0_i32_150 : BitVec 32 := 0#32
  let c1_i32_152 : BitVec 32 := 1#32
  let arg15 : BitVec 32 := Scf.iv c0_i32_150 c1_i32_152 k0_t3
  let v3074 : Index := Scalar.indexCast arg15
  let c2_i32_1561 : BitVec 32 := 2#32
  let v3075 : Index := Scalar.indexCast c2_i32_1561
  let c464_1562 : Index := 464#32
  ![1, v3074.toNat, 2, 464]
def k0_off740 (k0_t3 : Fin k0_t3_loop.trips) : Fin 4 → Nat :=
  let c1_i32_1563 : BitVec 32 := 1#32
  let v3078 : Index := Scalar.indexCast c1_i32_1563
  let c0_i32_150 : BitVec 32 := 0#32
  let c1_i32_152 : BitVec 32 := 1#32
  let arg15 : BitVec 32 := Scf.iv c0_i32_150 c1_i32_152 k0_t3
  let v3079 : Index := Scalar.indexCast arg15
  let c3_i32_1564 : BitVec 32 := 3#32
  let v3080 : Index := Scalar.indexCast c3_i32_1564
  let c464_1565 : Index := 464#32
  ![1, v3079.toNat, 3, 464]
def k0_off741 (k0_t3 : Fin k0_t3_loop.trips) : Fin 4 → Nat :=
  let c1_i32_1578 : BitVec 32 := 1#32
  let v3104 : Index := Scalar.indexCast c1_i32_1578
  let c0_i32_150 : BitVec 32 := 0#32
  let c1_i32_152 : BitVec 32 := 1#32
  let arg15 : BitVec 32 := Scf.iv c0_i32_150 c1_i32_152 k0_t3
  let v3105 : Index := Scalar.indexCast arg15
  let c0_i32_1579 : BitVec 32 := 0#32
  let v3106 : Index := Scalar.indexCast c0_i32_1579
  let c464_1580 : Index := 464#32
  ![1, v3105.toNat, 0, 464]
def k0_off742 (k0_t3 : Fin k0_t3_loop.trips) : Fin 4 → Nat :=
  let c1_i32_1581 : BitVec 32 := 1#32
  let v3111 : Index := Scalar.indexCast c1_i32_1581
  let c0_i32_150 : BitVec 32 := 0#32
  let c1_i32_152 : BitVec 32 := 1#32
  let arg15 : BitVec 32 := Scf.iv c0_i32_150 c1_i32_152 k0_t3
  let v3112 : Index := Scalar.indexCast arg15
  let c1_i32_1582 : BitVec 32 := 1#32
  let v3113 : Index := Scalar.indexCast c1_i32_1582
  let c464_1583 : Index := 464#32
  ![1, v3112.toNat, 1, 464]
def k0_off743 (k0_t3 : Fin k0_t3_loop.trips) : Fin 4 → Nat :=
  let c1_i32_1584 : BitVec 32 := 1#32
  let v3118 : Index := Scalar.indexCast c1_i32_1584
  let c0_i32_150 : BitVec 32 := 0#32
  let c1_i32_152 : BitVec 32 := 1#32
  let arg15 : BitVec 32 := Scf.iv c0_i32_150 c1_i32_152 k0_t3
  let v3119 : Index := Scalar.indexCast arg15
  let c2_i32_1585 : BitVec 32 := 2#32
  let v3120 : Index := Scalar.indexCast c2_i32_1585
  let c464_1586 : Index := 464#32
  ![1, v3119.toNat, 2, 464]
def k0_off744 (k0_t3 : Fin k0_t3_loop.trips) : Fin 4 → Nat :=
  let c1_i32_1587 : BitVec 32 := 1#32
  let v3125 : Index := Scalar.indexCast c1_i32_1587
  let c0_i32_150 : BitVec 32 := 0#32
  let c1_i32_152 : BitVec 32 := 1#32
  let arg15 : BitVec 32 := Scf.iv c0_i32_150 c1_i32_152 k0_t3
  let v3126 : Index := Scalar.indexCast arg15
  let c3_i32_1588 : BitVec 32 := 3#32
  let v3127 : Index := Scalar.indexCast c3_i32_1588
  let c464_1589 : Index := 464#32
  ![1, v3126.toNat, 3, 464]
def k0_off745 (k0_t3 : Fin k0_t3_loop.trips) : Fin 4 → Nat :=
  let c1_i32_1590 : BitVec 32 := 1#32
  let v3132 : Index := Scalar.indexCast c1_i32_1590
  let c0_i32_150 : BitVec 32 := 0#32
  let c1_i32_152 : BitVec 32 := 1#32
  let arg15 : BitVec 32 := Scf.iv c0_i32_150 c1_i32_152 k0_t3
  let v3133 : Index := Scalar.indexCast arg15
  let c4_i32_1591 : BitVec 32 := 4#32
  let v3134 : Index := Scalar.indexCast c4_i32_1591
  let c464_1592 : Index := 464#32
  ![1, v3133.toNat, 4, 464]
def k0_off746 (k0_t3 : Fin k0_t3_loop.trips) : Fin 4 → Nat :=
  let c1_i32_1593 : BitVec 32 := 1#32
  let v3139 : Index := Scalar.indexCast c1_i32_1593
  let c0_i32_150 : BitVec 32 := 0#32
  let c1_i32_152 : BitVec 32 := 1#32
  let arg15 : BitVec 32 := Scf.iv c0_i32_150 c1_i32_152 k0_t3
  let v3140 : Index := Scalar.indexCast arg15
  let c5_i32_1594 : BitVec 32 := 5#32
  let v3141 : Index := Scalar.indexCast c5_i32_1594
  let c464_1595 : Index := 464#32
  ![1, v3140.toNat, 5, 464]
def k0_off747 (k0_t3 : Fin k0_t3_loop.trips) : Fin 4 → Nat :=
  let c1_i32_1596 : BitVec 32 := 1#32
  let v3146 : Index := Scalar.indexCast c1_i32_1596
  let c0_i32_150 : BitVec 32 := 0#32
  let c1_i32_152 : BitVec 32 := 1#32
  let arg15 : BitVec 32 := Scf.iv c0_i32_150 c1_i32_152 k0_t3
  let v3147 : Index := Scalar.indexCast arg15
  let c6_i32_1597 : BitVec 32 := 6#32
  let v3148 : Index := Scalar.indexCast c6_i32_1597
  let c464_1598 : Index := 464#32
  ![1, v3147.toNat, 6, 464]
def k0_off748 (k0_t3 : Fin k0_t3_loop.trips) : Fin 4 → Nat :=
  let c1_i32_1600 : BitVec 32 := 1#32
  let v3159 : Index := Scalar.indexCast c1_i32_1600
  let c0_i32_150 : BitVec 32 := 0#32
  let c1_i32_152 : BitVec 32 := 1#32
  let arg15 : BitVec 32 := Scf.iv c0_i32_150 c1_i32_152 k0_t3
  let v3160 : Index := Scalar.indexCast arg15
  let c7_i32_1601 : BitVec 32 := 7#32
  let v3161 : Index := Scalar.indexCast c7_i32_1601
  let c464_1602 : Index := 464#32
  ![1, v3160.toNat, 7, 464]
def k0_off749 (k0_t3 : Fin k0_t3_loop.trips) : Fin 4 → Nat :=
  let c1_i32_1603 : BitVec 32 := 1#32
  let v3165 : Index := Scalar.indexCast c1_i32_1603
  let c0_i32_150 : BitVec 32 := 0#32
  let c1_i32_152 : BitVec 32 := 1#32
  let arg15 : BitVec 32 := Scf.iv c0_i32_150 c1_i32_152 k0_t3
  let v3166 : Index := Scalar.indexCast arg15
  let c0_i32_1604 : BitVec 32 := 0#32
  let v3167 : Index := Scalar.indexCast c0_i32_1604
  let c480 : Index := 480#32
  ![1, v3166.toNat, 0, 480]
def k0_off750 (k0_t3 : Fin k0_t3_loop.trips) : Fin 4 → Nat :=
  let c1_i32_1605 : BitVec 32 := 1#32
  let v3170 : Index := Scalar.indexCast c1_i32_1605
  let c0_i32_150 : BitVec 32 := 0#32
  let c1_i32_152 : BitVec 32 := 1#32
  let arg15 : BitVec 32 := Scf.iv c0_i32_150 c1_i32_152 k0_t3
  let v3171 : Index := Scalar.indexCast arg15
  let c1_i32_1606 : BitVec 32 := 1#32
  let v3172 : Index := Scalar.indexCast c1_i32_1606
  let c480_1607 : Index := 480#32
  ![1, v3171.toNat, 1, 480]
def k0_off751 (k0_t3 : Fin k0_t3_loop.trips) : Fin 4 → Nat :=
  let c1_i32_1608 : BitVec 32 := 1#32
  let v3175 : Index := Scalar.indexCast c1_i32_1608
  let c0_i32_150 : BitVec 32 := 0#32
  let c1_i32_152 : BitVec 32 := 1#32
  let arg15 : BitVec 32 := Scf.iv c0_i32_150 c1_i32_152 k0_t3
  let v3176 : Index := Scalar.indexCast arg15
  let c2_i32_1609 : BitVec 32 := 2#32
  let v3177 : Index := Scalar.indexCast c2_i32_1609
  let c480_1610 : Index := 480#32
  ![1, v3176.toNat, 2, 480]
def k0_off752 (k0_t3 : Fin k0_t3_loop.trips) : Fin 4 → Nat :=
  let c1_i32_1611 : BitVec 32 := 1#32
  let v3180 : Index := Scalar.indexCast c1_i32_1611
  let c0_i32_150 : BitVec 32 := 0#32
  let c1_i32_152 : BitVec 32 := 1#32
  let arg15 : BitVec 32 := Scf.iv c0_i32_150 c1_i32_152 k0_t3
  let v3181 : Index := Scalar.indexCast arg15
  let c3_i32_1612 : BitVec 32 := 3#32
  let v3182 : Index := Scalar.indexCast c3_i32_1612
  let c480_1613 : Index := 480#32
  ![1, v3181.toNat, 3, 480]
def k0_off753 (k0_t3 : Fin k0_t3_loop.trips) : Fin 4 → Nat :=
  let c1_i32_1626 : BitVec 32 := 1#32
  let v3206 : Index := Scalar.indexCast c1_i32_1626
  let c0_i32_150 : BitVec 32 := 0#32
  let c1_i32_152 : BitVec 32 := 1#32
  let arg15 : BitVec 32 := Scf.iv c0_i32_150 c1_i32_152 k0_t3
  let v3207 : Index := Scalar.indexCast arg15
  let c0_i32_1627 : BitVec 32 := 0#32
  let v3208 : Index := Scalar.indexCast c0_i32_1627
  let c480_1628 : Index := 480#32
  ![1, v3207.toNat, 0, 480]
def k0_off754 (k0_t3 : Fin k0_t3_loop.trips) : Fin 4 → Nat :=
  let c1_i32_1629 : BitVec 32 := 1#32
  let v3213 : Index := Scalar.indexCast c1_i32_1629
  let c0_i32_150 : BitVec 32 := 0#32
  let c1_i32_152 : BitVec 32 := 1#32
  let arg15 : BitVec 32 := Scf.iv c0_i32_150 c1_i32_152 k0_t3
  let v3214 : Index := Scalar.indexCast arg15
  let c1_i32_1630 : BitVec 32 := 1#32
  let v3215 : Index := Scalar.indexCast c1_i32_1630
  let c480_1631 : Index := 480#32
  ![1, v3214.toNat, 1, 480]
def k0_off755 (k0_t3 : Fin k0_t3_loop.trips) : Fin 4 → Nat :=
  let c1_i32_1632 : BitVec 32 := 1#32
  let v3220 : Index := Scalar.indexCast c1_i32_1632
  let c0_i32_150 : BitVec 32 := 0#32
  let c1_i32_152 : BitVec 32 := 1#32
  let arg15 : BitVec 32 := Scf.iv c0_i32_150 c1_i32_152 k0_t3
  let v3221 : Index := Scalar.indexCast arg15
  let c2_i32_1633 : BitVec 32 := 2#32
  let v3222 : Index := Scalar.indexCast c2_i32_1633
  let c480_1634 : Index := 480#32
  ![1, v3221.toNat, 2, 480]
def k0_off756 (k0_t3 : Fin k0_t3_loop.trips) : Fin 4 → Nat :=
  let c1_i32_1635 : BitVec 32 := 1#32
  let v3227 : Index := Scalar.indexCast c1_i32_1635
  let c0_i32_150 : BitVec 32 := 0#32
  let c1_i32_152 : BitVec 32 := 1#32
  let arg15 : BitVec 32 := Scf.iv c0_i32_150 c1_i32_152 k0_t3
  let v3228 : Index := Scalar.indexCast arg15
  let c3_i32_1636 : BitVec 32 := 3#32
  let v3229 : Index := Scalar.indexCast c3_i32_1636
  let c480_1637 : Index := 480#32
  ![1, v3228.toNat, 3, 480]
def k0_off757 (k0_t3 : Fin k0_t3_loop.trips) : Fin 4 → Nat :=
  let c1_i32_1638 : BitVec 32 := 1#32
  let v3234 : Index := Scalar.indexCast c1_i32_1638
  let c0_i32_150 : BitVec 32 := 0#32
  let c1_i32_152 : BitVec 32 := 1#32
  let arg15 : BitVec 32 := Scf.iv c0_i32_150 c1_i32_152 k0_t3
  let v3235 : Index := Scalar.indexCast arg15
  let c4_i32_1639 : BitVec 32 := 4#32
  let v3236 : Index := Scalar.indexCast c4_i32_1639
  let c480_1640 : Index := 480#32
  ![1, v3235.toNat, 4, 480]
def k0_off758 (k0_t3 : Fin k0_t3_loop.trips) : Fin 4 → Nat :=
  let c1_i32_1641 : BitVec 32 := 1#32
  let v3241 : Index := Scalar.indexCast c1_i32_1641
  let c0_i32_150 : BitVec 32 := 0#32
  let c1_i32_152 : BitVec 32 := 1#32
  let arg15 : BitVec 32 := Scf.iv c0_i32_150 c1_i32_152 k0_t3
  let v3242 : Index := Scalar.indexCast arg15
  let c5_i32_1642 : BitVec 32 := 5#32
  let v3243 : Index := Scalar.indexCast c5_i32_1642
  let c480_1643 : Index := 480#32
  ![1, v3242.toNat, 5, 480]
def k0_off759 (k0_t3 : Fin k0_t3_loop.trips) : Fin 4 → Nat :=
  let c1_i32_1644 : BitVec 32 := 1#32
  let v3248 : Index := Scalar.indexCast c1_i32_1644
  let c0_i32_150 : BitVec 32 := 0#32
  let c1_i32_152 : BitVec 32 := 1#32
  let arg15 : BitVec 32 := Scf.iv c0_i32_150 c1_i32_152 k0_t3
  let v3249 : Index := Scalar.indexCast arg15
  let c6_i32_1645 : BitVec 32 := 6#32
  let v3250 : Index := Scalar.indexCast c6_i32_1645
  let c480_1646 : Index := 480#32
  ![1, v3249.toNat, 6, 480]
def k0_off760 (k0_t3 : Fin k0_t3_loop.trips) : Fin 4 → Nat :=
  let c1_i32_1648 : BitVec 32 := 1#32
  let v3261 : Index := Scalar.indexCast c1_i32_1648
  let c0_i32_150 : BitVec 32 := 0#32
  let c1_i32_152 : BitVec 32 := 1#32
  let arg15 : BitVec 32 := Scf.iv c0_i32_150 c1_i32_152 k0_t3
  let v3262 : Index := Scalar.indexCast arg15
  let c7_i32_1649 : BitVec 32 := 7#32
  let v3263 : Index := Scalar.indexCast c7_i32_1649
  let c480_1650 : Index := 480#32
  ![1, v3262.toNat, 7, 480]
def k0_off761 (k0_t3 : Fin k0_t3_loop.trips) : Fin 4 → Nat :=
  let c1_i32_1651 : BitVec 32 := 1#32
  let v3267 : Index := Scalar.indexCast c1_i32_1651
  let c0_i32_150 : BitVec 32 := 0#32
  let c1_i32_152 : BitVec 32 := 1#32
  let arg15 : BitVec 32 := Scf.iv c0_i32_150 c1_i32_152 k0_t3
  let v3268 : Index := Scalar.indexCast arg15
  let c0_i32_1652 : BitVec 32 := 0#32
  let v3269 : Index := Scalar.indexCast c0_i32_1652
  let c496 : Index := 496#32
  ![1, v3268.toNat, 0, 496]
def k0_off762 (k0_t3 : Fin k0_t3_loop.trips) : Fin 4 → Nat :=
  let c1_i32_1653 : BitVec 32 := 1#32
  let v3272 : Index := Scalar.indexCast c1_i32_1653
  let c0_i32_150 : BitVec 32 := 0#32
  let c1_i32_152 : BitVec 32 := 1#32
  let arg15 : BitVec 32 := Scf.iv c0_i32_150 c1_i32_152 k0_t3
  let v3273 : Index := Scalar.indexCast arg15
  let c1_i32_1654 : BitVec 32 := 1#32
  let v3274 : Index := Scalar.indexCast c1_i32_1654
  let c496_1655 : Index := 496#32
  ![1, v3273.toNat, 1, 496]
def k0_off763 (k0_t3 : Fin k0_t3_loop.trips) : Fin 4 → Nat :=
  let c1_i32_1656 : BitVec 32 := 1#32
  let v3277 : Index := Scalar.indexCast c1_i32_1656
  let c0_i32_150 : BitVec 32 := 0#32
  let c1_i32_152 : BitVec 32 := 1#32
  let arg15 : BitVec 32 := Scf.iv c0_i32_150 c1_i32_152 k0_t3
  let v3278 : Index := Scalar.indexCast arg15
  let c2_i32_1657 : BitVec 32 := 2#32
  let v3279 : Index := Scalar.indexCast c2_i32_1657
  let c496_1658 : Index := 496#32
  ![1, v3278.toNat, 2, 496]
def k0_off764 (k0_t3 : Fin k0_t3_loop.trips) : Fin 4 → Nat :=
  let c1_i32_1659 : BitVec 32 := 1#32
  let v3282 : Index := Scalar.indexCast c1_i32_1659
  let c0_i32_150 : BitVec 32 := 0#32
  let c1_i32_152 : BitVec 32 := 1#32
  let arg15 : BitVec 32 := Scf.iv c0_i32_150 c1_i32_152 k0_t3
  let v3283 : Index := Scalar.indexCast arg15
  let c3_i32_1660 : BitVec 32 := 3#32
  let v3284 : Index := Scalar.indexCast c3_i32_1660
  let c496_1661 : Index := 496#32
  ![1, v3283.toNat, 3, 496]
def k0_off765 (k0_t3 : Fin k0_t3_loop.trips) : Fin 4 → Nat :=
  let c1_i32_1674 : BitVec 32 := 1#32
  let v3308 : Index := Scalar.indexCast c1_i32_1674
  let c0_i32_150 : BitVec 32 := 0#32
  let c1_i32_152 : BitVec 32 := 1#32
  let arg15 : BitVec 32 := Scf.iv c0_i32_150 c1_i32_152 k0_t3
  let v3309 : Index := Scalar.indexCast arg15
  let c0_i32_1675 : BitVec 32 := 0#32
  let v3310 : Index := Scalar.indexCast c0_i32_1675
  let c496_1676 : Index := 496#32
  ![1, v3309.toNat, 0, 496]
def k0_off766 (k0_t3 : Fin k0_t3_loop.trips) : Fin 4 → Nat :=
  let c1_i32_1677 : BitVec 32 := 1#32
  let v3315 : Index := Scalar.indexCast c1_i32_1677
  let c0_i32_150 : BitVec 32 := 0#32
  let c1_i32_152 : BitVec 32 := 1#32
  let arg15 : BitVec 32 := Scf.iv c0_i32_150 c1_i32_152 k0_t3
  let v3316 : Index := Scalar.indexCast arg15
  let c1_i32_1678 : BitVec 32 := 1#32
  let v3317 : Index := Scalar.indexCast c1_i32_1678
  let c496_1679 : Index := 496#32
  ![1, v3316.toNat, 1, 496]
def k0_off767 (k0_t3 : Fin k0_t3_loop.trips) : Fin 4 → Nat :=
  let c1_i32_1680 : BitVec 32 := 1#32
  let v3322 : Index := Scalar.indexCast c1_i32_1680
  let c0_i32_150 : BitVec 32 := 0#32
  let c1_i32_152 : BitVec 32 := 1#32
  let arg15 : BitVec 32 := Scf.iv c0_i32_150 c1_i32_152 k0_t3
  let v3323 : Index := Scalar.indexCast arg15
  let c2_i32_1681 : BitVec 32 := 2#32
  let v3324 : Index := Scalar.indexCast c2_i32_1681
  let c496_1682 : Index := 496#32
  ![1, v3323.toNat, 2, 496]
def k0_off768 (k0_t3 : Fin k0_t3_loop.trips) : Fin 4 → Nat :=
  let c1_i32_1683 : BitVec 32 := 1#32
  let v3329 : Index := Scalar.indexCast c1_i32_1683
  let c0_i32_150 : BitVec 32 := 0#32
  let c1_i32_152 : BitVec 32 := 1#32
  let arg15 : BitVec 32 := Scf.iv c0_i32_150 c1_i32_152 k0_t3
  let v3330 : Index := Scalar.indexCast arg15
  let c3_i32_1684 : BitVec 32 := 3#32
  let v3331 : Index := Scalar.indexCast c3_i32_1684
  let c496_1685 : Index := 496#32
  ![1, v3330.toNat, 3, 496]
def k0_off769 (k0_t3 : Fin k0_t3_loop.trips) : Fin 4 → Nat :=
  let c1_i32_1686 : BitVec 32 := 1#32
  let v3336 : Index := Scalar.indexCast c1_i32_1686
  let c0_i32_150 : BitVec 32 := 0#32
  let c1_i32_152 : BitVec 32 := 1#32
  let arg15 : BitVec 32 := Scf.iv c0_i32_150 c1_i32_152 k0_t3
  let v3337 : Index := Scalar.indexCast arg15
  let c4_i32_1687 : BitVec 32 := 4#32
  let v3338 : Index := Scalar.indexCast c4_i32_1687
  let c496_1688 : Index := 496#32
  ![1, v3337.toNat, 4, 496]
def k0_off770 (k0_t3 : Fin k0_t3_loop.trips) : Fin 4 → Nat :=
  let c1_i32_1689 : BitVec 32 := 1#32
  let v3343 : Index := Scalar.indexCast c1_i32_1689
  let c0_i32_150 : BitVec 32 := 0#32
  let c1_i32_152 : BitVec 32 := 1#32
  let arg15 : BitVec 32 := Scf.iv c0_i32_150 c1_i32_152 k0_t3
  let v3344 : Index := Scalar.indexCast arg15
  let c5_i32_1690 : BitVec 32 := 5#32
  let v3345 : Index := Scalar.indexCast c5_i32_1690
  let c496_1691 : Index := 496#32
  ![1, v3344.toNat, 5, 496]
def k0_off771 (k0_t3 : Fin k0_t3_loop.trips) : Fin 4 → Nat :=
  let c1_i32_1692 : BitVec 32 := 1#32
  let v3350 : Index := Scalar.indexCast c1_i32_1692
  let c0_i32_150 : BitVec 32 := 0#32
  let c1_i32_152 : BitVec 32 := 1#32
  let arg15 : BitVec 32 := Scf.iv c0_i32_150 c1_i32_152 k0_t3
  let v3351 : Index := Scalar.indexCast arg15
  let c6_i32_1693 : BitVec 32 := 6#32
  let v3352 : Index := Scalar.indexCast c6_i32_1693
  let c496_1694 : Index := 496#32
  ![1, v3351.toNat, 6, 496]
def k0_off772 (k0_t3 : Fin k0_t3_loop.trips) : Fin 4 → Nat :=
  let c1_i32_1696 : BitVec 32 := 1#32
  let v3363 : Index := Scalar.indexCast c1_i32_1696
  let c0_i32_150 : BitVec 32 := 0#32
  let c1_i32_152 : BitVec 32 := 1#32
  let arg15 : BitVec 32 := Scf.iv c0_i32_150 c1_i32_152 k0_t3
  let v3364 : Index := Scalar.indexCast arg15
  let c7_i32_1697 : BitVec 32 := 7#32
  let v3365 : Index := Scalar.indexCast c7_i32_1697
  let c496_1698 : Index := 496#32
  ![1, v3364.toNat, 7, 496]
def k0_cond4 (k0_t1 : Fin k0_t1_loop.trips) : BitVec 1 :=
  let c0_i32_45 : BitVec 32 := 0#32
  let c1_i32_47 : BitVec 32 := 1#32
  let arg14 : BitVec 32 := Scf.iv c0_i32_45 c1_i32_47 k0_t1
  let c2_i32_121 : BitVec 32 := 2#32
  let v74 : BitVec 32 := Scalar.muli arg14 c2_i32_121
  let c1_i32_122 : BitVec 32 := 1#32
  let v75 : BitVec 32 := Scalar.addi v74 c1_i32_122
  let c2_i32_165 : BitVec 32 := 2#32
  let v101 : BitVec 32 := Scalar.addi v75 c2_i32_165
  let c64_i32_166 : BitVec 32 := 64#32
  let v102 : BitVec 1 := Scalar.cmpi .slt v101 c64_i32_166
  let v103 : BitVec 32 := Scalar.extui v102
  let c0_i32_167 : BitVec 32 := 0#32
  let v104 : BitVec 1 := Scalar.cmpi .ne v103 c0_i32_167
  v104

def k0_off773 (i : grid0.Coords) (k0_t1 : Fin k0_t1_loop.trips) : Fin 3 → Nat :=
  let c0_i32_45 : BitVec 32 := 0#32
  let c1_i32_47 : BitVec 32 := 1#32
  let arg14 : BitVec 32 := Scf.iv c0_i32_45 c1_i32_47 k0_t1
  let c2_i32_121 : BitVec 32 := 2#32
  let v74 : BitVec 32 := Scalar.muli arg14 c2_i32_121
  let c1_i32_122 : BitVec 32 := 1#32
  let v75 : BitVec 32 := Scalar.addi v74 c1_i32_122
  let c2_i32_168 : BitVec 32 := 2#32
  let v105 : BitVec 32 := Scalar.addi v75 c2_i32_168
  let c32_i32_169 : BitVec 32 := 32#32
  let v106 : BitVec 32 := Scalar.muli v105 c32_i32_169
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v107 : BitVec 32 := Scalar.addi v106 v1
  let c4_i32_170 : BitVec 32 := 4#32
  let v108 : BitVec 32 := Scalar.muli v107 c4_i32_170
  let c0_i32_175 : BitVec 32 := 0#32
  let c0_i32_176 : BitVec 32 := 0#32
  ![v108.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4x512 : Shape := ⟨3, ![8192, 4, 512]⟩
abbrev S1 : Shape := ⟨1, ![1]⟩
abbrev S3 : Shape := ⟨1, ![3]⟩
abbrev S_ : Shape := ⟨0, ![]⟩
abbrev S1x1 : Shape := ⟨2, ![1, 1]⟩
abbrev S8192x1x512 : Shape := ⟨3, ![8192, 1, 512]⟩
abbrev S1x1x1 : Shape := ⟨3, ![1, 1, 1]⟩
abbrev S3x1 : Shape := ⟨2, ![3, 1]⟩
abbrev S8192x3x512 : Shape := ⟨3, ![8192, 3, 512]⟩
abbrev S1x3x1 : Shape := ⟨3, ![1, 3, 1]⟩
abbrev S8192x8x512 : Shape := ⟨3, ![8192, 8, 512]⟩

abbrev nBuf : Space → Nat
  | .hbm => 135
  | .vmem => 0
  | .smem => 0
  | _ => 0

abbrev hbmTy0_0 (i : Nat) : BufTy := match i % 128 with
  | 0 => ⟨S8192x4x512, .f32⟩
  | 1 => ⟨S8192x4x512, .f32⟩
  | 2 => ⟨S1, .f32⟩
  | 3 => ⟨S1, .i32⟩
  | 4 => ⟨S1, .i1⟩
  | 5 => ⟨S1, .i32⟩
  | 6 => ⟨S1, .i1⟩
  | 7 => ⟨S1, .i32⟩
  | 8 => ⟨S3, .f32⟩
  | 9 => ⟨S3, .i32⟩
  | 10 => ⟨S3, .i1⟩
  | 11 => ⟨S3, .i32⟩
  | 12 => ⟨S3, .i1⟩
  | 13 => ⟨S3, .i32⟩
  | 14 => ⟨S3, .f32⟩
  | 15 => ⟨S3, .i32⟩
  | 16 => ⟨S3, .i1⟩
  | 17 => ⟨S3, .i32⟩
  | 18 => ⟨S3, .i1⟩
  | 19 => ⟨S3, .i32⟩
  | 20 => ⟨S3, .f32⟩
  | 21 => ⟨S3, .i32⟩
  | 22 => ⟨S3, .i1⟩
  | 23 => ⟨S3, .i32⟩
  | 24 => ⟨S3, .i1⟩
  | 25 => ⟨S3, .i32⟩
  | 26 => ⟨S_, .i32⟩
  | 27 => ⟨S1, .i32⟩
  | 28 => ⟨S1, .i32⟩
  | 29 => ⟨S1, .i32⟩
  | 30 => ⟨S1x1, .i32⟩
  | 31 => ⟨S8192x1x512, .f32⟩
  | 32 => ⟨S1x1x1, .f32⟩
  | 33 => ⟨S8192x1x512, .f32⟩
  | 34 => ⟨S8192x1x512, .f32⟩
  | 35 => ⟨S_, .i32⟩
  | 36 => ⟨S1, .i32⟩
  | 37 => ⟨S1, .i32⟩
  | 38 => ⟨S1, .i32⟩
  | 39 => ⟨S1x1, .i32⟩
  | 40 => ⟨S8192x1x512, .f32⟩
  | 41 => ⟨S8192x1x512, .f32⟩
  | 42 => ⟨S_, .f32⟩
  | 43 => ⟨S8192x1x512, .f32⟩
  | 44 => ⟨S_, .i32⟩
  | 45 => ⟨S1, .i32⟩
  | 46 => ⟨S1, .i1⟩
  | 47 => ⟨S_, .i32⟩
  | 48 => ⟨S1, .i32⟩
  | 49 => ⟨S1, .i32⟩
  | 50 => ⟨S1, .i32⟩
  | 51 => ⟨S1x1, .i32⟩
  | 52 => ⟨S8192x1x512, .f32⟩
  | 53 => ⟨S_, .i32⟩
  | 54 => ⟨S3, .i32⟩
  | 55 => ⟨S3, .i32⟩
  | 56 => ⟨S3, .i32⟩
  | 57 => ⟨S3x1, .i32⟩
  | 58 => ⟨S8192x3x512, .f32⟩
  | 59 => ⟨S1x3x1, .f32⟩
  | 60 => ⟨S8192x3x512, .f32⟩
  | 61 => ⟨S8192x3x512, .f32⟩
  | 62 => ⟨S_, .i32⟩
  | 63 => ⟨S3, .i32⟩
  | 64 => ⟨S3, .i32⟩
  | 65 => ⟨S3, .i32⟩
  | 66 => ⟨S3x1, .i32⟩
  | 67 => ⟨S8192x3x512, .f32⟩
  | 68 => ⟨S8192x3x512, .f32⟩
  | 69 => ⟨S_, .f32⟩
  | 70 => ⟨S8192x3x512, .f32⟩
  | 71 => ⟨S_, .i32⟩
  | 72 => ⟨S3, .i32⟩
  | 73 => ⟨S3, .i1⟩
  | 74 => ⟨S_, .i32⟩
  | 75 => ⟨S3, .i32⟩
  | 76 => ⟨S3, .i32⟩
  | 77 => ⟨S3, .i32⟩
  | 78 => ⟨S3x1, .i32⟩
  | 79 => ⟨S8192x3x512, .f32⟩
  | 80 => ⟨S_, .i32⟩
  | 81 => ⟨S3, .i32⟩
  | 82 => ⟨S3, .i32⟩
  | 83 => ⟨S3, .i32⟩
  | 84 => ⟨S3x1, .i32⟩
  | 85 => ⟨S8192x3x512, .f32⟩
  | 86 => ⟨S1x3x1, .f32⟩
  | 87 => ⟨S8192x3x512, .f32⟩
  | 88 => ⟨S8192x3x512, .f32⟩
  | 89 => ⟨S_, .i32⟩
  | 90 => ⟨S3, .i32⟩
  | 91 => ⟨S3, .i32⟩
  | 92 => ⟨S3, .i32⟩
  | 93 => ⟨S3x1, .i32⟩
  | 94 => ⟨S8192x3x512, .f32⟩
  | 95 => ⟨S8192x3x512, .f32⟩
  | 96 => ⟨S_, .f32⟩
  | 97 => ⟨S8192x3x512, .f32⟩
  | 98 => ⟨S_, .i32⟩
  | 99 => ⟨S3, .i32⟩
  | 100 => ⟨S3, .i1⟩
  | 101 => ⟨S_, .i32⟩
  | 102 => ⟨S3, .i32⟩
  | 103 => ⟨S3, .i32⟩
  | 104 => ⟨S3, .i32⟩
  | 105 => ⟨S3x1, .i32⟩
  | 106 => ⟨S8192x3x512, .f32⟩
  | 107 => ⟨S_, .i32⟩
  | 108 => ⟨S3, .i32⟩
  | 109 => ⟨S3, .i32⟩
  | 110 => ⟨S3, .i32⟩
  | 111 => ⟨S3x1, .i32⟩
  | 112 => ⟨S8192x3x512, .f32⟩
  | 113 => ⟨S1x3x1, .f32⟩
  | 114 => ⟨S8192x3x512, .f32⟩
  | 115 => ⟨S8192x3x512, .f32⟩
  | 116 => ⟨S_, .i32⟩
  | 117 => ⟨S3, .i32⟩
  | 118 => ⟨S3, .i32⟩
  | 119 => ⟨S3, .i32⟩
  | 120 => ⟨S3x1, .i32⟩
  | 121 => ⟨S8192x3x512, .f32⟩
  | 122 => ⟨S8192x3x512, .f32⟩
  | 123 => ⟨S_, .f32⟩
  | 124 => ⟨S8192x1x512, .f32⟩
  | 125 => ⟨S_, .i32⟩
  | 126 => ⟨S3, .i32⟩
  | 127 => ⟨S3, .i1⟩
  | _ => ⟨S8192x4x512, .f32⟩

abbrev hbmTy0_1 (i : Nat) : BufTy := match i % 128 with
  | 0 => ⟨S_, .i32⟩
  | 1 => ⟨S3, .i32⟩
  | 2 => ⟨S3, .i32⟩
  | 3 => ⟨S3, .i32⟩
  | 4 => ⟨S3x1, .i32⟩
  | 5 => ⟨S8192x1x512, .f32⟩
  | 6 => ⟨S8192x8x512, .f32⟩
  | _ => ⟨S8192x4x512, .f32⟩

abbrev hbmTy (i : Nat) : BufTy := match i / 128 with
  | 0 => hbmTy0_0 i
  | 1 => hbmTy0_1 i
  | _ => ⟨S8192x4x512, .f32⟩

abbrev bufTy : (tb : Table) → Fin (tcTables nBuf tb) → BufTy
  | .hbm, ⟨i, _⟩ => hbmTy i
  | _, _ => ⟨S8192x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_cst_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_cst_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_c_15 : Ref sig .tc := ⟨.hbm, 19, rfl⟩
abbrev main_cst_16 : Ref sig .tc := ⟨.hbm, 20, rfl⟩
abbrev main_c_17 : Ref sig .tc := ⟨.hbm, 21, rfl⟩
abbrev main_c_18 : Ref sig .tc := ⟨.hbm, 22, rfl⟩
abbrev main_c_19 : Ref sig .tc := ⟨.hbm, 23, rfl⟩
abbrev main_c_20 : Ref sig .tc := ⟨.hbm, 24, rfl⟩
abbrev main_c_21 : Ref sig .tc := ⟨.hbm, 25, rfl⟩
abbrev main_c_22 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_23 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_24 : Ref sig .tc := ⟨.hbm, 42, rfl⟩
abbrev main_v14 : Ref sig .tc := ⟨.hbm, 43, rfl⟩
abbrev main_c_25 : Ref sig .tc := ⟨.hbm, 44, rfl⟩
abbrev main_v15 : Ref sig .tc := ⟨.hbm, 45, rfl⟩
abbrev main_v16 : Ref sig .tc := ⟨.hbm, 46, rfl⟩
abbrev main_c_26 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_27 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_28 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_29 : Ref sig .tc := ⟨.hbm, 69, rfl⟩
abbrev main_v36 : Ref sig .tc := ⟨.hbm, 70, rfl⟩
abbrev main_c_30 : Ref sig .tc := ⟨.hbm, 71, rfl⟩
abbrev main_v37 : Ref sig .tc := ⟨.hbm, 72, rfl⟩
abbrev main_v38 : Ref sig .tc := ⟨.hbm, 73, rfl⟩
abbrev main_c_31 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_32 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_33 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_34 : Ref sig .tc := ⟨.hbm, 96, rfl⟩
abbrev main_v58 : Ref sig .tc := ⟨.hbm, 97, rfl⟩
abbrev main_c_35 : Ref sig .tc := ⟨.hbm, 98, rfl⟩
abbrev main_v59 : Ref sig .tc := ⟨.hbm, 99, rfl⟩
abbrev main_v60 : Ref sig .tc := ⟨.hbm, 100, rfl⟩
abbrev main_c_36 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_37 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_38 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_39 : Ref sig .tc := ⟨.hbm, 123, rfl⟩
abbrev main_v80 : Ref sig .tc := ⟨.hbm, 124, rfl⟩
abbrev main_c_40 : Ref sig .tc := ⟨.hbm, 125, rfl⟩
abbrev main_v81 : Ref sig .tc := ⟨.hbm, 126, rfl⟩
abbrev main_v82 : Ref sig .tc := ⟨.hbm, 127, rfl⟩
abbrev main_c_41 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩

abbrev nD : Nat := 1
abbrev τ : Topo := Topo.v7x

variable {F : FTy → Type} [FloatOps F]
-- ==== Proof.Block.lean ====
/-
  The edge loop's trip, said once. Trip `k` of the loop over the four edges of a chunk works through row `k`
  of one buffer slot in 32 blocks of 16 lanes; a block reads the four components of `x` and of `y` at its lanes
  and stores the eight components of the product. `block` is that step as a function of the slot and of the
  lane it starts at, `blocks` runs the blocks from a given one on, and `Edge` shows that the
  printed loop bodies, one for each slot, are exactly these 32 blocks.
-/
module

public import proofs.«01_k».proof.Proof.Gen.KernelIdeal.Skeleton

@[expose] public section

noncomputable section

namespace Cert.KernelIdeal.Tile

open Idealize.ShloMosaic Idealize.SL.Sem
open Cert.KernelIdeal Cert.KernelIdeal.Gen

variable {F : FTy → Type} [FloatOps F]

/-- The row an edge-loop trip works on, as the kernel computes it. -/
def rowOf (k : ℕ) : ℕ := (Scalar.indexCast (Scf.iv 0#32 1#32 k) : Index).toNat

theorem rowOf_eq {k : ℕ} (hk : k < 4) : rowOf k = k := by
  rcases (by omega : k = 0 ∨ k = 1 ∨ k = 2 ∨ k = 3) with rfl | rfl | rfl | rfl <;> rfl

/-- The corner of the 16 lanes from lane `l` on of component `ch` of row `k` of slot `b`. -/
def cell (b k ch l : ℕ) : Fin 4 → ℕ := ![b, rowOf k, ch, l]

theorem cell_inb4 {b k ch l : ℕ} (hb : b < 2) (hk : k < 4) (hc : ch < 4) (hl : l ≤ 496) :
    ∀ a, cell b k ch l a + S1x1x1x16.size a ≤ S2x4x4x512.size a := by
  intro a
  have := rowOf_eq hk
  fin_cases a <;> simp [cell, S1x1x1x16, S2x4x4x512] <;> omega

theorem cell_inb8 {b k ch l : ℕ} (hb : b < 2) (hk : k < 4) (hc : ch < 8) (hl : l ≤ 496) :
    ∀ a, cell b k ch l a + S1x1x1x16.size a ≤ S2x4x8x512.size a := by
  intro a
  have := rowOf_eq hk
  fin_cases a <;> simp [cell, S1x1x1x16, S2x4x8x512] <;> omega

/-- The 16 lanes from `l` on of component `ch`, row `k`, slot `b` of an input scratch buffer. -/
abbrev rect4 (b k ch l : ℕ) (hb : b < 2) (hk : k < 4) (hc : ch < 4) (hl : l ≤ 496) : Rect S2x4x4x512 :=
  Rect.unit (s := S2x4x4x512) (cell b k ch l) S1x1x1x16.size (cell_inb4 hb hk hc hl)

/-- The same of the output scratch buffer. -/
abbrev rect8 (b k ch l : ℕ) (hb : b < 2) (hk : k < 4) (hc : ch < 8) (hl : l ≤ 496) : Rect S2x4x8x512 :=
  Rect.unit (s := S2x4x8x512) (cell b k ch l) S1x1x1x16.size (cell_inb8 hb hk hc hl)

section Program

variable (i : grid0.Coords)

/-- The processor that runs the body at coordinates `i`. -/
abbrev proc : Proc τ := .scVector ((i 0).castLE hcore0) ((i 1).castLE hsub0)

variable (arg5 arg6 : Memref sig .scVector .vmem S2x4x4x512 .f32) (arg7 : Memref sig .scVector .vmem S2x4x8x512 .f32)

/-- Read 16 lanes of an input scratch buffer. -/
def get (m : Memref sig .scVector .vmem S2x4x4x512 .f32) (b k ch l : ℕ) (hb : b < 2) (hk : k < 4) (hc : ch < 4) (hl : l ≤ 496) :
    Prog (TpuEff nD τ sig (Elt F) Λ₀ (proc i)) (Vec F S1x1x1x16 .f32) :=
  Prog.lift (.load m (rect4 b k ch l hb hk hc hl).toLoadRect (View.loadsAt_vmem h_S1x1x1x16))

/-- Write 16 lanes of the output scratch buffer: the kernel first reads what is there and makes no use of it. -/
def put (m : Memref sig .scVector .vmem S2x4x8x512 .f32) (b k ch l : ℕ) (hb : b < 2) (hk : k < 4) (hc : ch < 8) (hl : l ≤ 496)
    (v : FVec F S16 .f32) : Prog (TpuEff nD τ sig (Elt F) Λ₀ (proc i)) PUnit := do
  let _ ← Prog.lift (.load m (rect8 b k ch l hb hk hc hl).toLoadRect (View.loadsAt_vmem h_S1x1x1x16))
  Prog.lift (.store m (rect8 b k ch l hb hk hc hl) (shapeCast S1x1x1x16 v shapeCasts_S16_S1x1x1x16) Finset.univ
    (View.stores_vmem_bits_univ h_S1x1x1x16 rfl) (.inl rfl))

/-- Sixteen lanes as a flat vector. -/
abbrev flat (v : Vec F S1x1x1x16 .f32) : FVec F S16 .f32 := shapeCast S16 v shapeCasts_S1x1x1x16_S16

/-- The scaled inner product of the last three components. -/
abbrev dot (x1 x2 x3 y1 y2 y3 : FVec F S16 .f32) : FVec F S16 .f32 :=
  mulf (addf (addf (mulf x1 y1) (mulf x2 y2)) (mulf x3 y3)) (broadcast S16 (Scalar.ofBits .f32 0x3F13CD3A#32 : F .f32))

/-- One block of 16 lanes, then `rest`. -/
def block (b k l : ℕ) (hb : b < 2) (hk : k < 4) (hl : l ≤ 496)
    (rest : Prog (TpuEff nD τ sig (Elt F) Λ₀ (proc i)) PUnit) : Prog (TpuEff nD τ sig (Elt F) Λ₀ (proc i)) PUnit := do
  let x0 ← get i arg5 b k 0 l hb hk (by decide) hl
  let x1 ← get i arg5 b k 1 l hb hk (by decide) hl
  let x2 ← get i arg5 b k 2 l hb hk (by decide) hl
  let x3 ← get i arg5 b k 3 l hb hk (by decide) hl
  let y0 ← get i arg6 b k 0 l hb hk (by decide) hl
  let y1 ← get i arg6 b k 1 l hb hk (by decide) hl
  let y2 ← get i arg6 b k 2 l hb hk (by decide) hl
  let y3 ← get i arg6 b k 3 l hb hk (by decide) hl
  put i arg7 b k 0 l hb hk (by decide) hl (mulf (flat x0) (flat y0))
  put i arg7 b k 1 l hb hk (by decide) hl (mulf (flat x0) (flat y1))
  put i arg7 b k 2 l hb hk (by decide) hl (mulf (flat x0) (flat y2))
  put i arg7 b k 3 l hb hk (by decide) hl (mulf (flat x0) (flat y3))
  put i arg7 b k 4 l hb hk (by decide) hl (mulf (flat x1) (flat y0))
  put i arg7 b k 5 l hb hk (by decide) hl (mulf (flat x2) (flat y0))
  put i arg7 b k 6 l hb hk (by decide) hl (mulf (flat x3) (flat y0))
  put i arg7 b k 7 l hb hk (by decide) hl (dot (flat x1) (flat x2) (flat x3) (flat y1) (flat y2) (flat y3))
  rest

theorem lane_le {n : ℕ} (h : n + 1 ≤ 32) : 16 * (32 - (n + 1)) ≤ 496 := by omega

/-- The last `n` blocks of a row. -/
def blocks (b k : ℕ) (hb : b < 2) (hk : k < 4) : (n : ℕ) → n ≤ 32 → Prog (TpuEff nD τ sig (Elt F) Λ₀ (proc i)) PUnit
  | 0, _ => pure ⟨⟩
  | n + 1, h => block i arg5 arg6 arg7 b k (16 * (32 - (n + 1))) hb hk (lane_le h) (blocks b k hb hk n (Nat.le_of_succ_le h))

theorem trips2 (k : Fin k0_t2_loop.trips) : k.val < 4 := k.isLt

theorem trips3 (k : Fin k0_t3_loop.trips) : k.val < 4 := k.isLt

end Program

end Cert.KernelIdeal.Tile

end
-- ==== Proof.Edge.lean ====
/-
  The bodies of the two edge loops as the kernel prints them are the 32 blocks of Block.lean: one loop
  works in slot 0, the other in slot 1, and nothing else tells them apart. Each equation compares the two
  programs by definition.
-/
module

public import proofs.«01_k».proof.Proof.Block
public import Idealize.ShloMosaic.Lib.Tactic

@[expose] public section

noncomputable section

namespace Cert.KernelIdeal.Tile

open Idealize.ShloMosaic Idealize.SL.Sem
open Cert.KernelIdeal Cert.KernelIdeal.Gen

variable {F : FTy → Type} [FloatOps F]

variable (i : grid0.Coords) (arg2 : Memref sig .scVector .hbm S8192x4x512 .f32) (harg2 : arg2.IsWhole) (arg3 : Memref sig .scVector .hbm S8192x4x512 .f32) (harg3 : arg3.IsWhole)
    (arg4 : Memref sig .scVector .hbm S8192x8x512 .f32) (harg4 : arg4.IsWhole) (arg5 : Memref sig .scVector .vmem S2x4x4x512 .f32) (harg5 : arg5.IsWhole)
    (arg6 : Memref sig .scVector .vmem S2x4x4x512 .f32) (harg6 : arg6.IsWhole) (arg7 : Memref sig .scVector .vmem S2x4x8x512 .f32) (harg7 : arg7.IsWhole)
    (arg8 arg9 arg10 arg11 arg12 arg13 : DmaSems sig S_)

set_option maxRecDepth 65536 in
/-- The trip of slot 0's edge loop is the row's 32 blocks in slot 0. -/
theorem edge0_eq (v1 c0 c1 : BitVec 32) (t : Fin k0_t1_loop.trips) (k : Fin k0_t2_loop.trips) (hk : k.val < 4) :
    k0_t2_body (F := F) i arg2 harg2 arg3 harg3 arg4 harg4 arg5 harg5 arg6 harg6 arg7 harg7 arg8 arg9 arg10 arg11 arg12 arg13 v1 c0 c1 t k ⟨⟩
      = blocks i arg5 arg6 arg7 0 k.val (by decide) hk 32 le_rfl := by
  sl_kernel_rfl

set_option maxRecDepth 65536 in
/-- The trip of slot 1's edge loop is the row's 32 blocks in slot 1. -/
theorem edge1_eq (v1 : BitVec 32) (k : Fin k0_t3_loop.trips) (hk : k.val < 4) :
    k0_t3_body (F := F) i arg2 harg2 arg3 harg3 arg4 harg4 arg5 harg5 arg6 harg6 arg7 harg7 arg8 arg9 arg10 arg11 arg12 arg13 v1 k ⟨⟩
      = blocks i arg5 arg6 arg7 1 k.val (by decide) hk 32 le_rfl := by
  sl_kernel_rfl

end Cert.KernelIdeal.Tile

end
-- ==== Proof.Round.lean ====
/-
  The kernel's program by its steps. A chunk is four rows of the arrays; a round handles two chunks, one in
  each buffer slot, and what it does with a chunk is the same in both slots: wait for the two operands to have
  come in, wait for the slot's output of the round before to have gone out, work through the four edges, send
  the output out, and fetch the operands of the chunk after next. `half` is that, as a function of the slot,
  its semaphores and its offsets; `round_eq` says that the printed round is two of them, and `body_eq` that the
  whole kernel is two fetches, the rounds and two last waits.
-/
module

public import proofs.«01_k».proof.Proof.Edge
public import Idealize.ShloMosaic.Lib.Tactic

@[expose] public section

noncomputable section

namespace Cert.KernelIdeal.Tile

open Idealize.ShloMosaic Idealize.SL.Sem
open Cert.KernelIdeal Cert.KernelIdeal.Gen

variable {F : FTy → Type} [FloatOps F]

theorem slot4_inb {b : ℕ} (hb : b < 2) : ∀ a, (![b, 0, 0, 0] : Fin 4 → ℕ) a + S1x4x4x512.size a ≤ S2x4x4x512.size a := by
  intro a; fin_cases a <;> simp [S1x4x4x512, S2x4x4x512]; omega

theorem slot8_inb {b : ℕ} (hb : b < 2) : ∀ a, (![b, 0, 0, 0] : Fin 4 → ℕ) a + S1x4x8x512.size a ≤ S2x4x8x512.size a := by
  intro a; fin_cases a <;> simp [S1x4x8x512, S2x4x8x512]; omega

/-- Slot `b` of an input scratch buffer. -/
abbrev inSlot (m : Memref sig .scVector .vmem S2x4x4x512 .f32) (b : ℕ) (hb : b < 2) : Memref sig .scVector .vmem S4x4x512 .f32 :=
  (m.slice (Rect.unit (s := S2x4x4x512) ![b, 0, 0, 0] S1x4x4x512.size (slot4_inb hb)) (fun _ => rfl)).squeeze S4x4x512 squeezes_S1x4x4x512_S4x4x512

/-- Slot `b` of the output scratch buffer. -/
abbrev outSlot (m : Memref sig .scVector .vmem S2x4x8x512 .f32) (b : ℕ) (hb : b < 2) : Memref sig .scVector .vmem S4x8x512 .f32 :=
  (m.slice (Rect.unit (s := S2x4x8x512) ![b, 0, 0, 0] S1x4x8x512.size (slot8_inb hb)) (fun _ => rfl)).squeeze S4x8x512 squeezes_S1x4x8x512_S4x8x512

/-- The four rows at offset `o` of an operand. -/
abbrev inRows (m : Memref sig .scVector .hbm S8192x4x512 .f32) (o : Fin 3 → ℕ) (h : ∀ a, o a + S4x4x512.size a ≤ S8192x4x512.size a) :
    Memref sig .scVector .hbm S4x4x512 .f32 :=
  m.slice (Rect.unit (s := S8192x4x512) o S4x4x512.size h) (fun _ => rfl)

/-- The four rows at offset `o` of the result. -/
abbrev outRows (m : Memref sig .scVector .hbm S8192x8x512 .f32) (o : Fin 3 → ℕ) (h : ∀ a, o a + S4x8x512.size a ≤ S8192x8x512.size a) :
    Memref sig .scVector .hbm S4x8x512 .f32 :=
  m.slice (Rect.unit (s := S8192x8x512) o S4x8x512.size h) (fun _ => rfl)

section Steps

variable (i : grid0.Coords) (arg2 arg3 : Memref sig .scVector .hbm S8192x4x512 .f32) (arg4 : Memref sig .scVector .hbm S8192x8x512 .f32)
  (arg5 arg6 : Memref sig .scVector .vmem S2x4x4x512 .f32) (arg7 : Memref sig .scVector .vmem S2x4x8x512 .f32)

/-- Start fetching the rows at `o` into slot `b`. -/
def fetch (b : ℕ) (hb : b < 2) (sx sy : DmaSems sig S_) (o : Fin 3 → ℕ) (h : ∀ a, o a + S4x4x512.size a ≤ S8192x4x512.size a) :
    Prog (TpuEff nD τ sig (Elt F) Λ₀ (proc i)) PUnit := do
  Prog.lift (.enqueueDma (inRows arg2 o h) (.here (inSlot arg5 b hb)) (.dma sx.sem) (View.wordExact_bits rfl) ((View.wordExact_bits rfl).reshape _ _) ⟨Or.inl rfl, trivial⟩)
  Prog.lift (.enqueueDma (inRows arg3 o h) (.here (inSlot arg6 b hb)) (.dma sy.sem) (View.wordExact_bits rfl) ((View.wordExact_bits rfl).reshape _ _) ⟨Or.inl rfl, trivial⟩)

/-- Wait for the operands in slot `b`. -/
def arrive (b : ℕ) (hb : b < 2) (sx sy : DmaSems sig S_) (o : Fin 3 → ℕ) (h : ∀ a, o a + S4x4x512.size a ≤ S8192x4x512.size a) :
    Prog (TpuEff nD τ sig (Elt F) Λ₀ (proc i)) PUnit := do
  Prog.lift (.waitDma2 sx.sem (inRows arg2 o h) (inSlot arg5 b hb) (View.wordExact_bits rfl) ((View.wordExact_bits rfl).reshape _ _))
  Prog.lift (.waitDma2 sy.sem (inRows arg3 o h) (inSlot arg6 b hb) (View.wordExact_bits rfl) ((View.wordExact_bits rfl).reshape _ _))

/-- Wait for slot `b`'s output to have gone out. The kernel names the result's first rows there, whichever
    rows the output went to: a wait reads off the rows only how much came. -/
def drain (b : ℕ) (hb : b < 2) (so : DmaSems sig S_) : Prog (TpuEff nD τ sig (Elt F) Λ₀ (proc i)) PUnit :=
  Prog.lift (.waitDma2 so.sem (outSlot arg7 b hb) (outRows arg4 ![0, 0, 0] inb_S8192x8x512_S4x8x512_0_0_0) ((View.wordExact_bits rfl).reshape _ _) (View.wordExact_bits rfl))

/-- Send slot `b`'s output to the rows at `o`. -/
def send (b : ℕ) (hb : b < 2) (so : DmaSems sig S_) (o : Fin 3 → ℕ) (h : ∀ a, o a + S4x8x512.size a ≤ S8192x8x512.size a) :
    Prog (TpuEff nD τ sig (Elt F) Λ₀ (proc i)) PUnit :=
  Prog.lift (.enqueueDma (outSlot arg7 b hb) (.here (outRows arg4 o h)) (.dma so.sem) ((View.wordExact_bits rfl).reshape _ _) (View.wordExact_bits rfl) ⟨Or.inl rfl, trivial⟩)

/-- Wait for slot `b`'s output if `p` says that there is one, -/
def drainIf (b : ℕ) (hb : b < 2) (so : DmaSems sig S_) (p : BitVec 1) : Prog (TpuEff nD τ sig (Elt F) Λ₀ (proc i)) PUnit :=
  if _h : p = 1#1 then drain i arg4 arg7 b hb so else pure ⟨⟩

/-- and fetch the rows at `o` if `q` says that there are such rows. -/
def fetchIf (b : ℕ) (hb : b < 2) (sx sy : DmaSems sig S_) (q : BitVec 1) (o : Fin 3 → ℕ) (hn : q = 1#1 → ∀ a, o a + S4x4x512.size a ≤ S8192x4x512.size a) :
    Prog (TpuEff nD τ sig (Elt F) Λ₀ (proc i)) PUnit :=
  if h : q = 1#1 then fetch i arg2 arg3 arg5 arg6 b hb sx sy o (hn h) else pure ⟨⟩

/-- One chunk of a round, in slot `b`: `p` says whether there is an output to wait for, `q` whether there is a
    chunk to fetch next; `edges` is the loop over the chunk's edges. -/
def half (b : ℕ) (hb : b < 2) (sx sy so : DmaSems sig S_) (o : Fin 3 → ℕ) (h : ∀ a, o a + S4x4x512.size a ≤ S8192x4x512.size a)
    (o' : Fin 3 → ℕ) (h' : ∀ a, o' a + S4x8x512.size a ≤ S8192x8x512.size a)
    (p q : BitVec 1) (on : Fin 3 → ℕ) (hn : q = 1#1 → ∀ a, on a + S4x4x512.size a ≤ S8192x4x512.size a)
    (edges : Prog (TpuEff nD τ sig (Elt F) Λ₀ (proc i)) PUnit) : Prog (TpuEff nD τ sig (Elt F) Λ₀ (proc i)) PUnit := do
  arrive i arg2 arg3 arg5 arg6 b hb sx sy o h
  drainIf i arg4 arg7 b hb so p
  edges
  send i arg4 arg7 b hb so o' h'
  fetchIf i arg2 arg3 arg5 arg6 b hb sx sy q on hn

/-- The edge loop of slot 0, -/
def edges0 : Prog (TpuEff nD τ sig (Elt F) Λ₀ (proc i)) PUnit :=
  Scf.Loop.for k0_t2_loop k0_t2_ok ⟨⟩ (fun k _ => blocks i arg5 arg6 arg7 0 k.val (by decide) (trips2 k) 32 le_rfl)

/-- and of slot 1. -/
def edges1 : Prog (TpuEff nD τ sig (Elt F) Λ₀ (proc i)) PUnit :=
  Scf.Loop.for k0_t3_loop k0_t3_ok ⟨⟩ (fun k _ => blocks i arg5 arg6 arg7 1 k.val (by decide) (trips3 k) 32 le_rfl)

end Steps

/-- Whether round `t` has an output of the round before to wait for, as the kernel computes it. -/
def later (t : Fin k0_t1_loop.trips) : BitVec 1 := Scalar.cmpi .ne (Scalar.extui (Scalar.cmpi .sgt (Scf.iv 0#32 1#32 t) 0#32) : BitVec 32) 0#32

section Whole

variable (i : grid0.Coords) (arg2 : Memref sig .scVector .hbm S8192x4x512 .f32) (harg2 : arg2.IsWhole) (arg3 : Memref sig .scVector .hbm S8192x4x512 .f32) (harg3 : arg3.IsWhole)
    (arg4 : Memref sig .scVector .hbm S8192x8x512 .f32) (harg4 : arg4.IsWhole) (arg5 : Memref sig .scVector .vmem S2x4x4x512 .f32) (harg5 : arg5.IsWhole)
    (arg6 : Memref sig .scVector .vmem S2x4x4x512 .f32) (harg6 : arg6.IsWhole) (arg7 : Memref sig .scVector .vmem S2x4x8x512 .f32) (harg7 : arg7.IsWhole)
    (arg8 arg9 arg10 arg11 arg12 arg13 : DmaSems sig S_)

/-- One round: a chunk in each slot. -/
def round (t : Fin k0_t1_loop.trips) : Prog (TpuEff nD τ sig (Elt F) Λ₀ (proc i)) PUnit := do
  half i arg2 arg3 arg4 arg5 arg6 arg7 0 (by decide) arg8 arg10 arg12 (k0_off2 i t 0#32) (k0_off2_inb i t 0) (k0_off387 i t 0#32) (k0_off387_inb i t 0)
    (later t) (k0_cond2 t) (k0_off388 i t) (k0_off388_inb i t) (edges0 i arg5 arg6 arg7)
  half i arg2 arg3 arg4 arg5 arg6 arg7 1 (by decide) arg9 arg11 arg13 (k0_off2 i t 1#32) (k0_off2_inb i t 1) (k0_off387 i t 1#32) (k0_off387_inb i t 1)
    (later t) (k0_cond4 t) (k0_off773 i t) (k0_off773_inb i t) (edges1 i arg5 arg6 arg7)

theorem loop0_eq (v1 c0 c1 : BitVec 32) (t : Fin k0_t1_loop.trips) :
    k0_t2_body (F := F) i arg2 harg2 arg3 harg3 arg4 harg4 arg5 harg5 arg6 harg6 arg7 harg7 arg8 arg9 arg10 arg11 arg12 arg13 v1 c0 c1 t
      = fun k _ => blocks i arg5 arg6 arg7 0 k.val (by decide) (trips2 k) 32 le_rfl :=
  funext fun k => funext fun _ => edge0_eq i arg2 harg2 arg3 harg3 arg4 harg4 arg5 harg5 arg6 harg6 arg7 harg7 arg8 arg9 arg10 arg11 arg12 arg13 v1 c0 c1 t k (trips2 k)

theorem loop1_eq (v1 : BitVec 32) :
    k0_t3_body (F := F) i arg2 harg2 arg3 harg3 arg4 harg4 arg5 harg5 arg6 harg6 arg7 harg7 arg8 arg9 arg10 arg11 arg12 arg13 v1
      = fun k _ => blocks i arg5 arg6 arg7 1 k.val (by decide) (trips3 k) 32 le_rfl :=
  funext fun k => funext fun _ => edge1_eq i arg2 harg2 arg3 harg3 arg4 harg4 arg5 harg5 arg6 harg6 arg7 harg7 arg8 arg9 arg10 arg11 arg12 arg13 v1 k (trips3 k)

theorem lift_bind {E : Type → Type} {α β : Type} (e : E α) (k : α → Prog E β) : (Prog.lift e >>= k) = .op e k := rfl

theorem dite_bind {E : Type → Type} {α β : Type} (c : Prop) [Decidable c] (t : c → Prog E α) (e : ¬ c → Prog E α) (k : α → Prog E β) :
    (dite c t e >>= k) = dite c (fun h => t h >>= k) (fun h => e h >>= k) := by split <;> rfl

/-- The printed round is `round`. -/
theorem round_eq (v1 : BitVec 32) (t : Fin k0_t1_loop.trips) :
    k0_t1_body (F := F) i arg2 harg2 arg3 harg3 arg4 harg4 arg5 harg5 arg6 harg6 arg7 harg7 arg8 arg9 arg10 arg11 arg12 arg13 v1 t ⟨⟩
      = round i arg2 arg3 arg4 arg5 arg6 arg7 arg8 arg9 arg10 arg11 arg12 arg13 t := by
  unfold k0_t1_body
  simp only [k0_part173_eq_skeleton, k0_part174_eq_skeleton]
  unfold k0_part173_skel k0_part174_skel round half edges0 edges1 arrive drainIf drain send fetchIf fetch
  simp only [loop0_eq, loop1_eq, dite_bind, bind_assoc, pure_bind, bind_pure, bind_pure_unit]
  rfl

/-- The whole kernel: the first two chunks fetched, the rounds, the last two outputs waited for. -/
def body : Prog (TpuEff nD τ sig (Elt F) Λ₀ (proc i)) PUnit := do
  fetch i arg2 arg3 arg5 arg6 0 (by decide) arg8 arg10 (k0_off1 i 0#32) (k0_off1_inb i 0)
  fetch i arg2 arg3 arg5 arg6 1 (by decide) arg9 arg11 (k0_off1 i 32#32) (k0_off1_inb i 1)
  Scf.Loop.for k0_t1_loop k0_t1_ok ⟨⟩ (fun t _ => round i arg2 arg3 arg4 arg5 arg6 arg7 arg8 arg9 arg10 arg11 arg12 arg13 t)
  drain i arg4 arg7 0 (by decide) arg12
  drain i arg4 arg7 1 (by decide) arg13

theorem rounds_eq (v1 : BitVec 32) :
    k0_t1_body (F := F) i arg2 harg2 arg3 harg3 arg4 harg4 arg5 harg5 arg6 harg6 arg7 harg7 arg8 arg9 arg10 arg11 arg12 arg13 v1
      = fun t _ => round i arg2 arg3 arg4 arg5 arg6 arg7 arg8 arg9 arg10 arg11 arg12 arg13 t :=
  funext fun t => funext fun _ => round_eq i arg2 harg2 arg3 harg3 arg4 harg4 arg5 harg5 arg6 harg6 arg7 harg7 arg8 arg9 arg10 arg11 arg12 arg13 v1 t

/-- The printed kernel is `body`. -/
theorem body_eq :
    cc0__body (F := F) i arg2 harg2 arg3 harg3 arg4 harg4 arg5 harg5 arg6 harg6 arg7 harg7 arg8 arg9 arg10 arg11 arg12 arg13
      = body i arg2 arg3 arg4 arg5 arg6 arg7 arg8 arg9 arg10 arg11 arg12 arg13 := by
  simp only [cc0__body_eq_skeleton]
  unfold cc0__body_skel
  simp only [k0_part175_eq_skeleton, k0_part176_eq_skeleton]
  unfold k0_part175_skel k0_part176_skel body drain fetch
  simp only [rounds_eq, bind_assoc, pure_bind, bind_pure, bind_pure_unit]

end Whole

end Cert.KernelIdeal.Tile

end
-- ==== Proof.Setup.lean ====
/-
  What the proof of the run speaks about: the launch's configuration, the arrays and the scratch buffers of a
  tile as locations, and the sets of their elements that the run moves between the tiles and the transfers.
-/
module

public import proofs.«01_k».proof.Proof.Round
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's rounds beside the counters of the transfers in flight. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- Where the transfers' counters live. -/
abbrev EC : UEmb Counters (MT nD τ sig (HIx 1) (Elt F) ℕ UU ℕ) := countersEmb

/-! ## Arrays and buffers -/

abbrev xLoc (d : Dev nD) : Loc nD τ sig := (SparseCore.T d).loc main_arg0
abbrev yLoc (d : Dev nD) : Loc nD τ sig := (SparseCore.T d).loc main_arg1
abbrev oLoc (d : Dev nD) : Loc nD τ sig := (SparseCore.T d).loc main_v0

abbrev xA : Memref sig .scVector .hbm S8192x4x512 .f32 := Memref.whole main_arg0_scv
abbrev yA : Memref sig .scVector .hbm S8192x4x512 .f32 := Memref.whole main_arg1_scv
abbrev oA : Memref sig .scVector .hbm S8192x8x512 .f32 := Memref.whole main_v0_scv
abbrev xv : Memref sig .scVector .vmem S2x4x4x512 .f32 := Memref.whole cc0_scratch0
abbrev yv : Memref sig .scVector .vmem S2x4x4x512 .f32 := Memref.whole cc0_scratch1
abbrev ov : Memref sig .scVector .vmem S2x4x8x512 .f32 := Memref.whole cc0_scratch2

/-- The tile that runs at coordinates `i`. -/
abbrev thr (d : Dev nD) (i : grid0.Coords) : Thread nD τ := V d ((i 0).castLE hcore0) ((i 1).castLE hsub0)

abbrev xvLoc (d : Dev nD) (i : grid0.Coords) : Loc nD τ sig := (thr d i).loc cc0_scratch0
abbrev yvLoc (d : Dev nD) (i : grid0.Coords) : Loc nD τ sig := (thr d i).loc cc0_scratch1
abbrev ovLoc (d : Dev nD) (i : grid0.Coords) : Loc nD τ sig := (thr d i).loc cc0_scratch2

/-- Contents of the operands, of the result and of the scratch buffers. -/
abbrev Arr4 (F : FTy → Type) : Type := S8192x4x512.Idx → Elt F .f32
abbrev Arr8 (F : FTy → Type) : Type := S8192x8x512.Idx → Elt F .f32
abbrev Buf4 (F : FTy → Type) : Type := S2x4x4x512.Idx → Elt F .f32
abbrev Buf8 (F : FTy → Type) : Type := S2x4x8x512.Idx → Elt F .f32

/-- Slot `b` of an input scratch buffer, and of the output one. -/
def slot4 (b : ℕ) : Finset S2x4x4x512.Idx := Finset.univ.filter fun p => (p 0).val = b
def slot8 (b : ℕ) : Finset S2x4x8x512.Idx := Finset.univ.filter fun p => (p 0).val = b

theorem mem_slot4 {b : ℕ} {p : S2x4x4x512.Idx} : p ∈ slot4 b ↔ (p 0).val = b := by simp [slot4]
theorem mem_slot8 {b : ℕ} {p : S2x4x8x512.Idx} : p ∈ slot8 b ↔ (p 0).val = b := by simp [slot8]

/-- The element of an input scratch buffer at the given coordinates, -/
def at4 (b k ch l : ℕ) : S2x4x4x512.Idx
  | 0 => ⟨b % 2, Nat.mod_lt _ (by decide)⟩
  | 1 => ⟨k % 4, Nat.mod_lt _ (by decide)⟩
  | 2 => ⟨ch % 4, Nat.mod_lt _ (by decide)⟩
  | 3 => ⟨l % 512, Nat.mod_lt _ (by decide)⟩

/-- and of an operand. -/
def at3 (r ch l : ℕ) : S8192x4x512.Idx
  | 0 => ⟨r % 8192, Nat.mod_lt _ (by decide)⟩
  | 1 => ⟨ch % 4, Nat.mod_lt _ (by decide)⟩
  | 2 => ⟨l % 512, Nat.mod_lt _ (by decide)⟩

/-- The element of the output scratch buffer at the given coordinates, -/
def at8 (b k ch l : ℕ) : S2x4x8x512.Idx
  | 0 => ⟨b % 2, Nat.mod_lt _ (by decide)⟩
  | 1 => ⟨k % 4, Nat.mod_lt _ (by decide)⟩
  | 2 => ⟨ch % 8, Nat.mod_lt _ (by decide)⟩
  | 3 => ⟨l % 512, Nat.mod_lt _ (by decide)⟩

/-- of the result, -/
def atO (r ch l : ℕ) : S8192x8x512.Idx
  | 0 => ⟨r % 8192, Nat.mod_lt _ (by decide)⟩
  | 1 => ⟨ch % 8, Nat.mod_lt _ (by decide)⟩
  | 2 => ⟨l % 512, Nat.mod_lt _ (by decide)⟩

/-- and of a chunk of an operand and of the result. -/
def ch4 (k ch l : ℕ) : S4x4x512.Idx
  | 0 => ⟨k % 4, Nat.mod_lt _ (by decide)⟩
  | 1 => ⟨ch % 4, Nat.mod_lt _ (by decide)⟩
  | 2 => ⟨l % 512, Nat.mod_lt _ (by decide)⟩

def ch8 (k ch l : ℕ) : S4x8x512.Idx
  | 0 => ⟨k % 4, Nat.mod_lt _ (by decide)⟩
  | 1 => ⟨ch % 8, Nat.mod_lt _ (by decide)⟩
  | 2 => ⟨l % 512, Nat.mod_lt _ (by decide)⟩

/-- The four rows from row `r` on, of an operand and of the result. -/
def chunk4 (r : ℕ) : Finset S8192x4x512.Idx := Finset.univ.filter fun p => r ≤ (p 0).val ∧ (p 0).val < r + 4
def chunk8 (r : ℕ) : Finset S8192x8x512.Idx := Finset.univ.filter fun p => r ≤ (p 0).val ∧ (p 0).val < r + 4

theorem mem_chunk4 {r : ℕ} {p : S8192x4x512.Idx} : p ∈ chunk4 r ↔ r ≤ (p 0).val ∧ (p 0).val < r + 4 := by simp [chunk4]
theorem mem_chunk8 {r : ℕ} {p : S8192x8x512.Idx} : p ∈ chunk8 r ↔ r ≤ (p 0).val ∧ (p 0).val < r + 4 := by simp [chunk8]

/-! ## The value -/

variable [FloatOps F]

/-- Component `ch` of the product of two edges' features, from the components of the two. -/
def pr (a b : ℕ → F .f32) (ch : ℕ) : F .f32 :=
  if ch < 4 then FloatOps.mulf (a 0) (b ch)
  else if ch < 7 then FloatOps.mulf (a (ch - 3)) (b 0)
  else FloatOps.mulf (FloatOps.addf (FloatOps.addf (FloatOps.mulf (a 1) (b 1)) (FloatOps.mulf (a 2) (b 2))) (FloatOps.mulf (a 3) (b 3)))
    (Scalar.ofBits .f32 0x3F13CD3A#32 : F .f32)

/-- The output scratch buffer that the input ones call for. -/
def prod (fx fy : Buf4 F) : Buf8 F := fun p =>
  pr (fun c => fx (at4 (p 0) (p 1) c (p 3))) (fun c => fy (at4 (p 0) (p 1) c (p 3))) (p 2)

/-- The result that the operands call for. -/
def spec (x y : Arr4 F) : Arr8 F := fun p =>
  pr (fun c => x (at3 (p 0) c (p 2))) (fun c => y (at3 (p 0) c (p 2))) (p 1)

end Cert.KernelIdeal.Tile

end
-- ==== Proof.Compute.lean ====
/-
  What the edge loop computes. A block's eight stores write, at its 16 lanes of the row, the components of the
  product of the two inputs there; the 32 blocks fill the row and the loop's four trips the slot.
-/
module

public import proofs.«01_k».proof.Proof.Setup

@[expose] public section

noncomputable section

namespace Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

local notation "𝕄" => MT nD τ sig (HIx 1) (Elt F) ℕ UU ℕ

section Geometry

variable {b k ch l : ℕ} (hb : b < 2) (hk : k < 4) (hl : l ≤ 496)

theorem rect4_emb (hc : ch < 4) (j : S1x1x1x16.Idx) : (rect4 b k ch l hb hk hc hl).emb j = at4 b k ch (l + (j 3).val) := by
  have h0 : (j 0).val < 1 := (j 0).isLt
  have h1 : (j 1).val < 1 := (j 1).isLt
  have h2 : (j 2).val < 1 := (j 2).isLt
  have h3 : (j 3).val < 16 := (j 3).isLt
  have hr := rowOf_eq hk
  funext a
  apply Fin.ext
  rw [Rect.emb_apply]
  fin_cases a <;> simp [Rect.unit, cell, at4] <;> omega

theorem rect4_set_subset (hc : ch < 4) : (rect4 b k ch l hb hk hc hl).set ⊆ slot4 b := by
  intro p hp
  have := (Rect.mem_set_unit.mp hp) 0
  simp [cell, S1x1x1x16] at this
  rw [mem_slot4]; omega

theorem rect8_set_subset (hc : ch < 8) : (rect8 b k ch l hb hk hc hl).set ⊆ slot8 b := by
  intro p hp
  have := (Rect.mem_set_unit.mp hp) 0
  simp [cell, S1x1x1x16] at this
  rw [mem_slot8]; omega

theorem mem_rect8 (hc : ch < 8) {p : S2x4x8x512.Idx} :
    p ∈ (rect8 b k ch l hb hk hc hl).set ↔ (p 0).val = b ∧ (p 1).val = k ∧ (p 2).val = ch ∧ l ≤ (p 3).val ∧ (p 3).val < l + 16 := by
  have hr := rowOf_eq hk
  rw [Rect.mem_set_unit]
  constructor
  · intro h
    have h0 := h 0; have h1 := h 1; have h2 := h 2; have h3 := h 3
    simp [cell, S1x1x1x16] at h0 h1 h2 h3
    omega
  · intro h a
    fin_cases a <;> simp [cell, S1x1x1x16] <;> omega

end Geometry

/-- Lane `n` of sixteen. -/
def lane (n : ℕ) : S16.Idx
  | 0 => ⟨n % 16, Nat.mod_lt _ (by decide)⟩

/-- `f` with the lanes `v` written at lanes `l` on of component `ch`, row `k`, slot `b`. -/
def putF (b k ch l : ℕ) (v : FVec F S16 .f32) (f : Buf8 F) : Buf8 F := fun p =>
  if (p 0).val = b ∧ (p 1).val = k ∧ (p 2).val = ch ∧ l ≤ (p 3).val ∧ (p 3).val < l + 16
  then v (lane ((p 3).val - l)) else f p

variable [FloatOps F]

section Steps

variable (d : Dev nD) (i : grid0.Coords) {b k ch l : ℕ} (hb : b < 2) (hk : k < 4) (hl : l ≤ 496)

/-- The weakest precondition of a program of the tile at coordinates `i`. -/
abbrev wpT {α : Type} (p : Prog (TpuEff nD τ sig (Elt F) Λ₀ (proc i)) α) (Q : α → sProp 𝕄) : sProp 𝕄 :=
  wp frame (wpE (defs₀ (F := F)) 𝒱₀ (thr d i) none) Set.univ p Q

theorem wp_getx (hc : ch < 4) (fx : Buf4 F) {β : Type} (C : Vec F S1x1x1x16 .f32 → Prog (TpuEff nD τ sig (Elt F) Λ₀ (proc i)) β) (Q : β → sProp 𝕄) :
    (xvLoc d i ↦[slot4 b]{fullShare} fx)
      ⊢ iprop(((xvLoc d i ↦[slot4 b]{fullShare} fx) -∗ wpT d i (C fun j => fx (at4 b k ch (l + (j 3).val))) Q)
        -∗ wpT d i (get i xv b k ch l hb hk hc hl >>= C) Q) := by
  have h := wp_load_rect (defs := defs₀ (F := F)) (Q := Q) (m := xv) (r := rect4 b k ch l hb hk hc hl) 𝒱₀ (thr d i) none Set.univ
    (Ix := HIx 1) (Name := ℕ) (U := UU) (Lvl := ℕ) (hl := View.loadsAt_vmem h_S1x1x1x16) (S := slot4 b) (q := fullShare) (f := fx) (k := C)
    (Γ := .empty) (by rw [View.set_slice_whole]; exact rect4_set_subset hb hk hl hc)
  have e : (xv.access (rect4 b k ch l hb hk hc hl)).read (Elt F) fx = fun j => fx (at4 b k ch (l + (j 3).val)) := by
    funext j
    rw [View.read_apply]
    exact congrArg fx (rect4_emb hb hk hl hc j)
  rw [e] at h
  exact h

theorem wp_gety (hc : ch < 4) (fy : Buf4 F) {β : Type} (C : Vec F S1x1x1x16 .f32 → Prog (TpuEff nD τ sig (Elt F) Λ₀ (proc i)) β) (Q : β → sProp 𝕄) :
    (yvLoc d i ↦[slot4 b]{fullShare} fy)
      ⊢ iprop(((yvLoc d i ↦[slot4 b]{fullShare} fy) -∗ wpT d i (C fun j => fy (at4 b k ch (l + (j 3).val))) Q)
        -∗ wpT d i (get i yv b k ch l hb hk hc hl >>= C) Q) := by
  have h := wp_load_rect (defs := defs₀ (F := F)) (Q := Q) (m := yv) (r := rect4 b k ch l hb hk hc hl) 𝒱₀ (thr d i) none Set.univ
    (Ix := HIx 1) (Name := ℕ) (U := UU) (Lvl := ℕ) (hl := View.loadsAt_vmem h_S1x1x1x16) (S := slot4 b) (q := fullShare) (f := fy) (k := C)
    (Γ := .empty) (by rw [View.set_slice_whole]; exact rect4_set_subset hb hk hl hc)
  have e : (yv.access (rect4 b k ch l hb hk hc hl)).read (Elt F) fy = fun j => fy (at4 b k ch (l + (j 3).val)) := by
    funext j
    rw [View.read_apply]
    exact congrArg fy (rect4_emb hb hk hl hc j)
  rw [e] at h
  exact h

/-- The effect of a `put` on what the output scratch buffer holds. -/
theorem put_write (hc : ch < 8) (f : Buf8 F) (v : FVec F S16 .f32) :
    (ov.access (rect8 b k ch l hb hk hc hl)).write (Elt F) f (shapeCast S1x1x1x16 v shapeCasts_S16_S1x1x1x16) Finset.univ = putF b k ch l v f := by
  funext p
  unfold putF
  by_cases h : p ∈ (rect8 b k ch l hb hk hc hl).set
  · rw [if_pos ((mem_rect8 hb hk hl hc).mp h)]
    have h' : p ∈ (ov.access (rect8 b k ch l hb hk hc hl)).set := by rw [View.set_slice_whole]; exact h
    obtain ⟨j, -, hj⟩ := Finset.mem_map.mp h'
    replace hj : (rect8 b k ch l hb hk hc hl).emb j = p := hj
    have h3 : (j 3).val < 16 := (j 3).isLt
    have h0 : (j 0).val < 1 := (j 0).isLt
    have h1 : (j 1).val < 1 := (j 1).isLt
    have h2 : (j 2).val < 1 := (j 2).isLt
    have e3 : (p 3).val = l + (j 3).val := by rw [← hj, Rect.emb_apply]; simp [Rect.unit, cell]
    have e := View.write_emb_of_mem (Val := Elt F) (v := ov.access (rect8 b k ch l hb hk hc hl)) f
      (shapeCast S1x1x1x16 v shapeCasts_S16_S1x1x1x16) (M := Finset.univ) (x := j) (Finset.mem_univ _)
    have ej : (ov.access (rect8 b k ch l hb hk hc hl)).emb j = p := hj
    rw [ej] at e
    refine e.trans ?_
    refine (shapeCast_apply v shapeCasts_S16_S1x1x1x16 j (lane ((p 3).val - l)) ?_)
    rw [Shape.rowMajor_val_one, Shape.rowMajor_val_four]
    simp [lane, S1x1x1x16]
    omega
  · rw [if_neg (fun h' => h ((mem_rect8 hb hk hl hc).mpr h'))]
    refine View.write_of_not_mem (v := ov.access (rect8 b k ch l hb hk hc hl)) f _ Finset.univ ?_
    rw [View.setOn_univ, View.set_slice_whole]
    exact h

theorem wp_put (hc : ch < 8) (f : Buf8 F) (v : FVec F S16 .f32) {β : Type} (C : PUnit → Prog (TpuEff nD τ sig (Elt F) Λ₀ (proc i)) β) (Q : β → sProp 𝕄) :
    (ovLoc d i ↦[slot8 b]{fullShare} f)
      ⊢ iprop(((ovLoc d i ↦[slot8 b]{fullShare} putF b k ch l v f) -∗ wpT d i (C ⟨⟩) Q)
        -∗ wpT d i (put i ov b k ch l hb hk hc hl v >>= C) Q) := by
  have hS : (ov.access (rect8 b k ch l hb hk hc hl)).set ⊆ slot8 b := by
    rw [View.set_slice_whole]; exact rect8_set_subset hb hk hl hc
  have h1 := fun C' => wp_load_rect (defs := defs₀ (F := F)) (Q := Q) (m := ov) (r := rect8 b k ch l hb hk hc hl) 𝒱₀ (thr d i) none Set.univ
    (Ix := HIx 1) (Name := ℕ) (U := UU) (Lvl := ℕ) (hl := View.loadsAt_vmem h_S1x1x1x16) (S := slot8 b) (q := fullShare) (f := f) (k := C')
    (Γ := .empty) hS
  have h2 := wp_store (defs := defs₀ (F := F)) (Q := Q) (m := ov) (r := rect8 b k ch l hb hk hc hl) 𝒱₀ (thr d i) none Set.univ
    (Ix := HIx 1) (Name := ℕ) (U := UU) (Lvl := ℕ) (w := shapeCast S1x1x1x16 v shapeCasts_S16_S1x1x1x16) (Mk := Finset.univ)
    (hx := View.stores_vmem_bits_univ h_S1x1x1x16 rfl) (hm := .inl rfl) (S := slot8 b) (f := f) (k := C)
    (Γ := .empty) (by rw [View.setOn_univ]; exact hS)
  rw [put_write] at h2
  iintro Ho HC
  iapply (h1 _) $$ Ho
  iintro Ho
  iapply h2 $$ Ho
  iexact HC

/-- What a block leaves in the output scratch buffer: the product at its lanes, the rest as before. -/
def blockF (b k l : ℕ) (fx fy : Buf4 F) (f : Buf8 F) : Buf8 F := fun p =>
  if (p 0).val = b ∧ (p 1).val = k ∧ l ≤ (p 3).val ∧ (p 3).val < l + 16 then prod fx fy p else f p

theorem flat_lane {g : Buf4 F} {c : ℕ} {n : ℕ} (hn : n < 16) :
    flat (F := F) (fun j : S1x1x1x16.Idx => g (at4 b k c (l + (j 3).val))) (lane n) = g (at4 b k c (l + n)) := by
  refine (shapeCast_apply _ shapeCasts_S1x1x1x16_S16 (lane n) (fun | 0 => ⟨0, by decide⟩ | 1 => ⟨0, by decide⟩ | 2 => ⟨0, by decide⟩ | 3 => ⟨n, hn⟩) ?_).trans rfl
  rw [Shape.rowMajor_val_one, Shape.rowMajor_val_four]
  simp [lane, S1x1x1x16]
  omega

theorem wp_block (fx fy : Buf4 F) (f : Buf8 F) (rest : Prog (TpuEff nD τ sig (Elt F) Λ₀ (proc i)) PUnit) (Q : PUnit → sProp 𝕄) :
    iprop((xvLoc d i ↦[slot4 b]{fullShare} fx) ∗ (yvLoc d i ↦[slot4 b]{fullShare} fy) ∗ (ovLoc d i ↦[slot8 b]{fullShare} f))
      ⊢ iprop(((xvLoc d i ↦[slot4 b]{fullShare} fx) ∗ (yvLoc d i ↦[slot4 b]{fullShare} fy) ∗ (ovLoc d i ↦[slot8 b]{fullShare} blockF b k l fx fy f)
          -∗ wpT d i rest Q)
        -∗ wpT d i (block i xv yv ov b k l hb hk hl rest) Q) := by
  unfold block
  iintro ⟨Hx, Hy, Ho⟩ HC
  iapply (wp_getx d i hb hk hl _ fx _ _) $$ Hx; iintro Hx
  iapply (wp_getx d i hb hk hl _ fx _ _) $$ Hx; iintro Hx
  iapply (wp_getx d i hb hk hl _ fx _ _) $$ Hx; iintro Hx
  iapply (wp_getx d i hb hk hl _ fx _ _) $$ Hx; iintro Hx
  iapply (wp_gety d i hb hk hl _ fy _ _) $$ Hy; iintro Hy
  iapply (wp_gety d i hb hk hl _ fy _ _) $$ Hy; iintro Hy
  iapply (wp_gety d i hb hk hl _ fy _ _) $$ Hy; iintro Hy
  iapply (wp_gety d i hb hk hl _ fy _ _) $$ Hy; iintro Hy
  iapply (wp_put d i hb hk hl _ _ _ _ _) $$ Ho; iintro Ho
  iapply (wp_put d i hb hk hl _ _ _ _ _) $$ Ho; iintro Ho
  iapply (wp_put d i hb hk hl _ _ _ _ _) $$ Ho; iintro Ho
  iapply (wp_put d i hb hk hl _ _ _ _ _) $$ Ho; iintro Ho
  iapply (wp_put d i hb hk hl _ _ _ _ _) $$ Ho; iintro Ho
  iapply (wp_put d i hb hk hl _ _ _ _ _) $$ Ho; iintro Ho
  iapply (wp_put d i hb hk hl _ _ _ _ _) $$ Ho; iintro Ho
  iapply (wp_put d i hb hk hl _ _ _ _ _) $$ Ho; iintro Ho
  iapply HC
  isplitl [Hx]; · iexact Hx
  isplitl [Hy]; · iexact Hy
  iapply (Entails.of_eq (pointsTo_congr (g := blockF b k l fx fy f) ?_))
  rotate_left
  · iexact Ho
  intro p hp
  have h0 : (p 0).val = b := mem_slot8.mp hp
  have h2 : (p 2).val < 8 := (p 2).isLt
  by_cases h : (p 1).val = k ∧ l ≤ (p 3).val ∧ (p 3).val < l + 16
  · obtain ⟨h1, hl1, hl2⟩ := h
    obtain ⟨n, hn⟩ : ∃ n, (p 3).val = l + n := ⟨(p 3).val - l, by omega⟩
    have hn' : n < 16 := by omega
    have e : (p 3).val - l = n := by omega
    rcases (by omega : (p 2).val = 0 ∨ (p 2).val = 1 ∨ (p 2).val = 2 ∨ (p 2).val = 3 ∨ (p 2).val = 4 ∨ (p 2).val = 5 ∨ (p 2).val = 6 ∨ (p 2).val = 7)
      with h | h | h | h | h | h | h | h <;>
    · simp only [putF, blockF, prod, pr, h0, h1, h, hn, e, true_and, and_true, Nat.reduceEqDiff, Nat.reduceLT, Nat.reduceSub, if_true, if_false, false_and, and_false, OfNat.ofNat_ne_zero, Nat.le_add_right, Nat.add_lt_add_iff_left, hn',
        mulf, addf, broadcast, flat_lane hn', Nat.add_sub_cancel_left]
      try rfl
  · have hne : ∀ (c : ℕ) (v : FVec F S16 .f32) (g : Buf8 F), putF b k c l v g p = g p := fun c v g =>
      if_neg fun hh => h ⟨hh.2.1, hh.2.2.2.1, hh.2.2.2.2⟩
    rw [hne, hne, hne, hne, hne, hne, hne, hne]
    exact (if_neg fun hh => h ⟨hh.2.1, hh.2.2.1, hh.2.2.2⟩).symm

/-- The output scratch buffer with row `k` of slot `b` done from lane `l` on. -/
def tailF (b k l : ℕ) (fx fy : Buf4 F) (f : Buf8 F) : Buf8 F := fun p =>
  if (p 0).val = b ∧ (p 1).val = k ∧ l ≤ (p 3).val then prod fx fy p else f p

theorem tail_block (n : ℕ) (h : n + 1 ≤ 32) (fx fy : Buf4 F) (f : Buf8 F) :
    tailF b k (16 * (32 - n)) fx fy (blockF b k (16 * (32 - (n + 1))) fx fy f) = tailF b k (16 * (32 - (n + 1))) fx fy f := by
  funext p
  unfold tailF blockF
  by_cases h0 : (p 0).val = b ∧ (p 1).val = k
  · by_cases hl : 16 * (32 - n) ≤ (p 3).val
    · rw [if_pos ⟨h0.1, h0.2, hl⟩, if_pos ⟨h0.1, h0.2, by omega⟩]
    · rw [if_neg fun hh => hl hh.2.2]
      by_cases hl' : 16 * (32 - (n + 1)) ≤ (p 3).val
      · rw [if_pos ⟨h0.1, h0.2, hl', by omega⟩, if_pos ⟨h0.1, h0.2, hl'⟩]
      · rw [if_neg fun hh => hl' hh.2.2.1, if_neg fun hh => hl' hh.2.2]
  · rw [if_neg fun hh => h0 ⟨hh.1, hh.2.1⟩, if_neg fun hh => h0 ⟨hh.1, hh.2.1⟩, if_neg fun hh => h0 ⟨hh.1, hh.2.1⟩]

theorem tail_none (fx fy : Buf4 F) (f : Buf8 F) : tailF b k 512 fx fy f = f := by
  funext p
  have h3 : (p 3).val < 512 := (p 3).isLt
  exact if_neg fun hh => by omega

/-- The slot's input buffers and its part of the output buffer. -/
def slotR (b : ℕ) (fx fy : Buf4 F) (f : Buf8 F) : sProp 𝕄 :=
  iprop((xvLoc d i ↦[slot4 b]{fullShare} fx) ∗ (yvLoc d i ↦[slot4 b]{fullShare} fy) ∗ (ovLoc d i ↦[slot8 b]{fullShare} f))

theorem slotR_congr {fx fy : Buf4 F} {f g : Buf8 F} (h : ∀ p ∈ slot8 b, f p = g p) :
    slotR d i b fx fy f = slotR d i b fx fy g := by
  unfold slotR
  rw [pointsTo_congr (ℓ := ovLoc d i) (I := slot8 b) (q := fullShare) h]

theorem wp_blocks (fx fy : Buf4 F) (n : ℕ) (h : n ≤ 32) (f : Buf8 F) :
    slotR d i b fx fy f
      ⊢ wpT d i (blocks i xv yv ov b k hb hk n h) fun _ => slotR d i b fx fy (tailF b k (16 * (32 - n)) fx fy f) := by
  induction n generalizing f with
  | zero =>
    rw [show 16 * (32 - 0) = 512 from rfl, tail_none]
    show _ ⊢ wpT d i (pure PUnit.unit) _
    unfold wpT
    rw [wp_pure]
    iintro H
    imodintro
    iexact H
  | succ n ih =>
    show _ ⊢ wpT d i (block i xv yv ov b k (16 * (32 - (n + 1))) hb hk (lane_le h) (blocks i xv yv ov b k hb hk n (Nat.le_of_succ_le h))) _
    iintro H
    iapply (wp_block d i hb hk (lane_le h) fx fy f _ _) $$ [H]
    · unfold slotR; iexact H
    iintro H
    rw [← tail_block n h]
    iapply (ih (Nat.le_of_succ_le h) _)
    unfold slotR; iexact H

/-- The output scratch buffer with the first `k` rows of slot `b` done. -/
def rowsF (k : ℕ) (fx fy : Buf4 F) (f : Buf8 F) : Buf8 F := fun p => if (p 1).val < k then prod fx fy p else f p

theorem rows_step (b k : ℕ) (fx fy : Buf4 F) (f : Buf8 F) (p : S2x4x8x512.Idx) (hp : p ∈ slot8 b) :
    tailF b k (16 * (32 - 32)) fx fy (rowsF k fx fy f) p = rowsF (k + 1) fx fy f p := by
  have h0 := mem_slot8.mp hp
  unfold tailF rowsF
  by_cases h : (p 1).val = k
  · rw [if_pos ⟨h0, h, by omega⟩, if_pos (by omega)]
  · rw [if_neg fun hh => h hh.2.1]
    by_cases h' : (p 1).val < k
    · rw [if_pos h', if_pos (by omega)]
    · rw [if_neg h', if_neg (by omega)]

theorem rows_none (fx fy : Buf4 F) (f : Buf8 F) : rowsF 0 fx fy f = f := by
  funext p; exact if_neg (Nat.not_lt_zero _)

theorem rows_all (fx fy : Buf4 F) (f : Buf8 F) : rowsF 4 fx fy f = prod fx fy := by
  funext p; exact if_pos (p 1).isLt

/-- The edge loop of slot 0 turns the slot's output into the product of its inputs, -/
theorem wp_edges0 (fx fy : Buf4 F) (f : Buf8 F) :
    slotR d i 0 fx fy f ⊢ wpT d i (edges0 i xv yv ov) fun _ => slotR d i 0 fx fy (prod fx fy) := by
  have hb : ∀ (t : Fin k0_t2_loop.trips) (acc : PUnit), slotR d i 0 fx fy (rowsF t.val fx fy f)
      ⊢ wpT d i (blocks i xv yv ov 0 t.val (by decide) (trips2 t) 32 le_rfl) fun _ => slotR d i 0 fx fy (rowsF (t.val + 1) fx fy f) := by
    intro t _
    rw [← slotR_congr d i (rows_step 0 t.val fx fy f)]
    exact wp_blocks d i _ _ fx fy 32 le_rfl _
  have h := Scf.wp_for frame (wpE (defs₀ (F := F)) 𝒱₀ (thr d i) none (Ix := HIx 1) (Name := ℕ) (U := UU) (Lvl := ℕ)) Set.univ _ _ _ k0_t2_ok PUnit.unit
    (fun t _ => blocks i xv yv ov 0 t.val (by decide) (trips2 t) 32 le_rfl)
    (fun n _ => slotR d i 0 fx fy (rowsF n fx fy f)) hb (Q := fun _ => slotR d i 0 fx fy (prod fx fy))
  iintro H
  iapply h
  isplitl [H]
  · rw [rows_none]; iexact H
  iintro %_ H
  rw [← rows_all fx fy f]
  iexact H

/-- and so does that of slot 1. -/
theorem wp_edges1 (fx fy : Buf4 F) (f : Buf8 F) :
    slotR d i 1 fx fy f ⊢ wpT d i (edges1 i xv yv ov) fun _ => slotR d i 1 fx fy (prod fx fy) := by
  have hb : ∀ (t : Fin k0_t3_loop.trips) (acc : PUnit), slotR d i 1 fx fy (rowsF t.val fx fy f)
      ⊢ wpT d i (blocks i xv yv ov 1 t.val (by decide) (trips3 t) 32 le_rfl) fun _ => slotR d i 1 fx fy (rowsF (t.val + 1) fx fy f) := by
    intro t _
    rw [← slotR_congr d i (rows_step 1 t.val fx fy f)]
    exact wp_blocks d i _ _ fx fy 32 le_rfl _
  have h := Scf.wp_for frame (wpE (defs₀ (F := F)) 𝒱₀ (thr d i) none (Ix := HIx 1) (Name := ℕ) (U := UU) (Lvl := ℕ)) Set.univ _ _ _ k0_t3_ok PUnit.unit
    (fun t _ => blocks i xv yv ov 1 t.val (by decide) (trips3 t) 32 le_rfl)
    (fun n _ => slotR d i 1 fx fy (rowsF n fx fy f)) hb (Q := fun _ => slotR d i 1 fx fy (prod fx fy))
  iintro H
  iapply h
  isplitl [H]
  · rw [rows_none]; iexact H
  iintro %_ H
  rw [← rows_all fx fy f]
  iexact H

end Steps

end Cert.KernelIdeal.Tile

end
-- ==== Proof.Moves.lean ====
/-
  What the transfers move. A fetch takes four rows of an operand to a slot of an input scratch buffer, a send
  takes a slot of the output scratch buffer to four rows of the result; here are the elements each one reads
  and writes, and what it leaves.
-/
module

public import proofs.«01_k».proof.Proof.Compute

@[expose] public section

noncomputable section

namespace Cert.KernelIdeal.Tile

open Idealize.ShloMosaic
open Idealize.SL Idealize.SL.Sem
open Cert.KernelIdeal Cert.KernelIdeal.Gen

variable {F : FTy → Type}

section Geometry

variable {b : ℕ} (hb : b < 2) {r : ℕ}

theorem xSlot_emb (j : S4x4x512.Idx) : (inSlot xv b hb).view.emb j = at4 b (j 0) (j 1) (j 2) := by
  have h0 : (j 0).val < 4 := (j 0).isLt
  have h1 : (j 1).val < 4 := (j 1).isLt
  have h2 : (j 2).val < 512 := (j 2).isLt
  show (Rect.unit (s := S2x4x4x512) ![b, 0, 0, 0] S1x4x4x512.size (slot4_inb hb)).emb (Shape.reshapeEquiv _ j) = _
  rw [show Shape.reshapeEquiv (squeezes_S1x4x4x512_S4x4x512).numel_eq j = Fin.cons ⟨0, Nat.one_pos⟩ j from Shape.reshapeEquiv_cons_one _ j]
  funext a
  apply Fin.ext
  rw [Rect.emb_apply]
  match a with
  | 0 => show b + 1 * 0 = b % 2; omega
  | 1 => show 0 + 1 * (j 0).val = (j 0).val % 4; omega
  | 2 => show 0 + 1 * (j 1).val = (j 1).val % 4; omega
  | 3 => show 0 + 1 * (j 2).val = (j 2).val % 512; omega

theorem xSlot_emb_at {p : S2x4x4x512.Idx} (h : (p 0).val = b) : (inSlot xv b hb).view.emb (ch4 (p 1) (p 2) (p 3)) = p := by
  have h0 : (p 0).val < 2 := (p 0).isLt
  have h1 : (p 1).val < 4 := (p 1).isLt
  have h2 : (p 2).val < 4 := (p 2).isLt
  have h3 : (p 3).val < 512 := (p 3).isLt
  rw [xSlot_emb hb]
  funext a
  apply Fin.ext
  match a with
  | 0 => show b % 2 = (p 0).val; omega
  | 1 => show (p 1).val % 4 % 4 = (p 1).val; omega
  | 2 => show (p 2).val % 4 % 4 = (p 2).val; omega
  | 3 => show (p 3).val % 512 % 512 = (p 3).val; omega

theorem xSlot_set : (inSlot xv b hb).view.set = slot4 b := by
  ext p
  rw [mem_slot4]
  constructor
  · intro h
    obtain ⟨j, -, rfl⟩ := Finset.mem_map.mp h
    rw [xSlot_emb hb j]
    show b % 2 = b
    omega
  · intro h
    exact Finset.mem_map.mpr ⟨ch4 (p 1) (p 2) (p 3), Finset.mem_univ _, xSlot_emb_at hb h⟩

theorem ySlot_emb (j : S4x4x512.Idx) : (inSlot yv b hb).view.emb j = at4 b (j 0) (j 1) (j 2) := by
  have h0 : (j 0).val < 4 := (j 0).isLt
  have h1 : (j 1).val < 4 := (j 1).isLt
  have h2 : (j 2).val < 512 := (j 2).isLt
  show (Rect.unit (s := S2x4x4x512) ![b, 0, 0, 0] S1x4x4x512.size (slot4_inb hb)).emb (Shape.reshapeEquiv _ j) = _
  rw [show Shape.reshapeEquiv (squeezes_S1x4x4x512_S4x4x512).numel_eq j = Fin.cons ⟨0, Nat.one_pos⟩ j from Shape.reshapeEquiv_cons_one _ j]
  funext a
  apply Fin.ext
  rw [Rect.emb_apply]
  match a with
  | 0 => show b + 1 * 0 = b % 2; omega
  | 1 => show 0 + 1 * (j 0).val = (j 0).val % 4; omega
  | 2 => show 0 + 1 * (j 1).val = (j 1).val % 4; omega
  | 3 => show 0 + 1 * (j 2).val = (j 2).val % 512; omega

theorem ySlot_emb_at {p : S2x4x4x512.Idx} (h : (p 0).val = b) : (inSlot yv b hb).view.emb (ch4 (p 1) (p 2) (p 3)) = p := by
  have h0 : (p 0).val < 2 := (p 0).isLt
  have h1 : (p 1).val < 4 := (p 1).isLt
  have h2 : (p 2).val < 4 := (p 2).isLt
  have h3 : (p 3).val < 512 := (p 3).isLt
  rw [ySlot_emb hb]
  funext a
  apply Fin.ext
  match a with
  | 0 => show b % 2 = (p 0).val; omega
  | 1 => show (p 1).val % 4 % 4 = (p 1).val; omega
  | 2 => show (p 2).val % 4 % 4 = (p 2).val; omega
  | 3 => show (p 3).val % 512 % 512 = (p 3).val; omega

theorem ySlot_set : (inSlot yv b hb).view.set = slot4 b := by
  ext p
  rw [mem_slot4]
  constructor
  · intro h
    obtain ⟨j, -, rfl⟩ := Finset.mem_map.mp h
    rw [ySlot_emb hb j]
    show b % 2 = b
    omega
  · intro h
    exact Finset.mem_map.mpr ⟨ch4 (p 1) (p 2) (p 3), Finset.mem_univ _, ySlot_emb_at hb h⟩

theorem oSlot_emb (j : S4x8x512.Idx) : (outSlot ov b hb).view.emb j = at8 b (j 0) (j 1) (j 2) := by
  have h0 : (j 0).val < 4 := (j 0).isLt
  have h1 : (j 1).val < 8 := (j 1).isLt
  have h2 : (j 2).val < 512 := (j 2).isLt
  show (Rect.unit (s := S2x4x8x512) ![b, 0, 0, 0] S1x4x8x512.size (slot8_inb hb)).emb (Shape.reshapeEquiv _ j) = _
  rw [show Shape.reshapeEquiv (squeezes_S1x4x8x512_S4x8x512).numel_eq j = Fin.cons ⟨0, Nat.one_pos⟩ j from Shape.reshapeEquiv_cons_one _ j]
  funext a
  apply Fin.ext
  rw [Rect.emb_apply]
  match a with
  | 0 => show b + 1 * 0 = b % 2; omega
  | 1 => show 0 + 1 * (j 0).val = (j 0).val % 4; omega
  | 2 => show 0 + 1 * (j 1).val = (j 1).val % 8; omega
  | 3 => show 0 + 1 * (j 2).val = (j 2).val % 512; omega

theorem oSlot_emb_at {p : S2x4x8x512.Idx} (h : (p 0).val = b) : (outSlot ov b hb).view.emb (ch8 (p 1) (p 2) (p 3)) = p := by
  have h0 : (p 0).val < 2 := (p 0).isLt
  have h1 : (p 1).val < 4 := (p 1).isLt
  have h2 : (p 2).val < 8 := (p 2).isLt
  have h3 : (p 3).val < 512 := (p 3).isLt
  rw [oSlot_emb hb]
  funext a
  apply Fin.ext
  match a with
  | 0 => show b % 2 = (p 0).val; omega
  | 1 => show (p 1).val % 4 % 4 = (p 1).val; omega
  | 2 => show (p 2).val % 8 % 8 = (p 2).val; omega
  | 3 => show (p 3).val % 512 % 512 = (p 3).val; omega

theorem oSlot_set : (outSlot ov b hb).view.set = slot8 b := by
  ext p
  rw [mem_slot8]
  constructor
  · intro h
    obtain ⟨j, -, rfl⟩ := Finset.mem_map.mp h
    rw [oSlot_emb hb j]
    show b % 2 = b
    omega
  · intro h
    exact Finset.mem_map.mpr ⟨ch8 (p 1) (p 2) (p 3), Finset.mem_univ _, oSlot_emb_at hb h⟩

theorem xRows_emb (h : ∀ a, (![r, 0, 0] : Fin 3 → ℕ) a + S4x4x512.size a ≤ S8192x4x512.size a) (j : S4x4x512.Idx) :
    (inRows xA ![r, 0, 0] h).view.emb j = at3 (r + (j 0).val) (j 1) (j 2) := by
  have h0 : (j 0).val < 4 := (j 0).isLt
  have h1 : (j 1).val < 4 := (j 1).isLt
  have h2 : (j 2).val < 512 := (j 2).isLt
  have hr : r + 4 ≤ 8192 := h 0
  show (Rect.unit (s := S8192x4x512) ![r, 0, 0] S4x4x512.size h).emb j = _
  funext a
  apply Fin.ext
  rw [Rect.emb_apply]
  match a with
  | 0 => show r + 1 * (j 0).val = (r + (j 0).val) % 8192; omega
  | 1 => show 0 + 1 * (j 1).val = (j 1).val % 4; omega
  | 2 => show 0 + 1 * (j 2).val = (j 2).val % 512; omega

theorem xRows_emb_at (h : ∀ a, (![r, 0, 0] : Fin 3 → ℕ) a + S4x4x512.size a ≤ S8192x4x512.size a) {p : S8192x4x512.Idx}
    (hp : r ≤ (p 0).val ∧ (p 0).val < r + 4) : (inRows xA ![r, 0, 0] h).view.emb (ch4 ((p 0).val - r) (p 1) (p 2)) = p := by
  have h0 : (p 0).val < 8192 := (p 0).isLt
  have h1 : (p 1).val < 4 := (p 1).isLt
  have h2 : (p 2).val < 512 := (p 2).isLt
  rw [xRows_emb h]
  funext a
  apply Fin.ext
  match a with
  | 0 => show (r + ((p 0).val - r) % 4) % 8192 = (p 0).val; omega
  | 1 => show (p 1).val % 4 % 4 = (p 1).val; omega
  | 2 => show (p 2).val % 512 % 512 = (p 2).val; omega

theorem xRows_set (h : ∀ a, (![r, 0, 0] : Fin 3 → ℕ) a + S4x4x512.size a ≤ S8192x4x512.size a) : (inRows xA ![r, 0, 0] h).view.set = chunk4 r := by
  ext p
  rw [mem_chunk4]
  constructor
  · intro hp
    obtain ⟨j, -, rfl⟩ := Finset.mem_map.mp hp
    rw [xRows_emb h j]
    have h0 : (j 0).val < 4 := (j 0).isLt
    have hr : r + 4 ≤ 8192 := h 0
    show r ≤ (r + (j 0).val) % 8192 ∧ (r + (j 0).val) % 8192 < r + 4
    omega
  · intro hp
    exact Finset.mem_map.mpr ⟨ch4 ((p 0).val - r) (p 1) (p 2), Finset.mem_univ _, xRows_emb_at h hp⟩

theorem yRows_emb (h : ∀ a, (![r, 0, 0] : Fin 3 → ℕ) a + S4x4x512.size a ≤ S8192x4x512.size a) (j : S4x4x512.Idx) :
    (inRows yA ![r, 0, 0] h).view.emb j = at3 (r + (j 0).val) (j 1) (j 2) := by
  have h0 : (j 0).val < 4 := (j 0).isLt
  have h1 : (j 1).val < 4 := (j 1).isLt
  have h2 : (j 2).val < 512 := (j 2).isLt
  have hr : r + 4 ≤ 8192 := h 0
  show (Rect.unit (s := S8192x4x512) ![r, 0, 0] S4x4x512.size h).emb j = _
  funext a
  apply Fin.ext
  rw [Rect.emb_apply]
  match a with
  | 0 => show r + 1 * (j 0).val = (r + (j 0).val) % 8192; omega
  | 1 => show 0 + 1 * (j 1).val = (j 1).val % 4; omega
  | 2 => show 0 + 1 * (j 2).val = (j 2).val % 512; omega

theorem yRows_emb_at (h : ∀ a, (![r, 0, 0] : Fin 3 → ℕ) a + S4x4x512.size a ≤ S8192x4x512.size a) {p : S8192x4x512.Idx}
    (hp : r ≤ (p 0).val ∧ (p 0).val < r + 4) : (inRows yA ![r, 0, 0] h).view.emb (ch4 ((p 0).val - r) (p 1) (p 2)) = p := by
  have h0 : (p 0).val < 8192 := (p 0).isLt
  have h1 : (p 1).val < 4 := (p 1).isLt
  have h2 : (p 2).val < 512 := (p 2).isLt
  rw [yRows_emb h]
  funext a
  apply Fin.ext
  match a with
  | 0 => show (r + ((p 0).val - r) % 4) % 8192 = (p 0).val; omega
  | 1 => show (p 1).val % 4 % 4 = (p 1).val; omega
  | 2 => show (p 2).val % 512 % 512 = (p 2).val; omega

theorem yRows_set (h : ∀ a, (![r, 0, 0] : Fin 3 → ℕ) a + S4x4x512.size a ≤ S8192x4x512.size a) : (inRows yA ![r, 0, 0] h).view.set = chunk4 r := by
  ext p
  rw [mem_chunk4]
  constructor
  · intro hp
    obtain ⟨j, -, rfl⟩ := Finset.mem_map.mp hp
    rw [yRows_emb h j]
    have h0 : (j 0).val < 4 := (j 0).isLt
    have hr : r + 4 ≤ 8192 := h 0
    show r ≤ (r + (j 0).val) % 8192 ∧ (r + (j 0).val) % 8192 < r + 4
    omega
  · intro hp
    exact Finset.mem_map.mpr ⟨ch4 ((p 0).val - r) (p 1) (p 2), Finset.mem_univ _, yRows_emb_at h hp⟩

theorem oRows_emb (h : ∀ a, (![r, 0, 0] : Fin 3 → ℕ) a + S4x8x512.size a ≤ S8192x8x512.size a) (j : S4x8x512.Idx) :
    (outRows oA ![r, 0, 0] h).view.emb j = atO (r + (j 0).val) (j 1) (j 2) := by
  have h0 : (j 0).val < 4 := (j 0).isLt
  have h1 : (j 1).val < 8 := (j 1).isLt
  have h2 : (j 2).val < 512 := (j 2).isLt
  have hr : r + 4 ≤ 8192 := h 0
  show (Rect.unit (s := S8192x8x512) ![r, 0, 0] S4x8x512.size h).emb j = _
  funext a
  apply Fin.ext
  rw [Rect.emb_apply]
  match a with
  | 0 => show r + 1 * (j 0).val = (r + (j 0).val) % 8192; omega
  | 1 => show 0 + 1 * (j 1).val = (j 1).val % 8; omega
  | 2 => show 0 + 1 * (j 2).val = (j 2).val % 512; omega

theorem oRows_emb_at (h : ∀ a, (![r, 0, 0] : Fin 3 → ℕ) a + S4x8x512.size a ≤ S8192x8x512.size a) {p : S8192x8x512.Idx}
    (hp : r ≤ (p 0).val ∧ (p 0).val < r + 4) : (outRows oA ![r, 0, 0] h).view.emb (ch8 ((p 0).val - r) (p 1) (p 2)) = p := by
  have h0 : (p 0).val < 8192 := (p 0).isLt
  have h1 : (p 1).val < 8 := (p 1).isLt
  have h2 : (p 2).val < 512 := (p 2).isLt
  rw [oRows_emb h]
  funext a
  apply Fin.ext
  match a with
  | 0 => show (r + ((p 0).val - r) % 4) % 8192 = (p 0).val; omega
  | 1 => show (p 1).val % 8 % 8 = (p 1).val; omega
  | 2 => show (p 2).val % 512 % 512 = (p 2).val; omega

theorem oRows_set (h : ∀ a, (![r, 0, 0] : Fin 3 → ℕ) a + S4x8x512.size a ≤ S8192x8x512.size a) : (outRows oA ![r, 0, 0] h).view.set = chunk8 r := by
  ext p
  rw [mem_chunk8]
  constructor
  · intro hp
    obtain ⟨j, -, rfl⟩ := Finset.mem_map.mp hp
    rw [oRows_emb h j]
    have h0 : (j 0).val < 4 := (j 0).isLt
    have hr : r + 4 ≤ 8192 := h 0
    show r ≤ (r + (j 0).val) % 8192 ∧ (r + (j 0).val) % 8192 < r + 4
    omega
  · intro hp
    exact Finset.mem_map.mpr ⟨ch8 ((p 0).val - r) (p 1) (p 2), Finset.mem_univ _, oRows_emb_at h hp⟩

end Geometry

/-! ## What a transfer leaves -/

/-- An input scratch buffer holding the four rows from row `r` on, in each slot. -/
def fetched (r : ℕ) (x : Arr4 F) : Buf4 F := fun p => x (at3 (r + (p 1).val) (p 2) (p 3))

section Values

variable {b : ℕ} (hb : b < 2) {r : ℕ} (h : ∀ a, (![r, 0, 0] : Fin 3 → ℕ) a + S4x4x512.size a ≤ S8192x4x512.size a)

theorem x_lands (x : Arr4 F) (f : Buf4 F) (p : S2x4x4x512.Idx) (hp : p ∈ slot4 b) :
    (inSlot xv b hb).view.write (Elt F) f ((inRows xA ![r, 0, 0] h).view.read (Elt F) x) Finset.univ p = fetched r x p := by
  have h1 : (p 1).val < 4 := (p 1).isLt
  have h2 : (p 2).val < 4 := (p 2).isLt
  have h3 : (p 3).val < 512 := (p 3).isLt
  have e := View.write_emb_of_mem (Val := Elt F) (v := (inSlot xv b hb).view) f ((inRows xA ![r, 0, 0] h).view.read (Elt F) x)
    (M := Finset.univ) (x := ch4 (p 1) (p 2) (p 3)) (Finset.mem_univ _)
  rw [xSlot_emb_at hb (mem_slot4.mp hp)] at e
  refine e.trans ?_
  show (inRows xA ![r, 0, 0] h).view.read (Elt F) x (ch4 (p 1) (p 2) (p 3)) = _
  rw [View.read_apply, xRows_emb h]
  refine congrArg x ?_
  show at3 (r + (p 1).val % 4) ((p 2).val % 4) ((p 3).val % 512) = at3 (r + (p 1).val) (p 2) (p 3)
  rw [Nat.mod_eq_of_lt h1, Nat.mod_eq_of_lt h2, Nat.mod_eq_of_lt h3]

theorem y_lands (x : Arr4 F) (f : Buf4 F) (p : S2x4x4x512.Idx) (hp : p ∈ slot4 b) :
    (inSlot yv b hb).view.write (Elt F) f ((inRows yA ![r, 0, 0] h).view.read (Elt F) x) Finset.univ p = fetched r x p := by
  have h1 : (p 1).val < 4 := (p 1).isLt
  have h2 : (p 2).val < 4 := (p 2).isLt
  have h3 : (p 3).val < 512 := (p 3).isLt
  have e := View.write_emb_of_mem (Val := Elt F) (v := (inSlot yv b hb).view) f ((inRows yA ![r, 0, 0] h).view.read (Elt F) x)
    (M := Finset.univ) (x := ch4 (p 1) (p 2) (p 3)) (Finset.mem_univ _)
  rw [ySlot_emb_at hb (mem_slot4.mp hp)] at e
  refine e.trans ?_
  show (inRows yA ![r, 0, 0] h).view.read (Elt F) x (ch4 (p 1) (p 2) (p 3)) = _
  rw [View.read_apply, yRows_emb h]
  refine congrArg x ?_
  show at3 (r + (p 1).val % 4) ((p 2).val % 4) ((p 3).val % 512) = at3 (r + (p 1).val) (p 2) (p 3)
  rw [Nat.mod_eq_of_lt h1, Nat.mod_eq_of_lt h2, Nat.mod_eq_of_lt h3]

variable [FloatOps F]

theorem o_lands (h' : ∀ a, (![r, 0, 0] : Fin 3 → ℕ) a + S4x8x512.size a ≤ S8192x8x512.size a) (x y : Arr4 F) (f : Arr8 F)
    (p : S8192x8x512.Idx) (hp : p ∈ chunk8 r) :
    (outRows oA ![r, 0, 0] h').view.write (Elt F) f ((outSlot ov b hb).view.read (Elt F) (prod (fetched r x) (fetched r y))) Finset.univ p
      = spec x y p := by
  have hc := mem_chunk8.mp hp
  have h0 : (p 0).val < 8192 := (p 0).isLt
  have h1 : (p 1).val < 8 := (p 1).isLt
  have h2 : (p 2).val < 512 := (p 2).isLt
  have e := View.write_emb_of_mem (Val := Elt F) (v := (outRows oA ![r, 0, 0] h').view) f
    ((outSlot ov b hb).view.read (Elt F) (prod (fetched r x) (fetched r y)))
    (M := Finset.univ) (x := ch8 ((p 0).val - r) (p 1) (p 2)) (Finset.mem_univ _)
  rw [oRows_emb_at h' hc] at e
  refine e.trans ?_
  show (outSlot ov b hb).view.read (Elt F) (prod (fetched r x) (fetched r y)) (ch8 ((p 0).val - r) (p 1) (p 2)) = _
  rw [View.read_apply, oSlot_emb hb]
  have hs : r + ((p 0).val - r) % 4 % 4 % 4 = (p 0).val := by omega
  have key : ∀ (z : Arr4 F) (c : ℕ), fetched r z (at4 (b % 2) (((p 0).val - r) % 4 % 4) c ((p 2).val % 512 % 512)) = z (at3 (p 0) c (p 2)) := by
    intro z c
    refine congrArg z ?_
    funext a
    apply Fin.ext
    match a with
    | 0 => show (r + ((p 0).val - r) % 4 % 4 % 4) % 8192 = (p 0).val % 8192; omega
    | 1 => show c % 4 % 4 = c % 4; omega
    | 2 => show (p 2).val % 512 % 512 % 512 % 512 = (p 2).val % 512; omega
  show pr (fun c => fetched r x (at4 (b % 2) (((p 0).val - r) % 4 % 4) c ((p 2).val % 512 % 512)))
    (fun c => fetched r y (at4 (b % 2) (((p 0).val - r) % 4 % 4) c ((p 2).val % 512 % 512))) ((p 1).val % 8 % 8) = pr _ _ _
  rw [funext (key x), funext (key y), Nat.mod_mod, Nat.mod_eq_of_lt h1]

end Values

end Cert.KernelIdeal.Tile

end
-- ==== Proof.Slot.lean ====
/-
  A buffer slot's part of the run. Before round `g` the slot's operands are on their way in and, from the second
  round on, the output of the round before is on its way out; a half round waits for both, computes, sends the
  output and fetches the next operands, and so leaves the slot as the next round wants it.
-/
module

public import proofs.«01_k».proof.Proof.Moves

@[expose] public section

noncomputable section

namespace Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

local notation "𝕄" => MT nD τ sig (HIx 1) (Elt F) ℕ UU ℕ

/-- The first row of the chunk that the tile at coordinates `i` handles in slot `b` in round `g`. -/
def base (i : grid0.Coords) (b g : ℕ) : ℕ := 256 * g + 128 * b + 8 * (i 1).val + 4 * (i 0).val

/-- The rows that the tile handles in slot `b`, of an operand and of the result. -/
def mine4 (i : grid0.Coords) (b : ℕ) : Finset S8192x4x512.Idx :=
  Finset.univ.filter fun p => (p 0).val / 4 % 32 = 2 * (i 1).val + (i 0).val ∧ (p 0).val / 128 % 2 = b
def mine8 (i : grid0.Coords) (b : ℕ) : Finset S8192x8x512.Idx :=
  Finset.univ.filter fun p => (p 0).val / 4 % 32 = 2 * (i 1).val + (i 0).val ∧ (p 0).val / 128 % 2 = b

theorem mem_mine4 {i : grid0.Coords} {b : ℕ} {p : S8192x4x512.Idx} :
    p ∈ mine4 i b ↔ (p 0).val / 4 % 32 = 2 * (i 1).val + (i 0).val ∧ (p 0).val / 128 % 2 = b := by simp [mine4]
theorem mem_mine8 {i : grid0.Coords} {b : ℕ} {p : S8192x8x512.Idx} :
    p ∈ mine8 i b ↔ (p 0).val / 4 % 32 = 2 * (i 1).val + (i 0).val ∧ (p 0).val / 128 % 2 = b := by simp [mine8]

theorem chunk4_subset (i : grid0.Coords) {b : ℕ} (hb : b < 2) (g : ℕ) : chunk4 (base i b g) ⊆ mine4 i b := by
  intro p hp
  have h0 : (i 0).val < 2 := (i 0).isLt
  have h1 : (i 1).val < 16 := (i 1).isLt
  have h := mem_chunk4.mp hp
  unfold base at h
  rw [mem_mine4]
  omega

theorem chunk8_subset (i : grid0.Coords) {b : ℕ} (hb : b < 2) (g : ℕ) : chunk8 (base i b g) ⊆ mine8 i b := by
  intro p hp
  have h0 : (i 0).val < 2 := (i 0).isLt
  have h1 : (i 1).val < 16 := (i 1).isLt
  have h := mem_chunk8.mp hp
  unfold base at h
  rw [mem_mine8]
  omega

variable [FloatOps F]

/-- The result with the rounds below `g` done. -/
def doneF (g : ℕ) (x y : Arr4 F) (f : Arr8 F) : Arr8 F := fun p => if (p 0).val < 256 * g then spec x y p else f p

theorem done_in (i : grid0.Coords) {b : ℕ} (hb : b < 2) (g : ℕ) (x y : Arr4 F) (f : Arr8 F) (p : S8192x8x512.Idx) (hp : p ∈ chunk8 (base i b g)) :
    doneF (g + 1) x y f p = spec x y p := by
  have h0 : (i 0).val < 2 := (i 0).isLt
  have h1 : (i 1).val < 16 := (i 1).isLt
  have h := mem_chunk8.mp hp
  unfold base at h
  exact if_pos (by omega)

theorem done_out (i : grid0.Coords) {b : ℕ} (hb : b < 2) (g : ℕ) (x y : Arr4 F) (f : Arr8 F) (p : S8192x8x512.Idx)
    (hp : p ∈ mine8 i b \ chunk8 (base i b g)) : doneF g x y f p = doneF (g + 1) x y f p := by
  have h0 : (i 0).val < 2 := (i 0).isLt
  have h1 : (i 1).val < 16 := (i 1).isLt
  rw [Finset.mem_sdiff, mem_mine8, mem_chunk8] at hp
  unfold base at hp
  unfold doneF
  by_cases h : (p 0).val < 256 * g
  · rw [if_pos h, if_pos (by omega)]
  · rw [if_neg h, if_neg (by omega)]

section Slot

variable (d : Dev nD) (i : grid0.Coords) (x y : Arr4 F) (o₀ : Arr8 F) {b : ℕ} (hb : b < 2) (sx sy so : DmaSems sig S_)

/-- What an operand's chunk credits its semaphore with, and a chunk of the result. -/
abbrev Nx (b : ℕ) (hb : b < 2) : ℕ := (inSlot xv b hb).view.dmaCredit
abbrev Ny (b : ℕ) (hb : b < 2) : ℕ := (inSlot yv b hb).view.dmaCredit
abbrev No : ℕ := (outRows oA ![0, 0, 0] inb_S8192x8x512_S4x8x512_0_0_0).view.dmaCredit

/-- The slot's operands at rest. -/
def inIdle (b : ℕ) (fx fy : Buf4 F) : sProp 𝕄 :=
  iprop(semVal (thr d i, SemLoc.dma sx.sem) 0 ∗ semVal (thr d i, SemLoc.dma sy.sem) 0
    ∗ (xLoc d ↦[mine4 i b]{fullShare} x) ∗ (yLoc d ↦[mine4 i b]{fullShare} y)
    ∗ (xvLoc d i ↦[slot4 b]{fullShare} fx) ∗ (yvLoc d i ↦[slot4 b]{fullShare} fy))

/-- The operands of round `g` on their way in. -/
def inFlight (b : ℕ) (hb : b < 2) (g : ℕ) : sProp 𝕄 :=
  iprop(Transfers.Flight EC (thr d i) (SemLoc.dma sx.sem) (none : HIx 1) (Nx b hb)
      iprop((xvLoc d i ↦[slot4 b]{fullShare} fetched (base i b g) x) ∗ (xLoc d ↦[chunk4 (base i b g)]{fullShare} x))
    ∗ Transfers.Flight EC (thr d i) (SemLoc.dma sy.sem) (none : HIx 1) (Ny b hb)
      iprop((yvLoc d i ↦[slot4 b]{fullShare} fetched (base i b g) y) ∗ (yLoc d ↦[chunk4 (base i b g)]{fullShare} y))
    ∗ (xLoc d ↦[mine4 i b \ chunk4 (base i b g)]{fullShare} x) ∗ (yLoc d ↦[mine4 i b \ chunk4 (base i b g)]{fullShare} y))

/-- The result before round `g`, nothing on its way out. -/
def outIdle (b g : ℕ) (f : Buf8 F) : sProp 𝕄 :=
  iprop(semVal (thr d i, SemLoc.dma so.sem) 0 ∗ (ovLoc d i ↦[slot8 b]{fullShare} f) ∗ (oLoc d ↦[mine8 i b]{fullShare} doneF g x y o₀))

/-- The output of round `g` on its way out. -/
def outFlight (b g : ℕ) : sProp 𝕄 :=
  iprop(Transfers.Flight EC (thr d i) (SemLoc.dma so.sem) (none : HIx 1) No
      iprop((oLoc d ↦[chunk8 (base i b g)]{fullShare} spec x y) ∗ ∃ f : Buf8 F, ovLoc d i ↦[slot8 b]{fullShare} f)
    ∗ (oLoc d ↦[mine8 i b \ chunk8 (base i b g)]{fullShare} doneF (g + 1) x y o₀))

/-- What the tile owes, with waits of its own recorded beyond `W`. -/
def ow (O : CellTallies nD τ sig (HIx 1)) (W : Waits sig (HIx 1)) : sProp 𝕄 :=
  iprop(∃ W', ⌜∀ p ∈ W', p ∈ W ∨ p.2 = none⌝ ∗ owes (thr d i) O W')

theorem wp_fetchx (r : ℕ) (f : Buf4 F) (h : ∀ a, (![r, 0, 0] : Fin 3 → ℕ) a + S4x4x512.size a ≤ S8192x4x512.size a)
    {β : Type} (C : PUnit → Prog (TpuEff nD τ sig (Elt F) Λ₀ (proc i)) β) (Q : β → sProp 𝕄) :
    iprop((xLoc d ↦[chunk4 r]{fullShare} x) ∗ (xvLoc d i ↦[slot4 b]{fullShare} f) ∗ semVal (thr d i, SemLoc.dma sx.sem) 0)
      ⊢ iprop((Transfers.Flight EC (thr d i) (SemLoc.dma sx.sem) (none : HIx 1) (Nx b hb)
            iprop((xvLoc d i ↦[slot4 b]{fullShare} fetched r x) ∗ (xLoc d ↦[chunk4 r]{fullShare} x)) -∗ wpT d i (C ⟨⟩) Q)
        -∗ wpT d i (Prog.lift (.enqueueDma (inRows xA ![r, 0, 0] h) (.here (inSlot xv b hb)) (.dma sx.sem)
            (View.wordExact_bits rfl) ((View.wordExact_bits rfl).reshape _ _) ⟨Or.inl rfl, trivial⟩) >>= C) Q) := by
  have hw := Transfers.wp_dmaLocal EC (defs := defs₀ (F := F)) (Q := Q) 𝒱₀ (thr d i) none (none : HIx 1) (Nx b hb)
    (src := inRows xA ![r, 0, 0] h) (dst := inSlot xv b hb) (sm := SemLoc.dma sx.sem) (via := ReadAs.same)
    (hsrc := View.wordExact_bits rfl) (hdst := (View.wordExact_bits rfl).reshape _ _) (hsem := ⟨Or.inl rfl, trivial⟩) (k := C)
    (q := fullShare) (fs := x) (Sd := slot4 b) (fd := f) rfl (View.dmaCredit_pos _ (by decide)) (xSlot_set hb).subset
  rw [xRows_set h] at hw
  iintro H HC
  iapply hw $$ H
  iintro HF
  iapply HC
  iapply (Transfers.Flight_mono EC (thr d i) (Entails.of_eq ?_)) $$ HF
  rotate_left
  refine congrArg (fun P => iprop(P ∗ (xLoc d ↦[chunk4 r]{fullShare} x))) ?_
  exact pointsTo_congr fun p hp => x_lands hb h x f p hp

theorem wp_fetchy (r : ℕ) (f : Buf4 F) (h : ∀ a, (![r, 0, 0] : Fin 3 → ℕ) a + S4x4x512.size a ≤ S8192x4x512.size a)
    {β : Type} (C : PUnit → Prog (TpuEff nD τ sig (Elt F) Λ₀ (proc i)) β) (Q : β → sProp 𝕄) :
    iprop((yLoc d ↦[chunk4 r]{fullShare} y) ∗ (yvLoc d i ↦[slot4 b]{fullShare} f) ∗ semVal (thr d i, SemLoc.dma sy.sem) 0)
      ⊢ iprop((Transfers.Flight EC (thr d i) (SemLoc.dma sy.sem) (none : HIx 1) (Ny b hb)
            iprop((yvLoc d i ↦[slot4 b]{fullShare} fetched r y) ∗ (yLoc d ↦[chunk4 r]{fullShare} y)) -∗ wpT d i (C ⟨⟩) Q)
        -∗ wpT d i (Prog.lift (.enqueueDma (inRows yA ![r, 0, 0] h) (.here (inSlot yv b hb)) (.dma sy.sem)
            (View.wordExact_bits rfl) ((View.wordExact_bits rfl).reshape _ _) ⟨Or.inl rfl, trivial⟩) >>= C) Q) := by
  have hw := Transfers.wp_dmaLocal EC (defs := defs₀ (F := F)) (Q := Q) 𝒱₀ (thr d i) none (none : HIx 1) (Ny b hb)
    (src := inRows yA ![r, 0, 0] h) (dst := inSlot yv b hb) (sm := SemLoc.dma sy.sem) (via := ReadAs.same)
    (hsrc := View.wordExact_bits rfl) (hdst := (View.wordExact_bits rfl).reshape _ _) (hsem := ⟨Or.inl rfl, trivial⟩) (k := C)
    (q := fullShare) (fs := y) (Sd := slot4 b) (fd := f) rfl (View.dmaCredit_pos _ (by decide)) (ySlot_set hb).subset
  rw [yRows_set h] at hw
  iintro H HC
  iapply hw $$ H
  iintro HF
  iapply HC
  iapply (Transfers.Flight_mono EC (thr d i) (Entails.of_eq ?_)) $$ HF
  rotate_left
  refine congrArg (fun P => iprop(P ∗ (yLoc d ↦[chunk4 r]{fullShare} y))) ?_
  exact pointsTo_congr fun p hp => y_lands hb h y f p hp

/-- A fetch sets the operands of round `g` on their way. -/
theorem wp_fetch (g : ℕ) (fx fy : Buf4 F) {o : Fin 3 → ℕ} (ho : o = ![base i b g, 0, 0]) (h : ∀ a, o a + S4x4x512.size a ≤ S8192x4x512.size a) :
    inIdle d i x y sx sy b fx fy ⊢ wpT d i (fetch i xA yA xv yv b hb sx sy o h) fun _ => inFlight d i x y sx sy b hb g := by
  subst ho
  unfold inIdle inFlight fetch
  iintro ⟨Hsx, Hsy, Hx, Hy, Hxv, Hyv⟩
  ihave Hx' := (pointsTo_split_subset (chunk4_subset i hb g)).1 $$ Hx
  icases Hx' with ⟨Hx, Hxr⟩
  ihave Hy' := (pointsTo_split_subset (chunk4_subset i hb g)).1 $$ Hy
  icases Hy' with ⟨Hy, Hyr⟩
  iapply (wp_fetchx d i x hb sx (base i b g) fx h _ _) $$ [Hx Hxv Hsx]
  · isplitl [Hx]; · iexact Hx
    isplitl [Hxv] <;> iassumption
  iintro Hfx
  rw [← bind_pure (Prog.lift _)]
  iapply (wp_fetchy d i y hb sy (base i b g) fy h _ _) $$ [Hy Hyv Hsy]
  · isplitl [Hy]; · iexact Hy
    isplitl [Hyv] <;> iassumption
  iintro Hfy
  unfold wpT
  rw [wp_pure]
  imodintro
  isplitl [Hfx]; · iexact Hfx
  isplitl [Hfy]; · iexact Hfy
  isplitl [Hxr] <;> iassumption

theorem ow_insert (O : CellTallies nD τ sig (HIx 1)) (W W' : Waits sig (HIx 1)) (hW' : ∀ p ∈ W', p ∈ W ∨ p.2 = none) (sm : SemLoc sig) :
    (owes (thr d i) O (insert (sm, (none : HIx 1)) W') : sProp 𝕄) ⊢ ow d i O W := by
  unfold ow
  iintro HO
  iexists _
  isplitr
  rotate_left
  · iexact HO
  · ipureintro
    intro p hp
    rcases Finset.mem_insert.mp hp with hp | hp
    · exact .inr (hp ▸ rfl)
    · exact hW' p hp

/-- Waiting for a transfer in flight hands over what it delivers. -/
theorem wp_await {sp sp' : Space} {s s' : Shape} {e e' : EltTy} {sem : DmaSem sig} {src : Memref sig .scVector sp' s' e'} {dst : Memref sig .scVector sp s e}
    {hsrc : src.view.WordExact} {hdst : dst.view.WordExact} {N : ℕ} (hN : dst.view.dmaCredit = N) {R : sProp 𝕄}
    {O : CellTallies nD τ sig (HIx 1)} {W : Waits sig (HIx 1)}
    {β : Type} (C : PUnit → Prog (TpuEff nD τ sig (Elt F) Λ₀ (proc i)) β) (Q : β → sProp 𝕄) :
    iprop(Transfers.MayWaits (thr d i) (none : HIx 1) O ∗ Transfers.Flight EC (thr d i) (SemLoc.dma sem) (none : HIx 1) N R ∗ ow d i O W)
      ⊢ iprop((R ∗ semVal (thr d i, SemLoc.dma sem) 0 ∗ ow d i O W -∗ wpT d i (C ⟨⟩) Q)
        -∗ wpT d i (Prog.lift (.waitDma2 sem src dst hsrc hdst) >>= C) Q) := by
  iintro ⟨#Hmw, HF, HO⟩ HC
  ihave HO' := (Entails.of_eq (show ow d i O W = iprop(∃ W', ⌜∀ p ∈ W', p ∈ W ∨ p.2 = none⌝ ∗ owes (thr d i) O W') from rfl)) $$ HO
  icases HO' with ⟨%W', %hW', HO⟩
  ihave Hm := (Transfers.MayWaits.elim (SemLoc.dma sem)) $$ Hmw
  iapply (Transfers.wp_waitLocalO EC (defs := defs₀ (F := F)) (Q := Q) 𝒱₀ (thr d i) none (none : HIx 1) (srcw := src) (dstw := dst) (hsrc := hsrc) (hdst := hdst) hN (D := R) (k := C)) $$ [HF HO Hm]
  · isplitl [HF]; · iexact HF
    isplitl [HO] <;> iassumption
  iintro ⟨HR, Hs, HO⟩
  iapply HC
  isplitl [HR]; · iexact HR
  isplitl [Hs]; · iexact Hs
  iapply (ow_insert d i O W W' hW' _) $$ HO

/-- A slot's operands come in. -/
theorem wp_arrive (g : ℕ) (O : CellTallies nD τ sig (HIx 1)) (W : Waits sig (HIx 1)) (o : Fin 3 → ℕ) (h : ∀ a, o a + S4x4x512.size a ≤ S8192x4x512.size a) :
    iprop(Transfers.MayWaits (thr d i) (none : HIx 1) O ∗ inFlight d i x y sx sy b hb g ∗ ow d i O W)
      ⊢ wpT d i (arrive i xA yA xv yv b hb sx sy o h) fun _ =>
          iprop(inIdle d i x y sx sy b (fetched (base i b g) x) (fetched (base i b g) y) ∗ ow d i O W) := by
  unfold inIdle inFlight arrive
  iintro ⟨#Hmw, ⟨Hfx, Hfy, Hxr, Hyr⟩, HO⟩
  iapply (wp_await d i (N := Nx b hb) rfl (O := O) (W := W) _ _) $$ [Hfx HO]
  · isplitr; · iexact Hmw
    isplitl [Hfx] <;> iassumption
  iintro ⟨⟨Hxv, Hx⟩, Hsx, HO⟩
  rw [← bind_pure (Prog.lift _)]
  iapply (wp_await d i (N := Ny b hb) rfl (O := O) (W := W) _ _) $$ [Hfy HO]
  · isplitr; · iexact Hmw
    isplitl [Hfy] <;> iassumption
  iintro ⟨⟨Hyv, Hy⟩, Hsy, HO⟩
  unfold wpT
  rw [wp_pure]
  imodintro
  isplitr [HO]
  rotate_left
  · iexact HO
  isplitl [Hsx]; · iexact Hsx
  isplitl [Hsy]; · iexact Hsy
  isplitl [Hx Hxr]
  · iapply (pointsTo_split_subset (chunk4_subset i hb g)).2
    isplitl [Hx] <;> iassumption
  isplitl [Hy Hyr]
  · iapply (pointsTo_split_subset (chunk4_subset i hb g)).2
    isplitl [Hy] <;> iassumption
  isplitl [Hxv] <;> iassumption

/-- The output of round `g` has gone out. -/
theorem wp_drain (g : ℕ) (O : CellTallies nD τ sig (HIx 1)) (W : Waits sig (HIx 1)) :
    iprop(Transfers.MayWaits (thr d i) (none : HIx 1) O ∗ outFlight d i x y o₀ so b g ∗ ow d i O W)
      ⊢ wpT d i (drain i oA ov b hb so) fun _ => iprop((∃ f, outIdle d i x y o₀ so b (g + 1) f) ∗ ow d i O W) := by
  unfold outIdle outFlight drain
  iintro ⟨#Hmw, ⟨Hf, Hr⟩, HO⟩
  rw [← bind_pure (Prog.lift _)]
  iapply (wp_await d i (N := No) rfl (O := O) (W := W) _ _) $$ [Hf HO]
  · isplitr; · iexact Hmw
    isplitl [Hf] <;> iassumption
  iintro ⟨⟨Ho, %f, Hov⟩, Hs, HO⟩
  unfold wpT
  rw [wp_pure]
  imodintro
  isplitr [HO]
  rotate_left
  · iexact HO
  iexists f
  isplitl [Hs]; · iexact Hs
  isplitl [Hov]; · iexact Hov
  iapply (pointsTo_split_subset (chunk8_subset i hb g)).2
  isplitl [Ho]
  · iapply (Entails.of_eq (pointsTo_congr fun p hp => (done_in i hb g x y o₀ p hp).symm)) $$ Ho
  · iexact Hr

/-- The slot's output sets out for round `g`'s rows. -/
theorem wp_send (g : ℕ) {o : Fin 3 → ℕ} (ho : o = ![base i b g, 0, 0]) (h : ∀ a, o a + S4x8x512.size a ≤ S8192x8x512.size a) :
    outIdle d i x y o₀ so b g (prod (fetched (base i b g) x) (fetched (base i b g) y))
      ⊢ wpT d i (send i oA ov b hb so o h) fun _ => outFlight d i x y o₀ so b g := by
  subst ho
  unfold outIdle outFlight send
  have hw := fun (C : PUnit → Prog (TpuEff nD τ sig (Elt F) Λ₀ (proc i)) PUnit) (Q : PUnit → sProp 𝕄) => Transfers.wp_dmaLocal EC (defs := defs₀ (F := F)) (Q := Q) 𝒱₀ (thr d i) none (none : HIx 1) No
    (src := outSlot ov b hb) (dst := outRows oA ![base i b g, 0, 0] h) (sm := SemLoc.dma so.sem) (via := ReadAs.same)
    (hsrc := (View.wordExact_bits rfl).reshape _ _) (hdst := View.wordExact_bits rfl) (hsem := ⟨Or.inl rfl, trivial⟩) (k := C)
    (q := fullShare) (fs := prod (fetched (base i b g) x) (fetched (base i b g) y)) (Sd := chunk8 (base i b g)) (fd := doneF g x y o₀)
    rfl (View.dmaCredit_pos _ (by decide)) (oRows_set h).subset
  rw [oSlot_set hb] at hw
  iintro ⟨Hs, Hov, Ho⟩
  ihave Ho' := (pointsTo_split_subset (chunk8_subset i hb g)).1 $$ Ho
  icases Ho' with ⟨Ho, Hr⟩
  rw [← bind_pure (Prog.lift _)]
  iapply (hw _ _) $$ [Hs Hov Ho]
  · isplitl [Hov]; · iexact Hov
    isplitl [Ho] <;> iassumption
  iintro HF
  rw [show (Prog.bind (Prog.ret PUnit.unit) Pure.pure : Prog (TpuEff nD τ sig (Elt F) Λ₀ (proc i)) PUnit) = Prog.ret PUnit.unit from rfl, wp_ret]
  imodintro
  isplitl [HF]
  · iapply (Transfers.Flight_mono EC (thr d i) ?_) $$ HF
    iintro ⟨Ho, Hov⟩
    isplitl [Ho]
    · iapply (Entails.of_eq (pointsTo_congr fun p hp => o_lands hb h x y _ p hp)) $$ Ho
    · iexists _; iexact Hov
  · iapply (Entails.of_eq (pointsTo_congr fun p hp => done_out i hb g x y o₀ p hp)) $$ Hr

end Slot

end Cert.KernelIdeal.Tile

end
-- ==== Proof.Tile.lean ====
/-
  A tile's run. A half round takes its slot from round `g` to round `g + 1`; the loop's 32 rounds take both slots
  from the first fetches to the last outputs, and the last two waits bring those in. What the tile was handed of
  the result then holds the value the operands call for.
-/
module

public import proofs.«01_k».proof.Proof.Slot

@[expose] public section

noncomputable section

namespace Cert.KernelIdeal.Tile

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type}

local notation "𝕄" => MT nD τ sig (HIx 1) (Elt F) ℕ UU ℕ

variable [FloatOps F]

section Half

variable (d : Dev nD) (i : grid0.Coords) (x y : Arr4 F) (o₀ : Arr8 F) (sx sy so : DmaSems sig S_)
  (O : CellTallies nD τ sig (HIx 1)) (W : Waits sig (HIx 1))

/-- The slot's operands before round `g`: on their way, or at rest after the last. -/
def inAt (b : ℕ) (hb : b < 2) (g : ℕ) : sProp 𝕄 :=
  if g < 32 then inFlight d i x y sx sy b hb g else iprop(∃ fx fy, inIdle d i x y sx sy b fx fy)

theorem inAt_lt (b : ℕ) (hb : b < 2) {g : ℕ} (hg : g < 32) : inAt d i x y sx sy b hb g = inFlight d i x y sx sy b hb g := if_pos hg
theorem inAt_end (b : ℕ) (hb : b < 2) : inAt d i x y sx sy b hb 32 = iprop(∃ fx fy, inIdle d i x y sx sy b fx fy) := if_neg (by decide)

/-- The slot's output before round `g`: that of the round before on its way, if there was one. -/
def outAt (b : ℕ) : ℕ → sProp 𝕄
  | 0 => iprop(∃ f, outIdle d i x y o₀ so b 0 f)
  | g + 1 => outFlight d i x y o₀ so b g

/-- Programs in sequence, the second from what the first leaves. -/
theorem wpT_bind {α β : Type} {p : Prog (TpuEff nD τ sig (Elt F) Λ₀ (proc i)) α} {C : α → Prog (TpuEff nD τ sig (Elt F) Λ₀ (proc i)) β}
    {P : α → sProp 𝕄} {Q : β → sProp 𝕄} : wpT d i p P ⊢ iprop((∀ a, P a -∗ wpT d i (C a) Q) -∗ wpT d i (p >>= C) Q) := by
  unfold wpT
  rw [wp_bind]
  exact wp_wand _ _ _

theorem wp_drainIf (b : ℕ) (hb : b < 2) (g : ℕ) (p : BitVec 1) (hp : p = 1#1 ↔ 0 < g) :
    iprop(Transfers.MayWaits (thr d i) (none : HIx 1) O ∗ outAt d i x y o₀ so b g ∗ ow d i O W)
      ⊢ wpT d i (drainIf i oA ov b hb so p) fun _ => iprop((∃ f, outIdle d i x y o₀ so b g f) ∗ ow d i O W) := by
  unfold drainIf
  match g with
  | 0 =>
    rw [dif_neg (fun h => absurd (hp.mp h) (Nat.lt_irrefl 0))]
    unfold wpT
    rw [wp_pure]
    iintro ⟨-, Ho, HO⟩
    imodintro
    isplitl [Ho]
    · unfold outAt; iexact Ho
    · iexact HO
  | g + 1 =>
    rw [dif_pos (hp.mpr (Nat.succ_pos g))]
    exact wp_drain d i x y o₀ hb so g O W

theorem wp_fetchIf (b : ℕ) (hb : b < 2) (g : ℕ) (fx fy : Buf4 F) (q : BitVec 1) (hq : q = 1#1 ↔ g < 32) (on : Fin 3 → ℕ)
    (hon : on = ![base i b g, 0, 0]) (hn : q = 1#1 → ∀ a, on a + S4x4x512.size a ≤ S8192x4x512.size a) :
    inIdle d i x y sx sy b fx fy ⊢ wpT d i (fetchIf i xA yA xv yv b hb sx sy q on hn) fun _ => inAt d i x y sx sy b hb g := by
  unfold fetchIf inAt
  by_cases h : g < 32
  · rw [dif_pos (hq.mpr h), if_pos h]
    exact wp_fetch d i x y hb sx sy g fx fy hon _
  · rw [dif_neg (fun h' => h (hq.mp h')), if_neg h]
    unfold wpT
    rw [wp_pure]
    iintro H
    imodintro
    iexists fx
    iexists fy
    iexact H

/-- A half round takes its slot from round `g` to the next. -/
theorem wp_half (b : ℕ) (hb : b < 2) (g : ℕ) (hg : g < 32) (o : Fin 3 → ℕ) (h : ∀ a, o a + S4x4x512.size a ≤ S8192x4x512.size a)
    (o' : Fin 3 → ℕ) (ho' : o' = ![base i b g, 0, 0]) (h' : ∀ a, o' a + S4x8x512.size a ≤ S8192x8x512.size a)
    (p q : BitVec 1) (hp : p = 1#1 ↔ 0 < g) (hq : q = 1#1 ↔ g + 1 < 32) (on : Fin 3 → ℕ) (hon : on = ![base i b (g + 1), 0, 0])
    (hn : q = 1#1 → ∀ a, on a + S4x4x512.size a ≤ S8192x4x512.size a)
    (edges : Prog (TpuEff nD τ sig (Elt F) Λ₀ (proc i)) PUnit)
    (he : ∀ (fx fy : Buf4 F) (f : Buf8 F), slotR d i b fx fy f ⊢ wpT d i edges fun _ => slotR d i b fx fy (prod fx fy)) :
    iprop(Transfers.MayWaits (thr d i) (none : HIx 1) O ∗ inAt d i x y sx sy b hb g ∗ outAt d i x y o₀ so b g ∗ ow d i O W)
      ⊢ wpT d i (half i xA yA oA xv yv ov b hb sx sy so o h o' h' p q on hn edges) fun _ =>
          iprop(inAt d i x y sx sy b hb (g + 1) ∗ outAt d i x y o₀ so b (g + 1) ∗ ow d i O W) := by
  unfold half
  iintro ⟨#Hmw, Hin, Hout, HO⟩
  ihave Hin' := (Entails.of_eq (inAt_lt d i x y sx sy b hb hg)) $$ Hin
  iapply (wpT_bind d i) $$ [Hin' HO]
  · iapply (wp_arrive d i x y hb sx sy g O W o h)
    isplitr; · iexact Hmw
    isplitl [Hin'] <;> iassumption
  iintro %_ ⟨Hin, HO⟩
  iapply (wpT_bind d i) $$ [Hout HO]
  · iapply (wp_drainIf d i x y o₀ so O W b hb g p hp)
    isplitr; · iexact Hmw
    isplitl [Hout] <;> iassumption
  iintro %_ ⟨⟨%f, Hout⟩, HO⟩
  unfold inIdle outIdle
  icases Hin with ⟨Hsx, Hsy, Hx, Hy, Hxv, Hyv⟩
  icases Hout with ⟨Hso, Hov, Ho⟩
  iapply (wpT_bind d i) $$ [Hxv Hyv Hov]
  · iapply (he _ _ _)
    unfold slotR
    isplitl [Hxv]; · iexact Hxv
    isplitl [Hyv] <;> iassumption
  iintro %_ HR
  unfold slotR
  icases HR with ⟨Hxv, Hyv, Hov⟩
  iapply (wpT_bind d i) $$ [Hso Hov Ho]
  · iapply (wp_send d i x y o₀ hb so g ho' h')
    unfold outIdle
    isplitl [Hso]; · iexact Hso
    isplitl [Hov] <;> iassumption
  iintro %_ Hout
  iapply (wp_wand_r _ _ _)
  isplitl [Hsx Hsy Hx Hy Hxv Hyv]
  · iapply (wp_fetchIf d i x y sx sy b hb (g + 1) (fetched (base i b g) x) (fetched (base i b g) y) q hq on hon hn)
    unfold inIdle
    isplitl [Hsx]; · iexact Hsx
    isplitl [Hsy]; · iexact Hsy
    isplitl [Hx]; · iexact Hx
    isplitl [Hy]; · iexact Hy
    isplitl [Hxv] <;> iassumption
  iintro %_ Hin
  isplitl [Hin]; · iexact Hin
  isplitl [Hout]
  · unfold outAt; iexact Hout
  · iexact HO

end Half

section Round

variable (d : Dev nD) (i : grid0.Coords) (x y : Arr4 F) (o₀ : Arr8 F) (O : CellTallies nD τ sig (HIx 1)) (W : Waits sig (HIx 1))

theorem trip_lt (t : Fin k0_t1_loop.trips) : t.val < 32 := Nat.lt_of_lt_of_le t.isLt k0_t1_abs.2.1
theorem trips_eq : k0_t1_loop.trips = 32 := by decide +kernel

theorem later_iff : ∀ t : Fin k0_t1_loop.trips, later t = 1#1 ↔ 0 < t.val := by decide +kernel
theorem next0_iff : ∀ t : Fin k0_t1_loop.trips, k0_cond2 t = 1#1 ↔ t.val + 1 < 32 := by decide +kernel
theorem next1_iff : ∀ t : Fin k0_t1_loop.trips, k0_cond4 t = 1#1 ↔ t.val + 1 < 32 := by decide +kernel

theorem fst0_eq : k0_off1 i 0#32 = ![base i 0 0, 0, 0] := (k0_off1_eq i 0).trans (by
  show ![128 * 0 + 8 * (i 1).val + 4 * (i 0).val, 0, 0] = _
  congr 1)
theorem fst1_eq : k0_off1 i 32#32 = ![base i 1 0, 0, 0] := (k0_off1_eq i 1).trans (by
  show ![128 * 1 + 8 * (i 1).val + 4 * (i 0).val, 0, 0] = _
  congr 1)
theorem out0_eq (t : Fin k0_t1_loop.trips) : k0_off387 i t 0#32 = ![base i 0 t.val, 0, 0] := (k0_off387_eq i t 0).trans (by
  show ![256 * t.val + 128 * 0 + 8 * (i 1).val + 4 * (i 0).val, 0, 0] = _
  congr 1)
theorem out1_eq (t : Fin k0_t1_loop.trips) : k0_off387 i t 1#32 = ![base i 1 t.val, 0, 0] := (k0_off387_eq i t 1).trans (by
  show ![256 * t.val + 128 * 1 + 8 * (i 1).val + 4 * (i 0).val, 0, 0] = _
  congr 1)
theorem nxt0_eq (t : Fin k0_t1_loop.trips) : k0_off388 i t = ![base i 0 (t.val + 1), 0, 0] := (k0_off388_eq i t).trans (by
  congr 1; unfold base; omega)
theorem nxt1_eq (t : Fin k0_t1_loop.trips) : k0_off773 i t = ![base i 1 (t.val + 1), 0, 0] := (k0_off773_eq i t).trans (by
  congr 1; unfold base; omega)

/-- Both slots before round `g`. -/
def roundI (g : ℕ) : sProp 𝕄 :=
  iprop(Transfers.MayWaits (thr d i) (none : HIx 1) O
    ∗ inAt d i x y cc0_scratch3 cc0_scratch5 0 (by decide) g ∗ outAt d i x y o₀ cc0_scratch7 0 g
    ∗ inAt d i x y cc0_scratch4 cc0_scratch6 1 (by decide) g ∗ outAt d i x y o₀ cc0_scratch8 1 g
    ∗ ow d i O W)

theorem wp_round (t : Fin k0_t1_loop.trips) :
    roundI d i x y o₀ O W t.val ⊢ wpT d i (round i xA yA oA xv yv ov cc0_scratch3 cc0_scratch4 cc0_scratch5 cc0_scratch6 cc0_scratch7 cc0_scratch8 t)
      fun _ => roundI d i x y o₀ O W (t.val + 1) := by
  unfold round roundI
  iintro ⟨#Hmw, Hi0, Ho0, Hi1, Ho1, HO⟩
  iapply (wpT_bind d i) $$ [Hi0 Ho0 HO]
  · iapply (wp_half d i x y o₀ cc0_scratch3 cc0_scratch5 cc0_scratch7 O W 0 _ t.val (trip_lt t) _ _ _ (out0_eq i t) _
      (later t) (k0_cond2 t) (later_iff t) (next0_iff t) _ (nxt0_eq i t) _ _ (wp_edges0 d i))
    isplitr; · iexact Hmw
    isplitl [Hi0]; · iexact Hi0
    isplitl [Ho0] <;> iassumption
  iintro %_ ⟨Hi0, Ho0, HO⟩
  iapply (wp_wand_r _ _ _)
  isplitl [Hi1 Ho1 HO]
  · iapply (wp_half d i x y o₀ cc0_scratch4 cc0_scratch6 cc0_scratch8 O W 1 _ t.val (trip_lt t) _ _ _ (out1_eq i t) _
      (later t) (k0_cond4 t) (later_iff t) (next1_iff t) _ (nxt1_eq i t) _ _ (wp_edges1 d i))
    isplitr; · iexact Hmw
    isplitl [Hi1]; · iexact Hi1
    isplitl [Ho1] <;> iassumption
  iintro %_ ⟨Hi1, Ho1, HO⟩
  isplitr; · iexact Hmw
  isplitl [Hi0]; · iexact Hi0
  isplitl [Ho0]; · iexact Ho0
  isplitl [Hi1]; · iexact Hi1
  isplitl [Ho1] <;> iassumption

/-- Both slots at rest before the first round, or after the last with `g = 32`. -/
def restI (g : ℕ) : sProp 𝕄 :=
  iprop((∃ fx fy, inIdle d i x y cc0_scratch3 cc0_scratch5 0 fx fy) ∗ (∃ f, outIdle d i x y o₀ cc0_scratch7 0 g f)
    ∗ (∃ fx fy, inIdle d i x y cc0_scratch4 cc0_scratch6 1 fx fy) ∗ (∃ f, outIdle d i x y o₀ cc0_scratch8 1 g f)
    ∗ ow d i O W)

/-- The tile's whole run. -/
theorem wp_body :
    iprop(Transfers.MayWaits (thr d i) (none : HIx 1) O ∗ restI d i x y o₀ O W 0)
      ⊢ wpT d i (body i xA yA oA xv yv ov cc0_scratch3 cc0_scratch4 cc0_scratch5 cc0_scratch6 cc0_scratch7 cc0_scratch8)
          fun _ => restI d i x y o₀ O W 32 := by
  unfold body restI
  iintro ⟨#Hmw, ⟨%fx0, %fy0, Hi0⟩, Ho0, ⟨%fx1, %fy1, Hi1⟩, Ho1, HO⟩
  iapply (wpT_bind d i) $$ [Hi0]
  · iapply (wp_fetch d i x y _ cc0_scratch3 cc0_scratch5 0 fx0 fy0 (fst0_eq i) _) $$ Hi0
  iintro %_ Hi0
  iapply (wpT_bind d i) $$ [Hi1]
  · iapply (wp_fetch d i x y _ cc0_scratch4 cc0_scratch6 0 fx1 fy1 (fst1_eq i) _) $$ Hi1
  iintro %_ Hi1
  have hloop := Scf.wp_for frame (wpE (defs₀ (F := F)) 𝒱₀ (thr d i) none (Ix := HIx 1) (Name := ℕ) (U := UU) (Lvl := ℕ)) Set.univ _ _ _ k0_t1_ok PUnit.unit
    (fun t _ => round i xA yA oA xv yv ov cc0_scratch3 cc0_scratch4 cc0_scratch5 cc0_scratch6 cc0_scratch7 cc0_scratch8 t)
    (fun n _ => roundI d i x y o₀ O W n) (fun t _ => wp_round d i x y o₀ O W t) (Q := fun _ => roundI d i x y o₀ O W 32)
  iapply (wpT_bind d i) $$ [Hi0 Ho0 Hi1 Ho1 HO]
  · iapply hloop
    isplitl [Hi0 Ho0 Hi1 Ho1 HO]
    · unfold roundI
      rw [inAt_lt (hg := by decide), inAt_lt (hg := by decide)]
      isplitr; · iexact Hmw
      isplitl [Hi0]; · iexact Hi0
      isplitl [Ho0]; · unfold outAt; iexact Ho0
      isplitl [Hi1]; · iexact Hi1
      isplitl [Ho1]; · unfold outAt; iexact Ho1
      iexact HO
    · rw [show Scf.trips k0_t1_loop.lb k0_t1_loop.ub k0_t1_loop.st = 32 from trips_eq]
      iintro %_ H
      iexact H
  iintro %_ H
  unfold roundI
  icases H with ⟨-, Hi0, Ho0, Hi1, Ho1, HO⟩
  iapply (wpT_bind d i) $$ [Ho0 HO]
  · iapply (wp_drain d i x y o₀ _ cc0_scratch7 31 O W)
    isplitr; · iexact Hmw
    isplitl [Ho0]
    · unfold outAt; iexact Ho0
    · iexact HO
  iintro %_ ⟨Ho0, HO⟩
  iapply (wp_wand_r _ _ _)
  isplitl [Ho1 HO]
  · iapply (wp_drain d i x y o₀ _ cc0_scratch8 31 O W)
    isplitr; · iexact Hmw
    isplitl [Ho1]
    · unfold outAt; iexact Ho1
    · iexact HO
  iintro %_ ⟨Ho1, HO⟩
  isplitl [Hi0]; · iapply (Entails.of_eq (inAt_end _ _ _ _ _ _ _ _)) $$ Hi0
  isplitl [Ho0]; · iexact Ho0
  isplitl [Hi1]; · iapply (Entails.of_eq (inAt_end _ _ _ _ _ _ _ _)) $$ Hi1
  isplitl [Ho1] <;> iassumption

end Round

end Cert.KernelIdeal.Tile

end
-- ==== Proof.Launch.lean ====
/-
  The kernel's launch. Each SparseCore is handed the rows of the operands and of the result that its tiles
  handle, each tile its own, and the tiles hand back the result at the value that the operands call for; joined,
  that is the whole result.
-/
module

public import proofs.«01_k».proof.Proof.Tile

@[expose] public section

noncomputable section

namespace Cert.KernelIdeal.Tile

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Who handles which rows -/

/-- The rows that tile `s` of SparseCore `c` handles, of an operand and of the result, -/
def tile4 (c s : ℕ) : Finset S8192x4x512.Idx := Finset.univ.filter fun p => (p 0).val / 4 % 32 = 2 * s + c
def tile8 (c s : ℕ) : Finset S8192x8x512.Idx := Finset.univ.filter fun p => (p 0).val / 4 % 32 = 2 * s + c

/-- and those of SparseCore `c`. -/
def core4 (c : ℕ) : Finset S8192x4x512.Idx := Finset.univ.filter fun p => (p 0).val / 4 % 2 = c
def core8 (c : ℕ) : Finset S8192x8x512.Idx := Finset.univ.filter fun p => (p 0).val / 4 % 2 = c

theorem mem_tile4 {c s : ℕ} {p : S8192x4x512.Idx} : p ∈ tile4 c s ↔ (p 0).val / 4 % 32 = 2 * s + c := by simp [tile4]
theorem mem_tile8 {c s : ℕ} {p : S8192x8x512.Idx} : p ∈ tile8 c s ↔ (p 0).val / 4 % 32 = 2 * s + c := by simp [tile8]
theorem mem_core4 {c : ℕ} {p : S8192x4x512.Idx} : p ∈ core4 c ↔ (p 0).val / 4 % 2 = c := by simp [core4]
theorem mem_core8 {c : ℕ} {p : S8192x8x512.Idx} : p ∈ core8 c ↔ (p 0).val / 4 % 2 = c := by simp [core8]

theorem cores4 : (Finset.univ : Finset (Fin 2)).biUnion (fun c => core4 c.val) = Finset.univ := by
  ext p
  simp only [Finset.mem_biUnion, Finset.mem_univ, true_and, iff_true, mem_core4]
  exact ⟨⟨(p 0).val / 4 % 2, Nat.mod_lt _ (by decide)⟩, rfl⟩
theorem cores8 : (Finset.univ : Finset (Fin 2)).biUnion (fun c => core8 c.val) = Finset.univ := by
  ext p
  simp only [Finset.mem_biUnion, Finset.mem_univ, true_and, iff_true, mem_core8]
  exact ⟨⟨(p 0).val / 4 % 2, Nat.mod_lt _ (by decide)⟩, rfl⟩

theorem tiles4 (c : Fin 2) : (Finset.univ : Finset (Fin 16)).biUnion (fun s => tile4 c.val s.val) = core4 c.val := by
  ext p
  simp only [Finset.mem_biUnion, Finset.mem_univ, true_and, mem_core4, mem_tile4]
  have hc := c.isLt
  constructor
  · rintro ⟨s, h⟩; omega
  · intro h; exact ⟨⟨(p 0).val / 4 % 32 / 2, by omega⟩, by show _ = 2 * ((p 0).val / 4 % 32 / 2) + c.val; omega⟩
theorem tiles8 (c : Fin 2) : (Finset.univ : Finset (Fin 16)).biUnion (fun s => tile8 c.val s.val) = core8 c.val := by
  ext p
  simp only [Finset.mem_biUnion, Finset.mem_univ, true_and, mem_core8, mem_tile8]
  have hc := c.isLt
  constructor
  · rintro ⟨s, h⟩; omega
  · intro h; exact ⟨⟨(p 0).val / 4 % 32 / 2, by omega⟩, by show _ = 2 * ((p 0).val / 4 % 32 / 2) + c.val; omega⟩

theorem cores4_apart : ∀ a ∈ (Finset.univ : Finset (Fin 2)), ∀ b ∈ (Finset.univ : Finset (Fin 2)), a ≠ b → Disjoint (core4 a.val) (core4 b.val) := by
  intro a _ b _ h
  refine Finset.disjoint_left.mpr fun p ha hb => h (Fin.ext ?_)
  rw [mem_core4] at ha hb; omega
theorem cores8_apart : ∀ a ∈ (Finset.univ : Finset (Fin 2)), ∀ b ∈ (Finset.univ : Finset (Fin 2)), a ≠ b → Disjoint (core8 a.val) (core8 b.val) := by
  intro a _ b _ h
  refine Finset.disjoint_left.mpr fun p ha hb => h (Fin.ext ?_)
  rw [mem_core8] at ha hb; omega
theorem tiles4_apart (c : ℕ) : ∀ a ∈ (Finset.univ : Finset (Fin 16)), ∀ b ∈ (Finset.univ : Finset (Fin 16)), a ≠ b → Disjoint (tile4 c a.val) (tile4 c b.val) := by
  intro a _ b _ h
  refine Finset.disjoint_left.mpr fun p ha hb => h (Fin.ext ?_)
  rw [mem_tile4] at ha hb; omega
theorem tiles8_apart (c : ℕ) : ∀ a ∈ (Finset.univ : Finset (Fin 16)), ∀ b ∈ (Finset.univ : Finset (Fin 16)), a ≠ b → Disjoint (tile8 c a.val) (tile8 c b.val) := by
  intro a _ b _ h
  refine Finset.disjoint_left.mpr fun p ha hb => h (Fin.ext ?_)
  rw [mem_tile8] at ha hb; omega

theorem halves4 (i : grid0.Coords) : tile4 (i 0).val (i 1).val = mine4 i 0 ∪ mine4 i 1 := by
  ext p
  rw [Finset.mem_union, mem_tile4, mem_mine4, mem_mine4]; omega
theorem halves8 (i : grid0.Coords) : tile8 (i 0).val (i 1).val = mine8 i 0 ∪ mine8 i 1 := by
  ext p
  rw [Finset.mem_union, mem_tile8, mem_mine8, mem_mine8]; omega
theorem halves4_apart (i : grid0.Coords) : Disjoint (mine4 i 0) (mine4 i 1) := by
  refine Finset.disjoint_left.mpr fun p ha hb => ?_
  rw [mem_mine4] at ha hb; omega
theorem halves8_apart (i : grid0.Coords) : Disjoint (mine8 i 0) (mine8 i 1) := by
  refine Finset.disjoint_left.mpr fun p ha hb => ?_
  rw [mem_mine8] at ha hb; omega

theorem slots4 : (slot4 1 : Finset S2x4x4x512.Idx) = Finset.univ \ slot4 0 := by
  ext p
  have h : (p 0).val < 2 := (p 0).isLt
  rw [Finset.mem_sdiff, mem_slot4, mem_slot4]
  simp only [Finset.mem_univ, true_and]; omega
theorem slots8 : (slot8 1 : Finset S2x4x8x512.Idx) = Finset.univ \ slot8 0 := by
  ext p
  have h : (p 0).val < 2 := (p 0).isLt
  rw [Finset.mem_sdiff, mem_slot8, mem_slot8]
  simp only [Finset.mem_univ, true_and]; omega

/-! ## A tile's own cells and buffers -/

section Own

variable (d : Dev nD) (i : grid0.Coords)

abbrev cellOf (s : DmaSems sig S_) : GSem nD τ sig := (thr d i, SemLoc.dma s.sem)

theorem cell_own (s : DmaSems sig S_) (h : (SemLoc.dma s.sem : SemLoc sig).isScoped .scVector = true) : cellOf d i s ∈ ownCells (thr d i) :=
  mem_ownCells.mpr ⟨rfl, h⟩
theorem cell_ne {s s' : DmaSems sig S_} (h : (SemLoc.dma s.sem : SemLoc sig) ≠ SemLoc.dma s'.sem) : cellOf d i s ≠ cellOf d i s' :=
  fun e => h (Prod.mk.inj e).2

/-- The tile's other semaphores. -/
def otherSems : sProp 𝕄 :=
  bigSep (((((((ownCells (thr d i)).erase (cellOf d i cc0_scratch3)).erase (cellOf d i cc0_scratch4)).erase (cellOf d i cc0_scratch5)).erase
    (cellOf d i cc0_scratch6)).erase (cellOf d i cc0_scratch7)).erase (cellOf d i cc0_scratch8)) fun g => semVal g 0

theorem ownSems0_V :
    (ownSems0 (thr d i) : sProp 𝕄)
      = iprop(semVal (cellOf d i cc0_scratch3) 0 ∗ semVal (cellOf d i cc0_scratch4) 0 ∗ semVal (cellOf d i cc0_scratch5) 0
          ∗ semVal (cellOf d i cc0_scratch6) 0 ∗ semVal (cellOf d i cc0_scratch7) 0 ∗ semVal (cellOf d i cc0_scratch8) 0 ∗ otherSems d i) := by
  unfold SparseCore.Cfg.ownSems0 otherSems
  have h1 : cellOf d i cc0_scratch4 ∈ ((ownCells (thr d i)).erase (cellOf d i cc0_scratch3)) := by
    simp only [Finset.mem_erase]; exact ⟨cell_ne d i (by decide), cell_own d i _ (by decide)⟩
  have h2 : cellOf d i cc0_scratch5 ∈ (((ownCells (thr d i)).erase (cellOf d i cc0_scratch3)).erase (cellOf d i cc0_scratch4)) := by
    simp only [Finset.mem_erase]; exact ⟨cell_ne d i (by decide), cell_ne d i (by decide), cell_own d i _ (by decide)⟩
  have h3 : cellOf d i cc0_scratch6 ∈ ((((ownCells (thr d i)).erase (cellOf d i cc0_scratch3)).erase (cellOf d i cc0_scratch4)).erase (cellOf d i cc0_scratch5)) := by
    simp only [Finset.mem_erase]; exact ⟨cell_ne d i (by decide), cell_ne d i (by decide), cell_ne d i (by decide), cell_own d i _ (by decide)⟩
  have h4 : cellOf d i cc0_scratch7 ∈ (((((ownCells (thr d i)).erase (cellOf d i cc0_scratch3)).erase (cellOf d i cc0_scratch4)).erase (cellOf d i cc0_scratch5)).erase (cellOf d i cc0_scratch6)) := by
    simp only [Finset.mem_erase]; exact ⟨cell_ne d i (by decide), cell_ne d i (by decide), cell_ne d i (by decide), cell_ne d i (by decide), cell_own d i _ (by decide)⟩
  have h5 : cellOf d i cc0_scratch8 ∈ ((((((ownCells (thr d i)).erase (cellOf d i cc0_scratch3)).erase (cellOf d i cc0_scratch4)).erase (cellOf d i cc0_scratch5)).erase (cellOf d i cc0_scratch6)).erase (cellOf d i cc0_scratch7)) := by
    simp only [Finset.mem_erase]; exact ⟨cell_ne d i (by decide), cell_ne d i (by decide), cell_ne d i (by decide), cell_ne d i (by decide), cell_ne d i (by decide), cell_own d i _ (by decide)⟩
  rw [SparseCore.bigSep_erase' (cell_own d i cc0_scratch3 (by decide)), SparseCore.bigSep_erase' h1, SparseCore.bigSep_erase' h2, SparseCore.bigSep_erase' h3, SparseCore.bigSep_erase' h4, SparseCore.bigSep_erase' h5]

abbrev refOf (r : Ref sig .scVector) : DevRef τ sig := (proc i).devRef r

/-- The tile's other buffers. -/
def otherBufs : sProp 𝕄 :=
  bigSep ((((ownRefs (τ := τ) (proc i)).erase (refOf i cc0_scratch0)).erase (refOf i cc0_scratch1)).erase (refOf i cc0_scratch2))
    fun b => iprop(∃ f, ((d, b) : Loc nD τ sig) ↦{fullShare} f)

theorem ref_ne {r r' : Ref sig .scVector} (h : r ≠ r') : refOf i r ≠ refOf i r' := fun e => absurd (Proc.devRef_injective _ e) h

theorem ownBufs_V :
    (ownBufs (thr d i) : sProp 𝕄)
      = iprop((∃ f, xvLoc d i ↦{fullShare} f) ∗ (∃ f, yvLoc d i ↦{fullShare} f) ∗ (∃ f, ovLoc d i ↦{fullShare} f) ∗ otherBufs d i) := by
  unfold SparseCore.Cfg.ownBufs otherBufs
  have h1 : refOf i cc0_scratch1 ∈ (ownRefs (τ := τ) (proc i)).erase (refOf i cc0_scratch0) := by
    simp only [Finset.mem_erase]
    exact ⟨ref_ne i (by decide), SparseCore.Cfg.mem_ownRefs_of_owner (p := proc i) (b := refOf i cc0_scratch1) rfl⟩
  have h2 : refOf i cc0_scratch2 ∈ ((ownRefs (τ := τ) (proc i)).erase (refOf i cc0_scratch0)).erase (refOf i cc0_scratch1) := by
    simp only [Finset.mem_erase]
    exact ⟨ref_ne i (by decide), ref_ne i (by decide), SparseCore.Cfg.mem_ownRefs_of_owner (p := proc i) (b := refOf i cc0_scratch2) rfl⟩
  refine (SparseCore.bigSep_erase' (SparseCore.Cfg.mem_ownRefs_of_owner (p := proc i) (b := refOf i cc0_scratch0) rfl)).trans ?_
  rw [SparseCore.bigSep_erase' h1, SparseCore.bigSep_erase' h2]

end Own

/-! ## One tile, from what it is handed to what it hands back -/

section Body

variable (d : Dev nD) (i : grid0.Coords) (x y : Arr4 F) (o : Arr8 F)

theorem x_halves : (xLoc d ↦[tile4 (i 0).val (i 1).val]{fullShare} x : sProp 𝕄)
    ⊣⊢ iprop((xLoc d ↦[mine4 i 0]{fullShare} x) ∗ xLoc d ↦[mine4 i 1]{fullShare} x) := by
  rw [halves4]; exact pointsTo_union (halves4_apart i)
theorem y_halves : (yLoc d ↦[tile4 (i 0).val (i 1).val]{fullShare} y : sProp 𝕄)
    ⊣⊢ iprop((yLoc d ↦[mine4 i 0]{fullShare} y) ∗ yLoc d ↦[mine4 i 1]{fullShare} y) := by
  rw [halves4]; exact pointsTo_union (halves4_apart i)
theorem o_halves : (oLoc d ↦[tile8 (i 0).val (i 1).val]{fullShare} o : sProp 𝕄)
    ⊣⊢ iprop((oLoc d ↦[mine8 i 0]{fullShare} o) ∗ oLoc d ↦[mine8 i 1]{fullShare} o) := by
  rw [halves8]; exact pointsTo_union (halves8_apart i)

theorem xv_slots (f : Buf4 F) : (xvLoc d i ↦{fullShare} f : sProp 𝕄)
    ⊢ iprop((xvLoc d i ↦[slot4 0]{fullShare} f) ∗ xvLoc d i ↦[slot4 1]{fullShare} f) := by
  rw [slots4]; exact (pointsTo_split_subset (Finset.subset_univ _)).1
theorem yv_slots (f : Buf4 F) : (yvLoc d i ↦{fullShare} f : sProp 𝕄)
    ⊢ iprop((yvLoc d i ↦[slot4 0]{fullShare} f) ∗ yvLoc d i ↦[slot4 1]{fullShare} f) := by
  rw [slots4]; exact (pointsTo_split_subset (Finset.subset_univ _)).1
theorem ov_slots (f : Buf8 F) : (ovLoc d i ↦{fullShare} f : sProp 𝕄)
    ⊢ iprop((ovLoc d i ↦[slot8 0]{fullShare} f) ∗ ovLoc d i ↦[slot8 1]{fullShare} f) := by
  rw [slots8]; exact (pointsTo_split_subset (Finset.subset_univ _)).1

theorem xv_whole (f g : Buf4 F) : iprop((xvLoc d i ↦[slot4 0]{fullShare} f) ∗ xvLoc d i ↦[slot4 1]{fullShare} g)
    ⊢ (iprop(∃ h : Buf4 F, xvLoc d i ↦{fullShare} h) : sProp 𝕄) := by
  rw [slots4]
  iintro H; iexists _
  iapply (pointsTo_join_subset (ℓ := xvLoc d i) (Finset.subset_univ (slot4 0))) $$ H
theorem yv_whole (f g : Buf4 F) : iprop((yvLoc d i ↦[slot4 0]{fullShare} f) ∗ yvLoc d i ↦[slot4 1]{fullShare} g)
    ⊢ (iprop(∃ h : Buf4 F, yvLoc d i ↦{fullShare} h) : sProp 𝕄) := by
  rw [slots4]
  iintro H; iexists _
  iapply (pointsTo_join_subset (ℓ := yvLoc d i) (Finset.subset_univ (slot4 0))) $$ H
theorem ov_whole (f g : Buf8 F) : iprop((ovLoc d i ↦[slot8 0]{fullShare} f) ∗ ovLoc d i ↦[slot8 1]{fullShare} g)
    ⊢ (iprop(∃ h : Buf8 F, ovLoc d i ↦{fullShare} h) : sProp 𝕄) := by
  rw [slots8]
  iintro H; iexists _
  iapply (pointsTo_join_subset (ℓ := ovLoc d i) (Finset.subset_univ (slot8 0))) $$ H

variable [FloatOps F]

theorem doneF_zero : doneF 0 x y o = o := by
  funext p; simp [doneF]
theorem doneF_all : doneF 32 x y o = spec x y := by
  funext p
  have h : (p 0).val < 8192 := (p 0).isLt
  simp only [doneF]; rw [if_pos (by omega)]

/-- What a tile is handed: its rows of the two operands and of the result. -/
def share (c s : ℕ) (o : Arr8 F) : sProp 𝕄 :=
  iprop((xLoc d ↦[tile4 c s]{fullShare} x) ∗ (yLoc d ↦[tile4 c s]{fullShare} y) ∗ oLoc d ↦[tile8 c s]{fullShare} o)

/-- A tile's run: its share comes back with the result at its value, its scratch buffers and semaphores as its own
    again. -/
theorem tile_body (hF : (K (F := F)).Facts) (O : CellTallies nD τ sig (HIx 1)) (W : Waits sig (HIx 1)) (hO : ∀ g, O g none = 0) :
    iprop(levAts (K (F := F)).L (K (F := F)).lev ∗ emp ∗ share d x y (i 0).val (i 1).val o
        ∗ scopedBufs (thr d i) ∗ scopedSems0 (thr d i) ∗ owes (thr d i) O W)
      ⊢ wp frame (wpE (defs₀ (F := F)) 𝒱₀ (thr d i) none) Set.univ
          (cc0__body i xA (Memref.isWhole_whole _) yA (Memref.isWhole_whole _) oA (Memref.isWhole_whole _)
            xv (Memref.isWhole_whole _) yv (Memref.isWhole_whole _) ov (Memref.isWhole_whole _)
            cc0_scratch3 cc0_scratch4 cc0_scratch5 cc0_scratch6 cc0_scratch7 cc0_scratch8)
          fun _ => iprop(share d x y (i 0).val (i 1).val (spec x y) ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d _ _, SparseCore.Cfg.scopedSems0_V (Val := Elt F) d _ _, ownSems0_V, ownBufs_V]
  unfold share
  iintro ⟨#Hlv, -, ⟨Hx, Hy, Ho⟩, ⟨⟨%fx, Hxv⟩, ⟨%fy, Hyv⟩, ⟨%fo, Hov⟩, Hbufs⟩, ⟨H3, H4, H5, H6, H7, H8, Hsems⟩, HO⟩
  ihave Hmw := ((K (F := F)).mayWaits_none (thr := thr d i) hO) $$ Hlv
  ihave Hx' := (x_halves d i x).1 $$ Hx
  icases Hx' with ⟨Hx0, Hx1⟩
  ihave Hy' := (y_halves d i y).1 $$ Hy
  icases Hy' with ⟨Hy0, Hy1⟩
  ihave Ho' := (o_halves d i o).1 $$ Ho
  icases Ho' with ⟨Ho0, Ho1⟩
  ihave Hxv' := (xv_slots d i fx) $$ Hxv
  icases Hxv' with ⟨Hxv0, Hxv1⟩
  ihave Hyv' := (yv_slots d i fy) $$ Hyv
  icases Hyv' with ⟨Hyv0, Hyv1⟩
  ihave Hov' := (ov_slots d i fo) $$ Hov
  icases Hov' with ⟨Hov0, Hov1⟩
  iapply (wp_wand frame) $$ [Hmw Hx0 Hx1 Hy0 Hy1 Ho0 Ho1 Hxv0 Hxv1 Hyv0 Hyv1 Hov0 Hov1 H3 H4 H5 H6 H7 H8 HO]
  · iapply (wp_body d i x y o O W)
    isplitl [Hmw]; · iexact Hmw
    unfold restI inIdle outIdle ow
    rw [doneF_zero]
    isplitl [Hx0 Hy0 Hxv0 Hyv0 H3 H5]
    · iexists fx; iexists fy
      isplitl [H3]; · iexact H3
      isplitl [H5]; · iexact H5
      isplitl [Hx0]; · iexact Hx0
      isplitl [Hy0]; · iexact Hy0
      isplitl [Hxv0] <;> iassumption
    isplitl [Ho0 Hov0 H7]
    · iexists fo
      isplitl [H7]; · iexact H7
      isplitl [Hov0] <;> iassumption
    isplitl [Hx1 Hy1 Hxv1 Hyv1 H4 H6]
    · iexists fx; iexists fy
      isplitl [H4]; · iexact H4
      isplitl [H6]; · iexact H6
      isplitl [Hx1]; · iexact Hx1
      isplitl [Hy1]; · iexact Hy1
      isplitl [Hxv1] <;> iassumption
    isplitl [Ho1 Hov1 H8]
    · iexists fo
      isplitl [H8]; · iexact H8
      isplitl [Hov1] <;> iassumption
    iexists W
    isplitr
    · ipureintro; exact fun p hp => Or.inl hp
    · iexact HO
  iintro %_ H
  unfold restI inIdle outIdle ow
  rw [doneF_all]
  icases H with ⟨⟨%gx0, %gy0, H3, H5, Hx0, Hy0, Hxv0, Hyv0⟩, ⟨%go0, H7, Hov0, Ho0⟩, ⟨%gx1, %gy1, H4, H6, Hx1, Hy1, Hxv1, Hyv1⟩, ⟨%go1, H8, Hov1, Ho1⟩, HO⟩
  isplitl [Hx0 Hx1 Hy0 Hy1 Ho0 Ho1]
  · isplitl [Hx0 Hx1]
    · iapply (x_halves d i x).2
      isplitl [Hx0] <;> iassumption
    isplitl [Hy0 Hy1]
    · iapply (y_halves d i y).2
      isplitl [Hy0] <;> iassumption
    iapply (o_halves d i (spec x y)).2
    isplitl [Ho0] <;> iassumption
  isplitl [Hxv0 Hxv1 Hyv0 Hyv1 Hov0 Hov1 Hbufs]
  · isplitl [Hxv0 Hxv1]
    · iapply (xv_whole d i gx0 gx1)
      isplitl [Hxv0] <;> iassumption
    isplitl [Hyv0 Hyv1]
    · iapply (yv_whole d i gy0 gy1)
      isplitl [Hyv0] <;> iassumption
    isplitl [Hov0 Hov1]
    · iapply (ov_whole d i go0 go1)
      isplitl [Hov0] <;> iassumption
    iexact Hbufs
  isplitr [HO]
  · isplitl [H3]; · iexact H3
    isplitl [H4]; · iexact H4
    isplitl [H5]; · iexact H5
    isplitl [H6]; · iexact H6
    isplitl [H7]; · iexact H7
    isplitl [H8]; · iexact H8
    iexact Hsems
  iexact HO

end Body

end Cert.KernelIdeal.Tile

end
-- ==== Proof.Run.lean ====
/-
  The kernel's run: the one SparseCore call from `@main`, from the operands and the result whole to the result at the
  value that the operands call for, the operands unchanged.
-/
module

public import proofs.«01_k».proof.Proof.Launch

@[expose] public section

noncomputable section

namespace Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call hands over -/

/-- Tile `s` of SparseCore `c` with the result at `o`, -/
def tileOf (d : Dev nD) (c s : ℕ) (o : Arr8 F) : sProp 𝕄 := share d (m (xLoc d)) (m (yLoc d)) c s o
/-- SparseCore `c`, -/
def coreOf (d : Dev nD) (c : ℕ) (o : Arr8 F) : sProp 𝕄 := bigSep Finset.univ fun s : Fin 16 => tileOf m d c s.val o
/-- the whole. -/
def allOf (d : Dev nD) (o : Arr8 F) : sProp 𝕄 :=
  iprop((xLoc d ↦{fullShare} m (xLoc d)) ∗ (yLoc d ↦{fullShare} m (yLoc d)) ∗ oLoc d ↦{fullShare} o)

/-- The result that device `d`'s operands call for. -/
abbrev out (d : Dev nD) : Arr8 F := spec (m (xLoc d)) (m (yLoc d))

def P : (K (F := F)).Pay (nD := nD) (Val := Elt F) (Name := ℕ) (U := UU) where
  st := fun q d c => match q with | 0 => coreOf m d c.val (m (oLoc d))
  dn := fun q d c => match q with | 0 => coreOf m d c.val (out m d)
  go := fun q d c i => match q with | 0 => tileOf m d c.val i.val (m (oLoc d))
  td := fun q d c i => match q with | 0 => tileOf m d c.val i.val (out m d)
  x := fun _ _ => iprop(emp)

instance tileOf_storable (d : Dev nD) (c s : ℕ) (o : Arr8 F) : BI.Storable (upEmb : UEmb _ 𝕄) (tileOf m d c s o) := by
  unfold tileOf share; infer_instance
instance coreOf_storable (d : Dev nD) (c : ℕ) (o : Arr8 F) : BI.Storable (upEmb : UEmb _ 𝕄) (coreOf m d c o) := by
  unfold coreOf; infer_instance

instance P_storable : (P (F := F) m).IsStorable where
  st q d c := match q with | 0 => coreOf_storable m d c.val _
  dn q d c := match q with | 0 => coreOf_storable m d c.val _
  go q d c i := match q with | 0 => tileOf_storable m d c.val i.val _
  td q d c i := match q with | 0 => tileOf_storable m d c.val i.val _

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          xA (Memref.isWhole_whole _) yA (Memref.isWhole_whole _) oA (Memref.isWhole_whole _)
          xv (Memref.isWhole_whole _) yv (Memref.isWhole_whole _) ov (Memref.isWhole_whole _)
          cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel has no protocol of its own to owe for
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (m (xLoc d)) (m (yLoc d)) (m (oLoc d)) hF O W hO).trans (wp_mono frame _ _ fun _ => obl_post)

theorem vecSplit : (K (F := F)).VecSplit' (P m) 0 := by
  intro d c
  show coreOf m d c.val (m (oLoc d)) ⊢ |={Set.univ}=> iprop(coreOf m d c.val (m (oLoc d)) ∗ (coreOf m d c.val (out m d) -∗ coreOf m d c.val (out m d)))
  iintro H; imodintro
  isplitl [H]; · iexact H
  iintro H; iexact H

/-! ## The whole as the SparseCores' shares -/

theorem coreOf_eq (d : Dev nD) (c : Fin 2) (o : Arr8 F) :
    coreOf m d c.val o = iprop((xLoc d ↦[core4 c.val]{fullShare} m (xLoc d)) ∗ (yLoc d ↦[core4 c.val]{fullShare} m (yLoc d))
      ∗ oLoc d ↦[core8 c.val]{fullShare} o) := by
  unfold coreOf tileOf share
  rw [bigSep_sep', bigSep_sep', ← tiles4 c, ← tiles8 c,
    pointsTo_biUnion (ℓ := xLoc d) Finset.univ (fun s : Fin 16 => tile4 c.val s.val) (tiles4_apart c.val),
    pointsTo_biUnion (ℓ := yLoc d) Finset.univ (fun s : Fin 16 => tile4 c.val s.val) (tiles4_apart c.val),
    pointsTo_biUnion (ℓ := oLoc d) Finset.univ (fun s : Fin 16 => tile8 c.val s.val) (tiles8_apart c.val)]

theorem allOf_eq (d : Dev nD) (o : Arr8 F) : allOf m d o = bigSep Finset.univ fun c : Fin 2 => coreOf m d c.val o := by
  rw [bigSep_congr fun c _ => coreOf_eq m d c o, bigSep_sep', bigSep_sep',
    ← pointsTo_biUnion (ℓ := xLoc d) Finset.univ (fun c : Fin 2 => core4 c.val) cores4_apart,
    ← pointsTo_biUnion (ℓ := yLoc d) Finset.univ (fun c : Fin 2 => core4 c.val) cores4_apart,
    ← pointsTo_biUnion (ℓ := oLoc d) Finset.univ (fun c : Fin 2 => core8 c.val) cores8_apart, cores4, cores8]
  rfl

/-! ## `@main` -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st_eq (d : Dev nD) : (bigSep Finset.univ fun c : Fin ((K (F := F)).nCore 0) => (P m).st 0 d c) = allOf m d (m (oLoc d)) :=
  (allOf_eq m d _).symm
theorem dn_eq (d : Dev nD) : (bigSep Finset.univ fun c : Fin ((K (F := F)).nCore 0) => (P m).dn 0 d c) = allOf m d (out m d) :=
  (allOf_eq m d _).symm

abbrev FIN (d : Dev nD) : sProp 𝕄 := allOf m d (out m d)

/-- `@main` on device `d`: the one call, from the arrays whole to the arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st_eq]; unfold allOf; iexact Harr
  iintro ⟨Hst, Hdn⟩
  ihave Hdn' := (Entails.of_eq (dn_eq m d)) $$ Hdn
  imodintro
  isplitl [Hst]; · iexact Hst
  isplitl [Hdn']; · iexact Hdn'
  isplitl [Hb] <;> iassumption

/-- What the final memory holds on device `d`. -/
def fq (d : Dev nD) (s' : Phys nD τ sig (Elt F)) : Prop :=
  s'.mem.mem (xLoc d) = m (xLoc d) ∧ s'.mem.mem (yLoc d) = m (yLoc d) ∧ s'.mem.mem (oLoc d) = out m d

theorem hfin (d : Dev nD) (s' : Phys nD τ sig (Elt F)) : iprop(FIN m d ∗ SI s') ⊢ (⌜fq m d s'⌝ : sProp 𝕄) := by
  unfold FIN allOf
  iintro ⟨⟨Hx, Hy, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := yLoc d) (I := Finset.univ) (q := fullShare) (f := m (yLoc d)))) $$ [HSI Hy]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun p => h1 p (Finset.mem_univ p), funext fun p => h2 p (Finset.mem_univ p), funext fun p => h3 p (Finset.mem_univ p)⟩

def QC : PUnit × MemSt nD τ sig (Elt F) → Prop := fun r =>
  (∀ d : Dev nD, r.2.mem (xLoc d) = m (xLoc d) ∧ r.2.mem (yLoc d) = m (yLoc d) ∧ r.2.mem (oLoc d) = out m d) ∧ r.2.sem = fun _ => 0

/-- Every run of the program ends, with the operands unchanged, the result at its value and no semaphore raised. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Frames.lean ====
/-
  The frames: each program ends with its arguments unchanged and every semaphore counter at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

/-- The kernel over the extended reals. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.Tile.run_main (F := Ideal) m ρ)

/-- The kernel over bit patterns: its text is the same. -/
theorem frame_bits : Cert.quiescent_Kernel (hKernel := Cert.Kernel.Gen.facts) := fun m ρ _ =>
  (θ_run Cert.KernelIdeal.defs _ _).mono (fun _ h => ⟨fun c => ⟨(h.1 c).1, (h.1 c).2.1⟩, h.2⟩) (Cert.KernelIdeal.Tile.run_main (F := Bits) m ρ)

/-- The reference: it has no semaphore. -/
theorem frame_ref : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩, sem_eq_zero_of_no_sems rfl r.2⟩)
    (Cert.ReferenceIdeal.Value.run (F := Ideal) m ρ)

end Cert.Proof

end
-- ==== Proof.Tables.lean ====
/-
  A gather and a sum-scatter along the middle axis of a three-axis array, read at an index: each is
  driven by a short column of index words, and each word here is a small literal.
-/
module

public import Idealize.ShloMosaic.PureOps.Ideal
public import Idealize.ShloMosaic.Lib.ValueIdx
public import Idealize.ShloMosaic.Lib.Routing.OpsPair

@[expose] public section

noncomputable section

namespace Cert.Tables

open Idealize.ShloMosaic Idealize.ShloMosaic.ValueIdx

variable {A C N n : ℕ} {α : Type}

/-- Three axes, two axes. -/
abbrev sh3 (a b c : ℕ) : Shape := ⟨3, ![a, b, c]⟩
abbrev sh2 (a b : ℕ) : Shape := ⟨2, ![a, b]⟩

/-! ## The gather -/

/-- The gather that takes whole slabs of the middle axis, one per index word. -/
abbrev take (wf : GatherDims.WF (sh3 A N C) (sh2 n 1) (sh3 A n C) [0, 2] [1] [] [1] [] 1 ![A, 1, C]) :
    GatherDims (sh3 A N C) (sh2 n 1) (sh3 A n C) where
  offsetDims := [0, 2]
  collapsedSliceDims := [1]
  operandBatchingDims := []
  startIndicesBatchingDims := []
  startIndexMap := [1]
  indexVectorDim := 1
  sliceSizes := ![A, 1, C]
  wf := wf

/-- The result at `(a, k, c)` is the operand at `(a, t k, c)`, the words being `t`. -/
theorem take_apply (wf : GatherDims.WF (sh3 A N C) (sh2 n 1) (sh3 A n C) [0, 2] [1] [] [1] [] 1 ![A, 1, C])
    (x : (sh3 A N C).Idx → α) (idx : IVec (sh2 n 1) 32) (t : Fin n → Fin N)
    (ht : ∀ k, (idx (ix2 k 0)).toInt = (t k).val) (a : Fin A) (k : Fin n) (c : Fin C) :
    Host.gather (take wf) x idx (ix3 a k c) = x (ix3 a (t k) c) := by
  unfold Host.gather
  congr 1
  funext b
  refine Fin.ext ?_
  show (take wf).start (ix3 a k c) idx b + (take wf).batchCoord (ix3 a k c) b + (take wf).offCoord (ix3 a k c) b = _
  match b with
  | ⟨0, _⟩ => show 0 + 0 + a.val = a.val; omega
  | ⟨2, _⟩ => show 0 + 0 + c.val = c.val; omega
  | ⟨1, _⟩ =>
    have hm : (1 : Fin 3) ∈ (take wf).startIndexMap := List.mem_singleton.2 rfl
    have hs : (take wf).start (ix3 a k c) idx 1 = (t k).val := by
      unfold GatherDims.start
      rw [dif_pos hm]
      have hsi : (take wf).siIdx (ix3 a k c) ⟨(take wf).startIndexMap.idxOf 1, List.idxOf_lt_length_iff.2 hm⟩ = ix2 k 0 := by
        funext b'
        match b' with
        | ⟨0, _⟩ => rfl
        | ⟨1, _⟩ => exact Subsingleton.elim (α := Fin 1) _ _
      rw [hsi, ht k]
      show min (t k).val (N - 1) = (t k).val
      have := (t k).isLt
      omega
    show (take wf).start (ix3 a k c) idx 1 + 0 + 0 = (t k).val
    rw [hs]
    rfl

/-! ## The scatter -/

/-- The scatter that sends each slab of the middle axis where its index word says. -/
abbrev put (wf : ScatterDims.WF (sh3 A N C) (sh2 n 1) (sh3 A n C) [0, 2] [1] [1] 1) :
    ScatterDims (sh3 A N C) (sh2 n 1) (sh3 A n C) where
  updateWindowDims := [0, 2]
  insertedWindowDims := [1]
  scatterDimsToOperandDims := [1]
  indexVectorDim := 1
  wf := wf

/-- Where one update lands. -/
theorem put_lands (wf : ScatterDims.WF (sh3 A N C) (sh2 n 1) (sh3 A n C) [0, 2] [1] [1] 1)
    (idx : IVec (sh2 n 1) 32) (t : Fin n → Fin N) (ht : ∀ k, (idx (ix2 k 0)).toInt = (t k).val)
    (a a' : Fin A) (k : Fin n) (b : Fin N) (c c' : Fin C) :
    (put wf).resultIdx? (ix3 a k c) idx = some (ix3 a' b c') ↔ a = a' ∧ t k = b ∧ c = c' := by
  rw [Routing.resultIdx?_eq_some]
  have hm : (1 : Fin 3) ∈ (put wf).scatterDimsToOperandDims := List.mem_singleton.2 rfl
  have hs : (put wf).start (ix3 a k c) idx 1 = (t k).val := by
    unfold ScatterDims.start
    rw [dif_pos hm]
    have hsi : (put wf).siIdx (ix3 a k c) ⟨(put wf).scatterDimsToOperandDims.idxOf 1, List.idxOf_lt_length_iff.2 hm⟩ = ix2 k 0 := by
      funext b'
      match b' with
      | ⟨0, _⟩ => rfl
      | ⟨1, _⟩ => exact Subsingleton.elim (α := Fin 1) _ _
    rw [hsi, ht k]
  have h0 : ((put wf).start (ix3 a k c) idx 0 + ((put wf).window (ix3 a k c) 0 : Int) = ((ix3 a' b c' 0).val : Int)) ↔ a = a' := by
    show ((0 : Int) + (a.val : Int) = (a'.val : Int)) ↔ _
    rw [Fin.ext_iff]; omega
  have h2 : ((put wf).start (ix3 a k c) idx 2 + ((put wf).window (ix3 a k c) 2 : Int) = ((ix3 a' b c' 2).val : Int)) ↔ c = c' := by
    show ((0 : Int) + (c.val : Int) = (c'.val : Int)) ↔ _
    rw [Fin.ext_iff]; omega
  have h1 : ((put wf).start (ix3 a k c) idx 1 + ((put wf).window (ix3 a k c) 1 : Int) = ((ix3 a' b c' 1).val : Int)) ↔ t k = b := by
    rw [hs]
    show (((t k).val : Int) + ((0 : ℕ) : Int) = (b.val : Int)) ↔ _
    rw [Fin.ext_iff]; omega
  constructor
  · intro h
    exact ⟨h0.1 (h 0), h1.1 (h 1), h2.1 (h 2)⟩
  · rintro ⟨e0, e1, e2⟩ b'
    match b' with
    | ⟨0, _⟩ => exact h0.2 e0
    | ⟨1, _⟩ => exact h1.2 e1
    | ⟨2, _⟩ => exact h2.2 e2

/-- The updates landing at one place, summed: one update per word that names the place. -/
theorem put_sum (wf : ScatterDims.WF (sh3 A N C) (sh2 n 1) (sh3 A n C) [0, 2] [1] [1] 1)
    (idx : IVec (sh2 n 1) 32) (t : Fin n → Fin N) (ht : ∀ k, (idx (ix2 k 0)).toInt = (t k).val)
    (upd : (sh3 A n C).Idx → EReal) (a : Fin A) (b : Fin N) (c : Fin C) :
    ∑ j ∈ Finset.univ.filter (fun j => (put wf).resultIdx? j idx = some (ix3 a b c)), upd j
      = ∑ k ∈ Finset.univ.filter (fun k => t k = b), upd (ix3 a k c) := by
  refine (Finset.sum_bij (fun k _ => ix3 a k c) ?_ ?_ ?_ fun _ _ => rfl).symm
  · intro k hk
    exact Finset.mem_filter.2 ⟨Finset.mem_univ _, (put_lands wf idx t ht a a k b c c).2 ⟨rfl, (Finset.mem_filter.1 hk).2, rfl⟩⟩
  · intro k _ k' _ h
    exact congrFun h 1
  · intro j hj
    have hj' := (Finset.mem_filter.1 hj).2
    rw [eq_ix3 j] at hj'
    obtain ⟨e0, e1, e2⟩ := (put_lands wf idx t ht _ a _ b _ c).1 hj'
    refine ⟨j 1, Finset.mem_filter.2 ⟨Finset.mem_univ _, e1⟩, ?_⟩
    rw [← e0, ← e2]
    exact (eq_ix3 j).symm

/-- A sum-scatter read at an index. -/
theorem put_add (wf : ScatterDims.WF (sh3 A N C) (sh2 n 1) (sh3 A n C) [0, 2] [1] [1] 1)
    (x : FVec Ideal (sh3 A N C) .f32) (idx : IVec (sh2 n 1) 32) (t : Fin n → Fin N)
    (ht : ∀ k, (idx (ix2 k 0)).toInt = (t k).val) (upd : FVec Ideal (sh3 A n C) .f32) (a : Fin A) (b : Fin N) (c : Fin C) :
    (Host.scatterAdd (put wf) x idx upd (ix3 a b c) : EReal)
      = x (ix3 a b c) + ∑ k ∈ Finset.univ.filter (fun k => t k = b), (upd (ix3 a k c) : EReal) :=
  congrArg ((x (ix3 a b c) : EReal) + ·) (put_sum wf idx t ht upd a b c)

/-- A left fold that adds where a condition holds is the sum of what it adds. -/
theorem foldl_add {β : Type} (l : List β) (q : β → Prop) [DecidablePred q] (g : β → EReal) (z : EReal) :
    l.foldl (fun s i => if q i then s + g i else s) z = z + (l.map fun i => if q i then g i else 0).sum := by
  induction l generalizing z with
  | nil => simp
  | cons i l ih =>
    rw [List.foldl_cons, ih, List.map_cons, List.sum_cons]
    by_cases h : q i
    · rw [if_pos h, if_pos h, add_assoc]
    · rw [if_neg h, if_neg h, zero_add]

/-- The same reading of a scatter that folds its updates in one by one. -/
theorem put_fold (wf : ScatterDims.WF (sh3 A N C) (sh2 n 1) (sh3 A n C) [0, 2] [1] [1] 1)
    (x : FVec Ideal (sh3 A N C) .f32) (idx : IVec (sh2 n 1) 32) (t : Fin n → Fin N)
    (ht : ∀ k, (idx (ix2 k 0)).toInt = (t k).val) (upd : FVec Ideal (sh3 A n C) .f32) (a : Fin A) (b : Fin N) (c : Fin C) :
    (Host.scatter (put wf) (FloatOps.addf (F := Ideal) (φ := .f32)) x idx upd (ix3 a b c) : EReal)
      = x (ix3 a b c) + ∑ k ∈ Finset.univ.filter (fun k => t k = b), (upd (ix3 a k c) : EReal) := by
  rw [Routing.scatter_at]
  refine (foldl_add (List.finRange _) (fun m => (put wf).resultIdx? ((sh3 A n C).rowMajor.symm m) idx = some (ix3 a b c))
    (fun m => upd ((sh3 A n C).rowMajor.symm m)) (x (ix3 a b c))).trans ?_
  rw [← put_sum wf idx t ht upd a b c, Finset.sum_filter,
    ← Equiv.sum_comp (sh3 A n C).rowMajor.symm, Fin.sum_univ_def]

/-! ## Both together -/

/-- Two arrays gathered, multiplied with a constant between them. -/
theorem products {M : ℕ} (wx : GatherDims.WF (sh3 A M C) (sh2 n 1) (sh3 A n C) [0, 2] [1] [] [1] [] 1 ![A, 1, C])
    (x y : FVec Ideal (sh3 A M C) .f32) (ix iy : IVec (sh2 n 1) 32) (tx ty : Fin n → Fin M)
    (hx : ∀ k, (ix (ix2 k 0)).toInt = (tx k).val) (hy : ∀ k, (iy (ix2 k 0)).toInt = (ty k).val)
    (w : FVec Ideal (sh3 A n C) .f32) (w0 : EReal) (hw : ∀ i, w i = w0) (a : Fin A) (k : Fin n) (c : Fin C) :
    (mulf (mulf (Host.gather (take wx) x ix) w) (Host.gather (take wx) y iy) (ix3 a k c) : EReal)
      = (x (ix3 a (tx k) c) * w0 * y (ix3 a (ty k) c) : EReal) := by
  show ((Host.gather (take wx) x ix (ix3 a k c) : EReal) * w (ix3 a k c) * Host.gather (take wx) y iy (ix3 a k c) : EReal) = _
  rw [take_apply wx x ix tx hx, take_apply wx y iy ty hy, hw]

end Cert.Tables

end
-- ==== Proof.Value.lean ====
/-
  What the reference computes over the extended reals, channel by channel, and that it is the
  kernel's result.
-/
module

public import proofs.«01_k».proof.Proof.Tables
public import proofs.«01_k».proof.Proof.Setup
public import proofs.«01_k».proof.Proof.Gen.ReferenceIdeal.Run
public import Idealize.ShloMosaic.Lib.Pointwise.SelectCore
public import Idealize.ShloMosaic.Lib.IdealHost

@[expose] public section

noncomputable section

namespace Cert.Value

open Idealize.ShloMosaic hiding ix2 ix3 eq_ix3
open Idealize.ShloMosaic.ValueIdx Cert.ReferenceIdeal Cert.ReferenceIdeal.Gen Cert.Tables

/-! ## The constant of the last channel -/

/-- The constant the inner product is scaled by. -/
abbrev scale : EReal := Ideal.ofBits .f32 0x3F13CD3A#32

theorem scale_nonneg : 0 ≤ scale := by
  simp [scale, Ideal.ofBits, Ideal.ieee, -EReal.coe_mul]

theorem scale_ne_top : scale ≠ ⊤ := by
  simp [scale, Ideal.ofBits, Ideal.ieee, -EReal.coe_mul]

/-- Scaling three products one by one scales their sum. -/
theorem scaled_sum (a1 a2 a3 b1 b2 b3 : EReal) :
    a1 * scale * b1 + a2 * scale * b2 + a3 * scale * b3 = (a1 * b1 + a2 * b2 + a3 * b3) * scale := by
  rw [EReal.right_distrib_of_nonneg_of_ne_top scale_nonneg scale_ne_top,
    EReal.right_distrib_of_nonneg_of_ne_top scale_nonneg scale_ne_top]
  simp only [mul_assoc, mul_comm, mul_left_comm]

/-! ## The four pieces side by side -/

section Pieces

variable (A D : S8192x1x512.Idx → EReal) (B C : S8192x3x512.Idx → EReal)

/-- One, three, three and one channels. -/
abbrev join : S8192x8x512.Idx → EReal :=
  concatenate S8192x8x512 1 [⟨S8192x1x512, A⟩, ⟨S8192x3x512, B⟩, ⟨S8192x3x512, C⟩, ⟨S8192x1x512, D⟩]
    concatenates_S8192x1x512_S8192x3x512_S8192x3x512_S8192x1x512_S8192x8x512_d1

theorem join_first (a : Fin 8192) (c : Fin 512) : join A D B C (ix3 a 0 c) = A (ix3 a 0 c) := by
  unfold join
  rw [concatenate_apply]
  refine congrArg A ?_
  funext b
  match b with
  | ⟨0, _⟩ => rfl
  | ⟨1, _⟩ => rfl
  | ⟨2, _⟩ => rfl

theorem join_second (a : Fin 8192) (k : Fin 3) (c : Fin 512) :
    join A D B C (ix3 a ⟨1 + k.val, by omega⟩ c) = B (ix3 a k c) := by
  unfold join
  rw [concatenate_apply]
  fin_cases k <;> (refine congrArg B ?_; funext b; match b with | ⟨0, _⟩ => rfl | ⟨1, _⟩ => rfl | ⟨2, _⟩ => rfl)

theorem join_third (a : Fin 8192) (k : Fin 3) (c : Fin 512) :
    join A D B C (ix3 a ⟨4 + k.val, by omega⟩ c) = C (ix3 a k c) := by
  unfold join
  rw [concatenate_apply]
  fin_cases k <;> (refine congrArg C ?_; funext b; match b with | ⟨0, _⟩ => rfl | ⟨1, _⟩ => rfl | ⟨2, _⟩ => rfl)

theorem join_last (a : Fin 8192) (c : Fin 512) : join A D B C (ix3 a 7 c) = D (ix3 a 0 c) := by
  unfold join
  rw [concatenate_apply]
  refine congrArg D ?_
  funext b
  match b with
  | ⟨0, _⟩ => rfl
  | ⟨1, _⟩ => rfl
  | ⟨2, _⟩ => rfl

end Pieces

/-! ## The reference's result, channel by channel -/

open Idealize.ShloMosaic.TcCoe

section Channels

variable (m : (ℓ : Loc nD τ sig) → Buf (Elt Ideal) ℓ) (d : Dev nD)

/-- The two operands. -/
abbrev opX : S8192x4x512.Idx → EReal := m ((d.tc : Thread nD τ).loc main_arg0)
abbrev opY : S8192x4x512.Idx → EReal := m ((d.tc : Thread nD τ).loc main_arg1)

/-- Component 0: the product of the scalar components. -/
theorem ref_first (a : Fin 8192) (c : Fin 512) :
    (Cert.ReferenceIdeal.Value.res_main_v88 m d : S8192x8x512.Idx → EReal) (ix3 a 0 c)
      = opX m d (ix3 a 0 c) * opY m d (ix3 a 0 c) := by
  unfold Cert.ReferenceIdeal.Value.res_main_v88
  refine (join_first _ _ _ _ a c).trans ?_
  refine (put_fold _ _ _ (fun _ => 0) (by decide) _ a 0 c).trans ?_
  rw [Finset.filter_true_of_mem (fun _ _ => rfl), Fin.sum_univ_one]
  refine (congrArg₂ (· + ·) Ideal.ofBits_zero_f32
    (products _ (opX m d) (opY m d) _ _ (fun _ => 0) (fun _ => 0) (by decide) (by decide) _ 1 (fun _ => Ideal.ofBits_one_f32) a 0 c)).trans ?_
  rw [zero_add, mul_one]

/-- Components 1 to 3: the first operand's scalar times the second's vector. -/
theorem ref_second (a : Fin 8192) (k : Fin 3) (c : Fin 512) :
    (Cert.ReferenceIdeal.Value.res_main_v88 m d : S8192x8x512.Idx → EReal) (ix3 a ⟨1 + k.val, by omega⟩ c)
      = opX m d (ix3 a 0 c) * opY m d (ix3 a k.succ c) := by
  unfold Cert.ReferenceIdeal.Value.res_main_v88
  refine (join_second _ _ _ _ a k c).trans ?_
  refine (put_add _ _ _ (fun k => k) (by decide) _ a k c).trans ?_
  rw [Finset.filter_eq', if_pos (Finset.mem_univ _), Finset.sum_singleton]
  refine (congrArg₂ (· + ·) Ideal.ofBits_zero_f32
    (products _ (opX m d) (opY m d) _ _ (fun _ => 0) Fin.succ (by decide) (by decide) _ 1 (fun _ => Ideal.ofBits_one_f32) a k c)).trans ?_
  rw [zero_add, mul_one]

/-- Components 4 to 6: the first operand's vector times the second's scalar. -/
theorem ref_third (a : Fin 8192) (k : Fin 3) (c : Fin 512) :
    (Cert.ReferenceIdeal.Value.res_main_v88 m d : S8192x8x512.Idx → EReal) (ix3 a ⟨4 + k.val, by omega⟩ c)
      = opX m d (ix3 a k.succ c) * opY m d (ix3 a 0 c) := by
  unfold Cert.ReferenceIdeal.Value.res_main_v88
  refine (join_third _ _ _ _ a k c).trans ?_
  refine (put_add _ _ _ (fun k => k) (by decide) _ a k c).trans ?_
  rw [Finset.filter_eq', if_pos (Finset.mem_univ _), Finset.sum_singleton]
  refine (congrArg₂ (· + ·) Ideal.ofBits_zero_f32
    (products _ (opX m d) (opY m d) _ _ Fin.succ (fun _ => 0) (by decide) (by decide) _ 1 (fun _ => Ideal.ofBits_one_f32) a k c)).trans ?_
  rw [zero_add, mul_one]

/-- Component 7: the scaled inner product of the vectors. -/
theorem ref_last (a : Fin 8192) (c : Fin 512) :
    (Cert.ReferenceIdeal.Value.res_main_v88 m d : S8192x8x512.Idx → EReal) (ix3 a 7 c)
      = (opX m d (ix3 a 1 c) * opY m d (ix3 a 1 c) + opX m d (ix3 a 2 c) * opY m d (ix3 a 2 c)
          + opX m d (ix3 a 3 c) * opY m d (ix3 a 3 c)) * scale := by
  unfold Cert.ReferenceIdeal.Value.res_main_v88
  refine (join_last _ _ _ _ a c).trans ?_
  refine (put_add _ _ _ (fun _ => 0) (by decide) _ a 0 c).trans ?_
  rw [Finset.filter_true_of_mem (fun _ _ => rfl)]
  refine (congrArg₂ (· + ·) Ideal.ofBits_zero_f32 (Finset.sum_congr rfl fun k _ =>
    products _ (opX m d) (opY m d) _ _ Fin.succ Fin.succ (by decide) (by decide) _ scale (fun _ => rfl) a k c)).trans ?_
  rw [zero_add, Fin.sum_univ_three]
  exact scaled_sum _ _ _ _ _ _

/-! ## It is the kernel's -/

theorem at3_eq (a : Fin 8192) (k : Fin 4) (c : Fin 512) : Cert.KernelIdeal.Tile.at3 a k c = ix3 a k c := by
  funext b
  match b with
  | ⟨0, _⟩ => exact Fin.ext (Nat.mod_eq_of_lt a.isLt)
  | ⟨1, _⟩ => exact Fin.ext (Nat.mod_eq_of_lt k.isLt)
  | ⟨2, _⟩ => exact Fin.ext (Nat.mod_eq_of_lt c.isLt)

/-- The reference's result is the one the kernel leaves. -/
theorem ref_spec : Cert.ReferenceIdeal.Value.res_main_v88 m d
    = Cert.KernelIdeal.Tile.spec (F := Ideal) (opX m d) (opY m d) := by
  funext p
  rw [eq_ix3 p]
  generalize p 0 = a
  generalize p 2 = c
  generalize p 1 = b
  have h0 := at3_eq a 0 c
  have h1 := at3_eq a 1 c
  have h2 := at3_eq a 2 c
  have h3 := at3_eq a 3 c
  fin_cases b
  · refine (ref_first m d a c).trans ?_
    rw [← h0]; rfl
  · refine (ref_second m d a 0 c).trans ?_
    show opX m d (ix3 a 0 c) * opY m d (ix3 a 1 c) = _
    rw [← h0, ← h1]; rfl
  · refine (ref_second m d a 1 c).trans ?_
    show opX m d (ix3 a 0 c) * opY m d (ix3 a 2 c) = _
    rw [← h0, ← h2]; rfl
  · refine (ref_second m d a 2 c).trans ?_
    show opX m d (ix3 a 0 c) * opY m d (ix3 a 3 c) = _
    rw [← h0, ← h3]; rfl
  · refine (ref_third m d a 0 c).trans ?_
    show opX m d (ix3 a 1 c) * opY m d (ix3 a 0 c) = _
    rw [← h0, ← h1]; rfl
  · refine (ref_third m d a 1 c).trans ?_
    show opX m d (ix3 a 2 c) * opY m d (ix3 a 0 c) = _
    rw [← h0, ← h2]; rfl
  · refine (ref_third m d a 2 c).trans ?_
    show opX m d (ix3 a 3 c) * opY m d (ix3 a 0 c) = _
    rw [← h0, ← h3]; rfl
  · refine (ref_last m d a c).trans ?_
    rw [← h1, ← h2, ← h3]; rfl

end Channels

end Cert.Value

end
-- ==== Proof.Equal.lean ====
/-
  The value claim: run on equal arguments over the extended reals, the kernel and the reference end
  with equal results.
-/
module

public import proofs.«01_k».proof.Defs
public import proofs.«01_k».proof.Proof.Run
public import proofs.«01_k».proof.Proof.Value

@[expose] public section

noncomputable section

namespace Cert.Proof

open Idealize.ShloMosaic Idealize.SL.Sem

theorem equal : Cert.algebraic_KernelIdeal_ReferenceIdeal (hKernelIdeal := Cert.KernelIdeal.Gen.facts)
    (hReferenceIdeal := Cert.ReferenceIdeal.Gen.facts) := fun m ρ m' ρ' _ hargs =>
  ⟨fun d => Cert.KernelIdeal.Tile.out m d,
    (θ_run Cert.KernelIdeal.defs _ _).mono (fun _ h d => ⟨(h.1 d).2.2, (h.1 d).1, (h.1 d).2.1⟩)
      (Cert.KernelIdeal.Tile.run_main (F := Ideal) m ρ),
    (θ_run Cert.ReferenceIdeal.defs _ _).mono (fun _ h d => ⟨(h d).1.trans ((Cert.Value.ref_spec m' d).trans
        (congrArg₂ (Cert.KernelIdeal.Tile.spec (F := Ideal)) (hargs d).1 (hargs d).2)), (h d).2.1, (h d).2.2⟩)
      (Cert.ReferenceIdeal.Value.run (F := Ideal) m' ρ')⟩

end Cert.Proof

end
-- ==== Proof.lean ====
/-
  The certificate: the frames of the three programs, and that the kernel's result is the reference's.
  `Cert.Proof.claim` assembles them.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨frame_bits, frame_ideal, frame_ref, trivial, equal⟩⟩

end Cert.Proof

end
